-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S8x256 Cert.KernelIdeal.S4x256
  ∧ IdealRules.bf16_pair.Statement Cert.KernelIdeal.S1x2x256 Cert.KernelIdeal.S1x1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x48 : Shape := ⟨2, ![1024, 48]⟩
abbrev S24x1024x4096 : Shape := ⟨3, ![24, 1024, 4096]⟩
abbrev S24x8x32 : Shape := ⟨3, ![24, 8, 32]⟩
abbrev S24x4096x1024 : Shape := ⟨3, ![24, 4096, 1024]⟩
abbrev S24x32x8 : Shape := ⟨3, ![24, 32, 8]⟩
abbrev S4x48x1024 : Shape := ⟨3, ![4, 48, 1024]⟩
abbrev S4x24x2x1024 : Shape := ⟨4, ![4, 24, 2, 1024]⟩
abbrev S4x24x2 : Shape := ⟨3, ![4, 24, 2]⟩
abbrev S4x24x2x4096 : Shape := ⟨4, ![4, 24, 2, 4096]⟩
abbrev S5x1024x4096 : Shape := ⟨3, ![5, 1024, 4096]⟩
abbrev S5x4096x1024 : Shape := ⟨3, ![5, 4096, 1024]⟩
abbrev S5x8x32 : Shape := ⟨3, ![5, 8, 32]⟩
abbrev S5x32x8 : Shape := ⟨3, ![5, 32, 8]⟩
abbrev S4x256x48 : Shape := ⟨3, ![4, 256, 48]⟩
abbrev S8x192x128 : Shape := ⟨3, ![8, 192, 128]⟩
abbrev S8x4096 : Shape := ⟨2, ![8, 4096]⟩
abbrev S192x128 : Shape := ⟨2, ![192, 128]⟩
abbrev S5 : Shape := ⟨1, ![5]⟩
abbrev S5x4 : Shape := ⟨2, ![5, 4]⟩
abbrev S5x2 : Shape := ⟨2, ![5, 2]⟩
abbrev S12 : Shape := ⟨1, ![12]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x1 : Shape := ⟨2, ![1, 1]⟩
abbrev S1x8x32 : Shape := ⟨3, ![1, 8, 32]⟩
abbrev S8x32 : Shape := ⟨2, ![8, 32]⟩
abbrev S1x32x8 : Shape := ⟨3, ![1, 32, 8]⟩
abbrev S32x8 : Shape := ⟨2, ![32, 8]⟩
abbrev S1x1024x4096 : Shape := ⟨3, ![1, 1024, 4096]⟩
abbrev S1024x4096 : Shape := ⟨2, ![1024, 4096]⟩
abbrev S1x4096x256 : Shape := ⟨3, ![1, 4096, 256]⟩
abbrev S4096x256 : Shape := ⟨2, ![4096, 256]⟩
abbrev S256x48 : Shape := ⟨2, ![256, 48]⟩
abbrev S256 : Shape := ⟨1, ![256]⟩
abbrev S256x1 : Shape := ⟨2, ![256, 1]⟩
abbrev S1x256x48 : Shape := ⟨3, ![1, 256, 48]⟩
abbrev S48 : Shape := ⟨1, ![48]⟩
abbrev S1x48 : Shape := ⟨2, ![1, 48]⟩
abbrev S48x256 : Shape := ⟨2, ![48, 256]⟩
abbrev S48x1024 : Shape := ⟨2, ![48, 1024]⟩
abbrev S48x128 : Shape := ⟨2, ![48, 128]⟩
abbrev S1x48x128 : Shape := ⟨3, ![1, 48, 128]⟩
abbrev S4x1x2x4096 : Shape := ⟨4, ![4, 1, 2, 4096]⟩
abbrev S4x2x4096 : Shape := ⟨3, ![4, 2, 4096]⟩
abbrev S1x2x128 : Shape := ⟨3, ![1, 2, 128]⟩
abbrev S2x128 : Shape := ⟨2, ![2, 128]⟩
abbrev S8x128 : Shape := ⟨2, ![8, 128]⟩
abbrev S8x1024 : Shape := ⟨2, ![8, 1024]⟩
abbrev S8 : Shape := ⟨1, ![8]⟩
abbrev S8x1 : Shape := ⟨2, ![8, 1]⟩
abbrev S2x1024 : Shape := ⟨2, ![2, 1024]⟩
abbrev S1x1x2x1024 : Shape := ⟨4, ![1, 1, 2, 1024]⟩
abbrev S1x1x1 : Shape := ⟨3, ![1, 1, 1]⟩
abbrev S16x128 : Shape := ⟨2, ![16, 128]⟩
abbrev S16x1024 : Shape := ⟨2, ![16, 1024]⟩
abbrev S1024x256 : Shape := ⟨2, ![1024, 256]⟩
abbrev S16x256 : Shape := ⟨2, ![16, 256]⟩
abbrev S8x256 : Shape := ⟨2, ![8, 256]⟩
abbrev S2x4096 : Shape := ⟨2, ![2, 4096]⟩
abbrev S1x1x2x4096 : Shape := ⟨4, ![1, 1, 2, 4096]⟩
abbrev S16x4096 : Shape := ⟨2, ![16, 4096]⟩
abbrev S1x4096x1024 : Shape := ⟨3, ![1, 4096, 1024]⟩
abbrev S4096x1024 : Shape := ⟨2, ![4096, 1024]⟩
abbrev S4x256 : Shape := ⟨2, ![4, 256]⟩
abbrev S1x256 : Shape := ⟨2, ![1, 256]⟩
abbrev S4x24x1024 : Shape := ⟨3, ![4, 24, 1024]⟩
abbrev S1x1x256 : Shape := ⟨3, ![1, 1, 256]⟩
abbrev S1x2x256 : Shape := ⟨3, ![1, 2, 256]⟩
abbrev S24x2 : Shape := ⟨2, ![24, 2]⟩
abbrev S24x128 : Shape := ⟨2, ![24, 128]⟩
abbrev S1x24x2 : Shape := ⟨3, ![1, 24, 2]⟩
abbrev S1x48x256 : Shape := ⟨3, ![1, 48, 256]⟩
abbrev S256x256 : Shape := ⟨2, ![256, 256]⟩
abbrev S1x256x256 : Shape := ⟨3, ![1, 256, 256]⟩
abbrev S4x256x256 : Shape := ⟨3, ![4, 256, 256]⟩
abbrev S4x48x256 : Shape := ⟨3, ![4, 48, 256]⟩

abbrev nBuf : Space → Nat
  | .hbm => 12
  | .vmem => 16
  | .smem => 2
  | _ => 0

abbrev bufTy : (tb : Table) → Fin (tcTables nBuf tb) → BufTy
  | .hbm, ⟨0, _⟩ => ⟨S4x256x1024, .bf16⟩
  | .hbm, ⟨1, _⟩ => ⟨S1024x48, .bf16⟩
  | .hbm, ⟨2, _⟩ => ⟨S24x1024x4096, .fp8e4m3⟩
  | .hbm, ⟨3, _⟩ => ⟨S24x8x32, .f32⟩
  | .hbm, ⟨4, _⟩ => ⟨S24x4096x1024, .fp8e4m3⟩
  | .hbm, ⟨5, _⟩ => ⟨S24x32x8, .f32⟩
  | .hbm, ⟨6, _⟩ => ⟨S4x256x1024, .bf16⟩
  | .hbm, ⟨7, _⟩ => ⟨S4x48x1024, .bf16⟩
  | .hbm, ⟨8, _⟩ => ⟨S4x24x2x1024, .fp8e4m3⟩
  | .hbm, ⟨9, _⟩ => ⟨S4x24x2, .f32⟩
  | .hbm, ⟨10, _⟩ => ⟨S4x24x2x4096, .fp8e4m3⟩
  | .hbm, ⟨11, _⟩ => ⟨S4x24x2, .f32⟩
  | .local _ .vmem, ⟨0, _⟩ => ⟨S4x256x1024, .bf16⟩
  | .local _ .vmem, ⟨1, _⟩ => ⟨S1024x48, .bf16⟩
  | .local _ .vmem, ⟨2, _⟩ => ⟨S5x1024x4096, .fp8e4m3⟩
  | .local _ .vmem, ⟨3, _⟩ => ⟨S5x4096x1024, .fp8e4m3⟩
  | .local _ .vmem, ⟨4, _⟩ => ⟨S4x256x48, .bf16⟩
  | .local _ .vmem, ⟨5, _⟩ => ⟨S8x192x128, .f32⟩
  | .local _ .vmem, ⟨6, _⟩ => ⟨S8x4096, .f32⟩
  | .local _ .vmem, ⟨7, _⟩ => ⟨S8x4096, .f32⟩
  | .local _ .vmem, ⟨8, _⟩ => ⟨S4x48x1024, .bf16⟩
  | .local _ .vmem, ⟨9, _⟩ => ⟨S4x256x1024, .bf16⟩
  | .local _ .vmem, ⟨10, _⟩ => ⟨S4x24x2x1024, .fp8e4m3⟩
  | .local _ .vmem, ⟨11, _⟩ => ⟨S4x24x2x4096, .fp8e4m3⟩
  | .local _ .vmem, ⟨12, _⟩ => ⟨S192x128, .f32⟩
  | .local _ .vmem, ⟨13, _⟩ => ⟨S192x128, .f32⟩
  | .local _ .vmem, ⟨14, _⟩ => ⟨S4x24x2, .f32⟩
  | .local _ .vmem, ⟨15, _⟩ => ⟨S4x24x2, .f32⟩
  | .local _ .smem, ⟨0, _⟩ => ⟨S5x8x32, .f32⟩
  | .local _ .smem, ⟨1, _⟩ => ⟨S5x32x8, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_scratch4 : Ref sig .tc := ⟨.smem, 0, rfl⟩
abbrev cc0_scratch5 : Ref sig .tc := ⟨.smem, 1, rfl⟩

abbrev nD : Nat := 1
abbrev τ : Topo := Topo.v7x

variable {F : FTy → Type} [BitOps F]

abbrev grid0 : Pipeline.Grid := .none

@[reducible] def k0_t1_loop : Scf.Loop 32 :=
  let c0_i32_465 : BitVec 32 := 0#32
  let c23_i32 : BitVec 32 := 23#32
  let v506 : BitVec 32 := Scalar.addi c0_i32_465 c23_i32
  let c1_i32_466 : BitVec 32 := 1#32
  ⟨c0_i32_465, v506, c1_i32_466⟩
def k0_cond1 (k0_t1 : Fin k0_t1_loop.trips) : BitVec 1 :=
  let c0_i32_465 : BitVec 32 := 0#32
  let c1_i32_466 : BitVec 32 := 1#32
  let arg35 : BitVec 32 := Scf.iv c0_i32_465 c1_i32_466 k0_t1
  let c1_i32_3767 : BitVec 32 := 1#32
  let v5206 : BitVec 1 := Scalar.cmpi .sge arg35 c1_i32_3767
  let v5207 : BitVec 32 := Scalar.extui v5206
  let c0_i32_3768 : BitVec 32 := 0#32
  let v5208 : BitVec 1 := Scalar.cmpi .ne v5207 c0_i32_3768
  v5208

def k0_off1 (k0_t1 : Fin k0_t1_loop.trips) : Fin 4 → Nat :=
  let c0_i32_6231 : BitVec 32 := 0#32
  let c0_i32_465 : BitVec 32 := 0#32
  let c1_i32_466 : BitVec 32 := 1#32
  let arg35 : BitVec 32 := Scf.iv c0_i32_465 c1_i32_466 k0_t1
  let c1_i32_6229 : BitVec 32 := 1#32
  let v10236 : BitVec 32 := Scalar.subi arg35 c1_i32_6229
  let c0_i32_6232 : BitVec 32 := 0#32
  let c0_i32_6233 : BitVec 32 := 0#32
  ![0, v10236.toNat, 0, 0]
def k0_cond2 (k0_t1 : Fin k0_t1_loop.trips) : BitVec 1 :=
  let c0_i32_465 : BitVec 32 := 0#32
  let c1_i32_466 : BitVec 32 := 1#32
  let arg35 : BitVec 32 := Scf.iv c0_i32_465 c1_i32_466 k0_t1
  let c1_i32_3769 : BitVec 32 := 1#32
  let v5209 : BitVec 1 := Scalar.cmpi .sge arg35 c1_i32_3769
  let c5_i32_3770 : BitVec 32 := 5#32
  let v5210 : BitVec 32 := Scalar.addi arg35 c5_i32_3770
  let c1_i32_3771 : BitVec 32 := 1#32
  let v5211 : BitVec 32 := Scalar.subi v5210 c1_i32_3771
  let c24_i32_3772 : BitVec 32 := 24#32
  let v5212 : BitVec 1 := Scalar.cmpi .slt v5211 c24_i32_3772
  let v5213 : BitVec 1 := Scalar.andi v5209 v5212
  let v5214 : BitVec 32 := Scalar.extui v5213
  let c0_i32_3773 : BitVec 32 := 0#32
  let v5215 : BitVec 1 := Scalar.cmpi .ne v5214 c0_i32_3773
  v5215

def k0_off2 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6234 : BitVec 32 := 0#32
  ![v10240.toNat, 0]
def k0_off3 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6235 : BitVec 32 := 0#32
  let c0_i32_6236 : BitVec 32 := 0#32
  ![v10240.toNat, 0, 0]
def k0_off4 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6237 : BitVec 32 := 0#32
  let c0_i32_6238 : BitVec 32 := 0#32
  ![v10237.toNat, 0, 0]
def k0_off5 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c1_i32_6239 : BitVec 32 := 1#32
  ![v10240.toNat, 1]
def k0_off6 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6240 : BitVec 32 := 0#32
  let c0_i32_6241 : BitVec 32 := 0#32
  ![v10240.toNat, 0, 0]
def k0_off7 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6242 : BitVec 32 := 0#32
  let c0_i32_6243 : BitVec 32 := 0#32
  ![v10237.toNat, 0, 0]
def k0_off8 (k0_t1 : Fin k0_t1_loop.trips) : Fin 1 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  ![v10240.toNat]
def k0_off9 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6244 : BitVec 32 := 0#32
  let c0_i32_6245 : BitVec 32 := 0#32
  ![v10240.toNat, 0, 0]
def k0_off10 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6246 : BitVec 32 := 0#32
  let c0_i32_6247 : BitVec 32 := 0#32
  ![v10237.toNat, 0, 0]
def k0_off11 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6248 : BitVec 32 := 0#32
  ![v10240.toNat, 0]
def k0_off12 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6249 : BitVec 32 := 0#32
  let c0_i32_6250 : BitVec 32 := 0#32
  ![v10240.toNat, 0, 0]
def k0_off13 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6251 : BitVec 32 := 0#32
  let c0_i32_6252 : BitVec 32 := 0#32
  ![v10237.toNat, 0, 0]
def k0_off14 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c1_i32_6253 : BitVec 32 := 1#32
  ![v10240.toNat, 1]
def k0_off15 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6254 : BitVec 32 := 0#32
  let c256_i32_6255 : BitVec 32 := 256#32
  ![v10240.toNat, 0, 256]
def k0_off16 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6256 : BitVec 32 := 0#32
  let c256_i32_6257 : BitVec 32 := 256#32
  ![v10237.toNat, 0, 256]
def k0_off17 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c2_i32_6258 : BitVec 32 := 2#32
  ![v10240.toNat, 2]
def k0_off18 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6259 : BitVec 32 := 0#32
  let c512_i32_6260 : BitVec 32 := 512#32
  ![v10240.toNat, 0, 512]
def k0_off19 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6261 : BitVec 32 := 0#32
  let c512_i32_6262 : BitVec 32 := 512#32
  ![v10237.toNat, 0, 512]
def k0_off20 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c3_i32_6263 : BitVec 32 := 3#32
  ![v10240.toNat, 3]
def k0_off21 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6231 : BitVec 32 := 5#32
  let v10238 : BitVec 32 := Scalar.addi arg35 c5_i32_6231
  let c1_i32_6232 : BitVec 32 := 1#32
  let v10239 : BitVec 32 := Scalar.subi v10238 c1_i32_6232
  let c5_i32_6233 : BitVec 32 := 5#32
  let v10240 : BitVec 32 := Scalar.remsi v10239 c5_i32_6233
  let c0_i32_6264 : BitVec 32 := 0#32
  let c768_i32_6265 : BitVec 32 := 768#32
  ![v10240.toNat, 0, 768]
def k0_off22 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_6229 : BitVec 32 := 5#32
  let v10236 : BitVec 32 := Scalar.addi arg35 c5_i32_6229
  let c1_i32_6230 : BitVec 32 := 1#32
  let v10237 : BitVec 32 := Scalar.subi v10236 c1_i32_6230
  let c0_i32_6266 : BitVec 32 := 0#32
  let c768_i32_6267 : BitVec 32 := 768#32
  ![v10237.toNat, 0, 768]
def k0_off23 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_3774 : BitVec 32 := 0#32
  ![v5205.toNat, 0]
def k0_off24 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_3775 : BitVec 32 := 0#32
  let c0_i32_3776 : BitVec 32 := 0#32
  ![v5205.toNat, 0, 0]
def k0_off25 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_3777 : BitVec 32 := 0#32
  let c0_i32_3778 : BitVec 32 := 0#32
  ![arg35.toNat, 0, 0]
def k0_off26 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c1_i32_3779 : BitVec 32 := 1#32
  ![v5205.toNat, 1]
def k0_off27 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_3780 : BitVec 32 := 0#32
  let c0_i32_3781 : BitVec 32 := 0#32
  ![v5205.toNat, 0, 0]
def k0_off28 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_3782 : BitVec 32 := 0#32
  let c0_i32_3783 : BitVec 32 := 0#32
  ![arg35.toNat, 0, 0]
def k0_off29 (k0_t1 : Fin k0_t1_loop.trips) : Fin 1 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  ![v5205.toNat]
def k0_off30 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_3784 : BitVec 32 := 0#32
  let c0_i32_3785 : BitVec 32 := 0#32
  ![v5205.toNat, 0, 0]
def k0_off31 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_3786 : BitVec 32 := 0#32
  let c0_i32_3787 : BitVec 32 := 0#32
  ![arg35.toNat, 0, 0]
def k0_off32 (k0_t1 : Fin k0_t1_loop.trips) (c0_i32_3789 : BitVec 32) : Fin 3 → Nat :=
  let c0_3790 : Index := 0#32
  let c0_i32_465 : BitVec 32 := 0#32
  let c1_i32_466 : BitVec 32 := 1#32
  let arg35 : BitVec 32 := Scf.iv c0_i32_465 c1_i32_466 k0_t1
  let c2_i32_3788 : BitVec 32 := 2#32
  let v5234 : BitVec 32 := Scalar.muli arg35 c2_i32_3788
  let v5235 : BitVec 32 := Scalar.addi c0_i32_3789 v5234
  let v5236 : Index := Scalar.indexCast v5235
  let c0_3791 : Index := 0#32
  ![0, v5236.toNat, 0]
def k0_off33 (k0_t1 : Fin k0_t1_loop.trips) (c0_i32_3802 : BitVec 32) : Fin 3 → Nat :=
  let c1_3803 : Index := 1#32
  let c0_i32_465 : BitVec 32 := 0#32
  let c1_i32_466 : BitVec 32 := 1#32
  let arg35 : BitVec 32 := Scf.iv c0_i32_465 c1_i32_466 k0_t1
  let c2_i32_3801 : BitVec 32 := 2#32
  let v5255 : BitVec 32 := Scalar.muli arg35 c2_i32_3801
  let v5256 : BitVec 32 := Scalar.addi c0_i32_3802 v5255
  let v5257 : Index := Scalar.indexCast v5256
  let c0_3804 : Index := 0#32
  ![1, v5257.toNat, 0]
def k0_off34 (k0_t1 : Fin k0_t1_loop.trips) (c0_i32_3818 : BitVec 32) : Fin 3 → Nat :=
  let c2_3819 : Index := 2#32
  let c0_i32_465 : BitVec 32 := 0#32
  let c1_i32_466 : BitVec 32 := 1#32
  let arg35 : BitVec 32 := Scf.iv c0_i32_465 c1_i32_466 k0_t1
  let c2_i32_3817 : BitVec 32 := 2#32
  let v5276 : BitVec 32 := Scalar.muli arg35 c2_i32_3817
  let v5277 : BitVec 32 := Scalar.addi c0_i32_3818 v5276
  let v5278 : Index := Scalar.indexCast v5277
  let c0_3820 : Index := 0#32
  ![2, v5278.toNat, 0]
def k0_off35 (k0_t1 : Fin k0_t1_loop.trips) (c0_i32_3834 : BitVec 32) : Fin 3 → Nat :=
  let c3_3835 : Index := 3#32
  let c0_i32_465 : BitVec 32 := 0#32
  let c1_i32_466 : BitVec 32 := 1#32
  let arg35 : BitVec 32 := Scf.iv c0_i32_465 c1_i32_466 k0_t1
  let c2_i32_3833 : BitVec 32 := 2#32
  let v5297 : BitVec 32 := Scalar.muli arg35 c2_i32_3833
  let v5298 : BitVec 32 := Scalar.addi c0_i32_3834 v5297
  let v5299 : Index := Scalar.indexCast v5298
  let c0_3836 : Index := 0#32
  ![3, v5299.toNat, 0]
def k0_off36 (k0_t1 : Fin k0_t1_loop.trips) (c0_i32_3850 : BitVec 32) : Fin 3 → Nat :=
  let c4_3851 : Index := 4#32
  let c0_i32_465 : BitVec 32 := 0#32
  let c1_i32_466 : BitVec 32 := 1#32
  let arg35 : BitVec 32 := Scf.iv c0_i32_465 c1_i32_466 k0_t1
  let c2_i32_3849 : BitVec 32 := 2#32
  let v5318 : BitVec 32 := Scalar.muli arg35 c2_i32_3849
  let v5319 : BitVec 32 := Scalar.addi c0_i32_3850 v5318
  let v5320 : Index := Scalar.indexCast v5319
  let c0_3852 : Index := 0#32
  ![4, v5320.toNat, 0]
def k0_off37 (k0_t1 : Fin k0_t1_loop.trips) (c0_i32_3866 : BitVec 32) : Fin 3 → Nat :=
  let c5_3867 : Index := 5#32
  let c0_i32_465 : BitVec 32 := 0#32
  let c1_i32_466 : BitVec 32 := 1#32
  let arg35 : BitVec 32 := Scf.iv c0_i32_465 c1_i32_466 k0_t1
  let c2_i32_3865 : BitVec 32 := 2#32
  let v5339 : BitVec 32 := Scalar.muli arg35 c2_i32_3865
  let v5340 : BitVec 32 := Scalar.addi c0_i32_3866 v5339
  let v5341 : Index := Scalar.indexCast v5340
  let c0_3868 : Index := 0#32
  ![5, v5341.toNat, 0]
def k0_off38 (k0_t1 : Fin k0_t1_loop.trips) (c0_i32_3882 : BitVec 32) : Fin 3 → Nat :=
  let c6_3883 : Index := 6#32
  let c0_i32_465 : BitVec 32 := 0#32
  let c1_i32_466 : BitVec 32 := 1#32
  let arg35 : BitVec 32 := Scf.iv c0_i32_465 c1_i32_466 k0_t1
  let c2_i32_3881 : BitVec 32 := 2#32
  let v5360 : BitVec 32 := Scalar.muli arg35 c2_i32_3881
  let v5361 : BitVec 32 := Scalar.addi c0_i32_3882 v5360
  let v5362 : Index := Scalar.indexCast v5361
  let c0_3884 : Index := 0#32
  ![6, v5362.toNat, 0]
def k0_off39 (k0_t1 : Fin k0_t1_loop.trips) (c0_i32_3898 : BitVec 32) : Fin 3 → Nat :=
  let c7_3899 : Index := 7#32
  let c0_i32_465 : BitVec 32 := 0#32
  let c1_i32_466 : BitVec 32 := 1#32
  let arg35 : BitVec 32 := Scf.iv c0_i32_465 c1_i32_466 k0_t1
  let c2_i32_3897 : BitVec 32 := 2#32
  let v5381 : BitVec 32 := Scalar.muli arg35 c2_i32_3897
  let v5382 : BitVec 32 := Scalar.addi c0_i32_3898 v5381
  let v5383 : Index := Scalar.indexCast v5382
  let c0_3900 : Index := 0#32
  ![7, v5383.toNat, 0]
def k0_off40 (k0_t1 : Fin k0_t1_loop.trips) : Fin 4 → Nat :=
  let c0_3922 : Index := 0#32
  let c0_i32_465 : BitVec 32 := 0#32
  let c1_i32_466 : BitVec 32 := 1#32
  let arg35 : BitVec 32 := Scf.iv c0_i32_465 c1_i32_466 k0_t1
  let v5433 : Index := Scalar.indexCast arg35
  let c0_3923 : Index := 0#32
  let c0_3924 : Index := 0#32
  ![0, v5433.toNat, 0, 0]
def k0_off41 (k0_t1 : Fin k0_t1_loop.trips) : Fin 4 → Nat :=
  let c1_3925 : Index := 1#32
  let c0_i32_465 : BitVec 32 := 0#32
  let c1_i32_466 : BitVec 32 := 1#32
  let arg35 : BitVec 32 := Scf.iv c0_i32_465 c1_i32_466 k0_t1
  let v5439 : Index := Scalar.indexCast arg35
  let c0_3926 : Index := 0#32
  let c0_3927 : Index := 0#32
  ![1, v5439.toNat, 0, 0]
def k0_off42 (k0_t1 : Fin k0_t1_loop.trips) : Fin 4 → Nat :=
  let c2_3928 : Index := 2#32
  let c0_i32_465 : BitVec 32 := 0#32
  let c1_i32_466 : BitVec 32 := 1#32
  let arg35 : BitVec 32 := Scf.iv c0_i32_465 c1_i32_466 k0_t1
  let v5445 : Index := Scalar.indexCast arg35
  let c0_3929 : Index := 0#32
  let c0_3930 : Index := 0#32
  ![2, v5445.toNat, 0, 0]
def k0_off43 (k0_t1 : Fin k0_t1_loop.trips) : Fin 4 → Nat :=
  let c3_3931 : Index := 3#32
  let c0_i32_465 : BitVec 32 := 0#32
  let c1_i32_466 : BitVec 32 := 1#32
  let arg35 : BitVec 32 := Scf.iv c0_i32_465 c1_i32_466 k0_t1
  let v5451 : Index := Scalar.indexCast arg35
  let c0_3932 : Index := 0#32
  let c0_3933 : Index := 0#32
  ![3, v5451.toNat, 0, 0]
def k0_off44 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c8_i32_3934 : BitVec 32 := 8#32
  let v5457 : BitVec 32 := Scalar.muli arg35 c8_i32_3934
  let v5458 : Index := Scalar.indexCast v5457
  let c0_3935 : Index := 0#32
  ![v5458.toNat, 0]
def k0_off45 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5468 : Index := Scalar.indexCast v5205
  let c0_3940 : Index := 0#32
  let c0_3941 : Index := 0#32
  ![v5468.toNat, 0, 0]
def k0_off46 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5472 : Index := Scalar.indexCast v5205
  let c0_3942 : Index := 0#32
  let c1_3943 : Index := 1#32
  ![v5472.toNat, 0, 1]
def k0_off47 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5479 : Index := Scalar.indexCast v5205
  let c1_3946 : Index := 1#32
  let c0_3947 : Index := 0#32
  ![v5479.toNat, 1, 0]
def k0_off48 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5483 : Index := Scalar.indexCast v5205
  let c1_3948 : Index := 1#32
  let c1_3949 : Index := 1#32
  ![v5483.toNat, 1, 1]
def k0_off49 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5490 : Index := Scalar.indexCast v5205
  let c2_3952 : Index := 2#32
  let c0_3953 : Index := 0#32
  ![v5490.toNat, 2, 0]
def k0_off50 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5494 : Index := Scalar.indexCast v5205
  let c2_3954 : Index := 2#32
  let c1_3955 : Index := 1#32
  ![v5494.toNat, 2, 1]
def k0_off51 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5501 : Index := Scalar.indexCast v5205
  let c3_3958 : Index := 3#32
  let c0_3959 : Index := 0#32
  ![v5501.toNat, 3, 0]
def k0_off52 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5505 : Index := Scalar.indexCast v5205
  let c3_3960 : Index := 3#32
  let c1_3961 : Index := 1#32
  ![v5505.toNat, 3, 1]
def k0_off53 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5512 : Index := Scalar.indexCast v5205
  let c4_3964 : Index := 4#32
  let c0_3965 : Index := 0#32
  ![v5512.toNat, 4, 0]
def k0_off54 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5516 : Index := Scalar.indexCast v5205
  let c4_3966 : Index := 4#32
  let c1_3967 : Index := 1#32
  ![v5516.toNat, 4, 1]
def k0_off55 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5523 : Index := Scalar.indexCast v5205
  let c5_3970 : Index := 5#32
  let c0_3971 : Index := 0#32
  ![v5523.toNat, 5, 0]
def k0_off56 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5527 : Index := Scalar.indexCast v5205
  let c5_3972 : Index := 5#32
  let c1_3973 : Index := 1#32
  ![v5527.toNat, 5, 1]
def k0_off57 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5534 : Index := Scalar.indexCast v5205
  let c6_3976 : Index := 6#32
  let c0_3977 : Index := 0#32
  ![v5534.toNat, 6, 0]
def k0_off58 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5538 : Index := Scalar.indexCast v5205
  let c6_3978 : Index := 6#32
  let c1_3979 : Index := 1#32
  ![v5538.toNat, 6, 1]
def k0_off59 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5545 : Index := Scalar.indexCast v5205
  let c7_3982 : Index := 7#32
  let c0_3983 : Index := 0#32
  ![v5545.toNat, 7, 0]
def k0_off60 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5549 : Index := Scalar.indexCast v5205
  let c7_3984 : Index := 7#32
  let c1_3985 : Index := 1#32
  ![v5549.toNat, 7, 1]
def k0_off61 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5664 : Index := Scalar.indexCast v5205
  let c0_4029 : Index := 0#32
  let c2_4030 : Index := 2#32
  ![v5664.toNat, 0, 2]
def k0_off62 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5668 : Index := Scalar.indexCast v5205
  let c0_4031 : Index := 0#32
  let c3_4032 : Index := 3#32
  ![v5668.toNat, 0, 3]
def k0_off63 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5675 : Index := Scalar.indexCast v5205
  let c1_4035 : Index := 1#32
  let c2_4036 : Index := 2#32
  ![v5675.toNat, 1, 2]
def k0_off64 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5679 : Index := Scalar.indexCast v5205
  let c1_4037 : Index := 1#32
  let c3_4038 : Index := 3#32
  ![v5679.toNat, 1, 3]
def k0_off65 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5686 : Index := Scalar.indexCast v5205
  let c2_4041 : Index := 2#32
  let c2_4042 : Index := 2#32
  ![v5686.toNat, 2, 2]
def k0_off66 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5690 : Index := Scalar.indexCast v5205
  let c2_4043 : Index := 2#32
  let c3_4044 : Index := 3#32
  ![v5690.toNat, 2, 3]
def k0_off67 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5697 : Index := Scalar.indexCast v5205
  let c3_4047 : Index := 3#32
  let c2_4048 : Index := 2#32
  ![v5697.toNat, 3, 2]
def k0_off68 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5701 : Index := Scalar.indexCast v5205
  let c3_4049 : Index := 3#32
  let c3_4050 : Index := 3#32
  ![v5701.toNat, 3, 3]
def k0_off69 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5708 : Index := Scalar.indexCast v5205
  let c4_4053 : Index := 4#32
  let c2_4054 : Index := 2#32
  ![v5708.toNat, 4, 2]
def k0_off70 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5712 : Index := Scalar.indexCast v5205
  let c4_4055 : Index := 4#32
  let c3_4056 : Index := 3#32
  ![v5712.toNat, 4, 3]
def k0_off71 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5719 : Index := Scalar.indexCast v5205
  let c5_4059 : Index := 5#32
  let c2_4060 : Index := 2#32
  ![v5719.toNat, 5, 2]
def k0_off72 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5723 : Index := Scalar.indexCast v5205
  let c5_4061 : Index := 5#32
  let c3_4062 : Index := 3#32
  ![v5723.toNat, 5, 3]
def k0_off73 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5730 : Index := Scalar.indexCast v5205
  let c6_4065 : Index := 6#32
  let c2_4066 : Index := 2#32
  ![v5730.toNat, 6, 2]
def k0_off74 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5734 : Index := Scalar.indexCast v5205
  let c6_4067 : Index := 6#32
  let c3_4068 : Index := 3#32
  ![v5734.toNat, 6, 3]
def k0_off75 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5741 : Index := Scalar.indexCast v5205
  let c7_4071 : Index := 7#32
  let c2_4072 : Index := 2#32
  ![v5741.toNat, 7, 2]
def k0_off76 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5745 : Index := Scalar.indexCast v5205
  let c7_4073 : Index := 7#32
  let c3_4074 : Index := 3#32
  ![v5745.toNat, 7, 3]
def k0_off77 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5860 : Index := Scalar.indexCast v5205
  let c0_4118 : Index := 0#32
  let c4_4119 : Index := 4#32
  ![v5860.toNat, 0, 4]
def k0_off78 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5864 : Index := Scalar.indexCast v5205
  let c0_4120 : Index := 0#32
  let c5_4121 : Index := 5#32
  ![v5864.toNat, 0, 5]
def k0_off79 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5871 : Index := Scalar.indexCast v5205
  let c1_4124 : Index := 1#32
  let c4_4125 : Index := 4#32
  ![v5871.toNat, 1, 4]
def k0_off80 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5875 : Index := Scalar.indexCast v5205
  let c1_4126 : Index := 1#32
  let c5_4127 : Index := 5#32
  ![v5875.toNat, 1, 5]
def k0_off81 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5882 : Index := Scalar.indexCast v5205
  let c2_4130 : Index := 2#32
  let c4_4131 : Index := 4#32
  ![v5882.toNat, 2, 4]
def k0_off82 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5886 : Index := Scalar.indexCast v5205
  let c2_4132 : Index := 2#32
  let c5_4133 : Index := 5#32
  ![v5886.toNat, 2, 5]
def k0_off83 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5893 : Index := Scalar.indexCast v5205
  let c3_4136 : Index := 3#32
  let c4_4137 : Index := 4#32
  ![v5893.toNat, 3, 4]
def k0_off84 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5897 : Index := Scalar.indexCast v5205
  let c3_4138 : Index := 3#32
  let c5_4139 : Index := 5#32
  ![v5897.toNat, 3, 5]
def k0_off85 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5904 : Index := Scalar.indexCast v5205
  let c4_4142 : Index := 4#32
  let c4_4143 : Index := 4#32
  ![v5904.toNat, 4, 4]
def k0_off86 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5908 : Index := Scalar.indexCast v5205
  let c4_4144 : Index := 4#32
  let c5_4145 : Index := 5#32
  ![v5908.toNat, 4, 5]
def k0_off87 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5915 : Index := Scalar.indexCast v5205
  let c5_4148 : Index := 5#32
  let c4_4149 : Index := 4#32
  ![v5915.toNat, 5, 4]
def k0_off88 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5919 : Index := Scalar.indexCast v5205
  let c5_4150 : Index := 5#32
  let c5_4151 : Index := 5#32
  ![v5919.toNat, 5, 5]
def k0_off89 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5926 : Index := Scalar.indexCast v5205
  let c6_4154 : Index := 6#32
  let c4_4155 : Index := 4#32
  ![v5926.toNat, 6, 4]
def k0_off90 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5930 : Index := Scalar.indexCast v5205
  let c6_4156 : Index := 6#32
  let c5_4157 : Index := 5#32
  ![v5930.toNat, 6, 5]
def k0_off91 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5937 : Index := Scalar.indexCast v5205
  let c7_4160 : Index := 7#32
  let c4_4161 : Index := 4#32
  ![v5937.toNat, 7, 4]
def k0_off92 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v5941 : Index := Scalar.indexCast v5205
  let c7_4162 : Index := 7#32
  let c5_4163 : Index := 5#32
  ![v5941.toNat, 7, 5]
def k0_off93 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6056 : Index := Scalar.indexCast v5205
  let c0_4207 : Index := 0#32
  let c6_4208 : Index := 6#32
  ![v6056.toNat, 0, 6]
def k0_off94 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6060 : Index := Scalar.indexCast v5205
  let c0_4209 : Index := 0#32
  let c7_4210 : Index := 7#32
  ![v6060.toNat, 0, 7]
def k0_off95 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6067 : Index := Scalar.indexCast v5205
  let c1_4213 : Index := 1#32
  let c6_4214 : Index := 6#32
  ![v6067.toNat, 1, 6]
def k0_off96 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6071 : Index := Scalar.indexCast v5205
  let c1_4215 : Index := 1#32
  let c7_4216 : Index := 7#32
  ![v6071.toNat, 1, 7]
def k0_off97 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6078 : Index := Scalar.indexCast v5205
  let c2_4219 : Index := 2#32
  let c6_4220 : Index := 6#32
  ![v6078.toNat, 2, 6]
def k0_off98 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6082 : Index := Scalar.indexCast v5205
  let c2_4221 : Index := 2#32
  let c7_4222 : Index := 7#32
  ![v6082.toNat, 2, 7]
def k0_off99 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6089 : Index := Scalar.indexCast v5205
  let c3_4225 : Index := 3#32
  let c6_4226 : Index := 6#32
  ![v6089.toNat, 3, 6]
def k0_off100 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6093 : Index := Scalar.indexCast v5205
  let c3_4227 : Index := 3#32
  let c7_4228 : Index := 7#32
  ![v6093.toNat, 3, 7]
def k0_off101 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6100 : Index := Scalar.indexCast v5205
  let c4_4231 : Index := 4#32
  let c6_4232 : Index := 6#32
  ![v6100.toNat, 4, 6]
def k0_off102 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6104 : Index := Scalar.indexCast v5205
  let c4_4233 : Index := 4#32
  let c7_4234 : Index := 7#32
  ![v6104.toNat, 4, 7]
def k0_off103 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6111 : Index := Scalar.indexCast v5205
  let c5_4237 : Index := 5#32
  let c6_4238 : Index := 6#32
  ![v6111.toNat, 5, 6]
def k0_off104 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6115 : Index := Scalar.indexCast v5205
  let c5_4239 : Index := 5#32
  let c7_4240 : Index := 7#32
  ![v6115.toNat, 5, 7]
def k0_off105 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6122 : Index := Scalar.indexCast v5205
  let c6_4243 : Index := 6#32
  let c6_4244 : Index := 6#32
  ![v6122.toNat, 6, 6]
def k0_off106 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6126 : Index := Scalar.indexCast v5205
  let c6_4245 : Index := 6#32
  let c7_4246 : Index := 7#32
  ![v6126.toNat, 6, 7]
def k0_off107 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6133 : Index := Scalar.indexCast v5205
  let c7_4249 : Index := 7#32
  let c6_4250 : Index := 6#32
  ![v6133.toNat, 7, 6]
def k0_off108 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6137 : Index := Scalar.indexCast v5205
  let c7_4251 : Index := 7#32
  let c7_4252 : Index := 7#32
  ![v6137.toNat, 7, 7]
def k0_off109 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6252 : Index := Scalar.indexCast v5205
  let c0_4296 : Index := 0#32
  let c8_4297 : Index := 8#32
  ![v6252.toNat, 0, 8]
def k0_off110 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6256 : Index := Scalar.indexCast v5205
  let c0_4298 : Index := 0#32
  let c9_4299 : Index := 9#32
  ![v6256.toNat, 0, 9]
def k0_off111 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6263 : Index := Scalar.indexCast v5205
  let c1_4302 : Index := 1#32
  let c8_4303 : Index := 8#32
  ![v6263.toNat, 1, 8]
def k0_off112 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6267 : Index := Scalar.indexCast v5205
  let c1_4304 : Index := 1#32
  let c9_4305 : Index := 9#32
  ![v6267.toNat, 1, 9]
def k0_off113 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6274 : Index := Scalar.indexCast v5205
  let c2_4308 : Index := 2#32
  let c8_4309 : Index := 8#32
  ![v6274.toNat, 2, 8]
def k0_off114 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6278 : Index := Scalar.indexCast v5205
  let c2_4310 : Index := 2#32
  let c9_4311 : Index := 9#32
  ![v6278.toNat, 2, 9]
def k0_off115 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6285 : Index := Scalar.indexCast v5205
  let c3_4314 : Index := 3#32
  let c8_4315 : Index := 8#32
  ![v6285.toNat, 3, 8]
def k0_off116 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6289 : Index := Scalar.indexCast v5205
  let c3_4316 : Index := 3#32
  let c9_4317 : Index := 9#32
  ![v6289.toNat, 3, 9]
def k0_off117 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6296 : Index := Scalar.indexCast v5205
  let c4_4320 : Index := 4#32
  let c8_4321 : Index := 8#32
  ![v6296.toNat, 4, 8]
def k0_off118 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6300 : Index := Scalar.indexCast v5205
  let c4_4322 : Index := 4#32
  let c9_4323 : Index := 9#32
  ![v6300.toNat, 4, 9]
def k0_off119 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6307 : Index := Scalar.indexCast v5205
  let c5_4326 : Index := 5#32
  let c8_4327 : Index := 8#32
  ![v6307.toNat, 5, 8]
def k0_off120 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6311 : Index := Scalar.indexCast v5205
  let c5_4328 : Index := 5#32
  let c9_4329 : Index := 9#32
  ![v6311.toNat, 5, 9]
def k0_off121 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6318 : Index := Scalar.indexCast v5205
  let c6_4332 : Index := 6#32
  let c8_4333 : Index := 8#32
  ![v6318.toNat, 6, 8]
def k0_off122 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6322 : Index := Scalar.indexCast v5205
  let c6_4334 : Index := 6#32
  let c9_4335 : Index := 9#32
  ![v6322.toNat, 6, 9]
def k0_off123 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6329 : Index := Scalar.indexCast v5205
  let c7_4338 : Index := 7#32
  let c8_4339 : Index := 8#32
  ![v6329.toNat, 7, 8]
def k0_off124 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6333 : Index := Scalar.indexCast v5205
  let c7_4340 : Index := 7#32
  let c9_4341 : Index := 9#32
  ![v6333.toNat, 7, 9]
def k0_off125 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6448 : Index := Scalar.indexCast v5205
  let c0_4385 : Index := 0#32
  let c10_4386 : Index := 10#32
  ![v6448.toNat, 0, 10]
def k0_off126 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6452 : Index := Scalar.indexCast v5205
  let c0_4387 : Index := 0#32
  let c11_4388 : Index := 11#32
  ![v6452.toNat, 0, 11]
def k0_off127 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6459 : Index := Scalar.indexCast v5205
  let c1_4391 : Index := 1#32
  let c10_4392 : Index := 10#32
  ![v6459.toNat, 1, 10]
def k0_off128 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6463 : Index := Scalar.indexCast v5205
  let c1_4393 : Index := 1#32
  let c11_4394 : Index := 11#32
  ![v6463.toNat, 1, 11]
def k0_off129 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6470 : Index := Scalar.indexCast v5205
  let c2_4397 : Index := 2#32
  let c10_4398 : Index := 10#32
  ![v6470.toNat, 2, 10]
def k0_off130 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6474 : Index := Scalar.indexCast v5205
  let c2_4399 : Index := 2#32
  let c11_4400 : Index := 11#32
  ![v6474.toNat, 2, 11]
def k0_off131 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6481 : Index := Scalar.indexCast v5205
  let c3_4403 : Index := 3#32
  let c10_4404 : Index := 10#32
  ![v6481.toNat, 3, 10]
def k0_off132 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6485 : Index := Scalar.indexCast v5205
  let c3_4405 : Index := 3#32
  let c11_4406 : Index := 11#32
  ![v6485.toNat, 3, 11]
def k0_off133 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6492 : Index := Scalar.indexCast v5205
  let c4_4409 : Index := 4#32
  let c10_4410 : Index := 10#32
  ![v6492.toNat, 4, 10]
def k0_off134 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6496 : Index := Scalar.indexCast v5205
  let c4_4411 : Index := 4#32
  let c11_4412 : Index := 11#32
  ![v6496.toNat, 4, 11]
def k0_off135 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6503 : Index := Scalar.indexCast v5205
  let c5_4415 : Index := 5#32
  let c10_4416 : Index := 10#32
  ![v6503.toNat, 5, 10]
def k0_off136 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6507 : Index := Scalar.indexCast v5205
  let c5_4417 : Index := 5#32
  let c11_4418 : Index := 11#32
  ![v6507.toNat, 5, 11]
def k0_off137 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6514 : Index := Scalar.indexCast v5205
  let c6_4421 : Index := 6#32
  let c10_4422 : Index := 10#32
  ![v6514.toNat, 6, 10]
def k0_off138 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6518 : Index := Scalar.indexCast v5205
  let c6_4423 : Index := 6#32
  let c11_4424 : Index := 11#32
  ![v6518.toNat, 6, 11]
def k0_off139 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6525 : Index := Scalar.indexCast v5205
  let c7_4427 : Index := 7#32
  let c10_4428 : Index := 10#32
  ![v6525.toNat, 7, 10]
def k0_off140 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6529 : Index := Scalar.indexCast v5205
  let c7_4429 : Index := 7#32
  let c11_4430 : Index := 11#32
  ![v6529.toNat, 7, 11]
def k0_off141 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6644 : Index := Scalar.indexCast v5205
  let c0_4474 : Index := 0#32
  let c12_4475 : Index := 12#32
  ![v6644.toNat, 0, 12]
def k0_off142 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6648 : Index := Scalar.indexCast v5205
  let c0_4476 : Index := 0#32
  let c13_4477 : Index := 13#32
  ![v6648.toNat, 0, 13]
def k0_off143 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6655 : Index := Scalar.indexCast v5205
  let c1_4480 : Index := 1#32
  let c12_4481 : Index := 12#32
  ![v6655.toNat, 1, 12]
def k0_off144 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6659 : Index := Scalar.indexCast v5205
  let c1_4482 : Index := 1#32
  let c13_4483 : Index := 13#32
  ![v6659.toNat, 1, 13]
def k0_off145 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6666 : Index := Scalar.indexCast v5205
  let c2_4486 : Index := 2#32
  let c12_4487 : Index := 12#32
  ![v6666.toNat, 2, 12]
def k0_off146 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6670 : Index := Scalar.indexCast v5205
  let c2_4488 : Index := 2#32
  let c13_4489 : Index := 13#32
  ![v6670.toNat, 2, 13]
def k0_off147 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6677 : Index := Scalar.indexCast v5205
  let c3_4492 : Index := 3#32
  let c12_4493 : Index := 12#32
  ![v6677.toNat, 3, 12]
def k0_off148 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6681 : Index := Scalar.indexCast v5205
  let c3_4494 : Index := 3#32
  let c13_4495 : Index := 13#32
  ![v6681.toNat, 3, 13]
def k0_off149 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6688 : Index := Scalar.indexCast v5205
  let c4_4498 : Index := 4#32
  let c12_4499 : Index := 12#32
  ![v6688.toNat, 4, 12]
def k0_off150 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6692 : Index := Scalar.indexCast v5205
  let c4_4500 : Index := 4#32
  let c13_4501 : Index := 13#32
  ![v6692.toNat, 4, 13]
def k0_off151 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6699 : Index := Scalar.indexCast v5205
  let c5_4504 : Index := 5#32
  let c12_4505 : Index := 12#32
  ![v6699.toNat, 5, 12]
def k0_off152 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6703 : Index := Scalar.indexCast v5205
  let c5_4506 : Index := 5#32
  let c13_4507 : Index := 13#32
  ![v6703.toNat, 5, 13]
def k0_off153 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6710 : Index := Scalar.indexCast v5205
  let c6_4510 : Index := 6#32
  let c12_4511 : Index := 12#32
  ![v6710.toNat, 6, 12]
def k0_off154 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6714 : Index := Scalar.indexCast v5205
  let c6_4512 : Index := 6#32
  let c13_4513 : Index := 13#32
  ![v6714.toNat, 6, 13]
def k0_off155 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6721 : Index := Scalar.indexCast v5205
  let c7_4516 : Index := 7#32
  let c12_4517 : Index := 12#32
  ![v6721.toNat, 7, 12]
def k0_off156 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6725 : Index := Scalar.indexCast v5205
  let c7_4518 : Index := 7#32
  let c13_4519 : Index := 13#32
  ![v6725.toNat, 7, 13]
def k0_off157 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6840 : Index := Scalar.indexCast v5205
  let c0_4563 : Index := 0#32
  let c14_4564 : Index := 14#32
  ![v6840.toNat, 0, 14]
def k0_off158 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6844 : Index := Scalar.indexCast v5205
  let c0_4565 : Index := 0#32
  let c15_4566 : Index := 15#32
  ![v6844.toNat, 0, 15]
def k0_off159 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6851 : Index := Scalar.indexCast v5205
  let c1_4569 : Index := 1#32
  let c14_4570 : Index := 14#32
  ![v6851.toNat, 1, 14]
def k0_off160 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6855 : Index := Scalar.indexCast v5205
  let c1_4571 : Index := 1#32
  let c15_4572 : Index := 15#32
  ![v6855.toNat, 1, 15]
def k0_off161 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6862 : Index := Scalar.indexCast v5205
  let c2_4575 : Index := 2#32
  let c14_4576 : Index := 14#32
  ![v6862.toNat, 2, 14]
def k0_off162 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6866 : Index := Scalar.indexCast v5205
  let c2_4577 : Index := 2#32
  let c15_4578 : Index := 15#32
  ![v6866.toNat, 2, 15]
def k0_off163 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6873 : Index := Scalar.indexCast v5205
  let c3_4581 : Index := 3#32
  let c14_4582 : Index := 14#32
  ![v6873.toNat, 3, 14]
def k0_off164 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6877 : Index := Scalar.indexCast v5205
  let c3_4583 : Index := 3#32
  let c15_4584 : Index := 15#32
  ![v6877.toNat, 3, 15]
def k0_off165 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6884 : Index := Scalar.indexCast v5205
  let c4_4587 : Index := 4#32
  let c14_4588 : Index := 14#32
  ![v6884.toNat, 4, 14]
def k0_off166 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6888 : Index := Scalar.indexCast v5205
  let c4_4589 : Index := 4#32
  let c15_4590 : Index := 15#32
  ![v6888.toNat, 4, 15]
def k0_off167 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6895 : Index := Scalar.indexCast v5205
  let c5_4593 : Index := 5#32
  let c14_4594 : Index := 14#32
  ![v6895.toNat, 5, 14]
def k0_off168 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6899 : Index := Scalar.indexCast v5205
  let c5_4595 : Index := 5#32
  let c15_4596 : Index := 15#32
  ![v6899.toNat, 5, 15]
def k0_off169 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6906 : Index := Scalar.indexCast v5205
  let c6_4599 : Index := 6#32
  let c14_4600 : Index := 14#32
  ![v6906.toNat, 6, 14]
def k0_off170 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6910 : Index := Scalar.indexCast v5205
  let c6_4601 : Index := 6#32
  let c15_4602 : Index := 15#32
  ![v6910.toNat, 6, 15]
def k0_off171 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6917 : Index := Scalar.indexCast v5205
  let c7_4605 : Index := 7#32
  let c14_4606 : Index := 14#32
  ![v6917.toNat, 7, 14]
def k0_off172 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v6921 : Index := Scalar.indexCast v5205
  let c7_4607 : Index := 7#32
  let c15_4608 : Index := 15#32
  ![v6921.toNat, 7, 15]
def k0_off173 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7036 : Index := Scalar.indexCast v5205
  let c0_4652 : Index := 0#32
  let c16_4653 : Index := 16#32
  ![v7036.toNat, 0, 16]
def k0_off174 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7040 : Index := Scalar.indexCast v5205
  let c0_4654 : Index := 0#32
  let c17_4655 : Index := 17#32
  ![v7040.toNat, 0, 17]
def k0_off175 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7047 : Index := Scalar.indexCast v5205
  let c1_4658 : Index := 1#32
  let c16_4659 : Index := 16#32
  ![v7047.toNat, 1, 16]
def k0_off176 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7051 : Index := Scalar.indexCast v5205
  let c1_4660 : Index := 1#32
  let c17_4661 : Index := 17#32
  ![v7051.toNat, 1, 17]
def k0_off177 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7058 : Index := Scalar.indexCast v5205
  let c2_4664 : Index := 2#32
  let c16_4665 : Index := 16#32
  ![v7058.toNat, 2, 16]
def k0_off178 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7062 : Index := Scalar.indexCast v5205
  let c2_4666 : Index := 2#32
  let c17_4667 : Index := 17#32
  ![v7062.toNat, 2, 17]
def k0_off179 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7069 : Index := Scalar.indexCast v5205
  let c3_4670 : Index := 3#32
  let c16_4671 : Index := 16#32
  ![v7069.toNat, 3, 16]
def k0_off180 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7073 : Index := Scalar.indexCast v5205
  let c3_4672 : Index := 3#32
  let c17_4673 : Index := 17#32
  ![v7073.toNat, 3, 17]
def k0_off181 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7080 : Index := Scalar.indexCast v5205
  let c4_4676 : Index := 4#32
  let c16_4677 : Index := 16#32
  ![v7080.toNat, 4, 16]
def k0_off182 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7084 : Index := Scalar.indexCast v5205
  let c4_4678 : Index := 4#32
  let c17_4679 : Index := 17#32
  ![v7084.toNat, 4, 17]
def k0_off183 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7091 : Index := Scalar.indexCast v5205
  let c5_4682 : Index := 5#32
  let c16_4683 : Index := 16#32
  ![v7091.toNat, 5, 16]
def k0_off184 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7095 : Index := Scalar.indexCast v5205
  let c5_4684 : Index := 5#32
  let c17_4685 : Index := 17#32
  ![v7095.toNat, 5, 17]
def k0_off185 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7102 : Index := Scalar.indexCast v5205
  let c6_4688 : Index := 6#32
  let c16_4689 : Index := 16#32
  ![v7102.toNat, 6, 16]
def k0_off186 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7106 : Index := Scalar.indexCast v5205
  let c6_4690 : Index := 6#32
  let c17_4691 : Index := 17#32
  ![v7106.toNat, 6, 17]
def k0_off187 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7113 : Index := Scalar.indexCast v5205
  let c7_4694 : Index := 7#32
  let c16_4695 : Index := 16#32
  ![v7113.toNat, 7, 16]
def k0_off188 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7117 : Index := Scalar.indexCast v5205
  let c7_4696 : Index := 7#32
  let c17_4697 : Index := 17#32
  ![v7117.toNat, 7, 17]
def k0_off189 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7232 : Index := Scalar.indexCast v5205
  let c0_4741 : Index := 0#32
  let c18_4742 : Index := 18#32
  ![v7232.toNat, 0, 18]
def k0_off190 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7236 : Index := Scalar.indexCast v5205
  let c0_4743 : Index := 0#32
  let c19_4744 : Index := 19#32
  ![v7236.toNat, 0, 19]
def k0_off191 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7243 : Index := Scalar.indexCast v5205
  let c1_4747 : Index := 1#32
  let c18_4748 : Index := 18#32
  ![v7243.toNat, 1, 18]
def k0_off192 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7247 : Index := Scalar.indexCast v5205
  let c1_4749 : Index := 1#32
  let c19_4750 : Index := 19#32
  ![v7247.toNat, 1, 19]
def k0_off193 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7254 : Index := Scalar.indexCast v5205
  let c2_4753 : Index := 2#32
  let c18_4754 : Index := 18#32
  ![v7254.toNat, 2, 18]
def k0_off194 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7258 : Index := Scalar.indexCast v5205
  let c2_4755 : Index := 2#32
  let c19_4756 : Index := 19#32
  ![v7258.toNat, 2, 19]
def k0_off195 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7265 : Index := Scalar.indexCast v5205
  let c3_4759 : Index := 3#32
  let c18_4760 : Index := 18#32
  ![v7265.toNat, 3, 18]
def k0_off196 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7269 : Index := Scalar.indexCast v5205
  let c3_4761 : Index := 3#32
  let c19_4762 : Index := 19#32
  ![v7269.toNat, 3, 19]
def k0_off197 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7276 : Index := Scalar.indexCast v5205
  let c4_4765 : Index := 4#32
  let c18_4766 : Index := 18#32
  ![v7276.toNat, 4, 18]
def k0_off198 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7280 : Index := Scalar.indexCast v5205
  let c4_4767 : Index := 4#32
  let c19_4768 : Index := 19#32
  ![v7280.toNat, 4, 19]
def k0_off199 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7287 : Index := Scalar.indexCast v5205
  let c5_4771 : Index := 5#32
  let c18_4772 : Index := 18#32
  ![v7287.toNat, 5, 18]
def k0_off200 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7291 : Index := Scalar.indexCast v5205
  let c5_4773 : Index := 5#32
  let c19_4774 : Index := 19#32
  ![v7291.toNat, 5, 19]
def k0_off201 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7298 : Index := Scalar.indexCast v5205
  let c6_4777 : Index := 6#32
  let c18_4778 : Index := 18#32
  ![v7298.toNat, 6, 18]
def k0_off202 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7302 : Index := Scalar.indexCast v5205
  let c6_4779 : Index := 6#32
  let c19_4780 : Index := 19#32
  ![v7302.toNat, 6, 19]
def k0_off203 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7309 : Index := Scalar.indexCast v5205
  let c7_4783 : Index := 7#32
  let c18_4784 : Index := 18#32
  ![v7309.toNat, 7, 18]
def k0_off204 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7313 : Index := Scalar.indexCast v5205
  let c7_4785 : Index := 7#32
  let c19_4786 : Index := 19#32
  ![v7313.toNat, 7, 19]
def k0_off205 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7428 : Index := Scalar.indexCast v5205
  let c0_4830 : Index := 0#32
  let c20_4831 : Index := 20#32
  ![v7428.toNat, 0, 20]
def k0_off206 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7432 : Index := Scalar.indexCast v5205
  let c0_4832 : Index := 0#32
  let c21_4833 : Index := 21#32
  ![v7432.toNat, 0, 21]
def k0_off207 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7439 : Index := Scalar.indexCast v5205
  let c1_4836 : Index := 1#32
  let c20_4837 : Index := 20#32
  ![v7439.toNat, 1, 20]
def k0_off208 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7443 : Index := Scalar.indexCast v5205
  let c1_4838 : Index := 1#32
  let c21_4839 : Index := 21#32
  ![v7443.toNat, 1, 21]
def k0_off209 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7450 : Index := Scalar.indexCast v5205
  let c2_4842 : Index := 2#32
  let c20_4843 : Index := 20#32
  ![v7450.toNat, 2, 20]
def k0_off210 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7454 : Index := Scalar.indexCast v5205
  let c2_4844 : Index := 2#32
  let c21_4845 : Index := 21#32
  ![v7454.toNat, 2, 21]
def k0_off211 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7461 : Index := Scalar.indexCast v5205
  let c3_4848 : Index := 3#32
  let c20_4849 : Index := 20#32
  ![v7461.toNat, 3, 20]
def k0_off212 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7465 : Index := Scalar.indexCast v5205
  let c3_4850 : Index := 3#32
  let c21_4851 : Index := 21#32
  ![v7465.toNat, 3, 21]
def k0_off213 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7472 : Index := Scalar.indexCast v5205
  let c4_4854 : Index := 4#32
  let c20_4855 : Index := 20#32
  ![v7472.toNat, 4, 20]
def k0_off214 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7476 : Index := Scalar.indexCast v5205
  let c4_4856 : Index := 4#32
  let c21_4857 : Index := 21#32
  ![v7476.toNat, 4, 21]
def k0_off215 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7483 : Index := Scalar.indexCast v5205
  let c5_4860 : Index := 5#32
  let c20_4861 : Index := 20#32
  ![v7483.toNat, 5, 20]
def k0_off216 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7487 : Index := Scalar.indexCast v5205
  let c5_4862 : Index := 5#32
  let c21_4863 : Index := 21#32
  ![v7487.toNat, 5, 21]
def k0_off217 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7494 : Index := Scalar.indexCast v5205
  let c6_4866 : Index := 6#32
  let c20_4867 : Index := 20#32
  ![v7494.toNat, 6, 20]
def k0_off218 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7498 : Index := Scalar.indexCast v5205
  let c6_4868 : Index := 6#32
  let c21_4869 : Index := 21#32
  ![v7498.toNat, 6, 21]
def k0_off219 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7505 : Index := Scalar.indexCast v5205
  let c7_4872 : Index := 7#32
  let c20_4873 : Index := 20#32
  ![v7505.toNat, 7, 20]
def k0_off220 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7509 : Index := Scalar.indexCast v5205
  let c7_4874 : Index := 7#32
  let c21_4875 : Index := 21#32
  ![v7509.toNat, 7, 21]
def k0_off221 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7624 : Index := Scalar.indexCast v5205
  let c0_4919 : Index := 0#32
  let c22_4920 : Index := 22#32
  ![v7624.toNat, 0, 22]
def k0_off222 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7628 : Index := Scalar.indexCast v5205
  let c0_4921 : Index := 0#32
  let c23_4922 : Index := 23#32
  ![v7628.toNat, 0, 23]
def k0_off223 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7635 : Index := Scalar.indexCast v5205
  let c1_4925 : Index := 1#32
  let c22_4926 : Index := 22#32
  ![v7635.toNat, 1, 22]
def k0_off224 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7639 : Index := Scalar.indexCast v5205
  let c1_4927 : Index := 1#32
  let c23_4928 : Index := 23#32
  ![v7639.toNat, 1, 23]
def k0_off225 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7646 : Index := Scalar.indexCast v5205
  let c2_4931 : Index := 2#32
  let c22_4932 : Index := 22#32
  ![v7646.toNat, 2, 22]
def k0_off226 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7650 : Index := Scalar.indexCast v5205
  let c2_4933 : Index := 2#32
  let c23_4934 : Index := 23#32
  ![v7650.toNat, 2, 23]
def k0_off227 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7657 : Index := Scalar.indexCast v5205
  let c3_4937 : Index := 3#32
  let c22_4938 : Index := 22#32
  ![v7657.toNat, 3, 22]
def k0_off228 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7661 : Index := Scalar.indexCast v5205
  let c3_4939 : Index := 3#32
  let c23_4940 : Index := 23#32
  ![v7661.toNat, 3, 23]
def k0_off229 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7668 : Index := Scalar.indexCast v5205
  let c4_4943 : Index := 4#32
  let c22_4944 : Index := 22#32
  ![v7668.toNat, 4, 22]
def k0_off230 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7672 : Index := Scalar.indexCast v5205
  let c4_4945 : Index := 4#32
  let c23_4946 : Index := 23#32
  ![v7672.toNat, 4, 23]
def k0_off231 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7679 : Index := Scalar.indexCast v5205
  let c5_4949 : Index := 5#32
  let c22_4950 : Index := 22#32
  ![v7679.toNat, 5, 22]
def k0_off232 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7683 : Index := Scalar.indexCast v5205
  let c5_4951 : Index := 5#32
  let c23_4952 : Index := 23#32
  ![v7683.toNat, 5, 23]
def k0_off233 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7690 : Index := Scalar.indexCast v5205
  let c6_4955 : Index := 6#32
  let c22_4956 : Index := 22#32
  ![v7690.toNat, 6, 22]
def k0_off234 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7694 : Index := Scalar.indexCast v5205
  let c6_4957 : Index := 6#32
  let c23_4958 : Index := 23#32
  ![v7694.toNat, 6, 23]
def k0_off235 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7701 : Index := Scalar.indexCast v5205
  let c7_4961 : Index := 7#32
  let c22_4962 : Index := 22#32
  ![v7701.toNat, 7, 22]
def k0_off236 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7705 : Index := Scalar.indexCast v5205
  let c7_4963 : Index := 7#32
  let c23_4964 : Index := 23#32
  ![v7705.toNat, 7, 23]
def k0_off237 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7820 : Index := Scalar.indexCast v5205
  let c0_5008 : Index := 0#32
  let c24_5009 : Index := 24#32
  ![v7820.toNat, 0, 24]
def k0_off238 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7824 : Index := Scalar.indexCast v5205
  let c0_5010 : Index := 0#32
  let c25_5011 : Index := 25#32
  ![v7824.toNat, 0, 25]
def k0_off239 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7831 : Index := Scalar.indexCast v5205
  let c1_5014 : Index := 1#32
  let c24_5015 : Index := 24#32
  ![v7831.toNat, 1, 24]
def k0_off240 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7835 : Index := Scalar.indexCast v5205
  let c1_5016 : Index := 1#32
  let c25_5017 : Index := 25#32
  ![v7835.toNat, 1, 25]
def k0_off241 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7842 : Index := Scalar.indexCast v5205
  let c2_5020 : Index := 2#32
  let c24_5021 : Index := 24#32
  ![v7842.toNat, 2, 24]
def k0_off242 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7846 : Index := Scalar.indexCast v5205
  let c2_5022 : Index := 2#32
  let c25_5023 : Index := 25#32
  ![v7846.toNat, 2, 25]
def k0_off243 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7853 : Index := Scalar.indexCast v5205
  let c3_5026 : Index := 3#32
  let c24_5027 : Index := 24#32
  ![v7853.toNat, 3, 24]
def k0_off244 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7857 : Index := Scalar.indexCast v5205
  let c3_5028 : Index := 3#32
  let c25_5029 : Index := 25#32
  ![v7857.toNat, 3, 25]
def k0_off245 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7864 : Index := Scalar.indexCast v5205
  let c4_5032 : Index := 4#32
  let c24_5033 : Index := 24#32
  ![v7864.toNat, 4, 24]
def k0_off246 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7868 : Index := Scalar.indexCast v5205
  let c4_5034 : Index := 4#32
  let c25_5035 : Index := 25#32
  ![v7868.toNat, 4, 25]
def k0_off247 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7875 : Index := Scalar.indexCast v5205
  let c5_5038 : Index := 5#32
  let c24_5039 : Index := 24#32
  ![v7875.toNat, 5, 24]
def k0_off248 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7879 : Index := Scalar.indexCast v5205
  let c5_5040 : Index := 5#32
  let c25_5041 : Index := 25#32
  ![v7879.toNat, 5, 25]
def k0_off249 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7886 : Index := Scalar.indexCast v5205
  let c6_5044 : Index := 6#32
  let c24_5045 : Index := 24#32
  ![v7886.toNat, 6, 24]
def k0_off250 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7890 : Index := Scalar.indexCast v5205
  let c6_5046 : Index := 6#32
  let c25_5047 : Index := 25#32
  ![v7890.toNat, 6, 25]
def k0_off251 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7897 : Index := Scalar.indexCast v5205
  let c7_5050 : Index := 7#32
  let c24_5051 : Index := 24#32
  ![v7897.toNat, 7, 24]
def k0_off252 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v7901 : Index := Scalar.indexCast v5205
  let c7_5052 : Index := 7#32
  let c25_5053 : Index := 25#32
  ![v7901.toNat, 7, 25]
def k0_off253 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8016 : Index := Scalar.indexCast v5205
  let c0_5097 : Index := 0#32
  let c26_5098 : Index := 26#32
  ![v8016.toNat, 0, 26]
def k0_off254 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8020 : Index := Scalar.indexCast v5205
  let c0_5099 : Index := 0#32
  let c27_5100 : Index := 27#32
  ![v8020.toNat, 0, 27]
def k0_off255 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8027 : Index := Scalar.indexCast v5205
  let c1_5103 : Index := 1#32
  let c26_5104 : Index := 26#32
  ![v8027.toNat, 1, 26]
def k0_off256 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8031 : Index := Scalar.indexCast v5205
  let c1_5105 : Index := 1#32
  let c27_5106 : Index := 27#32
  ![v8031.toNat, 1, 27]
def k0_off257 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8038 : Index := Scalar.indexCast v5205
  let c2_5109 : Index := 2#32
  let c26_5110 : Index := 26#32
  ![v8038.toNat, 2, 26]
def k0_off258 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8042 : Index := Scalar.indexCast v5205
  let c2_5111 : Index := 2#32
  let c27_5112 : Index := 27#32
  ![v8042.toNat, 2, 27]
def k0_off259 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8049 : Index := Scalar.indexCast v5205
  let c3_5115 : Index := 3#32
  let c26_5116 : Index := 26#32
  ![v8049.toNat, 3, 26]
def k0_off260 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8053 : Index := Scalar.indexCast v5205
  let c3_5117 : Index := 3#32
  let c27_5118 : Index := 27#32
  ![v8053.toNat, 3, 27]
def k0_off261 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8060 : Index := Scalar.indexCast v5205
  let c4_5121 : Index := 4#32
  let c26_5122 : Index := 26#32
  ![v8060.toNat, 4, 26]
def k0_off262 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8064 : Index := Scalar.indexCast v5205
  let c4_5123 : Index := 4#32
  let c27_5124 : Index := 27#32
  ![v8064.toNat, 4, 27]
def k0_off263 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8071 : Index := Scalar.indexCast v5205
  let c5_5127 : Index := 5#32
  let c26_5128 : Index := 26#32
  ![v8071.toNat, 5, 26]
def k0_off264 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8075 : Index := Scalar.indexCast v5205
  let c5_5129 : Index := 5#32
  let c27_5130 : Index := 27#32
  ![v8075.toNat, 5, 27]
def k0_off265 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8082 : Index := Scalar.indexCast v5205
  let c6_5133 : Index := 6#32
  let c26_5134 : Index := 26#32
  ![v8082.toNat, 6, 26]
def k0_off266 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8086 : Index := Scalar.indexCast v5205
  let c6_5135 : Index := 6#32
  let c27_5136 : Index := 27#32
  ![v8086.toNat, 6, 27]
def k0_off267 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8093 : Index := Scalar.indexCast v5205
  let c7_5139 : Index := 7#32
  let c26_5140 : Index := 26#32
  ![v8093.toNat, 7, 26]
def k0_off268 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8097 : Index := Scalar.indexCast v5205
  let c7_5141 : Index := 7#32
  let c27_5142 : Index := 27#32
  ![v8097.toNat, 7, 27]
def k0_off269 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8212 : Index := Scalar.indexCast v5205
  let c0_5186 : Index := 0#32
  let c28_5187 : Index := 28#32
  ![v8212.toNat, 0, 28]
def k0_off270 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8216 : Index := Scalar.indexCast v5205
  let c0_5188 : Index := 0#32
  let c29_5189 : Index := 29#32
  ![v8216.toNat, 0, 29]
def k0_off271 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8223 : Index := Scalar.indexCast v5205
  let c1_5192 : Index := 1#32
  let c28_5193 : Index := 28#32
  ![v8223.toNat, 1, 28]
def k0_off272 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8227 : Index := Scalar.indexCast v5205
  let c1_5194 : Index := 1#32
  let c29_5195 : Index := 29#32
  ![v8227.toNat, 1, 29]
def k0_off273 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8234 : Index := Scalar.indexCast v5205
  let c2_5198 : Index := 2#32
  let c28_5199 : Index := 28#32
  ![v8234.toNat, 2, 28]
def k0_off274 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8238 : Index := Scalar.indexCast v5205
  let c2_5200 : Index := 2#32
  let c29_5201 : Index := 29#32
  ![v8238.toNat, 2, 29]
def k0_off275 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8245 : Index := Scalar.indexCast v5205
  let c3_5204 : Index := 3#32
  let c28_5205 : Index := 28#32
  ![v8245.toNat, 3, 28]
def k0_off276 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8249 : Index := Scalar.indexCast v5205
  let c3_5206 : Index := 3#32
  let c29_5207 : Index := 29#32
  ![v8249.toNat, 3, 29]
def k0_off277 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8256 : Index := Scalar.indexCast v5205
  let c4_5210 : Index := 4#32
  let c28_5211 : Index := 28#32
  ![v8256.toNat, 4, 28]
def k0_off278 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8260 : Index := Scalar.indexCast v5205
  let c4_5212 : Index := 4#32
  let c29_5213 : Index := 29#32
  ![v8260.toNat, 4, 29]
def k0_off279 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8267 : Index := Scalar.indexCast v5205
  let c5_5216 : Index := 5#32
  let c28_5217 : Index := 28#32
  ![v8267.toNat, 5, 28]
def k0_off280 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8271 : Index := Scalar.indexCast v5205
  let c5_5218 : Index := 5#32
  let c29_5219 : Index := 29#32
  ![v8271.toNat, 5, 29]
def k0_off281 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8278 : Index := Scalar.indexCast v5205
  let c6_5222 : Index := 6#32
  let c28_5223 : Index := 28#32
  ![v8278.toNat, 6, 28]
def k0_off282 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8282 : Index := Scalar.indexCast v5205
  let c6_5224 : Index := 6#32
  let c29_5225 : Index := 29#32
  ![v8282.toNat, 6, 29]
def k0_off283 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8289 : Index := Scalar.indexCast v5205
  let c7_5228 : Index := 7#32
  let c28_5229 : Index := 28#32
  ![v8289.toNat, 7, 28]
def k0_off284 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8293 : Index := Scalar.indexCast v5205
  let c7_5230 : Index := 7#32
  let c29_5231 : Index := 29#32
  ![v8293.toNat, 7, 29]
def k0_off285 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8408 : Index := Scalar.indexCast v5205
  let c0_5275 : Index := 0#32
  let c30_5276 : Index := 30#32
  ![v8408.toNat, 0, 30]
def k0_off286 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8412 : Index := Scalar.indexCast v5205
  let c0_5277 : Index := 0#32
  let c31_5278 : Index := 31#32
  ![v8412.toNat, 0, 31]
def k0_off287 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8419 : Index := Scalar.indexCast v5205
  let c1_5281 : Index := 1#32
  let c30_5282 : Index := 30#32
  ![v8419.toNat, 1, 30]
def k0_off288 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8423 : Index := Scalar.indexCast v5205
  let c1_5283 : Index := 1#32
  let c31_5284 : Index := 31#32
  ![v8423.toNat, 1, 31]
def k0_off289 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8430 : Index := Scalar.indexCast v5205
  let c2_5287 : Index := 2#32
  let c30_5288 : Index := 30#32
  ![v8430.toNat, 2, 30]
def k0_off290 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8434 : Index := Scalar.indexCast v5205
  let c2_5289 : Index := 2#32
  let c31_5290 : Index := 31#32
  ![v8434.toNat, 2, 31]
def k0_off291 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8441 : Index := Scalar.indexCast v5205
  let c3_5293 : Index := 3#32
  let c30_5294 : Index := 30#32
  ![v8441.toNat, 3, 30]
def k0_off292 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8445 : Index := Scalar.indexCast v5205
  let c3_5295 : Index := 3#32
  let c31_5296 : Index := 31#32
  ![v8445.toNat, 3, 31]
def k0_off293 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8452 : Index := Scalar.indexCast v5205
  let c4_5299 : Index := 4#32
  let c30_5300 : Index := 30#32
  ![v8452.toNat, 4, 30]
def k0_off294 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8456 : Index := Scalar.indexCast v5205
  let c4_5301 : Index := 4#32
  let c31_5302 : Index := 31#32
  ![v8456.toNat, 4, 31]
def k0_off295 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8463 : Index := Scalar.indexCast v5205
  let c5_5305 : Index := 5#32
  let c30_5306 : Index := 30#32
  ![v8463.toNat, 5, 30]
def k0_off296 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8467 : Index := Scalar.indexCast v5205
  let c5_5307 : Index := 5#32
  let c31_5308 : Index := 31#32
  ![v8467.toNat, 5, 31]
def k0_off297 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8474 : Index := Scalar.indexCast v5205
  let c6_5311 : Index := 6#32
  let c30_5312 : Index := 30#32
  ![v8474.toNat, 6, 30]
def k0_off298 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8478 : Index := Scalar.indexCast v5205
  let c6_5313 : Index := 6#32
  let c31_5314 : Index := 31#32
  ![v8478.toNat, 6, 31]
def k0_off299 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8485 : Index := Scalar.indexCast v5205
  let c7_5317 : Index := 7#32
  let c30_5318 : Index := 30#32
  ![v8485.toNat, 7, 30]
def k0_off300 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8489 : Index := Scalar.indexCast v5205
  let c7_5319 : Index := 7#32
  let c31_5320 : Index := 31#32
  ![v8489.toNat, 7, 31]
def k0_off301 (k0_t1 : Fin k0_t1_loop.trips) : Fin 4 → Nat :=
  let c0_5373 : Index := 0#32
  let c0_i32_465 : BitVec 32 := 0#32
  let c1_i32_466 : BitVec 32 := 1#32
  let arg35 : BitVec 32 := Scf.iv c0_i32_465 c1_i32_466 k0_t1
  let v8634 : Index := Scalar.indexCast arg35
  let c0_5374 : Index := 0#32
  let c0_5375 : Index := 0#32
  ![0, v8634.toNat, 0, 0]
def k0_off302 (k0_t1 : Fin k0_t1_loop.trips) : Fin 4 → Nat :=
  let c1_5376 : Index := 1#32
  let c0_i32_465 : BitVec 32 := 0#32
  let c1_i32_466 : BitVec 32 := 1#32
  let arg35 : BitVec 32 := Scf.iv c0_i32_465 c1_i32_466 k0_t1
  let v8640 : Index := Scalar.indexCast arg35
  let c0_5377 : Index := 0#32
  let c0_5378 : Index := 0#32
  ![1, v8640.toNat, 0, 0]
def k0_off303 (k0_t1 : Fin k0_t1_loop.trips) : Fin 4 → Nat :=
  let c2_5379 : Index := 2#32
  let c0_i32_465 : BitVec 32 := 0#32
  let c1_i32_466 : BitVec 32 := 1#32
  let arg35 : BitVec 32 := Scf.iv c0_i32_465 c1_i32_466 k0_t1
  let v8646 : Index := Scalar.indexCast arg35
  let c0_5380 : Index := 0#32
  let c0_5381 : Index := 0#32
  ![2, v8646.toNat, 0, 0]
def k0_off304 (k0_t1 : Fin k0_t1_loop.trips) : Fin 4 → Nat :=
  let c3_5382 : Index := 3#32
  let c0_i32_465 : BitVec 32 := 0#32
  let c1_i32_466 : BitVec 32 := 1#32
  let arg35 : BitVec 32 := Scf.iv c0_i32_465 c1_i32_466 k0_t1
  let v8652 : Index := Scalar.indexCast arg35
  let c0_5383 : Index := 0#32
  let c0_5384 : Index := 0#32
  ![3, v8652.toNat, 0, 0]
def k0_off305 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_5389 : BitVec 32 := 0#32
  ![v5205.toNat, 0]
def k0_off306 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_5390 : BitVec 32 := 0#32
  let c0_i32_5391 : BitVec 32 := 0#32
  ![v5205.toNat, 0, 0]
def k0_off307 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_5392 : BitVec 32 := 0#32
  let c0_i32_5393 : BitVec 32 := 0#32
  ![arg35.toNat, 0, 0]
def k0_off308 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c1_i32_5394 : BitVec 32 := 1#32
  ![v5205.toNat, 1]
def k0_off309 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_5395 : BitVec 32 := 0#32
  let c256_i32_5396 : BitVec 32 := 256#32
  ![v5205.toNat, 0, 256]
def k0_off310 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_5397 : BitVec 32 := 0#32
  let c256_i32_5398 : BitVec 32 := 256#32
  ![arg35.toNat, 0, 256]
def k0_off311 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c2_i32_5399 : BitVec 32 := 2#32
  ![v5205.toNat, 2]
def k0_off312 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_5400 : BitVec 32 := 0#32
  let c512_i32_5401 : BitVec 32 := 512#32
  ![v5205.toNat, 0, 512]
def k0_off313 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_5402 : BitVec 32 := 0#32
  let c512_i32_5403 : BitVec 32 := 512#32
  ![arg35.toNat, 0, 512]
def k0_off314 (k0_t1 : Fin k0_t1_loop.trips) : Fin 2 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c3_i32_5404 : BitVec 32 := 3#32
  ![v5205.toNat, 3]
def k0_off315 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_5405 : BitVec 32 := 0#32
  let c768_i32_5406 : BitVec 32 := 768#32
  ![v5205.toNat, 0, 768]
def k0_off316 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c0_i32_5407 : BitVec 32 := 0#32
  let c768_i32_5408 : BitVec 32 := 768#32
  ![arg35.toNat, 0, 768]
def k0_off317 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8693 : Index := Scalar.indexCast v5205
  let c0_5411 : Index := 0#32
  let c0_5412 : Index := 0#32
  ![v8693.toNat, 0, 0]
def k0_off318 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8697 : Index := Scalar.indexCast v5205
  let c0_5413 : Index := 0#32
  let c1_5414 : Index := 1#32
  ![v8697.toNat, 0, 1]
def k0_off319 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8704 : Index := Scalar.indexCast v5205
  let c1_5417 : Index := 1#32
  let c0_5418 : Index := 0#32
  ![v8704.toNat, 1, 0]
def k0_off320 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8708 : Index := Scalar.indexCast v5205
  let c1_5419 : Index := 1#32
  let c1_5420 : Index := 1#32
  ![v8708.toNat, 1, 1]
def k0_off321 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8715 : Index := Scalar.indexCast v5205
  let c2_5423 : Index := 2#32
  let c0_5424 : Index := 0#32
  ![v8715.toNat, 2, 0]
def k0_off322 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8719 : Index := Scalar.indexCast v5205
  let c2_5425 : Index := 2#32
  let c1_5426 : Index := 1#32
  ![v8719.toNat, 2, 1]
def k0_off323 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8726 : Index := Scalar.indexCast v5205
  let c3_5429 : Index := 3#32
  let c0_5430 : Index := 0#32
  ![v8726.toNat, 3, 0]
def k0_off324 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8730 : Index := Scalar.indexCast v5205
  let c3_5431 : Index := 3#32
  let c1_5432 : Index := 1#32
  ![v8730.toNat, 3, 1]
def k0_off325 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8737 : Index := Scalar.indexCast v5205
  let c4_5435 : Index := 4#32
  let c0_5436 : Index := 0#32
  ![v8737.toNat, 4, 0]
def k0_off326 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8741 : Index := Scalar.indexCast v5205
  let c4_5437 : Index := 4#32
  let c1_5438 : Index := 1#32
  ![v8741.toNat, 4, 1]
def k0_off327 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8748 : Index := Scalar.indexCast v5205
  let c5_5441 : Index := 5#32
  let c0_5442 : Index := 0#32
  ![v8748.toNat, 5, 0]
def k0_off328 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8752 : Index := Scalar.indexCast v5205
  let c5_5443 : Index := 5#32
  let c1_5444 : Index := 1#32
  ![v8752.toNat, 5, 1]
def k0_off329 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8759 : Index := Scalar.indexCast v5205
  let c6_5447 : Index := 6#32
  let c0_5448 : Index := 0#32
  ![v8759.toNat, 6, 0]
def k0_off330 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8763 : Index := Scalar.indexCast v5205
  let c6_5449 : Index := 6#32
  let c1_5450 : Index := 1#32
  ![v8763.toNat, 6, 1]
def k0_off331 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8770 : Index := Scalar.indexCast v5205
  let c7_5453 : Index := 7#32
  let c0_5454 : Index := 0#32
  ![v8770.toNat, 7, 0]
def k0_off332 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8774 : Index := Scalar.indexCast v5205
  let c7_5455 : Index := 7#32
  let c1_5456 : Index := 1#32
  ![v8774.toNat, 7, 1]
def k0_off333 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8781 : Index := Scalar.indexCast v5205
  let c8_5459 : Index := 8#32
  let c0_5460 : Index := 0#32
  ![v8781.toNat, 8, 0]
def k0_off334 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8785 : Index := Scalar.indexCast v5205
  let c8_5461 : Index := 8#32
  let c1_5462 : Index := 1#32
  ![v8785.toNat, 8, 1]
def k0_off335 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8792 : Index := Scalar.indexCast v5205
  let c9_5465 : Index := 9#32
  let c0_5466 : Index := 0#32
  ![v8792.toNat, 9, 0]
def k0_off336 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8796 : Index := Scalar.indexCast v5205
  let c9_5467 : Index := 9#32
  let c1_5468 : Index := 1#32
  ![v8796.toNat, 9, 1]
def k0_off337 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8803 : Index := Scalar.indexCast v5205
  let c10_5471 : Index := 10#32
  let c0_5472 : Index := 0#32
  ![v8803.toNat, 10, 0]
def k0_off338 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8807 : Index := Scalar.indexCast v5205
  let c10_5473 : Index := 10#32
  let c1_5474 : Index := 1#32
  ![v8807.toNat, 10, 1]
def k0_off339 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8814 : Index := Scalar.indexCast v5205
  let c11_5477 : Index := 11#32
  let c0_5478 : Index := 0#32
  ![v8814.toNat, 11, 0]
def k0_off340 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8818 : Index := Scalar.indexCast v5205
  let c11_5479 : Index := 11#32
  let c1_5480 : Index := 1#32
  ![v8818.toNat, 11, 1]
def k0_off341 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8825 : Index := Scalar.indexCast v5205
  let c12_5483 : Index := 12#32
  let c0_5484 : Index := 0#32
  ![v8825.toNat, 12, 0]
def k0_off342 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8829 : Index := Scalar.indexCast v5205
  let c12_5485 : Index := 12#32
  let c1_5486 : Index := 1#32
  ![v8829.toNat, 12, 1]
def k0_off343 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8836 : Index := Scalar.indexCast v5205
  let c13_5489 : Index := 13#32
  let c0_5490 : Index := 0#32
  ![v8836.toNat, 13, 0]
def k0_off344 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8840 : Index := Scalar.indexCast v5205
  let c13_5491 : Index := 13#32
  let c1_5492 : Index := 1#32
  ![v8840.toNat, 13, 1]
def k0_off345 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8847 : Index := Scalar.indexCast v5205
  let c14_5495 : Index := 14#32
  let c0_5496 : Index := 0#32
  ![v8847.toNat, 14, 0]
def k0_off346 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8851 : Index := Scalar.indexCast v5205
  let c14_5497 : Index := 14#32
  let c1_5498 : Index := 1#32
  ![v8851.toNat, 14, 1]
def k0_off347 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8858 : Index := Scalar.indexCast v5205
  let c15_5501 : Index := 15#32
  let c0_5502 : Index := 0#32
  ![v8858.toNat, 15, 0]
def k0_off348 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8862 : Index := Scalar.indexCast v5205
  let c15_5503 : Index := 15#32
  let c1_5504 : Index := 1#32
  ![v8862.toNat, 15, 1]
def k0_off349 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8869 : Index := Scalar.indexCast v5205
  let c16_5507 : Index := 16#32
  let c0_5508 : Index := 0#32
  ![v8869.toNat, 16, 0]
def k0_off350 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8873 : Index := Scalar.indexCast v5205
  let c16_5509 : Index := 16#32
  let c1_5510 : Index := 1#32
  ![v8873.toNat, 16, 1]
def k0_off351 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8880 : Index := Scalar.indexCast v5205
  let c17_5513 : Index := 17#32
  let c0_5514 : Index := 0#32
  ![v8880.toNat, 17, 0]
def k0_off352 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8884 : Index := Scalar.indexCast v5205
  let c17_5515 : Index := 17#32
  let c1_5516 : Index := 1#32
  ![v8884.toNat, 17, 1]
def k0_off353 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8891 : Index := Scalar.indexCast v5205
  let c18_5519 : Index := 18#32
  let c0_5520 : Index := 0#32
  ![v8891.toNat, 18, 0]
def k0_off354 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8895 : Index := Scalar.indexCast v5205
  let c18_5521 : Index := 18#32
  let c1_5522 : Index := 1#32
  ![v8895.toNat, 18, 1]
def k0_off355 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8902 : Index := Scalar.indexCast v5205
  let c19_5525 : Index := 19#32
  let c0_5526 : Index := 0#32
  ![v8902.toNat, 19, 0]
def k0_off356 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8906 : Index := Scalar.indexCast v5205
  let c19_5527 : Index := 19#32
  let c1_5528 : Index := 1#32
  ![v8906.toNat, 19, 1]
def k0_off357 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8913 : Index := Scalar.indexCast v5205
  let c20_5531 : Index := 20#32
  let c0_5532 : Index := 0#32
  ![v8913.toNat, 20, 0]
def k0_off358 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8917 : Index := Scalar.indexCast v5205
  let c20_5533 : Index := 20#32
  let c1_5534 : Index := 1#32
  ![v8917.toNat, 20, 1]
def k0_off359 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8924 : Index := Scalar.indexCast v5205
  let c21_5537 : Index := 21#32
  let c0_5538 : Index := 0#32
  ![v8924.toNat, 21, 0]
def k0_off360 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8928 : Index := Scalar.indexCast v5205
  let c21_5539 : Index := 21#32
  let c1_5540 : Index := 1#32
  ![v8928.toNat, 21, 1]
def k0_off361 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8935 : Index := Scalar.indexCast v5205
  let c22_5543 : Index := 22#32
  let c0_5544 : Index := 0#32
  ![v8935.toNat, 22, 0]
def k0_off362 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8939 : Index := Scalar.indexCast v5205
  let c22_5545 : Index := 22#32
  let c1_5546 : Index := 1#32
  ![v8939.toNat, 22, 1]
def k0_off363 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8946 : Index := Scalar.indexCast v5205
  let c23_5549 : Index := 23#32
  let c0_5550 : Index := 0#32
  ![v8946.toNat, 23, 0]
def k0_off364 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8950 : Index := Scalar.indexCast v5205
  let c23_5551 : Index := 23#32
  let c1_5552 : Index := 1#32
  ![v8950.toNat, 23, 1]
def k0_off365 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8957 : Index := Scalar.indexCast v5205
  let c24_5555 : Index := 24#32
  let c0_5556 : Index := 0#32
  ![v8957.toNat, 24, 0]
def k0_off366 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8961 : Index := Scalar.indexCast v5205
  let c24_5557 : Index := 24#32
  let c1_5558 : Index := 1#32
  ![v8961.toNat, 24, 1]
def k0_off367 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8968 : Index := Scalar.indexCast v5205
  let c25_5561 : Index := 25#32
  let c0_5562 : Index := 0#32
  ![v8968.toNat, 25, 0]
def k0_off368 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8972 : Index := Scalar.indexCast v5205
  let c25_5563 : Index := 25#32
  let c1_5564 : Index := 1#32
  ![v8972.toNat, 25, 1]
def k0_off369 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8979 : Index := Scalar.indexCast v5205
  let c26_5567 : Index := 26#32
  let c0_5568 : Index := 0#32
  ![v8979.toNat, 26, 0]
def k0_off370 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8983 : Index := Scalar.indexCast v5205
  let c26_5569 : Index := 26#32
  let c1_5570 : Index := 1#32
  ![v8983.toNat, 26, 1]
def k0_off371 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8990 : Index := Scalar.indexCast v5205
  let c27_5573 : Index := 27#32
  let c0_5574 : Index := 0#32
  ![v8990.toNat, 27, 0]
def k0_off372 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v8994 : Index := Scalar.indexCast v5205
  let c27_5575 : Index := 27#32
  let c1_5576 : Index := 1#32
  ![v8994.toNat, 27, 1]
def k0_off373 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9001 : Index := Scalar.indexCast v5205
  let c28_5579 : Index := 28#32
  let c0_5580 : Index := 0#32
  ![v9001.toNat, 28, 0]
def k0_off374 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9005 : Index := Scalar.indexCast v5205
  let c28_5581 : Index := 28#32
  let c1_5582 : Index := 1#32
  ![v9005.toNat, 28, 1]
def k0_off375 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9012 : Index := Scalar.indexCast v5205
  let c29_5585 : Index := 29#32
  let c0_5586 : Index := 0#32
  ![v9012.toNat, 29, 0]
def k0_off376 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9016 : Index := Scalar.indexCast v5205
  let c29_5587 : Index := 29#32
  let c1_5588 : Index := 1#32
  ![v9016.toNat, 29, 1]
def k0_off377 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9023 : Index := Scalar.indexCast v5205
  let c30_5591 : Index := 30#32
  let c0_5592 : Index := 0#32
  ![v9023.toNat, 30, 0]
def k0_off378 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9027 : Index := Scalar.indexCast v5205
  let c30_5593 : Index := 30#32
  let c1_5594 : Index := 1#32
  ![v9027.toNat, 30, 1]
def k0_off379 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9034 : Index := Scalar.indexCast v5205
  let c31_5597 : Index := 31#32
  let c0_5598 : Index := 0#32
  ![v9034.toNat, 31, 0]
def k0_off380 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9038 : Index := Scalar.indexCast v5205
  let c31_5599 : Index := 31#32
  let c1_5600 : Index := 1#32
  ![v9038.toNat, 31, 1]
def k0_off381 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let c0_i32_5601 : BitVec 32 := 0#32
  let c0_i32_5602 : BitVec 32 := 0#32
  ![v5205.toNat, 0, 0]
def k0_off382 (k0_t1 : Fin k0_t1_loop.trips) : Fin 3 → Nat :=
  let c0_5606 : Index := 0#32
  let c0_i32_465 : BitVec 32 := 0#32
  let c1_i32_466 : BitVec 32 := 1#32
  let arg35 : BitVec 32 := Scf.iv c0_i32_465 c1_i32_466 k0_t1
  let v9056 : Index := Scalar.indexCast arg35
  let c0_5607 : Index := 0#32
  ![0, Nat.mul 2 v9056.toNat, 0]
def k0_off383 (k0_t1 : Fin k0_t1_loop.trips) : Fin 3 → Nat :=
  let c1_5608 : Index := 1#32
  let c0_i32_465 : BitVec 32 := 0#32
  let c1_i32_466 : BitVec 32 := 1#32
  let arg35 : BitVec 32 := Scf.iv c0_i32_465 c1_i32_466 k0_t1
  let v9062 : Index := Scalar.indexCast arg35
  let c0_5609 : Index := 0#32
  ![1, Nat.mul 2 v9062.toNat, 0]
def k0_off384 (k0_t1 : Fin k0_t1_loop.trips) : Fin 3 → Nat :=
  let c2_5610 : Index := 2#32
  let c0_i32_465 : BitVec 32 := 0#32
  let c1_i32_466 : BitVec 32 := 1#32
  let arg35 : BitVec 32 := Scf.iv c0_i32_465 c1_i32_466 k0_t1
  let v9068 : Index := Scalar.indexCast arg35
  let c0_5611 : Index := 0#32
  ![2, Nat.mul 2 v9068.toNat, 0]
def k0_off385 (k0_t1 : Fin k0_t1_loop.trips) : Fin 3 → Nat :=
  let c3_5612 : Index := 3#32
  let c0_i32_465 : BitVec 32 := 0#32
  let c1_i32_466 : BitVec 32 := 1#32
  let arg35 : BitVec 32 := Scf.iv c0_i32_465 c1_i32_466 k0_t1
  let v9074 : Index := Scalar.indexCast arg35
  let c0_5613 : Index := 0#32
  ![3, Nat.mul 2 v9074.toNat, 0]
def k0_off386 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9079 : Index := Scalar.indexCast v5205
  let c0_5616 : Index := 0#32
  let c2_5617 : Index := 2#32
  ![v9079.toNat, 0, 2]
def k0_off387 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9083 : Index := Scalar.indexCast v5205
  let c0_5618 : Index := 0#32
  let c3_5619 : Index := 3#32
  ![v9083.toNat, 0, 3]
def k0_off388 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9090 : Index := Scalar.indexCast v5205
  let c1_5622 : Index := 1#32
  let c2_5623 : Index := 2#32
  ![v9090.toNat, 1, 2]
def k0_off389 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9094 : Index := Scalar.indexCast v5205
  let c1_5624 : Index := 1#32
  let c3_5625 : Index := 3#32
  ![v9094.toNat, 1, 3]
def k0_off390 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9101 : Index := Scalar.indexCast v5205
  let c2_5628 : Index := 2#32
  let c2_5629 : Index := 2#32
  ![v9101.toNat, 2, 2]
def k0_off391 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9105 : Index := Scalar.indexCast v5205
  let c2_5630 : Index := 2#32
  let c3_5631 : Index := 3#32
  ![v9105.toNat, 2, 3]
def k0_off392 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9112 : Index := Scalar.indexCast v5205
  let c3_5634 : Index := 3#32
  let c2_5635 : Index := 2#32
  ![v9112.toNat, 3, 2]
def k0_off393 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9116 : Index := Scalar.indexCast v5205
  let c3_5636 : Index := 3#32
  let c3_5637 : Index := 3#32
  ![v9116.toNat, 3, 3]
def k0_off394 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9123 : Index := Scalar.indexCast v5205
  let c4_5640 : Index := 4#32
  let c2_5641 : Index := 2#32
  ![v9123.toNat, 4, 2]
def k0_off395 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9127 : Index := Scalar.indexCast v5205
  let c4_5642 : Index := 4#32
  let c3_5643 : Index := 3#32
  ![v9127.toNat, 4, 3]
def k0_off396 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9134 : Index := Scalar.indexCast v5205
  let c5_5646 : Index := 5#32
  let c2_5647 : Index := 2#32
  ![v9134.toNat, 5, 2]
def k0_off397 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9138 : Index := Scalar.indexCast v5205
  let c5_5648 : Index := 5#32
  let c3_5649 : Index := 3#32
  ![v9138.toNat, 5, 3]
def k0_off398 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9145 : Index := Scalar.indexCast v5205
  let c6_5652 : Index := 6#32
  let c2_5653 : Index := 2#32
  ![v9145.toNat, 6, 2]
def k0_off399 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9149 : Index := Scalar.indexCast v5205
  let c6_5654 : Index := 6#32
  let c3_5655 : Index := 3#32
  ![v9149.toNat, 6, 3]
def k0_off400 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9156 : Index := Scalar.indexCast v5205
  let c7_5658 : Index := 7#32
  let c2_5659 : Index := 2#32
  ![v9156.toNat, 7, 2]
def k0_off401 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9160 : Index := Scalar.indexCast v5205
  let c7_5660 : Index := 7#32
  let c3_5661 : Index := 3#32
  ![v9160.toNat, 7, 3]
def k0_off402 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9167 : Index := Scalar.indexCast v5205
  let c8_5664 : Index := 8#32
  let c2_5665 : Index := 2#32
  ![v9167.toNat, 8, 2]
def k0_off403 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9171 : Index := Scalar.indexCast v5205
  let c8_5666 : Index := 8#32
  let c3_5667 : Index := 3#32
  ![v9171.toNat, 8, 3]
def k0_off404 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9178 : Index := Scalar.indexCast v5205
  let c9_5670 : Index := 9#32
  let c2_5671 : Index := 2#32
  ![v9178.toNat, 9, 2]
def k0_off405 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9182 : Index := Scalar.indexCast v5205
  let c9_5672 : Index := 9#32
  let c3_5673 : Index := 3#32
  ![v9182.toNat, 9, 3]
def k0_off406 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9189 : Index := Scalar.indexCast v5205
  let c10_5676 : Index := 10#32
  let c2_5677 : Index := 2#32
  ![v9189.toNat, 10, 2]
def k0_off407 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9193 : Index := Scalar.indexCast v5205
  let c10_5678 : Index := 10#32
  let c3_5679 : Index := 3#32
  ![v9193.toNat, 10, 3]
def k0_off408 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9200 : Index := Scalar.indexCast v5205
  let c11_5682 : Index := 11#32
  let c2_5683 : Index := 2#32
  ![v9200.toNat, 11, 2]
def k0_off409 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9204 : Index := Scalar.indexCast v5205
  let c11_5684 : Index := 11#32
  let c3_5685 : Index := 3#32
  ![v9204.toNat, 11, 3]
def k0_off410 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9211 : Index := Scalar.indexCast v5205
  let c12_5688 : Index := 12#32
  let c2_5689 : Index := 2#32
  ![v9211.toNat, 12, 2]
def k0_off411 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9215 : Index := Scalar.indexCast v5205
  let c12_5690 : Index := 12#32
  let c3_5691 : Index := 3#32
  ![v9215.toNat, 12, 3]
def k0_off412 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9222 : Index := Scalar.indexCast v5205
  let c13_5694 : Index := 13#32
  let c2_5695 : Index := 2#32
  ![v9222.toNat, 13, 2]
def k0_off413 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9226 : Index := Scalar.indexCast v5205
  let c13_5696 : Index := 13#32
  let c3_5697 : Index := 3#32
  ![v9226.toNat, 13, 3]
def k0_off414 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9233 : Index := Scalar.indexCast v5205
  let c14_5700 : Index := 14#32
  let c2_5701 : Index := 2#32
  ![v9233.toNat, 14, 2]
def k0_off415 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9237 : Index := Scalar.indexCast v5205
  let c14_5702 : Index := 14#32
  let c3_5703 : Index := 3#32
  ![v9237.toNat, 14, 3]
def k0_off416 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9244 : Index := Scalar.indexCast v5205
  let c15_5706 : Index := 15#32
  let c2_5707 : Index := 2#32
  ![v9244.toNat, 15, 2]
def k0_off417 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9248 : Index := Scalar.indexCast v5205
  let c15_5708 : Index := 15#32
  let c3_5709 : Index := 3#32
  ![v9248.toNat, 15, 3]
def k0_off418 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9255 : Index := Scalar.indexCast v5205
  let c16_5712 : Index := 16#32
  let c2_5713 : Index := 2#32
  ![v9255.toNat, 16, 2]
def k0_off419 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9259 : Index := Scalar.indexCast v5205
  let c16_5714 : Index := 16#32
  let c3_5715 : Index := 3#32
  ![v9259.toNat, 16, 3]
def k0_off420 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9266 : Index := Scalar.indexCast v5205
  let c17_5718 : Index := 17#32
  let c2_5719 : Index := 2#32
  ![v9266.toNat, 17, 2]
def k0_off421 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9270 : Index := Scalar.indexCast v5205
  let c17_5720 : Index := 17#32
  let c3_5721 : Index := 3#32
  ![v9270.toNat, 17, 3]
def k0_off422 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9277 : Index := Scalar.indexCast v5205
  let c18_5724 : Index := 18#32
  let c2_5725 : Index := 2#32
  ![v9277.toNat, 18, 2]
def k0_off423 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9281 : Index := Scalar.indexCast v5205
  let c18_5726 : Index := 18#32
  let c3_5727 : Index := 3#32
  ![v9281.toNat, 18, 3]
def k0_off424 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9288 : Index := Scalar.indexCast v5205
  let c19_5730 : Index := 19#32
  let c2_5731 : Index := 2#32
  ![v9288.toNat, 19, 2]
def k0_off425 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9292 : Index := Scalar.indexCast v5205
  let c19_5732 : Index := 19#32
  let c3_5733 : Index := 3#32
  ![v9292.toNat, 19, 3]
def k0_off426 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9299 : Index := Scalar.indexCast v5205
  let c20_5736 : Index := 20#32
  let c2_5737 : Index := 2#32
  ![v9299.toNat, 20, 2]
def k0_off427 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9303 : Index := Scalar.indexCast v5205
  let c20_5738 : Index := 20#32
  let c3_5739 : Index := 3#32
  ![v9303.toNat, 20, 3]
def k0_off428 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9310 : Index := Scalar.indexCast v5205
  let c21_5742 : Index := 21#32
  let c2_5743 : Index := 2#32
  ![v9310.toNat, 21, 2]
def k0_off429 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9314 : Index := Scalar.indexCast v5205
  let c21_5744 : Index := 21#32
  let c3_5745 : Index := 3#32
  ![v9314.toNat, 21, 3]
def k0_off430 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9321 : Index := Scalar.indexCast v5205
  let c22_5748 : Index := 22#32
  let c2_5749 : Index := 2#32
  ![v9321.toNat, 22, 2]
def k0_off431 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9325 : Index := Scalar.indexCast v5205
  let c22_5750 : Index := 22#32
  let c3_5751 : Index := 3#32
  ![v9325.toNat, 22, 3]
def k0_off432 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9332 : Index := Scalar.indexCast v5205
  let c23_5754 : Index := 23#32
  let c2_5755 : Index := 2#32
  ![v9332.toNat, 23, 2]
def k0_off433 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9336 : Index := Scalar.indexCast v5205
  let c23_5756 : Index := 23#32
  let c3_5757 : Index := 3#32
  ![v9336.toNat, 23, 3]
def k0_off434 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9343 : Index := Scalar.indexCast v5205
  let c24_5760 : Index := 24#32
  let c2_5761 : Index := 2#32
  ![v9343.toNat, 24, 2]
def k0_off435 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9347 : Index := Scalar.indexCast v5205
  let c24_5762 : Index := 24#32
  let c3_5763 : Index := 3#32
  ![v9347.toNat, 24, 3]
def k0_off436 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9354 : Index := Scalar.indexCast v5205
  let c25_5766 : Index := 25#32
  let c2_5767 : Index := 2#32
  ![v9354.toNat, 25, 2]
def k0_off437 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9358 : Index := Scalar.indexCast v5205
  let c25_5768 : Index := 25#32
  let c3_5769 : Index := 3#32
  ![v9358.toNat, 25, 3]
def k0_off438 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9365 : Index := Scalar.indexCast v5205
  let c26_5772 : Index := 26#32
  let c2_5773 : Index := 2#32
  ![v9365.toNat, 26, 2]
def k0_off439 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9369 : Index := Scalar.indexCast v5205
  let c26_5774 : Index := 26#32
  let c3_5775 : Index := 3#32
  ![v9369.toNat, 26, 3]
def k0_off440 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9376 : Index := Scalar.indexCast v5205
  let c27_5778 : Index := 27#32
  let c2_5779 : Index := 2#32
  ![v9376.toNat, 27, 2]
def k0_off441 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9380 : Index := Scalar.indexCast v5205
  let c27_5780 : Index := 27#32
  let c3_5781 : Index := 3#32
  ![v9380.toNat, 27, 3]
def k0_off442 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9387 : Index := Scalar.indexCast v5205
  let c28_5784 : Index := 28#32
  let c2_5785 : Index := 2#32
  ![v9387.toNat, 28, 2]
def k0_off443 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9391 : Index := Scalar.indexCast v5205
  let c28_5786 : Index := 28#32
  let c3_5787 : Index := 3#32
  ![v9391.toNat, 28, 3]
def k0_off444 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9398 : Index := Scalar.indexCast v5205
  let c29_5790 : Index := 29#32
  let c2_5791 : Index := 2#32
  ![v9398.toNat, 29, 2]
def k0_off445 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9402 : Index := Scalar.indexCast v5205
  let c29_5792 : Index := 29#32
  let c3_5793 : Index := 3#32
  ![v9402.toNat, 29, 3]
def k0_off446 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9409 : Index := Scalar.indexCast v5205
  let c30_5796 : Index := 30#32
  let c2_5797 : Index := 2#32
  ![v9409.toNat, 30, 2]
def k0_off447 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9413 : Index := Scalar.indexCast v5205
  let c30_5798 : Index := 30#32
  let c3_5799 : Index := 3#32
  ![v9413.toNat, 30, 3]
def k0_off448 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9420 : Index := Scalar.indexCast v5205
  let c31_5802 : Index := 31#32
  let c2_5803 : Index := 2#32
  ![v9420.toNat, 31, 2]
def k0_off449 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9424 : Index := Scalar.indexCast v5205
  let c31_5804 : Index := 31#32
  let c3_5805 : Index := 3#32
  ![v9424.toNat, 31, 3]
def k0_off450 (k0_t1 : Fin k0_t1_loop.trips) : Fin 3 → Nat :=
  let c0_5811 : Index := 0#32
  let c0_i32_465 : BitVec 32 := 0#32
  let c1_i32_466 : BitVec 32 := 1#32
  let arg35 : BitVec 32 := Scf.iv c0_i32_465 c1_i32_466 k0_t1
  let v9442 : Index := Scalar.indexCast arg35
  let c256_5812 : Index := 256#32
  ![0, Nat.mul 2 v9442.toNat, 256]
def k0_off451 (k0_t1 : Fin k0_t1_loop.trips) : Fin 3 → Nat :=
  let c1_5813 : Index := 1#32
  let c0_i32_465 : BitVec 32 := 0#32
  let c1_i32_466 : BitVec 32 := 1#32
  let arg35 : BitVec 32 := Scf.iv c0_i32_465 c1_i32_466 k0_t1
  let v9448 : Index := Scalar.indexCast arg35
  let c256_5814 : Index := 256#32
  ![1, Nat.mul 2 v9448.toNat, 256]
def k0_off452 (k0_t1 : Fin k0_t1_loop.trips) : Fin 3 → Nat :=
  let c2_5815 : Index := 2#32
  let c0_i32_465 : BitVec 32 := 0#32
  let c1_i32_466 : BitVec 32 := 1#32
  let arg35 : BitVec 32 := Scf.iv c0_i32_465 c1_i32_466 k0_t1
  let v9454 : Index := Scalar.indexCast arg35
  let c256_5816 : Index := 256#32
  ![2, Nat.mul 2 v9454.toNat, 256]
def k0_off453 (k0_t1 : Fin k0_t1_loop.trips) : Fin 3 → Nat :=
  let c3_5817 : Index := 3#32
  let c0_i32_465 : BitVec 32 := 0#32
  let c1_i32_466 : BitVec 32 := 1#32
  let arg35 : BitVec 32 := Scf.iv c0_i32_465 c1_i32_466 k0_t1
  let v9460 : Index := Scalar.indexCast arg35
  let c256_5818 : Index := 256#32
  ![3, Nat.mul 2 v9460.toNat, 256]
def k0_off454 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9465 : Index := Scalar.indexCast v5205
  let c0_5821 : Index := 0#32
  let c4_5822 : Index := 4#32
  ![v9465.toNat, 0, 4]
def k0_off455 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9469 : Index := Scalar.indexCast v5205
  let c0_5823 : Index := 0#32
  let c5_5824 : Index := 5#32
  ![v9469.toNat, 0, 5]
def k0_off456 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9476 : Index := Scalar.indexCast v5205
  let c1_5827 : Index := 1#32
  let c4_5828 : Index := 4#32
  ![v9476.toNat, 1, 4]
def k0_off457 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9480 : Index := Scalar.indexCast v5205
  let c1_5829 : Index := 1#32
  let c5_5830 : Index := 5#32
  ![v9480.toNat, 1, 5]
def k0_off458 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9487 : Index := Scalar.indexCast v5205
  let c2_5833 : Index := 2#32
  let c4_5834 : Index := 4#32
  ![v9487.toNat, 2, 4]
def k0_off459 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9491 : Index := Scalar.indexCast v5205
  let c2_5835 : Index := 2#32
  let c5_5836 : Index := 5#32
  ![v9491.toNat, 2, 5]
def k0_off460 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9498 : Index := Scalar.indexCast v5205
  let c3_5839 : Index := 3#32
  let c4_5840 : Index := 4#32
  ![v9498.toNat, 3, 4]
def k0_off461 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9502 : Index := Scalar.indexCast v5205
  let c3_5841 : Index := 3#32
  let c5_5842 : Index := 5#32
  ![v9502.toNat, 3, 5]
def k0_off462 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9509 : Index := Scalar.indexCast v5205
  let c4_5845 : Index := 4#32
  let c4_5846 : Index := 4#32
  ![v9509.toNat, 4, 4]
def k0_off463 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9513 : Index := Scalar.indexCast v5205
  let c4_5847 : Index := 4#32
  let c5_5848 : Index := 5#32
  ![v9513.toNat, 4, 5]
def k0_off464 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9520 : Index := Scalar.indexCast v5205
  let c5_5851 : Index := 5#32
  let c4_5852 : Index := 4#32
  ![v9520.toNat, 5, 4]
def k0_off465 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9524 : Index := Scalar.indexCast v5205
  let c5_5853 : Index := 5#32
  let c5_5854 : Index := 5#32
  ![v9524.toNat, 5, 5]
def k0_off466 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9531 : Index := Scalar.indexCast v5205
  let c6_5857 : Index := 6#32
  let c4_5858 : Index := 4#32
  ![v9531.toNat, 6, 4]
def k0_off467 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9535 : Index := Scalar.indexCast v5205
  let c6_5859 : Index := 6#32
  let c5_5860 : Index := 5#32
  ![v9535.toNat, 6, 5]
def k0_off468 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9542 : Index := Scalar.indexCast v5205
  let c7_5863 : Index := 7#32
  let c4_5864 : Index := 4#32
  ![v9542.toNat, 7, 4]
def k0_off469 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9546 : Index := Scalar.indexCast v5205
  let c7_5865 : Index := 7#32
  let c5_5866 : Index := 5#32
  ![v9546.toNat, 7, 5]
def k0_off470 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9553 : Index := Scalar.indexCast v5205
  let c8_5869 : Index := 8#32
  let c4_5870 : Index := 4#32
  ![v9553.toNat, 8, 4]
def k0_off471 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9557 : Index := Scalar.indexCast v5205
  let c8_5871 : Index := 8#32
  let c5_5872 : Index := 5#32
  ![v9557.toNat, 8, 5]
def k0_off472 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9564 : Index := Scalar.indexCast v5205
  let c9_5875 : Index := 9#32
  let c4_5876 : Index := 4#32
  ![v9564.toNat, 9, 4]
def k0_off473 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9568 : Index := Scalar.indexCast v5205
  let c9_5877 : Index := 9#32
  let c5_5878 : Index := 5#32
  ![v9568.toNat, 9, 5]
def k0_off474 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9575 : Index := Scalar.indexCast v5205
  let c10_5881 : Index := 10#32
  let c4_5882 : Index := 4#32
  ![v9575.toNat, 10, 4]
def k0_off475 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9579 : Index := Scalar.indexCast v5205
  let c10_5883 : Index := 10#32
  let c5_5884 : Index := 5#32
  ![v9579.toNat, 10, 5]
def k0_off476 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9586 : Index := Scalar.indexCast v5205
  let c11_5887 : Index := 11#32
  let c4_5888 : Index := 4#32
  ![v9586.toNat, 11, 4]
def k0_off477 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9590 : Index := Scalar.indexCast v5205
  let c11_5889 : Index := 11#32
  let c5_5890 : Index := 5#32
  ![v9590.toNat, 11, 5]
def k0_off478 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9597 : Index := Scalar.indexCast v5205
  let c12_5893 : Index := 12#32
  let c4_5894 : Index := 4#32
  ![v9597.toNat, 12, 4]
def k0_off479 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9601 : Index := Scalar.indexCast v5205
  let c12_5895 : Index := 12#32
  let c5_5896 : Index := 5#32
  ![v9601.toNat, 12, 5]
def k0_off480 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9608 : Index := Scalar.indexCast v5205
  let c13_5899 : Index := 13#32
  let c4_5900 : Index := 4#32
  ![v9608.toNat, 13, 4]
def k0_off481 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9612 : Index := Scalar.indexCast v5205
  let c13_5901 : Index := 13#32
  let c5_5902 : Index := 5#32
  ![v9612.toNat, 13, 5]
def k0_off482 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9619 : Index := Scalar.indexCast v5205
  let c14_5905 : Index := 14#32
  let c4_5906 : Index := 4#32
  ![v9619.toNat, 14, 4]
def k0_off483 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9623 : Index := Scalar.indexCast v5205
  let c14_5907 : Index := 14#32
  let c5_5908 : Index := 5#32
  ![v9623.toNat, 14, 5]
def k0_off484 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9630 : Index := Scalar.indexCast v5205
  let c15_5911 : Index := 15#32
  let c4_5912 : Index := 4#32
  ![v9630.toNat, 15, 4]
def k0_off485 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9634 : Index := Scalar.indexCast v5205
  let c15_5913 : Index := 15#32
  let c5_5914 : Index := 5#32
  ![v9634.toNat, 15, 5]
def k0_off486 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9641 : Index := Scalar.indexCast v5205
  let c16_5917 : Index := 16#32
  let c4_5918 : Index := 4#32
  ![v9641.toNat, 16, 4]
def k0_off487 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9645 : Index := Scalar.indexCast v5205
  let c16_5919 : Index := 16#32
  let c5_5920 : Index := 5#32
  ![v9645.toNat, 16, 5]
def k0_off488 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9652 : Index := Scalar.indexCast v5205
  let c17_5923 : Index := 17#32
  let c4_5924 : Index := 4#32
  ![v9652.toNat, 17, 4]
def k0_off489 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9656 : Index := Scalar.indexCast v5205
  let c17_5925 : Index := 17#32
  let c5_5926 : Index := 5#32
  ![v9656.toNat, 17, 5]
def k0_off490 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9663 : Index := Scalar.indexCast v5205
  let c18_5929 : Index := 18#32
  let c4_5930 : Index := 4#32
  ![v9663.toNat, 18, 4]
def k0_off491 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9667 : Index := Scalar.indexCast v5205
  let c18_5931 : Index := 18#32
  let c5_5932 : Index := 5#32
  ![v9667.toNat, 18, 5]
def k0_off492 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9674 : Index := Scalar.indexCast v5205
  let c19_5935 : Index := 19#32
  let c4_5936 : Index := 4#32
  ![v9674.toNat, 19, 4]
def k0_off493 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9678 : Index := Scalar.indexCast v5205
  let c19_5937 : Index := 19#32
  let c5_5938 : Index := 5#32
  ![v9678.toNat, 19, 5]
def k0_off494 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9685 : Index := Scalar.indexCast v5205
  let c20_5941 : Index := 20#32
  let c4_5942 : Index := 4#32
  ![v9685.toNat, 20, 4]
def k0_off495 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9689 : Index := Scalar.indexCast v5205
  let c20_5943 : Index := 20#32
  let c5_5944 : Index := 5#32
  ![v9689.toNat, 20, 5]
def k0_off496 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9696 : Index := Scalar.indexCast v5205
  let c21_5947 : Index := 21#32
  let c4_5948 : Index := 4#32
  ![v9696.toNat, 21, 4]
def k0_off497 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9700 : Index := Scalar.indexCast v5205
  let c21_5949 : Index := 21#32
  let c5_5950 : Index := 5#32
  ![v9700.toNat, 21, 5]
def k0_off498 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9707 : Index := Scalar.indexCast v5205
  let c22_5953 : Index := 22#32
  let c4_5954 : Index := 4#32
  ![v9707.toNat, 22, 4]
def k0_off499 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9711 : Index := Scalar.indexCast v5205
  let c22_5955 : Index := 22#32
  let c5_5956 : Index := 5#32
  ![v9711.toNat, 22, 5]
def k0_off500 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9718 : Index := Scalar.indexCast v5205
  let c23_5959 : Index := 23#32
  let c4_5960 : Index := 4#32
  ![v9718.toNat, 23, 4]
def k0_off501 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9722 : Index := Scalar.indexCast v5205
  let c23_5961 : Index := 23#32
  let c5_5962 : Index := 5#32
  ![v9722.toNat, 23, 5]
def k0_off502 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9729 : Index := Scalar.indexCast v5205
  let c24_5965 : Index := 24#32
  let c4_5966 : Index := 4#32
  ![v9729.toNat, 24, 4]
def k0_off503 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9733 : Index := Scalar.indexCast v5205
  let c24_5967 : Index := 24#32
  let c5_5968 : Index := 5#32
  ![v9733.toNat, 24, 5]
def k0_off504 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9740 : Index := Scalar.indexCast v5205
  let c25_5971 : Index := 25#32
  let c4_5972 : Index := 4#32
  ![v9740.toNat, 25, 4]
def k0_off505 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9744 : Index := Scalar.indexCast v5205
  let c25_5973 : Index := 25#32
  let c5_5974 : Index := 5#32
  ![v9744.toNat, 25, 5]
def k0_off506 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9751 : Index := Scalar.indexCast v5205
  let c26_5977 : Index := 26#32
  let c4_5978 : Index := 4#32
  ![v9751.toNat, 26, 4]
def k0_off507 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9755 : Index := Scalar.indexCast v5205
  let c26_5979 : Index := 26#32
  let c5_5980 : Index := 5#32
  ![v9755.toNat, 26, 5]
def k0_off508 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9762 : Index := Scalar.indexCast v5205
  let c27_5983 : Index := 27#32
  let c4_5984 : Index := 4#32
  ![v9762.toNat, 27, 4]
def k0_off509 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9766 : Index := Scalar.indexCast v5205
  let c27_5985 : Index := 27#32
  let c5_5986 : Index := 5#32
  ![v9766.toNat, 27, 5]
def k0_off510 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9773 : Index := Scalar.indexCast v5205
  let c28_5989 : Index := 28#32
  let c4_5990 : Index := 4#32
  ![v9773.toNat, 28, 4]
def k0_off511 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9777 : Index := Scalar.indexCast v5205
  let c28_5991 : Index := 28#32
  let c5_5992 : Index := 5#32
  ![v9777.toNat, 28, 5]
def k0_off512 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9784 : Index := Scalar.indexCast v5205
  let c29_5995 : Index := 29#32
  let c4_5996 : Index := 4#32
  ![v9784.toNat, 29, 4]
def k0_off513 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9788 : Index := Scalar.indexCast v5205
  let c29_5997 : Index := 29#32
  let c5_5998 : Index := 5#32
  ![v9788.toNat, 29, 5]
def k0_off514 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9795 : Index := Scalar.indexCast v5205
  let c30_6001 : Index := 30#32
  let c4_6002 : Index := 4#32
  ![v9795.toNat, 30, 4]
def k0_off515 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9799 : Index := Scalar.indexCast v5205
  let c30_6003 : Index := 30#32
  let c5_6004 : Index := 5#32
  ![v9799.toNat, 30, 5]
def k0_off516 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9806 : Index := Scalar.indexCast v5205
  let c31_6007 : Index := 31#32
  let c4_6008 : Index := 4#32
  ![v9806.toNat, 31, 4]
def k0_off517 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9810 : Index := Scalar.indexCast v5205
  let c31_6009 : Index := 31#32
  let c5_6010 : Index := 5#32
  ![v9810.toNat, 31, 5]
def k0_off518 (k0_t1 : Fin k0_t1_loop.trips) : Fin 3 → Nat :=
  let c0_6016 : Index := 0#32
  let c0_i32_465 : BitVec 32 := 0#32
  let c1_i32_466 : BitVec 32 := 1#32
  let arg35 : BitVec 32 := Scf.iv c0_i32_465 c1_i32_466 k0_t1
  let v9828 : Index := Scalar.indexCast arg35
  let c512_6017 : Index := 512#32
  ![0, Nat.mul 2 v9828.toNat, 512]
def k0_off519 (k0_t1 : Fin k0_t1_loop.trips) : Fin 3 → Nat :=
  let c1_6018 : Index := 1#32
  let c0_i32_465 : BitVec 32 := 0#32
  let c1_i32_466 : BitVec 32 := 1#32
  let arg35 : BitVec 32 := Scf.iv c0_i32_465 c1_i32_466 k0_t1
  let v9834 : Index := Scalar.indexCast arg35
  let c512_6019 : Index := 512#32
  ![1, Nat.mul 2 v9834.toNat, 512]
def k0_off520 (k0_t1 : Fin k0_t1_loop.trips) : Fin 3 → Nat :=
  let c2_6020 : Index := 2#32
  let c0_i32_465 : BitVec 32 := 0#32
  let c1_i32_466 : BitVec 32 := 1#32
  let arg35 : BitVec 32 := Scf.iv c0_i32_465 c1_i32_466 k0_t1
  let v9840 : Index := Scalar.indexCast arg35
  let c512_6021 : Index := 512#32
  ![2, Nat.mul 2 v9840.toNat, 512]
def k0_off521 (k0_t1 : Fin k0_t1_loop.trips) : Fin 3 → Nat :=
  let c3_6022 : Index := 3#32
  let c0_i32_465 : BitVec 32 := 0#32
  let c1_i32_466 : BitVec 32 := 1#32
  let arg35 : BitVec 32 := Scf.iv c0_i32_465 c1_i32_466 k0_t1
  let v9846 : Index := Scalar.indexCast arg35
  let c512_6023 : Index := 512#32
  ![3, Nat.mul 2 v9846.toNat, 512]
def k0_off522 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9851 : Index := Scalar.indexCast v5205
  let c0_6026 : Index := 0#32
  let c6_6027 : Index := 6#32
  ![v9851.toNat, 0, 6]
def k0_off523 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9855 : Index := Scalar.indexCast v5205
  let c0_6028 : Index := 0#32
  let c7_6029 : Index := 7#32
  ![v9855.toNat, 0, 7]
def k0_off524 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9862 : Index := Scalar.indexCast v5205
  let c1_6032 : Index := 1#32
  let c6_6033 : Index := 6#32
  ![v9862.toNat, 1, 6]
def k0_off525 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9866 : Index := Scalar.indexCast v5205
  let c1_6034 : Index := 1#32
  let c7_6035 : Index := 7#32
  ![v9866.toNat, 1, 7]
def k0_off526 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9873 : Index := Scalar.indexCast v5205
  let c2_6038 : Index := 2#32
  let c6_6039 : Index := 6#32
  ![v9873.toNat, 2, 6]
def k0_off527 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9877 : Index := Scalar.indexCast v5205
  let c2_6040 : Index := 2#32
  let c7_6041 : Index := 7#32
  ![v9877.toNat, 2, 7]
def k0_off528 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9884 : Index := Scalar.indexCast v5205
  let c3_6044 : Index := 3#32
  let c6_6045 : Index := 6#32
  ![v9884.toNat, 3, 6]
def k0_off529 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9888 : Index := Scalar.indexCast v5205
  let c3_6046 : Index := 3#32
  let c7_6047 : Index := 7#32
  ![v9888.toNat, 3, 7]
def k0_off530 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9895 : Index := Scalar.indexCast v5205
  let c4_6050 : Index := 4#32
  let c6_6051 : Index := 6#32
  ![v9895.toNat, 4, 6]
def k0_off531 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9899 : Index := Scalar.indexCast v5205
  let c4_6052 : Index := 4#32
  let c7_6053 : Index := 7#32
  ![v9899.toNat, 4, 7]
def k0_off532 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9906 : Index := Scalar.indexCast v5205
  let c5_6056 : Index := 5#32
  let c6_6057 : Index := 6#32
  ![v9906.toNat, 5, 6]
def k0_off533 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9910 : Index := Scalar.indexCast v5205
  let c5_6058 : Index := 5#32
  let c7_6059 : Index := 7#32
  ![v9910.toNat, 5, 7]
def k0_off534 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9917 : Index := Scalar.indexCast v5205
  let c6_6062 : Index := 6#32
  let c6_6063 : Index := 6#32
  ![v9917.toNat, 6, 6]
def k0_off535 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9921 : Index := Scalar.indexCast v5205
  let c6_6064 : Index := 6#32
  let c7_6065 : Index := 7#32
  ![v9921.toNat, 6, 7]
def k0_off536 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9928 : Index := Scalar.indexCast v5205
  let c7_6068 : Index := 7#32
  let c6_6069 : Index := 6#32
  ![v9928.toNat, 7, 6]
def k0_off537 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9932 : Index := Scalar.indexCast v5205
  let c7_6070 : Index := 7#32
  let c7_6071 : Index := 7#32
  ![v9932.toNat, 7, 7]
def k0_off538 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9939 : Index := Scalar.indexCast v5205
  let c8_6074 : Index := 8#32
  let c6_6075 : Index := 6#32
  ![v9939.toNat, 8, 6]
def k0_off539 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9943 : Index := Scalar.indexCast v5205
  let c8_6076 : Index := 8#32
  let c7_6077 : Index := 7#32
  ![v9943.toNat, 8, 7]
def k0_off540 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9950 : Index := Scalar.indexCast v5205
  let c9_6080 : Index := 9#32
  let c6_6081 : Index := 6#32
  ![v9950.toNat, 9, 6]
def k0_off541 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9954 : Index := Scalar.indexCast v5205
  let c9_6082 : Index := 9#32
  let c7_6083 : Index := 7#32
  ![v9954.toNat, 9, 7]
def k0_off542 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9961 : Index := Scalar.indexCast v5205
  let c10_6086 : Index := 10#32
  let c6_6087 : Index := 6#32
  ![v9961.toNat, 10, 6]
def k0_off543 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9965 : Index := Scalar.indexCast v5205
  let c10_6088 : Index := 10#32
  let c7_6089 : Index := 7#32
  ![v9965.toNat, 10, 7]
def k0_off544 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9972 : Index := Scalar.indexCast v5205
  let c11_6092 : Index := 11#32
  let c6_6093 : Index := 6#32
  ![v9972.toNat, 11, 6]
def k0_off545 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9976 : Index := Scalar.indexCast v5205
  let c11_6094 : Index := 11#32
  let c7_6095 : Index := 7#32
  ![v9976.toNat, 11, 7]
def k0_off546 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9983 : Index := Scalar.indexCast v5205
  let c12_6098 : Index := 12#32
  let c6_6099 : Index := 6#32
  ![v9983.toNat, 12, 6]
def k0_off547 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9987 : Index := Scalar.indexCast v5205
  let c12_6100 : Index := 12#32
  let c7_6101 : Index := 7#32
  ![v9987.toNat, 12, 7]
def k0_off548 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9994 : Index := Scalar.indexCast v5205
  let c13_6104 : Index := 13#32
  let c6_6105 : Index := 6#32
  ![v9994.toNat, 13, 6]
def k0_off549 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v9998 : Index := Scalar.indexCast v5205
  let c13_6106 : Index := 13#32
  let c7_6107 : Index := 7#32
  ![v9998.toNat, 13, 7]
def k0_off550 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10005 : Index := Scalar.indexCast v5205
  let c14_6110 : Index := 14#32
  let c6_6111 : Index := 6#32
  ![v10005.toNat, 14, 6]
def k0_off551 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10009 : Index := Scalar.indexCast v5205
  let c14_6112 : Index := 14#32
  let c7_6113 : Index := 7#32
  ![v10009.toNat, 14, 7]
def k0_off552 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10016 : Index := Scalar.indexCast v5205
  let c15_6116 : Index := 15#32
  let c6_6117 : Index := 6#32
  ![v10016.toNat, 15, 6]
def k0_off553 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10020 : Index := Scalar.indexCast v5205
  let c15_6118 : Index := 15#32
  let c7_6119 : Index := 7#32
  ![v10020.toNat, 15, 7]
def k0_off554 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10027 : Index := Scalar.indexCast v5205
  let c16_6122 : Index := 16#32
  let c6_6123 : Index := 6#32
  ![v10027.toNat, 16, 6]
def k0_off555 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10031 : Index := Scalar.indexCast v5205
  let c16_6124 : Index := 16#32
  let c7_6125 : Index := 7#32
  ![v10031.toNat, 16, 7]
def k0_off556 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10038 : Index := Scalar.indexCast v5205
  let c17_6128 : Index := 17#32
  let c6_6129 : Index := 6#32
  ![v10038.toNat, 17, 6]
def k0_off557 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10042 : Index := Scalar.indexCast v5205
  let c17_6130 : Index := 17#32
  let c7_6131 : Index := 7#32
  ![v10042.toNat, 17, 7]
def k0_off558 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10049 : Index := Scalar.indexCast v5205
  let c18_6134 : Index := 18#32
  let c6_6135 : Index := 6#32
  ![v10049.toNat, 18, 6]
def k0_off559 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10053 : Index := Scalar.indexCast v5205
  let c18_6136 : Index := 18#32
  let c7_6137 : Index := 7#32
  ![v10053.toNat, 18, 7]
def k0_off560 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10060 : Index := Scalar.indexCast v5205
  let c19_6140 : Index := 19#32
  let c6_6141 : Index := 6#32
  ![v10060.toNat, 19, 6]
def k0_off561 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10064 : Index := Scalar.indexCast v5205
  let c19_6142 : Index := 19#32
  let c7_6143 : Index := 7#32
  ![v10064.toNat, 19, 7]
def k0_off562 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10071 : Index := Scalar.indexCast v5205
  let c20_6146 : Index := 20#32
  let c6_6147 : Index := 6#32
  ![v10071.toNat, 20, 6]
def k0_off563 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10075 : Index := Scalar.indexCast v5205
  let c20_6148 : Index := 20#32
  let c7_6149 : Index := 7#32
  ![v10075.toNat, 20, 7]
def k0_off564 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10082 : Index := Scalar.indexCast v5205
  let c21_6152 : Index := 21#32
  let c6_6153 : Index := 6#32
  ![v10082.toNat, 21, 6]
def k0_off565 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10086 : Index := Scalar.indexCast v5205
  let c21_6154 : Index := 21#32
  let c7_6155 : Index := 7#32
  ![v10086.toNat, 21, 7]
def k0_off566 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10093 : Index := Scalar.indexCast v5205
  let c22_6158 : Index := 22#32
  let c6_6159 : Index := 6#32
  ![v10093.toNat, 22, 6]
def k0_off567 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10097 : Index := Scalar.indexCast v5205
  let c22_6160 : Index := 22#32
  let c7_6161 : Index := 7#32
  ![v10097.toNat, 22, 7]
def k0_off568 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10104 : Index := Scalar.indexCast v5205
  let c23_6164 : Index := 23#32
  let c6_6165 : Index := 6#32
  ![v10104.toNat, 23, 6]
def k0_off569 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10108 : Index := Scalar.indexCast v5205
  let c23_6166 : Index := 23#32
  let c7_6167 : Index := 7#32
  ![v10108.toNat, 23, 7]
def k0_off570 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10115 : Index := Scalar.indexCast v5205
  let c24_6170 : Index := 24#32
  let c6_6171 : Index := 6#32
  ![v10115.toNat, 24, 6]
def k0_off571 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10119 : Index := Scalar.indexCast v5205
  let c24_6172 : Index := 24#32
  let c7_6173 : Index := 7#32
  ![v10119.toNat, 24, 7]
def k0_off572 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10126 : Index := Scalar.indexCast v5205
  let c25_6176 : Index := 25#32
  let c6_6177 : Index := 6#32
  ![v10126.toNat, 25, 6]
def k0_off573 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10130 : Index := Scalar.indexCast v5205
  let c25_6178 : Index := 25#32
  let c7_6179 : Index := 7#32
  ![v10130.toNat, 25, 7]
def k0_off574 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10137 : Index := Scalar.indexCast v5205
  let c26_6182 : Index := 26#32
  let c6_6183 : Index := 6#32
  ![v10137.toNat, 26, 6]
def k0_off575 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10141 : Index := Scalar.indexCast v5205
  let c26_6184 : Index := 26#32
  let c7_6185 : Index := 7#32
  ![v10141.toNat, 26, 7]
def k0_off576 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10148 : Index := Scalar.indexCast v5205
  let c27_6188 : Index := 27#32
  let c6_6189 : Index := 6#32
  ![v10148.toNat, 27, 6]
def k0_off577 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10152 : Index := Scalar.indexCast v5205
  let c27_6190 : Index := 27#32
  let c7_6191 : Index := 7#32
  ![v10152.toNat, 27, 7]
def k0_off578 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10159 : Index := Scalar.indexCast v5205
  let c28_6194 : Index := 28#32
  let c6_6195 : Index := 6#32
  ![v10159.toNat, 28, 6]
def k0_off579 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10163 : Index := Scalar.indexCast v5205
  let c28_6196 : Index := 28#32
  let c7_6197 : Index := 7#32
  ![v10163.toNat, 28, 7]
def k0_off580 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10170 : Index := Scalar.indexCast v5205
  let c29_6200 : Index := 29#32
  let c6_6201 : Index := 6#32
  ![v10170.toNat, 29, 6]
def k0_off581 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10174 : Index := Scalar.indexCast v5205
  let c29_6202 : Index := 29#32
  let c7_6203 : Index := 7#32
  ![v10174.toNat, 29, 7]
def k0_off582 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10181 : Index := Scalar.indexCast v5205
  let c30_6206 : Index := 30#32
  let c6_6207 : Index := 6#32
  ![v10181.toNat, 30, 6]
def k0_off583 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10185 : Index := Scalar.indexCast v5205
  let c30_6208 : Index := 30#32
  let c7_6209 : Index := 7#32
  ![v10185.toNat, 30, 7]
def k0_off584 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10192 : Index := Scalar.indexCast v5205
  let c31_6212 : Index := 31#32
  let c6_6213 : Index := 6#32
  ![v10192.toNat, 31, 6]
def k0_off585 (k0_t1 : Fin k0_t1_loop.trips) : Fin 3 → Nat :=
  let c0_i32_465 : BitVec 32 := 0#32
  let c1_i32_466 : BitVec 32 := 1#32
  let arg35 : BitVec 32 := Scf.iv c0_i32_465 c1_i32_466 k0_t1
  let c5_i32_3766 : BitVec 32 := 5#32
  let v5205 : BitVec 32 := Scalar.remsi arg35 c5_i32_3766
  let v10196 : Index := Scalar.indexCast v5205
  let c31_6214 : Index := 31#32
  let c7_6215 : Index := 7#32
  ![v10196.toNat, 31, 7]
def k0_off586 (k0_t1 : Fin k0_t1_loop.trips) : Fin 3 → Nat :=
  let c0_6221 : Index := 0#32
  let c0_i32_465 : BitVec 32 := 0#32
  let c1_i32_466 : BitVec 32 := 1#32
  let arg35 : BitVec 32 := Scf.iv c0_i32_465 c1_i32_466 k0_t1
  let v10214 : Index := Scalar.indexCast arg35
  let c768_6222 : Index := 768#32
  ![0, Nat.mul 2 v10214.toNat, 768]
def k0_off587 (k0_t1 : Fin k0_t1_loop.trips) : Fin 3 → Nat :=
  let c1_6223 : Index := 1#32
  let c0_i32_465 : BitVec 32 := 0#32
  let c1_i32_466 : BitVec 32 := 1#32
  let arg35 : BitVec 32 := Scf.iv c0_i32_465 c1_i32_466 k0_t1
  let v10220 : Index := Scalar.indexCast arg35
  let c768_6224 : Index := 768#32
  ![1, Nat.mul 2 v10220.toNat, 768]
def k0_off588 (k0_t1 : Fin k0_t1_loop.trips) : Fin 3 → Nat :=
  let c2_6225 : Index := 2#32
  let c0_i32_465 : BitVec 32 := 0#32
  let c1_i32_466 : BitVec 32 := 1#32
  let arg35 : BitVec 32 := Scf.iv c0_i32_465 c1_i32_466 k0_t1
  let v10226 : Index := Scalar.indexCast arg35
  let c768_6226 : Index := 768#32
  ![2, Nat.mul 2 v10226.toNat, 768]
def k0_off589 (k0_t1 : Fin k0_t1_loop.trips) : Fin 3 → Nat :=
  let c3_6227 : Index := 3#32
  let c0_i32_465 : BitVec 32 := 0#32
  let c1_i32_466 : BitVec 32 := 1#32
  let arg35 : BitVec 32 := Scf.iv c0_i32_465 c1_i32_466 k0_t1
  let v10232 : Index := Scalar.indexCast arg35
  let c768_6228 : Index := 768#32
  ![3, Nat.mul 2 v10232.toNat, 768]
@[reducible] def k0_t2_loop : Scf.Loop 32 :=
  let c0_i32_3704 : BitVec 32 := 0#32
  let c24_i32 : BitVec 32 := 24#32
  let v5166 : BitVec 32 := Scalar.addi c0_i32_3704 c24_i32
  let c1_i32_3705 : BitVec 32 := 1#32
  ⟨c0_i32_3704, v5166, c1_i32_3705⟩
def k0_off590 (k0_t2 : Fin k0_t2_loop.trips) : Fin 4 → Nat :=
  let c0_i32_3767 : BitVec 32 := 0#32
  let c0_i32_3704 : BitVec 32 := 0#32
  let c1_i32_3705 : BitVec 32 := 1#32
  let arg35 : BitVec 32 := Scf.iv c0_i32_3704 c1_i32_3705 k0_t2
  let c0_i32_3768 : BitVec 32 := 0#32
  let c0_i32_3769 : BitVec 32 := 0#32
  ![0, arg35.toNat, 0, 0]
-- ==== KernelIdeal.lean ====
variable {F : FTy → Type} [FloatOps F]
-- ==== ReferenceIdeal.lean ====
abbrev S4x256x1024 : Shape := ⟨3, ![4, 256, 1024]⟩
abbrev S1024x48 : Shape := ⟨2, ![1024, 48]⟩
abbrev S24x1024x4096 : Shape := ⟨3, ![24, 1024, 4096]⟩
abbrev S24x8x32 : Shape := ⟨3, ![24, 8, 32]⟩
abbrev S24x4096x1024 : Shape := ⟨3, ![24, 4096, 1024]⟩
abbrev S24x32x8 : Shape := ⟨3, ![24, 32, 8]⟩
abbrev S4x48x1024 : Shape := ⟨3, ![4, 48, 1024]⟩
abbrev S4x24x2x1024 : Shape := ⟨4, ![4, 24, 2, 1024]⟩
abbrev S4x24x2 : Shape := ⟨3, ![4, 24, 2]⟩
abbrev S4x24x2x4096 : Shape := ⟨4, ![4, 24, 2, 4096]⟩
abbrev S1024x1024 : Shape := ⟨2, ![1024, 1024]⟩
abbrev S4x256x48 : Shape := ⟨3, ![4, 256, 48]⟩
abbrev S4x48 : Shape := ⟨2, ![4, 48]⟩
abbrev S4x1x48 : Shape := ⟨3, ![4, 1, 48]⟩
abbrev S4x256 : Shape := ⟨2, ![4, 256]⟩
abbrev S4x256x1 : Shape := ⟨3, ![4, 256, 1]⟩
abbrev S4x24x2x1 : Shape := ⟨4, ![4, 24, 2, 1]⟩
abbrev S24x4x2x1024 : Shape := ⟨4, ![24, 4, 2, 1024]⟩
abbrev S24x8x1024 : Shape := ⟨3, ![24, 8, 1024]⟩
abbrev S24x8x128x32x128 : Shape := ⟨5, ![24, 8, 128, 32, 128]⟩
abbrev S24x8x1x32x1 : Shape := ⟨5, ![24, 8, 1, 32, 1]⟩
abbrev S24x8x4096 : Shape := ⟨3, ![24, 8, 4096]⟩
abbrev S24x4x2x4096 : Shape := ⟨4, ![24, 4, 2, 4096]⟩
abbrev S24x32x128x8x128 : Shape := ⟨5, ![24, 32, 128, 8, 128]⟩
abbrev S24x32x1x8x1 : Shape := ⟨5, ![24, 32, 1, 8, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .bf16⟩
  | .hbm, ⟨1, _⟩ => ⟨S1024x48, .bf16⟩
  | .hbm, ⟨2, _⟩ => ⟨S24x1024x4096, .fp8e4m3⟩
  | .hbm, ⟨3, _⟩ => ⟨S24x8x32, .f32⟩
  | .hbm, ⟨4, _⟩ => ⟨S24x4096x1024, .fp8e4m3⟩
  | .hbm, ⟨5, _⟩ => ⟨S24x32x8, .f32⟩
  | .hbm, ⟨6, _⟩ => ⟨S4x256x1024, .bf16⟩
  | .hbm, ⟨7, _⟩ => ⟨S4x48x1024, .bf16⟩
  | .hbm, ⟨8, _⟩ => ⟨S4x24x2x1024, .fp8e4m3⟩
  | .hbm, ⟨9, _⟩ => ⟨S4x24x2, .f32⟩
  | .hbm, ⟨10, _⟩ => ⟨S4x24x2x4096, .fp8e4m3⟩
  | .hbm, ⟨11, _⟩ => ⟨S4x24x2, .f32⟩
  | .local _ .vmem, ⟨0, _⟩ => ⟨S4x256x1024, .bf16⟩
  | .local _ .vmem, ⟨1, _⟩ => ⟨S1024x48, .bf16⟩
  | .local _ .vmem, ⟨2, _⟩ => ⟨S24x1024x4096, .fp8e4m3⟩
  | .local _ .vmem, ⟨3, _⟩ => ⟨S24x8x32, .f32⟩
  | .local _ .vmem, ⟨4, _⟩ => ⟨S24x4096x1024, .fp8e4m3⟩
  | .local _ .vmem, ⟨5, _⟩ => ⟨S24x32x8, .f32⟩
  | .local _ .vmem, ⟨6, _⟩ => ⟨S4x256x1024, .bf16⟩
  | .local _ .vmem, ⟨7, _⟩ => ⟨S4x48x1024, .bf16⟩
  | .local _ .vmem, ⟨8, _⟩ => ⟨S4x24x2x1024, .fp8e4m3⟩
  | .local _ .vmem, ⟨9, _⟩ => ⟨S4x24x2, .f32⟩
  | .local _ .vmem, ⟨10, _⟩ => ⟨S4x24x2x4096, .fp8e4m3⟩
  | .local _ .vmem, ⟨11, _⟩ => ⟨S4x24x2, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x4096x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x48x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x24x2x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x24x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x24x2x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x24x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Safe.lean ====
/-
  A pure reading of a single-core program with asynchronous copies.

  The state is what every buffer holds, together with a lock on every element: an element that belongs to the source or
  the destination of a copy in flight is locked by the copy's semaphore and may be neither read nor written until that
  semaphore's last wait. A copy writes its destination in this reading as soon as it is issued; as nobody may look at the
  destination before the wait, nobody can tell.

  `Safe cap p s Q` says that `p`, run from `s`, respects the locks, and ends in an answer and a state that `Q` relates.
  `sound` turns it into the weakest precondition of the separation logic.
-/
module

public import Idealize.ShloMosaic.Lib.Batch
public import Idealize.ShloMosaic.Lib.Pipeline.Kit

@[expose] public section

noncomputable section

namespace Safe

open Idealize.ShloMosaic Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type} {Λ : Labels}

/-- What the buffers hold, which elements are locked and by which semaphore, and for every semaphore how many copies were
    issued on it, how many waits it has seen, and what one copy on it amounts to. -/
structure St (sig : RefSig) (Val : EltTy → Type) where
  mem : (b : Ref sig .tc) → b.ty.Contents Val
  lock : (b : Ref sig .tc) → b.ty.Idx → Option (DmaSem sig)
  sent : DmaSem sig → ℕ
  got : DmaSem sig → ℕ
  amt : DmaSem sig → ℕ

/-- None of the elements is locked. -/
def Free (s : St sig Val) (b : Ref sig .tc) (S : Finset b.ty.Idx) : Prop := ∀ i ∈ S, s.lock b i = none

/-- The state after a buffer is given new contents. -/
def St.put (s : St sig Val) (b : Ref sig .tc) (f : b.ty.Contents Val) : St sig Val :=
  { s with mem := Function.update s.mem b f }

/-- The locks after the elements `S` of `b` are locked by `q`. -/
def mark (l : (b : Ref sig .tc) → b.ty.Idx → Option (DmaSem sig)) (b : Ref sig .tc) (S : Finset b.ty.Idx) (q : DmaSem sig) :
    (b : Ref sig .tc) → b.ty.Idx → Option (DmaSem sig) :=
  Function.update l b fun i => if i ∈ S then some q else l b i

/-- The state after a copy is issued. -/
def St.issue (s : St sig Val) (q : DmaSem sig) (n : ℕ) (sb : Ref sig .tc) (sS : Finset sb.ty.Idx)
    (db : Ref sig .tc) (dS : Finset db.ty.Idx) (f : db.ty.Contents Val) : St sig Val where
  mem := Function.update s.mem db f
  lock := mark (mark s.lock sb sS q) db dS q
  sent := Function.update s.sent q (s.sent q + 1)
  got := s.got
  amt := Function.update s.amt q n

/-- The state after a wait on `q` that is not its last. -/
def St.tick (s : St sig Val) (q : DmaSem sig) : St sig Val :=
  { s with got := Function.update s.got q (s.got q + 1) }

/-- The state after the last wait on `q`: its copies have landed, and what they locked is free. -/
def St.land (s : St sig Val) (q : DmaSem sig) : St sig Val where
  mem := s.mem
  lock := fun b i => if s.lock b i = some q then none else s.lock b i
  sent := Function.update s.sent q 0
  got := Function.update s.got q 0
  amt := s.amt

/-- One step: what the operation asks of the state, and how it continues. -/
def stepSafe (cap : DmaSem sig → ℕ) : {β : Type} → TpuEff nD τ sig Val Λ .tc β → St sig Val → (β → St sig Val → Prop) → Prop
  | _, .load m r _, s, K => Free s m.view.ref (m.view.setOn r.set) ∧ K (m.view.readAt Val r (s.mem m.view.ref)) s
  | _, .store m r w M _ _, s, K => Free s (m.access r).ref ((m.access r).setOn M)
      ∧ K ⟨⟩ (s.put (m.access r).ref ((m.access r).write Val (s.mem (m.access r).ref) w M))
  | _, .enqueueDmaAs src (.here dst) via (.dma q) _ _ _, s, K =>
      Free s src.view.ref src.view.set ∧ Free s dst.view.ref dst.view.set ∧ src.view.ref ≠ dst.view.ref
      ∧ s.sent q < cap q ∧ s.got q = 0 ∧ 0 < dst.view.dmaCredit ∧ (s.sent q = 0 ∨ s.amt q = dst.view.dmaCredit)
      ∧ K ⟨⟩ (s.issue q dst.view.dmaCredit src.view.ref src.view.set dst.view.ref dst.view.set
            (dst.view.write Val (s.mem dst.view.ref) (via.apply (src.view.read Val (s.mem src.view.ref))) Finset.univ))
  | _, .waitDma q b sh e _, s, K =>
      s.sent q = cap q ∧ s.amt q = b.dmaCredit sh e ∧
      ((s.got q + 1 < cap q ∧ K ⟨⟩ (s.tick q)) ∨ (s.got q + 1 = cap q ∧ K ⟨⟩ (s.land q)))
  | _, _, _, _ => False

/-- The program respects the locks from `s` on and ends as `Q` says. -/
def Safe (cap : DmaSem sig → ℕ) {α : Type} : Prog (TpuEff nD τ sig Val Λ .tc) α → St sig Val → (α → St sig Val → Prop) → Prop
  | .ret a, s, Q => Q a s
  | .op e k, s, Q => stepSafe cap e s fun x s' => Safe cap (k x) s' Q

theorem stepSafe_mono {cap : DmaSem sig → ℕ} {β : Type} (e : TpuEff nD τ sig Val Λ .tc β) (s : St sig Val)
    {K K' : β → St sig Val → Prop} (h : ∀ x s', K x s' → K' x s') (hs : stepSafe cap e s K) : stepSafe cap e s K' := by
  cases e with
  | load m r hl => exact ⟨hs.1, h _ _ hs.2⟩
  | store m r w M hx hm => exact ⟨hs.1, h _ _ hs.2⟩
  | enqueueDmaAs src tgt via sem h1 h2 h3 =>
    cases tgt with
    | here dst =>
      cases sem with
      | dma q => exact ⟨hs.1, hs.2.1, hs.2.2.1, hs.2.2.2.1, hs.2.2.2.2.1, hs.2.2.2.2.2.1, hs.2.2.2.2.2.2.1, h _ _ hs.2.2.2.2.2.2.2⟩
      | reg q => exact hs.elim
    | remote c' dst ss hd => exact (by cases sem <;> exact hs.elim)
  | waitDma q b sh e hk =>
    refine ⟨hs.1, hs.2.1, ?_⟩
    rcases hs.2.2 with h' | h'
    · exact .inl ⟨h'.1, h _ _ h'.2⟩
    · exact .inr ⟨h'.1, h _ _ h'.2⟩
  | _ => exact hs.elim

theorem Safe.mono {cap : DmaSem sig → ℕ} {α : Type} {p : Prog (TpuEff nD τ sig Val Λ .tc) α} {Q Q' : α → St sig Val → Prop}
    (h : ∀ x s', Q x s' → Q' x s') : ∀ {s : St sig Val}, Safe cap p s Q → Safe cap p s Q' := by
  induction p with
  | ret a => exact fun hs => h _ _ hs
  | op e k ih => exact fun hs => stepSafe_mono e _ (fun x s' hx => ih x hx) hs

theorem Safe.bind {cap : DmaSem sig → ℕ} {α β : Type} {p : Prog (TpuEff nD τ sig Val Λ .tc) α}
    {k : α → Prog (TpuEff nD τ sig Val Λ .tc) β} {Q : β → St sig Val → Prop} :
    ∀ {s : St sig Val}, Safe cap p s (fun a s' => Safe cap (k a) s' Q) → Safe cap (p >>= k) s Q := by
  induction p with
  | ret a => exact fun hs => hs
  | op e c ih => exact fun hs => stepSafe_mono e _ (fun x s' hx => ih x hx) hs

/-! ## Soundness -/

section Sound

variable {Ix : Type} [DecidableEq Ix] {Name : Type} [DecidableEq Name] {U : Type} [URA U] {Lvl : Type}

local notation "𝕄" => MT nD τ sig Ix Val Name U Lvl

/-- The buffers, on the elements `S` of each. -/
def pts (c : Dev nD) (S : (b : Ref sig .tc) → Finset b.ty.Idx) (f : (b : Ref sig .tc) → b.ty.Contents Val) : sProp 𝕄 :=
  bigSep Finset.univ fun b : Ref sig .tc => (((c.tc : Thread nD τ).loc b) ↦[S b]{fullShare} (f b) : sProp 𝕄)

theorem pts_congr (c : Dev nD) {S : (b : Ref sig .tc) → Finset b.ty.Idx} {f g : (b : Ref sig .tc) → b.ty.Contents Val}
    (h : ∀ b, ∀ i ∈ S b, f b i = g b i) : (pts c S f : sProp 𝕄) ⊢ pts c S g :=
  BI.bigSep_mono fun b _ => Entails.of_eq (pointsTo_congr (h b))

theorem pts_sets (c : Dev nD) {S T : (b : Ref sig .tc) → Finset b.ty.Idx} {f : (b : Ref sig .tc) → b.ty.Contents Val}
    (h : S = T) : (pts c S f : sProp 𝕄) ⊢ pts c T f := h ▸ .rfl

theorem pts_read (c : Dev nD) (S : (b : Ref sig .tc) → Finset b.ty.Idx) (f : (b : Ref sig .tc) → b.ty.Contents Val) (b : Ref sig .tc) :
    (pts c S f : sProp 𝕄) ⊢ iprop((((c.tc : Thread nD τ).loc b) ↦[S b]{fullShare} (f b))
      ∗ ((((c.tc : Thread nD τ).loc b) ↦[S b]{fullShare} (f b)) -∗ pts c S f)) :=
  BI.bigSep_univ_update b fun _ _ => rfl

theorem pts_write (c : Dev nD) (S : (b : Ref sig .tc) → Finset b.ty.Idx) (f : (b : Ref sig .tc) → b.ty.Contents Val) (b : Ref sig .tc)
    (g : b.ty.Contents Val) :
    (pts c S f : sProp 𝕄) ⊢ iprop((((c.tc : Thread nD τ).loc b) ↦[S b]{fullShare} (f b))
      ∗ ((((c.tc : Thread nD τ).loc b) ↦[S b]{fullShare} g) -∗ pts c S (Function.update f b g))) := by
  have h := BI.bigSep_univ_update (M := 𝕄) (Φ := fun b : Ref sig .tc => (((c.tc : Thread nD τ).loc b) ↦[S b]{fullShare} (f b)))
    (Ψ := fun b' : Ref sig .tc => (((c.tc : Thread nD τ).loc b') ↦[S b']{fullShare} (Function.update f b g b'))) b
    (fun j hj => by rw [Function.update_of_ne hj])
  rw [Function.update_self] at h
  exact h

theorem pts_reset (c : Dev nD) (S : (b : Ref sig .tc) → Finset b.ty.Idx) (f : (b : Ref sig .tc) → b.ty.Contents Val) (b : Ref sig .tc)
    (T : Finset b.ty.Idx) :
    (pts c S f : sProp 𝕄) ⊢ iprop((((c.tc : Thread nD τ).loc b) ↦[S b]{fullShare} (f b))
      ∗ ((((c.tc : Thread nD τ).loc b) ↦[T]{fullShare} (f b)) -∗ pts c (Function.update S b T) f)) := by
  have h := BI.bigSep_univ_update (M := 𝕄) (Φ := fun b : Ref sig .tc => (((c.tc : Thread nD τ).loc b) ↦[S b]{fullShare} (f b)))
    (Ψ := fun b' : Ref sig .tc => (((c.tc : Thread nD τ).loc b') ↦[Function.update S b T b']{fullShare} (f b'))) b
    (fun j hj => by rw [Function.update_of_ne hj])
  rw [Function.update_self] at h
  exact h

theorem pts_take (c : Dev nD) (S : (b : Ref sig .tc) → Finset b.ty.Idx) (f : (b : Ref sig .tc) → b.ty.Contents Val) (b : Ref sig .tc)
    {J : Finset b.ty.Idx} (hJ : J ⊆ S b) :
    (pts c S f : sProp 𝕄) ⊢ iprop((((c.tc : Thread nD τ).loc b) ↦[J]{fullShare} (f b))
      ∗ pts c (Function.update S b (S b \ J)) f) := by
  refine (pts_reset c S f b (S b \ J)).trans ?_
  iintro ⟨Hb, Hk⟩
  ihave Hb' := (pointsTo_split_subset (ℓ := (c.tc : Thread nD τ).loc b) (f := f b) hJ).1 $$ Hb
  icases Hb' with ⟨HJ, HR⟩
  isplitl [HJ]; · iexact HJ
  iapply Hk; iexact HR

theorem pts_give (c : Dev nD) (S : (b : Ref sig .tc) → Finset b.ty.Idx) (f : (b : Ref sig .tc) → b.ty.Contents Val) (b : Ref sig .tc)
    {J : Finset b.ty.Idx} {g : b.ty.Contents Val} (hg : ∀ i ∈ J, g i = f b i) :
    iprop(pts c S f ∗ (((c.tc : Thread nD τ).loc b) ↦[J]{fullShare} g))
      ⊢ (pts c (Function.update S b (S b ∪ J)) f : sProp 𝕄) := by
  rw [show ((((c.tc : Thread nD τ).loc b) ↦[J]{fullShare} g : sProp 𝕄)) = (((c.tc : Thread nD τ).loc b) ↦[J]{fullShare} (f b))
    from pointsTo_congr hg]
  iintro ⟨H, HJ⟩
  ihave H' := (pts_reset c S f b (S b ∪ J)) $$ H
  icases H' with ⟨Hb, Hk⟩
  by_cases hd : Disjoint (S b) J
  · iapply Hk
    iapply (pointsTo_union (ℓ := (c.tc : Thread nD τ).loc b) (f := f b) hd).2
    isplitl [Hb] <;> iassumption
  · obtain ⟨i, hi, hj⟩ := Finset.not_disjoint_iff.mp hd
    ihave Hf := (pointsTo_full_full_false (ℓ := (c.tc : Thread nD τ).loc b) (f := f b) (g := f b) hi hj) $$ [Hb HJ]
    · isplitl [Hb] <;> iassumption
    icases Hf with %hf
    exact hf.elim

/-- A copy in flight: its two ends, and what they hold once it has landed. -/
structure Tr (sig : RefSig) (Val : EltTy → Type) where
  db : Ref sig .tc
  dS : Finset db.ty.Idx
  dF : db.ty.Contents Val
  sb : Ref sig .tc
  sS : Finset sb.ty.Idx
  sF : sb.ty.Contents Val

def Tr.deliv (c : Dev nD) (t : Tr sig Val) : sProp 𝕄 :=
  iprop((((c.tc : Thread nD τ).loc t.db) ↦[t.dS]{fullShare} t.dF) ∗ (((c.tc : Thread nD τ).loc t.sb) ↦[t.sS]{fullShare} t.sF))

/-- The ends of the copy, inside a family of element sets. -/
def Tr.add (t : Tr sig Val) (S : (b : Ref sig .tc) → Finset b.ty.Idx) : (b : Ref sig .tc) → Finset b.ty.Idx :=
  Function.update (Function.update S t.db (S t.db ∪ t.dS)) t.sb ((Function.update S t.db (S t.db ∪ t.dS)) t.sb ∪ t.sS)

/-- An element belongs to an end of the copy. -/
def Tr.Has (t : Tr sig Val) (b : Ref sig .tc) (i : b.ty.Idx) : Prop :=
  (∃ j ∈ t.dS, (⟨b, i⟩ : Σ b : Ref sig .tc, b.ty.Idx) = ⟨t.db, j⟩) ∨ ∃ j ∈ t.sS, (⟨b, i⟩ : Σ b : Ref sig .tc, b.ty.Idx) = ⟨t.sb, j⟩

/-- The ends hold what the memory says. -/
def Tr.Agrees (t : Tr sig Val) (f : (b : Ref sig .tc) → b.ty.Contents Val) : Prop :=
  (∀ i ∈ t.dS, t.dF i = f t.db i) ∧ ∀ i ∈ t.sS, t.sF i = f t.sb i

theorem mem_update_union {S : (b : Ref sig .tc) → Finset b.ty.Idx} {b₀ : Ref sig .tc} {J : Finset b₀.ty.Idx} {b : Ref sig .tc} {i : b.ty.Idx} :
    i ∈ Function.update S b₀ (S b₀ ∪ J) b ↔ i ∈ S b ∨ ∃ j ∈ J, (⟨b, i⟩ : Σ b : Ref sig .tc, b.ty.Idx) = ⟨b₀, j⟩ := by
  by_cases h : b = b₀
  · subst h
    rw [Function.update_self, Finset.mem_union]
    refine or_congr Iff.rfl ⟨fun hi => ⟨i, hi, rfl⟩, ?_⟩
    rintro ⟨j, hj, e⟩
    cases e; exact hj
  · rw [Function.update_of_ne h]
    refine ⟨.inl, ?_⟩
    rintro (hi | ⟨j, -, e⟩)
    · exact hi
    · exact absurd (congrArg Sigma.fst e) h

theorem Tr.mem_add {t : Tr sig Val} {S : (b : Ref sig .tc) → Finset b.ty.Idx} {b : Ref sig .tc} {i : b.ty.Idx} :
    i ∈ t.add S b ↔ i ∈ S b ∨ t.Has b i := by
  unfold Tr.add Tr.Has
  rw [mem_update_union, mem_update_union, or_assoc]

theorem pts_land (c : Dev nD) (t : Tr sig Val) (S : (b : Ref sig .tc) → Finset b.ty.Idx) (f : (b : Ref sig .tc) → b.ty.Contents Val)
    (h : t.Agrees f) : iprop(pts c S f ∗ t.deliv c) ⊢ (pts c (t.add S) f : sProp 𝕄) := by
  unfold Tr.deliv Tr.add
  iintro ⟨H, Hd, Hs⟩
  iapply (pts_give c _ f t.sb h.2)
  isplitr [Hs]
  · iapply (pts_give c _ f t.db h.1)
    isplitl [H] <;> iassumption
  · iexact Hs

theorem bigSepL_cons' {I : Type} (i : I) (l : List I) (Φ : I → sProp 𝕄) :
    BI.bigSepL (i :: l) Φ = iprop(Φ i ∗ BI.bigSepL l Φ) := BI.bigSepL_cons i l Φ

/-- Everything a list of copies returns. -/
theorem pts_landAll (c : Dev nD) (f : (b : Ref sig .tc) → b.ty.Contents Val) : ∀ (ts : List (Tr sig Val)) (S : (b : Ref sig .tc) → Finset b.ty.Idx),
    (∀ t ∈ ts, t.Agrees f) →
    iprop(pts c S f ∗ BI.bigSepL ts (fun t => t.deliv c)) ⊢ (pts c (ts.foldl (fun S t => t.add S) S) f : sProp 𝕄)
  | [], S, _ => by
    rw [BI.bigSepL_nil]
    iintro ⟨H, -⟩; iexact H
  | t :: ts, S, h => by
    rw [bigSepL_cons']
    iintro ⟨H, Ht, Hts⟩
    iapply (pts_landAll c f ts (t.add S) fun t' ht' => h t' (List.mem_cons_of_mem _ ht'))
    isplitr [Hts]
    · iapply (pts_land c t S f (h t List.mem_cons_self))
      isplitl [H] <;> iassumption
    · iexact Hts

theorem mem_foldl_add : ∀ (ts : List (Tr sig Val)) (S : (b : Ref sig .tc) → Finset b.ty.Idx) {b : Ref sig .tc} {i : b.ty.Idx},
    i ∈ ts.foldl (fun S t => t.add S) S b ↔ i ∈ S b ∨ ∃ t ∈ ts, t.Has b i
  | [], S, b, i => by simp
  | t :: ts, S, b, i => by
    rw [List.foldl_cons, mem_foldl_add ts, Tr.mem_add]
    simp [or_assoc]

/-- The deliveries of a whole batch, as a list. -/
theorem deliv_list {m : ℕ} (c : Dev nD) (ts : List (Tr sig Val)) (hm : ts.length = m) : ∀ (n k : ℕ), k + n = m →
    (bigSep (Transfers.pending k) (Transfers.deliv (m := m) (ts.map fun t => t.deliv c)) : sProp 𝕄)
      ⊢ BI.bigSepL (ts.drop k) (fun t => t.deliv c)
  | 0, k, hk => by
    have hk' : k = m := by omega
    have e : Transfers.pending (n := m) k = ∅ := by
      ext t; have := t.isLt; simp [Transfers.pending]; omega
    rw [e, BI.bigSep_empty, List.drop_of_length_le (by omega), BI.bigSepL_nil]
  | n + 1, k, hk => by
    have hlt : k < m := by omega
    have hlt' : k < ts.length := by omega
    rw [Transfers.bigSep_pending_step _ k hlt, List.drop_eq_getElem_cons hlt', bigSepL_cons']
    have e : Transfers.deliv (m := m) (ts.map fun t => (t.deliv c : sProp 𝕄)) ⟨k, hlt⟩ = (ts[k]).deliv c := by
      simp [Transfers.deliv, List.getD_eq_getElem?_getD, hlt']
    rw [e]
    iintro ⟨H1, H2⟩
    isplitl [H1]; · iexact H1
    iapply (deliv_list c ts hm n (k + 1) (by omega)); iexact H2

variable [Preorder Lvl]
variable (EC : UEmb Counters (MT nD τ sig Ix Val Name U Lvl)) (ι : Ix) (cap : DmaSem sig → ℕ)

/-- The elements nobody has locked. -/
def St.own (s : St sig Val) (b : Ref sig .tc) : Finset b.ty.Idx := Finset.univ.filter fun i => s.lock b i = none

/-- What the core holds of a semaphore: its counter at zero when no copy is in flight on it, else the batch of its copies. -/
def cell (c : Dev nD) (s : St sig Val) (q : DmaSem sig) (ts : List (Tr sig Val)) : sProp 𝕄 :=
  if s.sent q = 0 then semVal ((c.tc : Thread nD τ), .dma q) 0
  else Transfers.Batched EC (c.tc : Thread nD τ) (.dma q) ι (s.amt q) (cap q) (ts.map fun t => t.deliv c) (s.got q * s.amt q)

/-- The copies in flight are those the state counts, and lock what the state has locked. -/
structure Fits (s : St sig Val) (trs : DmaSem sig → List (Tr sig Val)) : Prop where
  len : ∀ q, (trs q).length = s.sent q
  got : ∀ q, s.sent q = 0 → s.got q = 0
  pos : ∀ q, s.sent q ≠ 0 → 0 < s.amt q
  lock : ∀ q, ∀ t ∈ trs q, ∀ b i, t.Has b i → s.lock b i = some q
  unlock : ∀ q b i, s.lock b i = some q → ∃ t ∈ trs q, t.Has b i
  agrees : ∀ q, ∀ t ∈ trs q, t.Agrees s.mem

/-- Everything the core holds. -/
def World (c : Dev nD) (K : Finset (DmaSem sig)) (s : St sig Val) : sProp 𝕄 :=
  iprop(∃ (trs : DmaSem sig → List (Tr sig Val)) (W : Waits sig Ix), ⌜Fits s trs⌝ ∗ pts c s.own s.mem
    ∗ bigSep K (fun q => cell EC ι cap c s q (trs q)) ∗ owes (c.tc : Thread nD τ) 0 W)

theorem Fits.put {s : St sig Val} {trs : DmaSem sig → List (Tr sig Val)} (h : Fits s trs) (b : Ref sig .tc) (f : b.ty.Contents Val)
    (hf : ∀ i, s.lock b i ≠ none → f i = s.mem b i) : Fits (s.put b f) trs where
  len := h.len
  got := h.got
  pos := h.pos
  lock := h.lock
  unlock := h.unlock
  agrees q t ht := by
    have key : ∀ (b' : Ref sig .tc) (i : b'.ty.Idx), s.lock b' i = some q → Function.update s.mem b f b' i = s.mem b' i := by
      intro b' i hl
      by_cases e : b' = b
      · subst e; rw [Function.update_self]; exact hf i (by rw [hl]; exact Option.some_ne_none _)
      · rw [Function.update_of_ne e]
    refine ⟨fun i hi => ?_, fun i hi => ?_⟩
    · rw [(h.agrees q t ht).1 i hi]
      exact (key t.db i (h.lock q t ht _ _ (.inl ⟨i, hi, rfl⟩))).symm
    · rw [(h.agrees q t ht).2 i hi]
      exact (key t.sb i (h.lock q t ht _ _ (.inr ⟨i, hi, rfl⟩))).symm

theorem mark_eq {l : (b : Ref sig .tc) → b.ty.Idx → Option (DmaSem sig)} {b₀ : Ref sig .tc} {S : Finset b₀.ty.Idx} {q : DmaSem sig}
    {b : Ref sig .tc} {i : b.ty.Idx} :
    ((∃ j ∈ S, (⟨b, i⟩ : Σ b : Ref sig .tc, b.ty.Idx) = ⟨b₀, j⟩) ∧ mark l b₀ S q b i = some q)
      ∨ ((¬ ∃ j ∈ S, (⟨b, i⟩ : Σ b : Ref sig .tc, b.ty.Idx) = ⟨b₀, j⟩) ∧ mark l b₀ S q b i = l b i) := by
  unfold mark
  by_cases h : b = b₀
  · subst h
    rw [Function.update_self]
    by_cases hi : i ∈ S
    · exact .inl ⟨⟨i, hi, rfl⟩, if_pos hi⟩
    · refine .inr ⟨?_, if_neg hi⟩
      rintro ⟨j, hj, e⟩; cases e; exact hi hj
  · rw [Function.update_of_ne h]
    refine .inr ⟨?_, rfl⟩
    rintro ⟨j, -, e⟩; exact h (congrArg Sigma.fst e)

/-- The copy an issue records. -/
abbrev newTr (s : St sig Val) (sb : Ref sig .tc) (sS : Finset sb.ty.Idx) (db : Ref sig .tc) (dS : Finset db.ty.Idx) (f : db.ty.Contents Val) : Tr sig Val :=
  ⟨db, dS, f, sb, sS, s.mem sb⟩

theorem issue_lock {s : St sig Val} {q : DmaSem sig} {n : ℕ} {sb : Ref sig .tc} {sS : Finset sb.ty.Idx} {db : Ref sig .tc} {dS : Finset db.ty.Idx}
    {f : db.ty.Contents Val} (b : Ref sig .tc) (i : b.ty.Idx) :
    ((newTr s sb sS db dS f).Has b i ∧ (s.issue q n sb sS db dS f).lock b i = some q)
      ∨ (¬ (newTr s sb sS db dS f).Has b i ∧ (s.issue q n sb sS db dS f).lock b i = s.lock b i) := by
  show (_ ∧ mark (mark s.lock sb sS q) db dS q b i = _) ∨ (_ ∧ mark (mark s.lock sb sS q) db dS q b i = _)
  rcases mark_eq (l := mark s.lock sb sS q) (b₀ := db) (S := dS) (q := q) (b := b) (i := i) with ⟨h, e⟩ | ⟨h, e⟩
  · exact .inl ⟨.inl h, e⟩
  · rcases mark_eq (l := s.lock) (b₀ := sb) (S := sS) (q := q) (b := b) (i := i) with ⟨h', e'⟩ | ⟨h', e'⟩
    · exact .inl ⟨.inr h', e.trans e'⟩
    · exact .inr ⟨fun H => H.elim h h', e.trans e'⟩

theorem Fits.issue {s : St sig Val} {trs : DmaSem sig → List (Tr sig Val)} (h : Fits s trs) (q : DmaSem sig) (n : ℕ)
    (sb : Ref sig .tc) (sS : Finset sb.ty.Idx) (db : Ref sig .tc) (dS : Finset db.ty.Idx) (f : db.ty.Contents Val)
    (hs : Free s sb sS) (hd : Free s db dS) (hne : sb ≠ db) (hn : 0 < n) (hg : s.got q = 0)
    (hf : ∀ i, i ∉ dS → f i = s.mem db i) :
    Fits (s.issue q n sb sS db dS f) (Function.update trs q (trs q ++ [newTr s sb sS db dS f])) := by
  have hmem : ∀ (b : Ref sig .tc) (i : b.ty.Idx), s.lock b i ≠ none → Function.update s.mem db f b i = s.mem b i := by
    intro b i hl
    by_cases e : b = db
    · subst e; rw [Function.update_self]
      exact hf i fun hi => hl (hd i hi)
    · rw [Function.update_of_ne e]
  have hHas : ∀ b i, (newTr s sb sS db dS f).Has b i → s.lock b i = none := by
    rintro b i (⟨j, hj, e⟩ | ⟨j, hj, e⟩)
    · cases e; exact hd _ hj
    · cases e; exact hs _ hj
  have hold : ∀ q', ∀ t ∈ trs q', t.Agrees (Function.update s.mem db f) := fun q' t ht =>
    ⟨fun i hi => ((h.agrees q' t ht).1 i hi).trans (hmem _ _ (by rw [h.lock q' t ht _ _ (.inl ⟨i, hi, rfl⟩)]; exact Option.some_ne_none _)).symm,
     fun i hi => ((h.agrees q' t ht).2 i hi).trans (hmem _ _ (by rw [h.lock q' t ht _ _ (.inr ⟨i, hi, rfl⟩)]; exact Option.some_ne_none _)).symm⟩
  have hkeep : ∀ q', ∀ t ∈ trs q', ∀ b i, t.Has b i → (s.issue q n sb sS db dS f).lock b i = some q' := by
    intro q' t ht b i hb
    rcases issue_lock (s := s) (q := q) (n := n) (sb := sb) (sS := sS) (db := db) (dS := dS) (f := f) b i with ⟨h1, -⟩ | ⟨-, h2⟩
    · have := hHas b i h1; rw [h.lock q' t ht b i hb] at this; exact absurd this (Option.some_ne_none _)
    · rw [h2]; exact h.lock q' t ht b i hb
  refine ⟨fun q' => ?_, fun q' h0 => ?_, fun q' h0 => ?_, fun q' t ht b i hb => ?_, fun q' b i hl => ?_, fun q' t ht => ?_⟩
  · show (Function.update trs q _ q').length = Function.update s.sent q _ q'
    by_cases e : q' = q
    · subst e; rw [Function.update_self, Function.update_self, List.length_append, h.len]; rfl
    · rw [Function.update_of_ne e, Function.update_of_ne e]; exact h.len q'
  · by_cases e : q' = q
    · subst e; exact hg
    · refine h.got q' ?_
      have h0' : Function.update s.sent q (s.sent q + 1) q' = 0 := h0
      rwa [Function.update_of_ne e] at h0'
  · show 0 < Function.update s.amt q n q'
    by_cases e : q' = q
    · subst e; rw [Function.update_self]; exact hn
    · rw [Function.update_of_ne e]
      refine h.pos q' fun h0' => h0 ?_
      show Function.update s.sent q (s.sent q + 1) q' = 0
      rwa [Function.update_of_ne e]
  · by_cases e : q' = q
    · subst e
      rw [Function.update_self] at ht
      rcases List.mem_append.mp ht with ht | ht
      · exact hkeep _ t ht b i hb
      · rw [List.mem_singleton.mp ht] at hb
        rcases issue_lock (s := s) (q := q') (n := n) (sb := sb) (sS := sS) (db := db) (dS := dS) (f := f) b i with ⟨-, h2⟩ | ⟨h1, -⟩
        · exact h2
        · exact absurd hb h1
    · rw [Function.update_of_ne e] at ht
      exact hkeep q' t ht b i hb
  · rcases issue_lock (s := s) (q := q) (n := n) (sb := sb) (sS := sS) (db := db) (dS := dS) (f := f) b i with ⟨h1, h2⟩ | ⟨-, h2⟩
    · rw [h2] at hl; cases hl
      exact ⟨_, by rw [Function.update_self]; exact List.mem_append_right _ (List.mem_singleton.mpr rfl), h1⟩
    · rw [h2] at hl
      obtain ⟨t, ht, hb⟩ := h.unlock q' b i hl
      refine ⟨t, ?_, hb⟩
      by_cases e : q' = q
      · subst e; rw [Function.update_self]; exact List.mem_append_left _ ht
      · rw [Function.update_of_ne e]; exact ht
  · by_cases e : q' = q
    · subst e
      rw [Function.update_self] at ht
      rcases List.mem_append.mp ht with ht | ht
      · exact hold q' t ht
      · rw [List.mem_singleton.mp ht]
        refine ⟨fun i _ => ?_, fun i _ => ?_⟩
        · show f i = Function.update s.mem db f db i
          rw [Function.update_self]
        · show s.mem sb i = Function.update s.mem db f sb i
          rw [Function.update_of_ne hne]
    · rw [Function.update_of_ne e] at ht
      exact hold q' t ht

theorem own_issue {s : St sig Val} {q : DmaSem sig} {n : ℕ} {sb : Ref sig .tc} {sS : Finset sb.ty.Idx} {db : Ref sig .tc} {dS : Finset db.ty.Idx}
    {f : db.ty.Contents Val} (hs : Free s sb sS) (hd : Free s db dS) (hne : sb ≠ db) :
    Function.update (Function.update s.own sb (s.own sb \ sS)) db ((Function.update s.own sb (s.own sb \ sS)) db \ dS)
      = (s.issue q n sb sS db dS f).own := by
  funext b
  ext i
  have e : i ∈ (s.issue q n sb sS db dS f).own b ↔ (s.issue q n sb sS db dS f).lock b i = none := by simp [St.own]
  rw [e]
  show _ ↔ mark (mark s.lock sb sS q) db dS q b i = none
  unfold mark
  by_cases h : b = db
  · subst h
    rw [Function.update_self, Function.update_self, Function.update_of_ne hne.symm, Function.update_of_ne hne.symm]
    by_cases hi : i ∈ dS <;> simp [hi, St.own]
  · rw [Function.update_of_ne h, Function.update_of_ne h]
    by_cases h' : b = sb
    · subst h'
      rw [Function.update_self, Function.update_self]
      by_cases hi : i ∈ sS <;> simp [hi, St.own]
    · rw [Function.update_of_ne h', Function.update_of_ne h']
      simp [St.own]

theorem Fits.tick {s : St sig Val} {trs : DmaSem sig → List (Tr sig Val)} (h : Fits s trs) (q : DmaSem sig) (hq : s.sent q ≠ 0) :
    Fits (s.tick q) trs where
  len := h.len
  got q' h0 := by
    show Function.update s.got q _ q' = 0
    by_cases e : q' = q
    · subst e; exact absurd h0 hq
    · rw [Function.update_of_ne e]; exact h.got q' h0
  pos := h.pos
  lock := h.lock
  unlock := h.unlock
  agrees := h.agrees

theorem Fits.land {s : St sig Val} {trs : DmaSem sig → List (Tr sig Val)} (h : Fits s trs) (q : DmaSem sig) :
    Fits (s.land q) (Function.update trs q []) := by
  refine ⟨fun q' => ?_, fun q' h0 => ?_, fun q' h0 => ?_, fun q' t ht b i hb => ?_, fun q' b i hl => ?_, fun q' t ht => ?_⟩
  · show (Function.update trs q _ q').length = Function.update s.sent q _ q'
    by_cases e : q' = q
    · subst e; rw [Function.update_self, Function.update_self]; rfl
    · rw [Function.update_of_ne e, Function.update_of_ne e]; exact h.len q'
  · show Function.update s.got q _ q' = 0
    by_cases e : q' = q
    · subst e; rw [Function.update_self]
    · rw [Function.update_of_ne e]
      have h0' : Function.update s.sent q 0 q' = 0 := h0
      rw [Function.update_of_ne e] at h0'
      exact h.got q' h0'
  · refine h.pos q' fun h0' => h0 ?_
    show Function.update s.sent q 0 q' = 0
    by_cases e : q' = q
    · subst e; rw [Function.update_self]
    · rwa [Function.update_of_ne e]
  · by_cases e : q' = q
    · subst e; rw [Function.update_self] at ht; exact absurd ht List.not_mem_nil
    · rw [Function.update_of_ne e] at ht
      have hl := h.lock q' t ht b i hb
      show (if s.lock b i = some q then none else s.lock b i) = some q'
      rw [if_neg (by rw [hl]; intro h'; cases h'; exact e rfl), hl]
  · have hl' : (if s.lock b i = some q then none else s.lock b i) = some q' := hl
    by_cases hq : s.lock b i = some q
    · rw [if_pos hq] at hl'; cases hl'
    · rw [if_neg hq] at hl'
      have e : q' ≠ q := by rintro rfl; exact hq hl'
      rw [Function.update_of_ne e]
      exact h.unlock q' b i hl'
  · by_cases e : q' = q
    · subst e; rw [Function.update_self] at ht; exact absurd ht List.not_mem_nil
    · rw [Function.update_of_ne e] at ht
      exact h.agrees q' t ht

theorem own_land {s : St sig Val} {trs : DmaSem sig → List (Tr sig Val)} (h : Fits s trs) (q : DmaSem sig) :
    (trs q).foldl (fun S t => t.add S) s.own = (s.land q).own := by
  funext b
  ext i
  rw [mem_foldl_add]
  have e : i ∈ (s.land q).own b ↔ (if s.lock b i = some q then none else s.lock b i) = none := by simp [St.own, St.land]
  have e' : i ∈ s.own b ↔ s.lock b i = none := by simp [St.own]
  rw [e, e']
  constructor
  · rintro (h0 | ⟨t, ht, hb⟩)
    · rw [h0]; simp
    · rw [h.lock q t ht b i hb]; simp
  · intro h0
    by_cases hq : s.lock b i = some q
    · exact .inr (h.unlock q b i hq)
    · rw [if_neg hq] at h0; exact .inl h0

theorem cell_congr {c : Dev nD} {s s' : St sig Val} {trs trs' : DmaSem sig → List (Tr sig Val)} {q : DmaSem sig}
    (h1 : s.sent q = s'.sent q) (h2 : s.got q = s'.got q) (h3 : s.amt q = s'.amt q) (h4 : trs q = trs' q) :
    (cell EC ι cap c s q (trs q) : sProp 𝕄) = cell EC ι cap c s' q (trs' q) := by
  unfold cell; rw [h1, h2, h3, h4]

/-- One semaphore out of those at hand, and back at a new state. -/
theorem cells_turn (c : Dev nD) (K : Finset (DmaSem sig)) (s s' : St sig Val) (trs trs' : DmaSem sig → List (Tr sig Val)) (q : DmaSem sig)
    (hq : q ∈ K) (h : ∀ q', q' ≠ q → s.sent q' = s'.sent q' ∧ s.got q' = s'.got q' ∧ s.amt q' = s'.amt q' ∧ trs q' = trs' q') :
    (bigSep K (fun q => cell EC ι cap c s q (trs q)) : sProp 𝕄)
      ⊢ iprop(cell EC ι cap c s q (trs q) ∗ (cell EC ι cap c s' q (trs' q) -∗ bigSep K (fun q => cell EC ι cap c s' q (trs' q)))) := by
  have e1 : (bigSep K (fun q => cell EC ι cap c s q (trs q)) : sProp 𝕄)
      = iprop(cell EC ι cap c s q (trs q) ∗ bigSep (K.erase q) (fun q => cell EC ι cap c s q (trs q))) :=
    BI.bigSep_erase (Φ := fun q => cell EC ι cap c s q (trs q)) hq
  have e2 : (bigSep K (fun q => cell EC ι cap c s' q (trs' q)) : sProp 𝕄)
      = iprop(cell EC ι cap c s' q (trs' q) ∗ bigSep (K.erase q) (fun q => cell EC ι cap c s' q (trs' q))) :=
    BI.bigSep_erase (Φ := fun q => cell EC ι cap c s' q (trs' q)) hq
  have e3 : (bigSep (K.erase q) (fun q => cell EC ι cap c s q (trs q)) : sProp 𝕄)
      = bigSep (K.erase q) (fun q => cell EC ι cap c s' q (trs' q)) :=
    BI.bigSep_congr fun q' hq' => by
      obtain ⟨a, b, d, e⟩ := h q' (Finset.ne_of_mem_erase hq')
      exact cell_congr EC ι cap a b d e
  rw [e1, e2, e3]
  iintro ⟨H1, H2⟩
  isplitl [H1]; · iexact H1
  iintro H3
  isplitl [H3] <;> iassumption

variable {defs : Defs nD τ sig Val Λ} (𝒱 : Variants) (bd : Option 𝒱.V)

/-- A semaphore with no copy in flight starts a batch. -/
theorem cell_open [Infinite Name] [EC.LandsIn (upEmb : UEmb _ 𝕄)] {c : Dev nD} {s : St sig Val} {trs : DmaSem sig → List (Tr sig Val)} {q : DmaSem sig} (h : Fits s trs) (n : ℕ)
    (hg : s.got q = 0) (ha : s.sent q = 0 ∨ s.amt q = n) :
    (cell EC ι cap c s q (trs q) : sProp 𝕄)
      ⊢ |={Set.univ}=> Transfers.Batched EC (c.tc : Thread nD τ) (.dma q) ι n (cap q) ((trs q).map fun t => t.deliv c) 0 := by
  unfold cell
  by_cases h0 : s.sent q = 0
  · rw [if_pos h0]
    have e : trs q = [] := List.length_eq_zero_iff.mp ((h.len q).trans h0)
    rw [e]
    exact Transfers.batched_alloc EC (c.tc : Thread nD τ) ι n (cap q)
  · rw [if_neg h0, hg, Nat.zero_mul, ha.resolve_left h0]
    iintro H; imodintro; iexact H

theorem cell_idle {c : Dev nD} {s : St sig Val} {q : DmaSem sig} {ts : List (Tr sig Val)} (h : s.sent q = 0) :
    (cell EC ι cap c s q ts : sProp 𝕄) = semVal ((c.tc : Thread nD τ), .dma q) 0 := by unfold cell; exact if_pos h

theorem cell_busy {c : Dev nD} {s : St sig Val} {q : DmaSem sig} {ts : List (Tr sig Val)} (h : s.sent q ≠ 0) :
    (cell EC ι cap c s q ts : sProp 𝕄) = Transfers.Batched EC (c.tc : Thread nD τ) (.dma q) ι (s.amt q) (cap q)
      (ts.map fun t => t.deliv c) (s.got q * s.amt q) := by unfold cell; exact if_neg h

section Steps

variable {α : Type} {Q : α → sProp (MT nD τ sig Ix Val Name U Lvl)} {c : Dev nD} {K : Finset (DmaSem sig)} {s : St sig Val}

theorem step_load {cs : CoreSpace} {sh : Shape} {e : EltTy} {m : Memref sig .tc (.core cs) sh e} {r : LoadRect sh} {hl : m.view.LoadsAt r}
    {k : (r.shape.Idx → Val e) → Prog (TpuEff nD τ sig Val Λ .tc) α} (hf : Free s m.view.ref (m.view.setOn r.set))
    (hk : (World EC ι cap c K s : sProp 𝕄) ⊢ wp frame (wpE defs 𝒱 (c.tc : Thread nD τ) bd) Set.univ (k (m.view.readAt Val r (s.mem m.view.ref))) Q) :
    (World EC ι cap c K s : sProp 𝕄) ⊢ wp frame (wpE defs 𝒱 (c.tc : Thread nD τ) bd) Set.univ (.op (.load m r hl) k) Q := by
  have hl' := wp_load (Ix := Ix) (Name := Name) (U := U) (Lvl := Lvl) (defs := defs) 𝒱 (c.tc : Thread nD τ) bd (Γ := .empty) Set.univ (m := m) (r := r) (hl := hl) (k := k) (Q := Q) (S := s.own m.view.ref) (f := s.mem m.view.ref) (q := fullShare)
        (fun i hi => Finset.mem_filter.mpr ⟨Finset.mem_univ _, hf i hi⟩)
  refine Entails.trans ?_ (wand_elim hl')
  unfold World
  iintro ⟨%trs, %W, %hfit, Hp, Hc, Ho⟩
  ihave Hp' := (pts_read c s.own s.mem m.view.ref) $$ Hp
  icases Hp' with ⟨Hb, Hback⟩
  isplitl [Hb]; · iexact Hb
  iintro Hb
  ihave Hp := Hback $$ Hb
  iapply hk
  unfold World
  iexists trs, W
  isplitr; · ipureintro; exact hfit
  isplitl [Hp]; · iexact Hp
  isplitl [Hc] <;> iassumption

theorem step_store {cs : CoreSpace} {sh : Shape} {e : EltTy} {m : Memref sig .tc (.core cs) sh e} {r : Rect sh} {w : r.shape.Idx → Val e}
    {M : Finset r.shape.Idx} {hx : (m.access r).Stores M} {hm : M = Finset.univ ∨ ∀ a, r.stride a = 1}
    {k : PUnit → Prog (TpuEff nD τ sig Val Λ .tc) α} (hf : Free s (m.access r).ref ((m.access r).setOn M))
    (hk : (World EC ι cap c K (s.put (m.access r).ref ((m.access r).write Val (s.mem (m.access r).ref) w M)) : sProp 𝕄)
      ⊢ wp frame (wpE defs 𝒱 (c.tc : Thread nD τ) bd) Set.univ (k ⟨⟩) Q) :
    (World EC ι cap c K s : sProp 𝕄) ⊢ wp frame (wpE defs 𝒱 (c.tc : Thread nD τ) bd) Set.univ (.op (.store m r w M hx hm) k) Q := by
  have hl' := wp_store (Ix := Ix) (Name := Name) (U := U) (Lvl := Lvl) (defs := defs) 𝒱 (c.tc : Thread nD τ) bd (Γ := .empty) Set.univ (m := m) (r := r) (w := w) (Mk := M) (hx := hx) (hm := hm) (k := k) (Q := Q) (S := s.own (m.access r).ref)
        (f := s.mem (m.access r).ref) (fun i hi => Finset.mem_filter.mpr ⟨Finset.mem_univ _, hf i hi⟩)
  refine Entails.trans ?_ (wand_elim hl')
  unfold World
  iintro ⟨%trs, %W, %hfit, Hp, Hc, Ho⟩
  ihave Hp' := (pts_write c s.own s.mem (m.access r).ref ((m.access r).write Val (s.mem (m.access r).ref) w M)) $$ Hp
  icases Hp' with ⟨Hb, Hback⟩
  isplitl [Hb]; · iexact Hb
  iintro Hb
  ihave Hp := Hback $$ Hb
  iapply hk
  unfold World
  iexists trs, W
  isplitr
  · ipureintro
    exact hfit.put _ _ fun i hi => View.write_of_not_mem _ _ _ fun hin => hi (hf i hin)
  isplitl [Hp]; · iexact Hp
  isplitl [Hc]; · iexact Hc
  iexact Ho

set_option maxHeartbeats 1000000 in
theorem step_issue [Infinite Name] [EC.LandsIn (upEmb : UEmb _ 𝕄)] {sp sp' : Space} {sh₀ sh : Shape} {e₀ e : EltTy} {src : Memref sig .tc sp sh₀ e₀} {dst : Memref sig .tc sp' sh e} {via : ReadAs Val sh₀ e₀ sh e}
    {q : DmaSem sig} {h1 : src.view.WordExact} {h2 : dst.view.WordExact} {h3 : DmaTarget.Typed (nD := nD) (τ := τ) (p := .tc) sp (.dma q) (.here dst)}
    {k : PUnit → Prog (TpuEff nD τ sig Val Λ .tc) α} {F : dst.view.ref.ty.Contents Val}
    (hF : F = dst.view.write Val (s.mem dst.view.ref) (via.apply (src.view.read Val (s.mem src.view.ref))) Finset.univ)
    (hs : Free s src.view.ref src.view.set) (hd : Free s dst.view.ref dst.view.set) (hne : src.view.ref ≠ dst.view.ref)
    (hcap : s.sent q < cap q) (hg : s.got q = 0) (hn : 0 < dst.view.dmaCredit) (ha : s.sent q = 0 ∨ s.amt q = dst.view.dmaCredit)
    (hqK : q ∈ K)
    (hk : (World EC ι cap c K (s.issue q dst.view.dmaCredit src.view.ref src.view.set dst.view.ref dst.view.set F) : sProp 𝕄)
      ⊢ wp frame (wpE defs 𝒱 (c.tc : Thread nD τ) bd) Set.univ (k ⟨⟩) Q) :
    (World EC ι cap c K s : sProp 𝕄) ⊢ wp frame (wpE defs 𝒱 (c.tc : Thread nD τ) bd) Set.univ (.op (.enqueueDmaAs src (.here dst) via (.dma q) h1 h2 h3) k) Q := by
  have hF' : ∀ i, i ∉ dst.view.set → F i = s.mem dst.view.ref i := fun i hi => by rw [hF]; exact View.write_of_not_mem _ _ _ hi
  unfold World
  iintro ⟨%trs, %W, %hfit, Hp, Hc, Ho⟩
  have hfit' := hfit.issue q dst.view.dmaCredit src.view.ref src.view.set dst.view.ref dst.view.set F hs hd hne hn hg hF'
  have hrule := Transfers.wp_dmaBatched (defs := defs) (k := k) (Q := Q) (src := src) (dst := dst) (via := via) (hsrc := h1) (hdst := h2) (hsem := h3)
    EC 𝒱 (c.tc : Thread nD τ) bd ι (m := cap q) dst.view.dmaCredit (View.amount_dma _ q) (Finset.Subset.refl _)
    (Ds := (trs q).map fun t => (t.deliv c : sProp 𝕄)) (u := 0) (q := fullShare) (fs := s.mem src.view.ref) (fd := s.mem dst.view.ref)
    (by rw [List.length_map, hfit.len]; exact hcap) (Nat.zero_le _)
  rw [← hF] at hrule
  ihave Hc' := (cells_turn EC ι cap c K s (s.issue q dst.view.dmaCredit src.view.ref src.view.set dst.view.ref dst.view.set F) trs
    (Function.update trs q (trs q ++ [newTr s src.view.ref src.view.set dst.view.ref dst.view.set F])) q hqK
    (fun q' hq' => ⟨(Function.update_of_ne hq' _ _).symm, rfl, (Function.update_of_ne hq' _ _).symm, (Function.update_of_ne hq' _ _).symm⟩)) $$ Hc
  icases Hc' with ⟨Hq, Hback⟩
  imod (cell_open EC ι cap hfit dst.view.dmaCredit hg ha) $$ Hq with Hq
  ihave Hp' := (pts_take c s.own s.mem src.view.ref (J := src.view.set)
    (fun i hi => Finset.mem_filter.mpr ⟨Finset.mem_univ _, hs i hi⟩)) $$ Hp
  icases Hp' with ⟨Hs, Hp⟩
  ihave Hp' := (pts_take c _ s.mem dst.view.ref (J := dst.view.set)
    (fun i hi => by
      rw [Function.update_of_ne hne.symm]
      exact Finset.mem_filter.mpr ⟨Finset.mem_univ _, hd i hi⟩)) $$ Hp
  icases Hp' with ⟨Hd, Hp⟩
  iapply hrule $$ [Hs Hd Hq]
  · isplitl [Hs]; · iexact Hs
    isplitl [Hd]; · iexact Hd
    iexact Hq
  iintro Hq
  iapply hk
  unfold World
  iexists _, W
  isplitr; · ipureintro; exact hfit'
  isplitl [Hp]
  · have e1 : (pts c (Function.update (Function.update s.own src.view.ref (s.own src.view.ref \ src.view.set)) dst.view.ref
        ((Function.update s.own src.view.ref (s.own src.view.ref \ src.view.set)) dst.view.ref \ dst.view.set)) s.mem : sProp 𝕄)
        ⊢ pts c (s.issue q dst.view.dmaCredit src.view.ref src.view.set dst.view.ref dst.view.set F).own
            (s.issue q dst.view.dmaCredit src.view.ref src.view.set dst.view.ref dst.view.set F).mem := by
      refine (pts_congr c ?_).trans (pts_sets c (own_issue hs hd hne))
      intro b i hi
      show _ = Function.update s.mem dst.view.ref F b i
      by_cases e : b = dst.view.ref
      · subst e
        rw [Function.update_self] at hi
        rw [Function.update_self]
        exact (hF' i (Finset.mem_sdiff.mp hi).2).symm
      · rw [Function.update_of_ne e]
    iapply e1; iexact Hp
  isplitl [Hq Hback]
  · iapply Hback
    have e2 : (s.issue q dst.view.dmaCredit src.view.ref src.view.set dst.view.ref dst.view.set F).sent q ≠ 0 := by
      show Function.update s.sent q _ q ≠ 0
      rw [Function.update_self]; omega
    have e3 : (s.issue q dst.view.dmaCredit src.view.ref src.view.set dst.view.ref dst.view.set F).amt q = dst.view.dmaCredit := Function.update_self ..
    have e4 : (s.issue q dst.view.dmaCredit src.view.ref src.view.set dst.view.ref dst.view.set F).got q = 0 := hg
    rw [cell_busy EC ι cap e2, e3, e4, Function.update_self, List.map_append, Nat.zero_mul]
    iexact Hq
  · iexact Ho

theorem step_tick [EC.LandsIn (upEmb : UEmb _ 𝕄)] {κ : Kind} {q : DmaSem sig} {b : Ref sig κ} {sh : Shape} {e : EltTy} {hk' : (Proc.tc : Proc τ) = .tc ∨ b.HasMemref sh e}
    {k : PUnit → Prog (TpuEff nD τ sig Val Λ .tc) α} (hsent : s.sent q = cap q) (hamt : s.amt q = b.dmaCredit sh e)
    (hg : s.got q + 1 < cap q) (hqK : q ∈ K)
    (hk : (World EC ι cap c K (s.tick q) : sProp 𝕄) ⊢ wp frame (wpE defs 𝒱 (c.tc : Thread nD τ) bd) Set.univ (k ⟨⟩) Q) :
    (World EC ι cap c K s : sProp 𝕄) ⊢ wp frame (wpE defs 𝒱 (c.tc : Thread nD τ) bd) Set.univ (.op (.waitDma q b sh e hk') k) Q := by
  have h0 : s.sent q ≠ 0 := by omega
  unfold World
  iintro ⟨%trs, %W, %hfit, Hp, Hc, Ho⟩
  have hlen : ((trs q).map fun t => (t.deliv c : sProp 𝕄)).length = cap q := by rw [List.length_map, hfit.len, hsent]
  have hpos := hfit.pos q h0
  have hrule := Transfers.wp_waitBatchedSized (defs := defs) (k := k) (Q := Q) (W := W) (sem := q) (hk := hk') EC 𝒱 (c.tc : Thread nD τ) bd ι (N := s.amt q) hamt.symm hlen (u := s.got q * s.amt q)
    (by have : (s.got q + 1) * s.amt q < cap q * s.amt q := Nat.mul_lt_mul_of_pos_right hg hpos
        rw [Nat.mul_comm (s.amt q) (cap q)]; rw [Nat.add_mul] at this; omega)
  ihave Hc' := (cells_turn EC ι cap c K s (s.tick q) trs trs q hqK
      (fun q' hq' => ⟨rfl, (Function.update_of_ne hq' _ _).symm, rfl, rfl⟩)) $$ Hc
  icases Hc' with ⟨Hq, Hback⟩
  ihave Hq := (Entails.of_eq (cell_busy EC ι cap (c := c) (ts := trs q) h0)) $$ Hq
  iapply hrule $$ [Hq Ho]
  · isplitl [Hq]; · iexact Hq
    iexact Ho
  iintro ⟨Hq, Ho⟩
  iapply hk
  unfold World
  iexists trs, _
  isplitr; · ipureintro; exact hfit.tick q h0
  isplitl [Hp]; · iexact Hp
  isplitl [Hq Hback]
  · iapply Hback
    have e2 : (cell EC ι cap c (s.tick q) q (trs q) : sProp 𝕄) = _ := cell_busy EC ι cap (show (s.tick q).sent q ≠ 0 from h0)
    rw [show (s.tick q).got q = s.got q + 1 from Function.update_self .., Nat.add_mul, Nat.one_mul] at e2
    iapply (Entails.of_eq e2.symm); iexact Hq
  · iexact Ho

theorem step_land [EC.LandsIn (upEmb : UEmb _ 𝕄)] {κ : Kind} {q : DmaSem sig} {b : Ref sig κ} {sh : Shape} {e : EltTy} {hk' : (Proc.tc : Proc τ) = .tc ∨ b.HasMemref sh e}
    {k : PUnit → Prog (TpuEff nD τ sig Val Λ .tc) α} (hsent : s.sent q = cap q) (hamt : s.amt q = b.dmaCredit sh e)
    (hg : s.got q + 1 = cap q) (hqK : q ∈ K)
    (hk : (World EC ι cap c K (s.land q) : sProp 𝕄) ⊢ wp frame (wpE defs 𝒱 (c.tc : Thread nD τ) bd) Set.univ (k ⟨⟩) Q) :
    (World EC ι cap c K s : sProp 𝕄) ⊢ wp frame (wpE defs 𝒱 (c.tc : Thread nD τ) bd) Set.univ (.op (.waitDma q b sh e hk') k) Q := by
  have h0 : s.sent q ≠ 0 := by omega
  unfold World
  iintro ⟨%trs, %W, %hfit, Hp, Hc, Ho⟩
  have hlen : ((trs q).map fun t => (t.deliv c : sProp 𝕄)).length = cap q := by rw [List.length_map, hfit.len, hsent]
  have hpos := hfit.pos q h0
  have hrule := Transfers.wp_waitBatchedAllSized (defs := defs) (k := k) (Q := Q) (W := W) (sem := q) (hk := hk') EC 𝒱 (c.tc : Thread nD τ) bd ι (N := s.amt q) (J := s.amt q) hamt.symm hpos hlen (u := s.got q * s.amt q)
    (by rw [← hg, Nat.mul_comm (s.amt q), Nat.add_mul, Nat.one_mul])
  ihave Hc' := (cells_turn EC ι cap c K s (s.land q) trs (Function.update trs q []) q hqK
      (fun q' hq' => ⟨(Function.update_of_ne hq' _ _).symm, (Function.update_of_ne hq' _ _).symm, rfl, (Function.update_of_ne hq' _ _).symm⟩)) $$ Hc
  icases Hc' with ⟨Hq, Hback⟩
  ihave Hq := (Entails.of_eq (cell_busy EC ι cap (c := c) (ts := trs q) h0)) $$ Hq
  iapply hrule $$ [Hq Ho]
  · isplitl [Hq]; · iexact Hq
    iexact Ho
  iintro ⟨Hd, Hq, Ho⟩
  have e1 : (bigSep Finset.univ (Transfers.deliv (m := cap q) ((trs q).map fun t => (t.deliv c : sProp 𝕄))) : sProp 𝕄) ⊢ BI.bigSepL (trs q) (fun t => t.deliv c) := by
    rw [Transfers.bigSep_pending_zero]; exact deliv_list c (trs q) ((hfit.len q).trans hsent) (cap q) 0 (Nat.zero_add _)
  ihave Hd' := e1 $$ Hd
  iapply hk
  unfold World
  iexists _, _
  isplitr; · ipureintro; exact hfit.land q
  isplitl [Hp Hd']
  · iapply (pts_sets c (own_land hfit q))
    iapply (pts_landAll c s.mem (trs q) s.own (hfit.agrees q))
    isplitl [Hp]; · iexact Hp
    iexact Hd'
  isplitl [Hq Hback]
  · iapply Hback
    iapply (Entails.of_eq (cell_idle EC ι cap (c := c) (ts := Function.update trs q [] q) (show (s.land q).sent q = 0 from Function.update_self ..)).symm)
    iexact Hq
  · iexact Ho

end Steps

/-- A program that respects the locks runs, and ends as it says. -/
theorem sound [Infinite Name] [EC.LandsIn (upEmb : UEmb _ 𝕄)] (c : Dev nD) (K : Finset (DmaSem sig)) (hK : ∀ q, cap q ≠ 0 → q ∈ K) {α : Type}
    (p : Prog (TpuEff nD τ sig Val Λ .tc) α) :
    ∀ (s : St sig Val) (Q : α → St sig Val → Prop), Safe cap p s Q →
      (World EC ι cap c K s : sProp 𝕄)
        ⊢ wp frame (wpE defs 𝒱 (c.tc : Thread nD τ) bd) Set.univ p (fun a => iprop(∃ s', ⌜Q a s'⌝ ∗ World EC ι cap c K s')) := by
  induction p with
  | ret a =>
    intro s Q h
    rw [Sem.wp_ret]
    iintro H
    imodintro
    iexists s
    isplitr
    · ipureintro; exact h
    · iexact H
  | op e k ih =>
    intro s Q h
    cases e with
    | load m r hl => exact step_load EC ι cap 𝒱 bd h.1 (ih _ s Q h.2)
    | store m r w M hx hm => exact step_store EC ι cap 𝒱 bd h.1 (ih _ _ Q h.2)
    | enqueueDmaAs src tgt via sem h1 h2 h3 =>
      cases tgt with
      | here dst =>
        cases sem with
        | dma q =>
          obtain ⟨hs, hd, hne, hcap, hg, hn, ha, hk⟩ := h
          exact step_issue EC ι cap 𝒱 bd rfl hs hd hne hcap hg hn ha (hK q (by omega)) (ih _ _ Q hk)
        | reg q => exact h.elim
      | remote c' dst ss hd => exact (by cases sem <;> exact h.elim)
    | waitDma q b sh e hk' =>
      obtain ⟨hsent, hamt, ⟨hg, hk⟩ | ⟨hg, hk⟩⟩ := h
      · exact step_tick EC ι cap 𝒱 bd hsent hamt hg (hK q (by omega)) (ih _ _ Q hk)
      · exact step_land EC ι cap 𝒱 bd hsent hamt hg (hK q (by omega)) (ih _ _ Q hk)
    | _ => exact h.elim

end Sound

end Safe
-- ==== Proof.Sched.lean ====
/-
  A timetable for a program with asynchronous copies.

  A program is summarised by a list of entries: the regions it reads and writes, the copies it starts, the waits. A region
  is a box of a numbered buffer, a semaphore is a number, so that whether the entries respect the copies in flight is a
  computation (`runs`). `Abs p ops` says that `p` is safe wherever its entries run, and that it ends in what the program
  computes when every copy is carried out at once (`eval`).
-/
module

public import proofs.«01_k».proof.Proof.Safe

@[expose] public section

noncomputable section

namespace Safe

open Idealize.ShloMosaic Idealize.SL.Sem

variable {nD : Nat} {τ : Topo} {sig : RefSig} {Val : EltTy → Type} {Λ : Labels}

/-- What every buffer holds. -/
abbrev Mem (sig : RefSig) (Val : EltTy → Type) := (b : Ref sig .tc) → b.ty.Contents Val

/-! ## What a program computes -/

/-- One operation, copies carried out at once. -/
def stepEval : {β : Type} → TpuEff nD τ sig Val Λ .tc β → Mem sig Val → Option (β × Mem sig Val)
  | _, .load m r _, s => some (m.view.readAt Val r (s m.view.ref), s)
  | _, .store m r w M _ _, s =>
      some (⟨⟩, Function.update s (m.access r).ref ((m.access r).write Val (s (m.access r).ref) w M))
  | _, .enqueueDmaAs src (.here dst) via (.dma _) _ _ _, s =>
      some (⟨⟩, Function.update s dst.view.ref (dst.view.write Val (s dst.view.ref) (via.apply (src.view.read Val (s src.view.ref))) Finset.univ))
  | _, .waitDma _ _ _ _ _, s => some (⟨⟩, s)
  | _, _, _ => none

/-- The answer and the memory a program ends with. -/
def eval {α : Type} : Prog (TpuEff nD τ sig Val Λ .tc) α → Mem sig Val → Option (α × Mem sig Val)
  | .ret a, s => some (a, s)
  | .op e k, s => (stepEval e s).bind fun x => eval (k x.1) x.2

theorem eval_bind {α β : Type} (p : Prog (TpuEff nD τ sig Val Λ .tc) α) (k : α → Prog (TpuEff nD τ sig Val Λ .tc) β) : ∀ s : Mem sig Val,
    eval (p >>= k) s = (eval p s).bind fun x => eval (k x.1) x.2 := by
  induction p with
  | ret a => exact fun s => rfl
  | op e c ih =>
    intro s
    show (stepEval e s).bind (fun x => eval (c x.1 >>= k) x.2) = ((stepEval e s).bind fun x => eval (c x.1) x.2).bind _
    cases stepEval e s with
    | none => rfl
    | some x => exact ih x.1 x.2

/-! ## Regions, copies, entries -/

/-- A number for every buffer. -/
def code (b : Ref sig .tc) : ℕ := (match b.space with | .hbm => 0 | .vmem => 1000 | .smem => 2000 | _ => 3000) + b.idx.val

/-- A box of a buffer; axes the list does not reach are whole. -/
structure Reg where
  buf : ℕ
  iv : List (ℕ × ℕ)

/-- The element lies in the region. -/
def Reg.Has (r : Reg) (b : Ref sig .tc) (i : b.ty.Idx) : Prop :=
  code b = r.buf ∧ ∀ (k : ℕ) (p : ℕ × ℕ), r.iv[k]? = some p → ∃ h : k < b.ty.shape.rank, p.1 ≤ (i ⟨k, h⟩ : ℕ) ∧ (i ⟨k, h⟩ : ℕ) < p.2

/-- Two regions that differ in the buffer or along some axis. -/
def Reg.sep (r r' : Reg) : Bool :=
  !(Nat.beq r.buf r'.buf) || (r.iv.zip r'.iv).any fun x => Nat.ble x.1.2 x.2.1 || Nat.ble x.2.2 x.1.1

theorem Reg.sep_sound {r r' : Reg} (hs : r.sep r' = true) {b : Ref sig .tc} {i : b.ty.Idx} (h : r.Has b i) (h' : r'.Has b i) : False := by
  unfold Reg.sep at hs
  rw [Bool.or_eq_true] at hs
  rcases hs with hs | hs
  · have : r.buf = r'.buf := h.1.symm.trans h'.1
    rw [this] at hs
    simp at hs
  · rw [List.any_eq_true] at hs
    obtain ⟨x, hx, hb⟩ := hs
    obtain ⟨k, hk⟩ := List.mem_iff_getElem?.mp hx
    rw [List.getElem?_zip_eq_some] at hk
    obtain ⟨h1, h2, h3⟩ := h.2 k _ hk.1
    obtain ⟨h1', h2', h3'⟩ := h'.2 k _ hk.2
    rw [Bool.or_eq_true, Nat.ble_eq, Nat.ble_eq] at hb
    omega

/-- A copy in flight. -/
structure Fl where
  q : ℕ
  src : Reg
  dst : Reg

/-- An entry of the timetable. -/
inductive Ent where
  | touch (rs : List Reg)
  | start (f : Fl)
  | wait (q : ℕ)

/-- The copies in flight and the waits seen on semaphores that await more. -/
structure Abst where
  fl : List Fl
  got : List ℕ

def Fl.clear (f : Fl) (r : Reg) : Bool := r.sep f.src && r.sep f.dst

/-- How many copies are in flight on a semaphore. -/
def Abst.sent (A : Abst) (q : ℕ) : ℕ := A.fl.countP fun f => Nat.beq f.q q
def Abst.seen (A : Abst) (q : ℕ) : ℕ := A.got.countP fun x => Nat.beq x q

/-- One entry. -/
def Ent.run (cap : ℕ → ℕ) : Ent → Abst → Option Abst
  | .touch rs, A => if (rs.all fun r => A.fl.all fun f => f.clear r) = true then some A else none
  | .start f, A =>
      if (!(Nat.beq f.src.buf f.dst.buf) && (A.fl.all fun g => g.clear f.src && g.clear f.dst)
          && Nat.blt (A.sent f.q) (cap f.q) && Nat.beq (A.seen f.q) 0) = true then some ⟨f :: A.fl, A.got⟩ else none
  | .wait q, A =>
      if Nat.beq (A.sent q) (cap q) = true then
        if Nat.blt (A.seen q + 1) (cap q) = true then some ⟨A.fl, q :: A.got⟩
        else if Nat.beq (A.seen q + 1) (cap q) = true then
          some ⟨A.fl.filter fun f => !(Nat.beq f.q q), A.got.filter fun x => !(Nat.beq x q)⟩
        else none
      else none

/-- The whole timetable. -/
def runs (cap : ℕ → ℕ) : List Ent → Abst → Option Abst
  | [], A => some A
  | e :: es, A => (e.run cap A).bind (runs cap es)

theorem runs_append (cap : ℕ → ℕ) : ∀ (es fs : List Ent) (A : Abst), runs cap (es ++ fs) A = (runs cap es A).bind (runs cap fs)
  | [], fs, A => rfl
  | e :: es, fs, A => by
    show (e.run cap A).bind (runs cap (es ++ fs)) = ((e.run cap A).bind (runs cap es)).bind (runs cap fs)
    cases e.run cap A with
    | none => rfl
    | some B => exact runs_append cap es fs B

/-- The entry does not write the buffer. -/
def Ent.quiet (n : ℕ) : Ent → Bool
  | .touch rs => rs.all fun r => !(Nat.beq r.buf n)
  | .start f => !(Nat.beq f.dst.buf n)
  | .wait _ => true

/-- A state that is as the timetable says. -/
structure Rel (amtOf : ℕ → ℕ) (A : Abst) (s : St sig Val) : Prop where
  lock : ∀ b i q, s.lock b i = some q → ∃ f ∈ A.fl, f.q = q.val ∧ (f.src.Has b i ∨ f.dst.Has b i)
  sent : ∀ q, s.sent q = A.sent q.val
  got : ∀ q, s.got q = A.seen q.val
  amt : ∀ q, s.sent q ≠ 0 → s.amt q = amtOf q.val

section
variable {amtOf cap : ℕ → ℕ}

theorem Rel.free {A : Abst} {s : St sig Val} (h : Rel amtOf A s) {b : Ref sig .tc} {S : Finset b.ty.Idx}
    (hS : ∀ i ∈ S, ∃ r : Reg, (A.fl.all fun f => f.clear r) = true ∧ r.Has b i) : Free s b S := by
  intro i hi
  cases hl : s.lock b i with
  | none => rfl
  | some q =>
    obtain ⟨r, hr, hb⟩ := hS i hi
    obtain ⟨f, hf, -, hx⟩ := h.lock b i q hl
    have := List.all_eq_true.mp hr f hf
    unfold Fl.clear at this
    rw [Bool.and_eq_true] at this
    exact (hx.elim (Reg.sep_sound this.1 hb) (Reg.sep_sound this.2 hb)).elim

theorem Rel.setMem {A : Abst} {s : St sig Val} (h : Rel amtOf A s) (b : Ref sig .tc) (f : b.ty.Contents Val) : Rel amtOf A (s.put b f) :=
  ⟨h.lock, h.sent, h.got, h.amt⟩

/-! ## A program and its entries -/

/-- Wherever its entries run the program is safe, ends as they say and with what it computes. -/
def Abs (amtOf cap : ℕ → ℕ) {α : Type} (p : Prog (TpuEff nD τ sig Val Λ .tc) α) (ops : List Ent) : Prop :=
  ∀ A A', runs cap ops A = some A' → ∀ s : St sig Val, Rel amtOf A s →
    Safe (fun q => cap q.val) p s fun a s' => Rel amtOf A' s' ∧ eval p s.mem = some (a, s'.mem)
      ∧ ∀ b, (ops.all (Ent.quiet (code b))) = true → s'.mem b = s.mem b

theorem Abs.ret {α : Type} (a : α) : Abs amtOf cap (.ret a : Prog (TpuEff nD τ sig Val Λ .tc) α) [] := by
  intro A A' h s hs
  obtain rfl : A = A' := Option.some.inj h
  exact ⟨hs, rfl, fun _ _ => rfl⟩

theorem Abs.bind {α β : Type} {p : Prog (TpuEff nD τ sig Val Λ .tc) α} {k : α → Prog (TpuEff nD τ sig Val Λ .tc) β} {o o' : List Ent} (hp : Abs amtOf cap p o) (hk : ∀ a, Abs amtOf cap (k a) o') :
    Abs amtOf cap (p >>= k) (o ++ o') := by
  intro A A' h s hs
  rw [runs_append] at h
  cases hB : runs cap o A with
  | none => rw [hB] at h; exact absurd h (by simp)
  | some B =>
    rw [hB] at h
    refine Safe.bind ((hp A B hB s hs).mono fun a s' ha => ?_)
    refine (hk a B A' h s' ha.1).mono fun b s'' hb => ⟨hb.1, ?_, fun b hq => ?_⟩
    · rw [eval_bind, ha.2.1]; exact hb.2.1
    · rw [List.all_append, Bool.and_eq_true] at hq
      exact (hb.2.2 b hq.2).trans (ha.2.2 b hq.1)

/-- A program that only loads and stores, inside the regions. -/
def stepLocal (rs : List Reg) : {β : Type} → TpuEff nD τ sig Val Λ .tc β → Prop
  | _, .load m r _ => ∀ i ∈ m.view.setOn r.set, ∃ g ∈ rs, g.Has m.view.ref i
  | _, .store m r _ M _ _ => ∀ i ∈ (m.access r).setOn M, ∃ g ∈ rs, g.Has (m.access r).ref i
  | _, _ => False

def Local (rs : List Reg) {α : Type} : Prog (TpuEff nD τ sig Val Λ .tc) α → Prop
  | .ret _ => True
  | .op e k => stepLocal rs e ∧ ∀ x, Local rs (k x)

theorem Local.bind {rs : List Reg} {α β : Type} {p : Prog (TpuEff nD τ sig Val Λ .tc) α} {k : α → Prog (TpuEff nD τ sig Val Λ .tc) β} (hp : Local rs p) (hk : ∀ a, Local rs (k a)) : Local rs (p >>= k) := by
  induction p with
  | ret a => exact hk a
  | op e c ih => exact ⟨hp.1, fun x => ih x (hp.2 x)⟩

theorem Abs.local {rs : List Reg} {α : Type} {p : Prog (TpuEff nD τ sig Val Λ .tc) α} (hp : Local rs p) : Abs amtOf cap p [.touch rs] := by
  intro A A' h
  have h' : (if (rs.all fun r => A.fl.all fun f => f.clear r) = true then some A else none).bind (runs cap []) = some A' := h
  by_cases hc : (rs.all fun r => A.fl.all fun f => f.clear r) = true
  swap
  · rw [if_neg hc] at h'; exact absurd h' (by simp)
  rw [if_pos hc] at h'
  obtain rfl : A = A' := Option.some.inj h'
  have hfree : ∀ (s : St sig Val), Rel amtOf A s → ∀ (b : Ref sig .tc) (S : Finset b.ty.Idx), (∀ i ∈ S, ∃ g ∈ rs, g.Has b i) → Free s b S :=
    fun s hs b S hS => hs.free fun i hi => by
      obtain ⟨g, hg, hb⟩ := hS i hi
      exact ⟨g, List.all_eq_true.mp hc g hg, hb⟩
  clear h h'
  induction p with
  | ret a => exact fun s hs => ⟨hs, rfl, fun _ _ => rfl⟩
  | op e k ih =>
    intro s hs
    cases e with
    | load m r hl =>
      exact ⟨hfree s hs _ _ hp.1, (ih _ (hp.2 _) s hs).mono fun a s' ha => ha⟩
    | store m r w M hx hm =>
      refine ⟨hfree s hs _ _ hp.1, (ih _ (hp.2 _) _ (hs.setMem _ _)).mono fun a s' ha => ⟨ha.1, ha.2.1, fun b hq => (ha.2.2 b hq).trans ?_⟩⟩
      show Function.update s.mem (m.access r).ref _ b = _
      by_cases e : b = (m.access r).ref
      · subst e
        rw [Function.update_self]
        funext i
        refine View.write_of_not_mem _ _ _ fun hi => ?_
        obtain ⟨g, hg, hb⟩ := hp.1 i hi
        have hq' : (rs.all fun r' => !(Nat.beq r'.buf (code (m.access r).ref))) = true := by
          have h1 : (([Ent.touch rs] : List Ent).all (Ent.quiet (code (m.access r).ref))) = true := hq
          rw [List.all_cons, List.all_nil, Bool.and_true] at h1
          exact h1
        have := List.all_eq_true.mp hq' g hg
        rw [hb.1] at this
        simp at this
      · rw [Function.update_of_ne e]
    | _ => exact hp.1.elim

/-- What starting a copy asks of its entry. -/
structure Fl.Fits {sp sp' : Space} {s : Shape} {e : EltTy} (f : Fl) (src : Memref sig .tc sp s e) (dst : Memref sig .tc sp' s e) (q : DmaSem sig)
    (amtOf : ℕ → ℕ) : Prop where
  q : q.val = f.q
  srcBuf : code src.view.ref = f.src.buf
  dstBuf : code dst.view.ref = f.dst.buf
  srcHas : ∀ i ∈ src.view.set, f.src.Has src.view.ref i
  dstHas : ∀ i ∈ dst.view.set, f.dst.Has dst.view.ref i
  amt : dst.view.dmaCredit = amtOf f.q
  pos : 0 < amtOf f.q

theorem Abs.start {sp sp' : Space} {sh : Shape} {e : EltTy} {src : Memref sig .tc sp sh e} {dst : Memref sig .tc sp' sh e} {q : DmaSem sig}
    {hsrc hdst hsem} {f : Fl} (hf : f.Fits src dst q amtOf) :
    Abs amtOf cap (Prog.lift (.enqueueDma src (.here dst) (.dma q) hsrc hdst hsem) : Prog (TpuEff nD τ sig Val Λ .tc) PUnit) [.start f] := by
  intro A A' h s hs
  have h' : ((Ent.start f).run cap A).bind (runs cap []) = some A' := h
  unfold Ent.run at h'
  dsimp only at h'
  split at h'
  swap
  · exact absurd h' (by simp)
  rename_i hc
  obtain rfl : (⟨f :: A.fl, A.got⟩ : Abst) = A' := Option.some.inj h'
  simp only [Bool.and_eq_true, Bool.not_eq_true', Nat.blt_eq, Nat.beq_eq] at hc
  obtain ⟨⟨⟨hne, hcl⟩, hcap⟩, hseen⟩ := hc
  have hcl' := List.all_eq_true.mp hcl
  have hfs : Free s src.view.ref src.view.set := hs.free fun i hi => ⟨f.src, List.all_eq_true.mpr fun g hg => (Bool.and_eq_true _ _ ▸ hcl' g hg).1, hf.srcHas i hi⟩
  have hfd : Free s dst.view.ref dst.view.set := hs.free fun i hi => ⟨f.dst, List.all_eq_true.mpr fun g hg => (Bool.and_eq_true _ _ ▸ hcl' g hg).2, hf.dstHas i hi⟩
  have hq := hf.q
  refine ⟨hfs, hfd, ?_, ?_, ?_, ?_, ?_, ?_, rfl, fun b hb => ?_⟩
  · intro e
    have : f.src.buf = f.dst.buf := by rw [← hf.srcBuf, ← hf.dstBuf, e]
    rw [this] at hne
    simp at hne
  · show s.sent q < cap q.val
    rw [hs.sent, hq]; exact hcap
  · rw [hs.got, hq]; exact hseen
  · rw [hf.amt]; exact hf.pos
  · by_cases h0 : s.sent q = 0
    · exact .inl h0
    · exact .inr (by rw [hs.amt q h0, hf.amt, hq])
  · refine ⟨fun b i q' hl => ?_, fun q' => ?_, fun q' => ?_, fun q' h0 => ?_⟩
    · rcases issue_lock (s := s) (q := q) (n := dst.view.dmaCredit) (sb := src.view.ref) (sS := src.view.set) (db := dst.view.ref) (dS := dst.view.set)
        (f := dst.view.write Val (s.mem dst.view.ref) (ReadAs.same.apply (src.view.read Val (s.mem src.view.ref))) Finset.univ) b i with ⟨h1, h2⟩ | ⟨-, h2⟩
      · rw [hl] at h2
        obtain rfl : q' = q := Option.some.inj h2
        refine ⟨f, List.mem_cons_self, hf.q.symm, ?_⟩
        rcases h1 with ⟨j, hj, e⟩ | ⟨j, hj, e⟩
        · cases e; exact .inr (hf.dstHas _ hj)
        · cases e; exact .inl (hf.srcHas _ hj)
      · rw [hl] at h2
        obtain ⟨g, hg, hx⟩ := hs.lock b i q' h2.symm
        exact ⟨g, List.mem_cons_of_mem _ hg, hx⟩
    · show Function.update s.sent q (s.sent q + 1) q' = _
      unfold Abst.sent
      by_cases e : q' = q
      · subst e
        rw [Function.update_self, hs.sent, List.countP_cons_of_pos (by simp [hq])]; rfl
      · rw [Function.update_of_ne e, List.countP_cons_of_neg]
        · exact hs.sent q'
        · rw [Nat.beq_eq, ← hq]
          exact fun h => e (Fin.ext h.symm)
    · exact hs.got q'
    · show Function.update s.amt q dst.view.dmaCredit q' = _
      by_cases e : q' = q
      · subst e
        rw [Function.update_self, hf.amt, hq]
      · rw [Function.update_of_ne e]
        refine hs.amt q' fun h => h0 ?_
        show Function.update s.sent q (s.sent q + 1) q' = 0
        rwa [Function.update_of_ne e]
  · show Function.update s.mem dst.view.ref _ b = s.mem b
    refine Function.update_of_ne (fun e => ?_) _ _
    have h1 : (([Ent.start f] : List Ent).all (Ent.quiet (code b))) = true := hb
    rw [List.all_cons, List.all_nil, Bool.and_true] at h1
    have h2 : (!(Nat.beq f.dst.buf (code b))) = true := h1
    rw [e, ← hf.dstBuf] at h2
    simp at h2

theorem Abs.wait {q : DmaSem sig} {κ : Kind} {b : Ref sig κ} {sh : Shape} {e : EltTy} {hk} {n : ℕ} (hq : q.val = n) (hamt : b.dmaCredit sh e = amtOf n) :
    Abs amtOf cap (Prog.lift (.waitDma q b sh e hk) : Prog (TpuEff nD τ sig Val Λ .tc) PUnit) [.wait n] := by
  subst hq
  intro A A' h s hs
  have h' : ((Ent.wait q.val).run cap A).bind (runs cap []) = some A' := h
  unfold Ent.run at h'
  dsimp only at h'
  split at h'
  swap
  · exact absurd h' (by simp)
  rename_i hsent
  rw [Nat.beq_eq] at hsent
  have h1 : s.sent q = cap q.val := (hs.sent q).trans hsent
  have key : s.got q + 1 ≤ cap q.val → s.amt q = b.dmaCredit sh e := fun hle => by
    rw [hs.amt q (by omega), hamt]
  split at h'
  · rename_i hlt
    rw [Nat.blt_eq] at hlt
    obtain rfl : (⟨A.fl, q.val :: A.got⟩ : Abst) = A' := Option.some.inj h'
    have hlt' : s.got q + 1 < cap q.val := by rw [hs.got q]; exact hlt
    refine ⟨h1, key hlt'.le, .inl ⟨hlt', ⟨hs.lock, hs.sent, fun q' => ?_, hs.amt⟩, rfl, fun _ _ => rfl⟩⟩
    show Function.update s.got q (s.got q + 1) q' = _
    unfold Abst.seen
    by_cases e : q' = q
    · subst e
      rw [Function.update_self, hs.got, List.countP_cons_of_pos (by simp)]; rfl
    · rw [Function.update_of_ne e, List.countP_cons_of_neg]
      · exact hs.got q'
      · rw [Nat.beq_eq]; exact fun h => e (Fin.ext h.symm)
  · split at h'
    swap
    · exact absurd h' (by simp)
    rename_i heq
    rw [Nat.beq_eq] at heq
    obtain rfl : (⟨A.fl.filter fun f => !(Nat.beq f.q q.val), A.got.filter fun x => !(Nat.beq x q.val)⟩ : Abst) = A' := Option.some.inj h'
    have heq' : s.got q + 1 = cap q.val := by rw [hs.got q]; exact heq
    refine ⟨h1, key heq'.le, .inr ⟨heq', ⟨fun b i q' hl => ?_, fun q' => ?_, fun q' => ?_, fun q' h0 => ?_⟩, rfl, fun _ _ => rfl⟩⟩
    · have hl' : (if s.lock b i = some q then none else s.lock b i) = some q' := hl
      split at hl'
      · exact absurd hl' (by simp)
      rename_i hne
      obtain ⟨f, hf, hfq, hx⟩ := hs.lock b i q' hl'
      refine ⟨f, List.mem_filter.mpr ⟨hf, ?_⟩, hfq, hx⟩
      rw [Bool.not_eq_true', ← Bool.not_eq_true, Nat.beq_eq, hfq]
      intro e
      exact hne (by rw [hl', Fin.ext e])
    · show Function.update s.sent q 0 q' = _
      unfold Abst.sent
      rw [List.countP_filter]
      by_cases e : q' = q
      · subst e
        rw [Function.update_self]
        symm
        rw [List.countP_eq_zero]
        intro f _; simp
      · rw [Function.update_of_ne e, hs.sent]
        refine List.countP_congr fun f _ => ?_
        have : q'.val ≠ q.val := fun h => e (Fin.ext h)
        simp only [Nat.beq_eq, Bool.and_eq_true, Bool.not_eq_true', ← Bool.not_eq_true]
        omega
    · show Function.update s.got q 0 q' = _
      unfold Abst.seen
      rw [List.countP_filter]
      by_cases e : q' = q
      · subst e
        rw [Function.update_self]
        symm
        rw [List.countP_eq_zero]
        intro f _; simp
      · rw [Function.update_of_ne e, hs.got]
        refine List.countP_congr fun f _ => ?_
        have : q'.val ≠ q.val := fun h => e (Fin.ext h)
        simp only [Nat.beq_eq, Bool.and_eq_true, Bool.not_eq_true', ← Bool.not_eq_true]
        omega
    · have h0' : Function.update s.sent q 0 q' ≠ 0 := h0
      by_cases e : q' = q
      · subst e; rw [Function.update_self] at h0'; exact absurd rfl h0'
      · rw [Function.update_of_ne e] at h0'; exact hs.amt q' h0'

end

/-! ## Regions of the accesses -/

/-- The whole buffer. -/
def Reg.all (b : Ref sig .tc) : Reg := ⟨code b, []⟩

theorem Reg.has_all (b : Ref sig .tc) (i : b.ty.Idx) : (Reg.all b).Has b i := ⟨rfl, fun k p h => absurd h (by simp [Reg.all])⟩

/-- A rectangle's elements lie in every box that its bounds lie in. -/
theorem Reg.has_unit {b : Ref sig .tc} {off size : Fin b.ty.shape.rank → ℕ} {inb} {iv : List (ℕ × ℕ)}
    (hiv : ∀ (k : ℕ) (p : ℕ × ℕ), iv[k]? = some p → ∃ h : k < b.ty.shape.rank, p.1 ≤ off ⟨k, h⟩ ∧ off ⟨k, h⟩ + size ⟨k, h⟩ ≤ p.2)
    {i : b.ty.Idx} (hi : i ∈ (Rect.unit (s := b.ty.shape) off size inb).set) : (⟨code b, iv⟩ : Reg).Has b i := by
  refine ⟨rfl, fun k p hp => ?_⟩
  obtain ⟨h, h1, h2⟩ := hiv k p hp
  have := Rect.mem_set_unit.mp hi ⟨k, h⟩
  exact ⟨h, by omega, by omega⟩

theorem set_unit_slice (b : Ref sig .tc) (r : Rect b.ty.shape) (h) :
    ((Memref.whole b).slice r h).view.set = r.set := View.set_slice_whole b r

theorem setOn_whole (b : Ref sig .tc) (r : LoadRect b.ty.shape) : (Memref.whole b).view.setOn r.set = r.set := by
  show r.set.map (Function.Embedding.refl _) = r.set
  exact Finset.map_refl

end Safe
-- ==== Proof.Clean.lean ====
/- The kernel's program written once more, compactly: every stage is a definition over the expert's
   number and its buffer slot, and the repeated stages are loops over tiles. `Same.lean` proves that
   the printed programs are this one. -/
module

public import proofs.«01_k».proof.Proof.Gen.KernelIdeal

@[expose] public section

set_option synthInstance.maxSize 4096

noncomputable section

namespace Cert.KernelIdeal.Clean

open Idealize.ShloMosaic Idealize.SL.Sem
open Cert.KernelIdeal.Gen

variable {F : FTy → Type} [FloatOps F]

/-- A program of the kernel. -/
abbrev P (F : FTy → Type) (α : Type) := Prog (TpuEff nD τ sig (Elt F) Λ₀ .tc) α

section combinators
variable {E : Type → Type} {α : Type}

/-- Run `f 0`, …, `f (n - 1)` in order. -/
def forFin : (n : ℕ) → (Fin n → Prog E PUnit) → Prog E PUnit
  | 0, _ => pure ⟨⟩
  | n + 1, f => do
    f 0
    forFin n fun i => f i.succ

/-- Run `f 0`, …, `f (n - 1)` in order and keep their results. -/
def gather : (n : ℕ) → (Fin n → Prog E α) → Prog E (Fin n → α)
  | 0, _ => pure (fun i => i.elim0)
  | n + 1, f => do
    let a ← f 0
    let r ← gather n fun i => f i.succ
    pure (Fin.cons a r)

end combinators

/-! ## The buffers -/

abbrev x_h : Memref sig .tc .hbm S4x256x1024 .bf16 := Memref.whole main_arg0
abbrev phi_h : Memref sig .tc .hbm S1024x48 .bf16 := Memref.whole main_arg1
abbrev w1_h : Memref sig .tc .hbm S24x1024x4096 .fp8e4m3 := Memref.whole main_arg2
abbrev s1_h : Memref sig .tc .hbm S24x8x32 .f32 := Memref.whole main_arg3
abbrev w2_h : Memref sig .tc .hbm S24x4096x1024 .fp8e4m3 := Memref.whole main_arg4
abbrev s2_h : Memref sig .tc .hbm S24x32x8 .f32 := Memref.whole main_arg5
abbrev out_h : Memref sig .tc .hbm S4x256x1024 .bf16 := Memref.whole main_v0_0
abbrev ys_h : Memref sig .tc .hbm S4x48x1024 .bf16 := Memref.whole main_v0_1
abbrev sc_h : Memref sig .tc .hbm S4x24x2x1024 .fp8e4m3 := Memref.whole main_v0_2
abbrev ss_h : Memref sig .tc .hbm S4x24x2 .f32 := Memref.whole main_v0_3
abbrev hc_h : Memref sig .tc .hbm S4x24x2x4096 .fp8e4m3 := Memref.whole main_v0_4
abbrev hs_h : Memref sig .tc .hbm S4x24x2 .f32 := Memref.whole main_v0_5
abbrev x_v : Memref sig .tc .vmem S4x256x1024 .bf16 := Memref.whole cc0_scratch0
abbrev phi_v : Memref sig .tc .vmem S1024x48 .bf16 := Memref.whole cc0_scratch1
abbrev w1_v : Memref sig .tc .vmem S5x1024x4096 .fp8e4m3 := Memref.whole cc0_scratch2
abbrev w2_v : Memref sig .tc .vmem S5x4096x1024 .fp8e4m3 := Memref.whole cc0_scratch3
abbrev s1_s : Memref sig .tc .smem S5x8x32 .f32 := Memref.whole cc0_scratch4
abbrev s2_s : Memref sig .tc .smem S5x32x8 .f32 := Memref.whole cc0_scratch5
abbrev comb_v : Memref sig .tc .vmem S4x256x48 .bf16 := Memref.whole cc0_scratch6
abbrev xs_v : Memref sig .tc .vmem S8x192x128 .f32 := Memref.whole cc0_scratch7
abbrev h_v : Memref sig .tc .vmem S8x4096 .f32 := Memref.whole cc0_scratch8
abbrev a_v : Memref sig .tc .vmem S8x4096 .f32 := Memref.whole cc0_scratch9
abbrev ys_v : Memref sig .tc .vmem S4x48x1024 .bf16 := Memref.whole cc0_scratch10
abbrev out_v : Memref sig .tc .vmem S4x256x1024 .bf16 := Memref.whole cc0_scratch11
abbrev sc_v : Memref sig .tc .vmem S4x24x2x1024 .fp8e4m3 := Memref.whole cc0_scratch12
abbrev hc_v : Memref sig .tc .vmem S4x24x2x4096 .fp8e4m3 := Memref.whole cc0_scratch13
abbrev ssr_v : Memref sig .tc .vmem S192x128 .f32 := Memref.whole cc0_scratch14
abbrev hsr_v : Memref sig .tc .vmem S192x128 .f32 := Memref.whole cc0_scratch15
abbrev ss_v : Memref sig .tc .vmem S4x24x2 .f32 := Memref.whole cc0_scratch16
abbrev hs_v : Memref sig .tc .vmem S4x24x2 .f32 := Memref.whole cc0_scratch17

/-! ## The semaphores -/

abbrev inSem (i : Fin 5) : DmaSem sig :=
  ((cc0_scratch18.slice (Rect.unit (s := S5) ![i] S1.size (by decide +revert))).squeeze S_ squeezes_S1_S_).sem
abbrev w1Sem (i : Fin 5) : DmaSem sig :=
  ((cc0_scratch19.slice (Rect.unit (s := S5) ![i] S1.size (by decide +revert))).squeeze S_ squeezes_S1_S_).sem
abbrev w2Sem (i : Fin 5) (c : Fin 4) : DmaSem sig :=
  ((cc0_scratch20.slice (Rect.unit (s := S5x4) ![i, c] S1x1.size (by decide +revert))).squeeze S_ squeezes_S1x1_S_).sem
abbrev sSem (i : Fin 5) (c : Fin 2) : DmaSem sig :=
  ((cc0_scratch21.slice (Rect.unit (s := S5x2) ![i, c] S1x1.size (by decide +revert))).squeeze S_ squeezes_S1x1_S_).sem
abbrev outSem (i : Fin 12) : DmaSem sig :=
  ((cc0_scratch22.slice (Rect.unit (s := S12) ![i] S1.size (by decide +revert))).squeeze S_ squeezes_S1_S_).sem

/-! ## The windows the copies move -/

theorem inb_x : ∀ b : Fin 4, ∀ a, (![(b : ℕ), 0, 0] : Fin 3 → ℕ) a + S1x256x1024.size a ≤ S4x256x1024.size a := by decide
theorem inb_w1h : ∀ e : Fin 24, ∀ a, (![(e : ℕ), 0, 0] : Fin 3 → ℕ) a + S1x1024x4096.size a ≤ S24x1024x4096.size a := by decide +kernel
theorem inb_w1v : ∀ e : Fin 5, ∀ a, (![(e : ℕ), 0, 0] : Fin 3 → ℕ) a + S1x1024x4096.size a ≤ S5x1024x4096.size a := by decide +kernel
theorem inb_w2h : ∀ e : Fin 24, ∀ c : Fin 4, ∀ a, (![(e : ℕ), 0, 256 * (c : ℕ)] : Fin 3 → ℕ) a + S1x4096x256.size a ≤ S24x4096x1024.size a := by decide +kernel
theorem inb_w2v : ∀ e : Fin 5, ∀ c : Fin 4, ∀ a, (![(e : ℕ), 0, 256 * (c : ℕ)] : Fin 3 → ℕ) a + S1x4096x256.size a ≤ S5x4096x1024.size a := by decide +kernel
theorem inb_s1h : ∀ e : Fin 24, ∀ a, (![(e : ℕ), 0, 0] : Fin 3 → ℕ) a + S1x8x32.size a ≤ S24x8x32.size a := by decide +kernel
theorem inb_s1v : ∀ e : Fin 5, ∀ a, (![(e : ℕ), 0, 0] : Fin 3 → ℕ) a + S1x8x32.size a ≤ S5x8x32.size a := by decide +kernel
theorem inb_s2h : ∀ e : Fin 24, ∀ a, (![(e : ℕ), 0, 0] : Fin 3 → ℕ) a + S1x32x8.size a ≤ S24x32x8.size a := by decide +kernel
theorem inb_s2v : ∀ e : Fin 5, ∀ a, (![(e : ℕ), 0, 0] : Fin 3 → ℕ) a + S1x32x8.size a ≤ S5x32x8.size a := by decide +kernel
theorem inb_hc : ∀ e : Fin 24, ∀ a, (![0, (e : ℕ), 0, 0] : Fin 4 → ℕ) a + S4x1x2x4096.size a ≤ S4x24x2x4096.size a := by decide +kernel
theorem inb_out : ∀ n : Fin 4, ∀ a, (![0, 0, 256 * (n : ℕ)] : Fin 3 → ℕ) a + S4x256x256.size a ≤ S4x256x1024.size a := by decide +kernel
theorem inb_ys : ∀ n : Fin 4, ∀ a, (![0, 0, 256 * (n : ℕ)] : Fin 3 → ℕ) a + S4x48x256.size a ≤ S4x48x1024.size a := by decide +kernel

theorem words_x : ∀ b : Fin 4, (Rect.unit (s := S4x256x1024) ![(b : ℕ), 0, 0] S1x256x1024.size (inb_x b)).WholeWords (EltTy.packing .bf16) := by decide +kernel
theorem words_w1h : ∀ b : Fin 24, (Rect.unit (s := S24x1024x4096) ![(b : ℕ), 0, 0] S1x1024x4096.size (inb_w1h b)).WholeWords (EltTy.packing .fp8e4m3) := by decide +kernel
theorem words_w1v : ∀ b : Fin 5, (Rect.unit (s := S5x1024x4096) ![(b : ℕ), 0, 0] S1x1024x4096.size (inb_w1v b)).WholeWords (EltTy.packing .fp8e4m3) := by decide +kernel
theorem words_w2h : ∀ b : Fin 24, ∀ c : Fin 4, (Rect.unit (s := S24x4096x1024) ![(b : ℕ), 0, 256 * (c : ℕ)] S1x4096x256.size (inb_w2h b c)).WholeWords (EltTy.packing .fp8e4m3) := by decide +kernel
theorem words_w2v : ∀ b : Fin 5, ∀ c : Fin 4, (Rect.unit (s := S5x4096x1024) ![(b : ℕ), 0, 256 * (c : ℕ)] S1x4096x256.size (inb_w2v b c)).WholeWords (EltTy.packing .fp8e4m3) := by decide +kernel
theorem words_hc : ∀ b : Fin 24, (Rect.unit (s := S4x24x2x4096) ![0, (b : ℕ), 0, 0] S4x1x2x4096.size (inb_hc b)).WholeWords (EltTy.packing .fp8e4m3) := by decide +kernel
theorem words_out : ∀ n : Fin 4, (Rect.unit (s := S4x256x1024) ![0, 0, 256 * (n : ℕ)] S4x256x256.size (inb_out n)).WholeWords (EltTy.packing .bf16) := by decide +kernel
theorem words_ys : ∀ n : Fin 4, (Rect.unit (s := S4x48x1024) ![0, 0, 256 * (n : ℕ)] S4x48x256.size (inb_ys n)).WholeWords (EltTy.packing .bf16) := by decide +kernel

/-- Batch `b` of a `[4, 256, 1024]` array. -/
abbrev batchW {sp : Space} (m : Memref sig .tc sp S4x256x1024 .bf16) (b : Fin 4) : Memref sig .tc sp S256x1024 .bf16 :=
  (m.slice (Rect.unit (s := S4x256x1024) ![b, 0, 0] S1x256x1024.size (inb_x b)) (fun _ => rfl)).squeeze S256x1024 squeezes_S1x256x1024_S256x1024
/-- Expert `e`'s first weights. -/
abbrev w1hW (e : Fin 24) : Memref sig .tc .hbm S1024x4096 .fp8e4m3 :=
  (w1_h.slice (Rect.unit (s := S24x1024x4096) ![e, 0, 0] S1x1024x4096.size (inb_w1h e)) (fun _ => rfl)).squeeze S1024x4096 squeezes_S1x1024x4096_S1024x4096
/-- Slot `i` of the first weights. -/
abbrev w1vW (i : Fin 5) : Memref sig .tc .vmem S1024x4096 .fp8e4m3 :=
  (w1_v.slice (Rect.unit (s := S5x1024x4096) ![i, 0, 0] S1x1024x4096.size (inb_w1v i)) (fun _ => rfl)).squeeze S1024x4096 squeezes_S1x1024x4096_S1024x4096
/-- Columns `256 c …` of expert `e`'s second weights. -/
abbrev w2hW (e : Fin 24) (c : Fin 4) : Memref sig .tc .hbm S4096x256 .fp8e4m3 :=
  (w2_h.slice (Rect.unit (s := S24x4096x1024) ![e, 0, 256 * (c : ℕ)] S1x4096x256.size (inb_w2h e c)) (fun _ => rfl)).squeeze S4096x256 squeezes_S1x4096x256_S4096x256
/-- Columns `256 c …` of slot `i` of the second weights. -/
abbrev w2vW (i : Fin 5) (c : Fin 4) : Memref sig .tc .vmem S4096x256 .fp8e4m3 :=
  (w2_v.slice (Rect.unit (s := S5x4096x1024) ![i, 0, 256 * (c : ℕ)] S1x4096x256.size (inb_w2v i c)) (fun _ => rfl)).squeeze S4096x256 squeezes_S1x4096x256_S4096x256
abbrev s1hW (e : Fin 24) : Memref sig .tc .hbm S8x32 .f32 :=
  (s1_h.slice (Rect.unit (s := S24x8x32) ![e, 0, 0] S1x8x32.size (inb_s1h e)) (fun _ => rfl)).squeeze S8x32 squeezes_S1x8x32_S8x32
abbrev s1vW (i : Fin 5) : Memref sig .tc .smem S8x32 .f32 :=
  (s1_s.slice (Rect.unit (s := S5x8x32) ![i, 0, 0] S1x8x32.size (inb_s1v i)) (fun _ => rfl)).squeeze S8x32 squeezes_S1x8x32_S8x32
abbrev s2hW (e : Fin 24) : Memref sig .tc .hbm S32x8 .f32 :=
  (s2_h.slice (Rect.unit (s := S24x32x8) ![e, 0, 0] S1x32x8.size (inb_s2h e)) (fun _ => rfl)).squeeze S32x8 squeezes_S1x32x8_S32x8
abbrev s2vW (i : Fin 5) : Memref sig .tc .smem S32x8 .f32 :=
  (s2_s.slice (Rect.unit (s := S5x32x8) ![i, 0, 0] S1x32x8.size (inb_s2v i)) (fun _ => rfl)).squeeze S32x8 squeezes_S1x32x8_S32x8
/-- Expert `e`'s rows of the hidden codes. -/
abbrev hcW {sp : Space} (m : Memref sig .tc sp S4x24x2x4096 .fp8e4m3) (e : Fin 24) : Memref sig .tc sp S4x2x4096 .fp8e4m3 :=
  (m.slice (Rect.unit (s := S4x24x2x4096) ![0, e, 0, 0] S4x1x2x4096.size (inb_hc e)) (fun _ => rfl)).squeeze S4x2x4096 squeezes_S4x1x2x4096_S4x2x4096
/-- Columns `256 n …` of a `[4, 256, 1024]` array. -/
abbrev outW {sp : Space} (m : Memref sig .tc sp S4x256x1024 .bf16) (n : Fin 4) : Memref sig .tc sp S4x256x256 .bf16 :=
  m.slice (Rect.unit (s := S4x256x1024) ![0, 0, 256 * (n : ℕ)] S4x256x256.size (inb_out n)) (fun _ => rfl)
/-- Columns `256 n …` of a `[4, 48, 1024]` array. -/
abbrev ysW {sp : Space} (m : Memref sig .tc sp S4x48x1024 .bf16) (n : Fin 4) : Memref sig .tc sp S4x48x256 .bf16 :=
  m.slice (Rect.unit (s := S4x48x1024) ![0, 0, 256 * (n : ℕ)] S4x48x256.size (inb_ys n)) (fun _ => rfl)

/-! ## The copies -/

def startX (b : Fin 4) : P F PUnit :=
  Prog.lift (.enqueueDma (batchW x_h b) (.here (batchW x_v b)) (.dma (inSem (b.castLE (by decide)))) (((Memref.isWhole_whole _).wordExact_slice rfl _ (words_x b)).reshape _ _) (((Memref.isWhole_whole _).wordExact_slice rfl _ (words_x b)).reshape _ _) ⟨Or.inl rfl, trivial⟩)
def waitX (b : Fin 4) : P F PUnit :=
  Prog.lift (.waitDma2 (inSem (b.castLE (by decide))) (batchW x_h b) (batchW x_v b) (((Memref.isWhole_whole _).wordExact_slice rfl _ (words_x b)).reshape _ _) (((Memref.isWhole_whole _).wordExact_slice rfl _ (words_x b)).reshape _ _))
def startPhi : P F PUnit :=
  Prog.lift (.enqueueDma phi_h (.here phi_v) (.dma (inSem 4)) (Memref.isWhole_whole _).wordExact (Memref.isWhole_whole _).wordExact ⟨Or.inl rfl, trivial⟩)
def waitPhi : P F PUnit :=
  Prog.lift (.waitDma2 (inSem 4) phi_h phi_v (Memref.isWhole_whole _).wordExact (Memref.isWhole_whole _).wordExact)

def startS1 (e : Fin 24) (i : Fin 5) : P F PUnit :=
  Prog.lift (.enqueueDma (s1hW e) (.here (s1vW i)) (.dma (sSem i 0)) ((View.wordExact_bits rfl).reshape _ _) ((View.wordExact_bits rfl).reshape _ _) ⟨Or.inl rfl, trivial⟩)
def startS2 (e : Fin 24) (i : Fin 5) : P F PUnit :=
  Prog.lift (.enqueueDma (s2hW e) (.here (s2vW i)) (.dma (sSem i 1)) ((View.wordExact_bits rfl).reshape _ _) ((View.wordExact_bits rfl).reshape _ _) ⟨Or.inl rfl, trivial⟩)
def startW1 (e : Fin 24) (i : Fin 5) : P F PUnit :=
  Prog.lift (.enqueueDma (w1hW e) (.here (w1vW i)) (.dma (w1Sem i)) (((Memref.isWhole_whole _).wordExact_slice rfl _ (words_w1h e)).reshape _ _) (((Memref.isWhole_whole _).wordExact_slice rfl _ (words_w1v i)).reshape _ _) ⟨Or.inl rfl, trivial⟩)
def startW2 (e : Fin 24) (i : Fin 5) (c : Fin 4) : P F PUnit :=
  Prog.lift (.enqueueDma (w2hW e c) (.here (w2vW i c)) (.dma (w2Sem i c)) (((Memref.isWhole_whole _).wordExact_slice rfl _ (words_w2h e c)).reshape _ _) (((Memref.isWhole_whole _).wordExact_slice rfl _ (words_w2v i c)).reshape _ _) ⟨Or.inl rfl, trivial⟩)
/-- Start the copies of expert `e`'s weights and scales into slot `i`. -/
def startExpert (e : Fin 24) (i : Fin 5) : P F PUnit := do
  startS1 e i
  startS2 e i
  startW1 e i
  forFin 4 fun c => startW2 e i c

def waitS1 (e : Fin 24) (i : Fin 5) : P F PUnit :=
  Prog.lift (.waitDma2 (sSem i 0) (s1hW e) (s1vW i) ((View.wordExact_bits rfl).reshape _ _) ((View.wordExact_bits rfl).reshape _ _))
def waitS2 (e : Fin 24) (i : Fin 5) : P F PUnit :=
  Prog.lift (.waitDma2 (sSem i 1) (s2hW e) (s2vW i) ((View.wordExact_bits rfl).reshape _ _) ((View.wordExact_bits rfl).reshape _ _))
def waitW1 (e : Fin 24) (i : Fin 5) : P F PUnit :=
  Prog.lift (.waitDma2 (w1Sem i) (w1hW e) (w1vW i) (((Memref.isWhole_whole _).wordExact_slice rfl _ (words_w1h e)).reshape _ _) (((Memref.isWhole_whole _).wordExact_slice rfl _ (words_w1v i)).reshape _ _))
def waitW2 (e : Fin 24) (i : Fin 5) (c : Fin 4) : P F PUnit :=
  Prog.lift (.waitDma2 (w2Sem i c) (w2hW e c) (w2vW i c) (((Memref.isWhole_whole _).wordExact_slice rfl _ (words_w2h e c)).reshape _ _) (((Memref.isWhole_whole _).wordExact_slice rfl _ (words_w2v i c)).reshape _ _))

def startHc (e : Fin 24) : P F PUnit :=
  Prog.lift (.enqueueDma (hcW hc_v e) (.here (hcW hc_h e)) (.dma (outSem 0)) (((Memref.isWhole_whole _).wordExact_slice rfl _ (words_hc e)).reshape _ _) (((Memref.isWhole_whole _).wordExact_slice rfl _ (words_hc e)).reshape _ _) ⟨Or.inl rfl, trivial⟩)
def waitHc (e : Fin 24) : P F PUnit :=
  Prog.lift (.waitDma2 (outSem 0) (hcW hc_v e) (hcW hc_h e) (((Memref.isWhole_whole _).wordExact_slice rfl _ (words_hc e)).reshape _ _) (((Memref.isWhole_whole _).wordExact_slice rfl _ (words_hc e)).reshape _ _))
def startSmall : P F PUnit := do
  Prog.lift (.enqueueDma sc_v (.here sc_h) (.dma (outSem 1)) (Memref.isWhole_whole _).wordExact (Memref.isWhole_whole _).wordExact ⟨Or.inl rfl, trivial⟩)
  Prog.lift (.enqueueDma ss_v (.here ss_h) (.dma (outSem 2)) (Memref.isWhole_whole _).wordExact (Memref.isWhole_whole _).wordExact ⟨Or.inl rfl, trivial⟩)
  Prog.lift (.enqueueDma hs_v (.here hs_h) (.dma (outSem 3)) (Memref.isWhole_whole _).wordExact (Memref.isWhole_whole _).wordExact ⟨Or.inl rfl, trivial⟩)
def waitSmall : P F PUnit := do
  Prog.lift (.waitDma2 (outSem 1) sc_v sc_h (Memref.isWhole_whole _).wordExact (Memref.isWhole_whole _).wordExact)
  Prog.lift (.waitDma2 (outSem 2) ss_v ss_h (Memref.isWhole_whole _).wordExact (Memref.isWhole_whole _).wordExact)
  Prog.lift (.waitDma2 (outSem 3) hs_v hs_h (Memref.isWhole_whole _).wordExact (Memref.isWhole_whole _).wordExact)
abbrev oSem (n : Fin 4) : DmaSem sig := outSem ⟨4 + n, by omega⟩
abbrev ySem (n : Fin 4) : DmaSem sig := outSem ⟨8 + n, by omega⟩
def startTile (n : Fin 4) : P F PUnit := do
  Prog.lift (.enqueueDma (outW out_v n) (.here (outW out_h n)) (.dma (oSem n)) ((Memref.isWhole_whole _).wordExact_slice rfl _ (words_out n)) ((Memref.isWhole_whole _).wordExact_slice rfl _ (words_out n)) ⟨Or.inl rfl, trivial⟩)
  Prog.lift (.enqueueDma (ysW ys_v n) (.here (ysW ys_h n)) (.dma (ySem n)) ((Memref.isWhole_whole _).wordExact_slice rfl _ (words_ys n)) ((Memref.isWhole_whole _).wordExact_slice rfl _ (words_ys n)) ⟨Or.inl rfl, trivial⟩)
def waitTile (n : Fin 4) : P F PUnit := do
  Prog.lift (.waitDma2 (oSem n) (outW out_v n) (outW out_h n) ((Memref.isWhole_whole _).wordExact_slice rfl _ (words_out n)) ((Memref.isWhole_whole _).wordExact_slice rfl _ (words_out n)))
  Prog.lift (.waitDma2 (ySem n) (ysW ys_v n) (ysW ys_h n) ((Memref.isWhole_whole _).wordExact_slice rfl _ (words_ys n)) ((Memref.isWhole_whole _).wordExact_slice rfl _ (words_ys n)))

/-! ## The values the stages compute -/

section values
variable {s : Shape}

/-- One Horner step: `acc * y + c`. -/
abbrev step (y acc : FVec F s .f32) (c : BitVec 32) : FVec F s .f32 := addf (mulf acc y) (broadcast s (Scalar.ofBits .f32 c : F .f32))

/-- `erfc` by the rational approximation. -/
def erfcV (x : FVec F s .f32) : FVec F s .f32 :=
  have ax : FVec F s .f32 := absf x
  have xx : FVec F s .f32 := mulf x x
  have q : FVec F s .f32 := divf (broadcast s (Scalar.ofBits .f32 0x3F800000#32 : F .f32)) ax
  have y : FVec F s .f32 := mulf q q
  have pp : FVec F s .f32 := step y (step y (step y (step y (step y (step y (step y (step y (broadcast s (Scalar.ofBits .f32 0x3CBE9CF4#32 : F .f32)) 0xBE0E0868#32) 0x3EBCCBD0#32) 0xBF151CF8#32) 0x3F1EF9E3#32) 0xBEFD28C0#32) 0x3EAE5471#32) 0xBE8C5880#32) 0x3F1056E6#32
  have rr : FVec F s .f32 := step y (step y (step y (step y (step y (step y (step y (broadcast s (Scalar.ofBits .f32 0xC127A483#32 : F .f32)) 0x414FA29C#32) 0xC0EFDB4A#32) 0x403AF1FA#32) 0xBF81F436#32) 0x3ED7FC3E#32) 0xBE906C5D#32) 0x3F106EB9#32
  have p : FVec F s .f32 := select (cmpf .olt ax (broadcast s (Scalar.ofBits .f32 0x40000000#32 : F .f32))) pp rr
  have t : FVec F s .f32 := mulf (mulf (exp (subf (broadcast s (Scalar.ofBits .f32 0x00000000#32 : F .f32)) xx)) q) p
  have tail : FVec F s .f32 := select (cmpf .olt x (broadcast s (Scalar.ofBits .f32 0x00000000#32 : F .f32))) (subf (broadcast s (Scalar.ofBits .f32 0x40000000#32 : F .f32)) t) t
  have tt : FVec F s .f32 := step xx (step xx (step xx (step xx (step xx (step xx (broadcast s (Scalar.ofBits .f32 0x38A4B519#32 : F .f32)) 0xBA51FB80#32) 0x3BAA02D9#32) 0xBCDBFC87#32) 0x3DE7167C#32) 0xBEC0939F#32) 0x3F906EBA#32
  select (cmpf .olt ax (broadcast s (Scalar.ofBits .f32 0x3F800000#32 : F .f32))) (subf (broadcast s (Scalar.ofBits .f32 0x3F800000#32 : F .f32)) (mulf x tt)) tail

/-- `gelu v = 0.5 v erfc (-v / √2)`. -/
def geluV (v : FVec F s .f32) : FVec F s .f32 :=
  mulf (mulf (broadcast s (Scalar.ofBits .f32 0x3F000000#32 : F .f32)) v) (erfcV (mulf (subf (broadcast s (Scalar.ofBits .f32 0x00000000#32 : F .f32)) v) (broadcast s (Scalar.ofBits .f32 0x3F3504F3#32 : F .f32))))

/-- The exponent of a row's power-of-two scale, from the row's largest magnitude. -/
def expoV (amax : FVec F s .f32) : FVec F s .f32 :=
  have t : FVec F s .f32 := mulf amax (broadcast s (Scalar.ofBits .f32 0x3B124925#32 : F .f32))
  select (cmpf .oeq t (broadcast s (Scalar.ofBits .f32 0x00000000#32 : F .f32))) (broadcast s (Scalar.ofBits .f32 0x00000000#32 : F .f32))
    (addf (floor (divf (log t) (log (broadcast s (Scalar.ofBits .f32 0x40000000#32 : F .f32))))) (broadcast s (Scalar.ofBits .f32 0x3F800000#32 : F .f32)))

def scaleV (amax : FVec F s .f32) : FVec F s .f32 := exp2 (expoV amax)
def invV (amax : FVec F s .f32) : FVec F s .f32 := exp2 (subf (broadcast s (Scalar.ofBits .f32 0x00000000#32 : F .f32)) (expoV amax))

/-- Clip to the range of the format, round to it and widen again. -/
def clipV (v : FVec F s .f32) : FVec F s .f32 :=
  extf .f32 (truncf .fp8e4m3 (minimumf (broadcast s (Scalar.ofBits .f32 0x43E00000#32 : F .f32)) (maximumf (broadcast s (Scalar.ofBits .f32 0xC3E00000#32 : F .f32)) v)) bitsLt_fp8e4m3_f32) bitsLt_fp8e4m3_f32

end values

def amaxX (v : FVec F S8x1024 .f32) : FVec F S8x1 .f32 :=
  shapeCast S8x1 (multiReduction .maximumf [1] S8 (absf v) 0xFF800000#32 reduces_S8x1024_S8 (.inl rfl) rfl) shapeCasts_S8_S8x1
def amaxH (v : FVec F S8x4096 .f32) : FVec F S8x1 .f32 :=
  shapeCast S8x1 (multiReduction .maximumf [1] S8 (absf v) 0xFF800000#32 reduces_S8x4096_S8 (.inl rfl) rfl) shapeCasts_S8_S8x1

/-- The codes of `v`'s rows, widened. -/
def codesX (v : FVec F S8x1024 .f32) : FVec F S8x1024 .f32 := clipV (mulf v (broadcastTo S8x1024 (invV (amaxX v)) broadcasts_S8x1_S8x1024))
def codesH (v : FVec F S8x4096 .f32) : FVec F S8x4096 .f32 := clipV (mulf v (broadcastTo S8x4096 (invV (amaxH v)) broadcasts_S8x1_S8x4096))

theorem slicesX : ∀ b : Fin 4, S8x1024.Slices ![2 * (b : ℕ), 0] S2x1024 := by decide
theorem slicesH : ∀ b : Fin 4, S8x4096.Slices ![2 * (b : ℕ), 0] S2x4096 := by decide

/-- The codes of batch `b`'s two rows, as stored. -/
def codeRowX (w : FVec F S8x1024 .f32) (b : Fin 4) : FVec F S1x1x2x1024 .fp8e4m3 :=
  shapeCast S1x1x2x1024 (truncf .fp8e4m3 (extractStridedSlice S2x1024 ![2 * (b : ℕ), 0] w (slicesX b)) bitsLt_fp8e4m3_f32) shapeCasts_S2x1024_S1x1x2x1024
def codeRowH (w : FVec F S8x4096 .f32) (b : Fin 4) : FVec F S1x1x2x4096 .fp8e4m3 :=
  shapeCast S1x1x2x4096 (truncf .fp8e4m3 (extractStridedSlice S2x4096 ![2 * (b : ℕ), 0] w (slicesH b)) bitsLt_fp8e4m3_f32) shapeCasts_S2x4096_S1x1x2x4096

/-- The scales of the eight rows, spread over 128 lanes. -/
def scaleRows (sc : FVec F S8x1 .f32) : FVec F S8x128 .f32 :=
  shapeCast S8x128 (broadcastTo S8x128 (shapeCast S8x1 sc shapeCasts_S8x1_S8x1) broadcasts_S8x1_S8x128) shapeCasts_S8x128_S8x128

def actX (v : FVec F S8x1024 .f32) : FVec F S8x1024 .f32 :=
  shapeCast S8x1024 (mulf (codesX v) (broadcastTo S8x1024 (scaleV (amaxX v)) broadcasts_S8x1_S8x1024)) shapeCasts_S8x1024_S8x1024
def actH (v : FVec F S8x4096 .f32) : FVec F S8x4096 .f32 :=
  shapeCast S8x4096 (mulf (codesH v) (broadcastTo S8x4096 (scaleV (amaxH v)) broadcasts_S8x1_S8x4096)) shapeCasts_S8x4096_S8x4096

/-- One block of 128 columns of the left operand of a matrix product: the block times one scale,
    above the block times the next one. -/
def pieceV (a : Vec F S8x128 .f32) (s0 s1 : Elt F .f32) : FVec F S16x128 .bf16 :=
  truncf .bf16 (concatenate S16x128 0 [⟨S8x128, mulf a (broadcast S8x128 s0)⟩, ⟨S8x128, mulf a (broadcast S8x128 s1)⟩] concatenates_S8x128_S8x128_S16x128_d0) bitsLt_bf16_f32

/-- The two diagonal quarters of a `[16, 256]` product, side by side. -/
def diagV (r : FVec F S16x256 .f32) : FVec F S8x256 .f32 :=
  concatenate S8x256 1 [⟨S8x128, extractStridedSlice S8x128 ![0, 0] r slices_S16x256_o0_0_S8x128⟩, ⟨S8x128, extractStridedSlice S8x128 ![8, 128] r slices_S16x256_o8_128_S8x128⟩] concatenates_S8x128_S8x128_S8x256_d1

def upV (p : Fin 8 → FVec F S16x128 .bf16) (w : Vec F S1024x256 .fp8e4m3) : FVec F S8x256 .f32 :=
  diagV (matmul dot_S16x1024_S1024x256_S16x256_1_0_0_1_n_n none
    (concatenate S16x1024 1 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩] concatenates_S16x128_S16x128_S16x128_S16x128_S16x128_S16x128_S16x128_S16x128_S16x1024_d1)
    w (constant S16x256 .f32 0x00000000#32))

def downV (p : Fin 32 → FVec F S16x128 .bf16) (w : Vec F S4096x256 .fp8e4m3) : FVec F S8x256 .f32 :=
  diagV (matmul dot_S16x4096_S4096x256_S16x256_1_0_0_1_n_n none
    (concatenate S16x4096 1 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩, ⟨S16x128, p 8⟩, ⟨S16x128, p 9⟩, ⟨S16x128, p 10⟩, ⟨S16x128, p 11⟩, ⟨S16x128, p 12⟩, ⟨S16x128, p 13⟩, ⟨S16x128, p 14⟩, ⟨S16x128, p 15⟩, ⟨S16x128, p 16⟩, ⟨S16x128, p 17⟩, ⟨S16x128, p 18⟩, ⟨S16x128, p 19⟩, ⟨S16x128, p 20⟩, ⟨S16x128, p 21⟩, ⟨S16x128, p 22⟩, ⟨S16x128, p 23⟩, ⟨S16x128, p 24⟩, ⟨S16x128, p 25⟩, ⟨S16x128, p 26⟩, ⟨S16x128, p 27⟩, ⟨S16x128, p 28⟩, ⟨S16x128, p 29⟩, ⟨S16x128, p 30⟩, ⟨S16x128, p 31⟩] concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x4096_d1)
    w (constant S16x256 .f32 0x00000000#32))

theorem slicesP : ∀ b : Fin 4, S4x256.Slices ![(b : ℕ), 0] S1x256 := by decide

/-- The words that the rows of batch `b` of a tile are stored by, the two rows of the expert in one. -/
def packI (v : FVec F S8x256 .bf16) (b : Fin 4) : Vec F S1x2x256 .bf16 :=
  interleaveRows S1x2x256
    (shapeCast S1x1x256 (extractStridedSlice S1x256 ![(b : ℕ), 0] (rowsOfParity 0 S4x256 v bitcasts_S8x256_w16_S4x256_w32 : FVec F S4x256 .bf16) (slicesP b)) shapeCasts_S1x256_S1x1x256)
    (shapeCast S1x1x256 (extractStridedSlice S1x256 ![(b : ℕ), 0] (rowsOfParity 1 S4x256 v bitcasts_S8x256_w16_S4x256_w32 : FVec F S4x256 .bf16) (slicesP b)) shapeCasts_S1x256_S1x1x256)
    bitcasts_S1x2x256_w16_S1x1x256_w32

/-! ## Routing -/

def logitsV (x : Vec F S1x256x1024 .bf16) (phi : Vec F S1024x48 .bf16) : FVec F S256x48 .f32 :=
  matmul dot_S256x1024_S1024x48_S256x48_1_0_0_1_n_n none (shapeCast S256x1024 x shapeCasts_S1x256x1024_S256x1024 : FVec F S256x1024 .bf16) phi (constant S256x48 .f32 0x00000000#32)

/-- Softmax of the logits over the slots. -/
def combV (l : FVec F S256x48 .f32) : FVec F S1x256x48 .bf16 :=
  have e : FVec F S256x48 .f32 := exp (subf l (broadcastTo S256x48 (shapeCast S256x1 (multiReduction .maximumf [1] S256 l 0xFF800000#32 reduces_S256x48_S256 (.inl rfl) rfl) shapeCasts_S256_S256x1) broadcasts_S256x1_S256x48))
  shapeCast S1x256x48 (truncf .bf16 (divf e (broadcastTo S256x48 (shapeCast S256x1 (multiReduction .add [1] S256 e 0x00000000#32 reduces_S256x48_S256 (.inl rfl) rfl) shapeCasts_S256_S256x1) broadcasts_S256x1_S256x48)) bitsLt_bf16_f32) shapeCasts_S256x48_S1x256x48

/-- Softmax of the logits over the tokens, times the tokens. -/
def dispV (x : Vec F S1x256x1024 .bf16) (l : FVec F S256x48 .f32) : FVec F S48x1024 .f32 :=
  have e : FVec F S256x48 .f32 := exp (subf l (broadcastTo S256x48 (shapeCast S1x48 (multiReduction .maximumf [0] S48 l 0xFF800000#32 reduces_S256x48_S48 (.inl rfl) rfl) shapeCasts_S48_S1x48) broadcasts_S1x48_S256x48))
  have d : FVec F S256x48 .f32 := divf e (broadcastTo S256x48 (shapeCast S1x48 (multiReduction .add [0] S48 e 0x00000000#32 reduces_S256x48_S48 (.inl rfl) rfl) shapeCasts_S48_S1x48) broadcasts_S1x48_S256x48)
  matmul dot_S48x256_S256x1024_S48x1024_1_0_0_1_n_n none (truncf .bf16 (transpose S48x256 [1, 0] d transposes_S256x48_p1_0_S48x256) bitsLt_bf16_f32) (shapeCast S256x1024 x shapeCasts_S1x256x1024_S256x1024 : FVec F S256x1024 .bf16) (constant S48x1024 .f32 0x00000000#32)

theorem slicesD : ∀ p : Fin 8, S48x1024.Slices ![0, 128 * (p : ℕ)] S48x128 := by decide
def dispCol (d : FVec F S48x1024 .f32) (p : Fin 8) : FVec F S1x48x128 .f32 :=
  shapeCast S1x48x128 (extractStridedSlice S48x128 ![0, 128 * (p : ℕ)] d (slicesD p)) shapeCasts_S48x128_S1x48x128

theorem inb_comb : ∀ b : Fin 4, ∀ a, (![(b : ℕ), 0, 0] : Fin 3 → ℕ) a + S1x256x48.size a ≤ S4x256x48.size a := by decide
theorem packed_comb : ∀ b : Fin 4, (Rect.unit (s := S4x256x48) ![(b : ℕ), 0, 0] S1x256x48.size (inb_comb b)).PackedRows (EltTy.packing .bf16) := by decide +kernel
theorem inb_xsw : ∀ (p : Fin 8) (b : Fin 4), ∀ a, (![(p : ℕ), 48 * (b : ℕ), 0] : Fin 3 → ℕ) a + S1x48x128.size a ≤ S8x192x128.size a := by decide +kernel
theorem inb_phi : ∀ a, (![0, 0] : Fin 2 → ℕ) a + S1024x48.size a ≤ S1024x48.size a := by decide

/-- Where batch `b`'s combination weights lie. -/
abbrev combR (b : Fin 4) : Rect S4x256x48 := Rect.unit (s := S4x256x48) ![(b : ℕ), 0, 0] S1x256x48.size (inb_comb b)
/-- Where columns `128 p …` of batch `b`'s dispatched tokens lie. -/
abbrev xswR (p : Fin 8) (b : Fin 4) : Rect S8x192x128 := Rect.unit (s := S8x192x128) ![(p : ℕ), 48 * (b : ℕ), 0] S1x48x128.size (inb_xsw p b)

/-- Batch `b`'s routing: the combination weights and the dispatched tokens. -/
def route (b : Fin 4) : P F PUnit := do
  let x : Vec F S1x256x1024 .bf16 ← Prog.lift (.load x_v (Rect.unit (s := S4x256x1024) ![(b : ℕ), 0, 0] S1x256x1024.size (inb_x b)).toLoadRect (View.loadsAt_vmem h_S1x256x1024))
  let phi : Vec F S1024x48 .bf16 ← Prog.lift (.load phi_v (Rect.unit (s := S1024x48) ![0, 0] S1024x48.size inb_phi).toLoadRect (View.loadsAt_vmem h_S1024x48))
  let _ : Vec F S1x256x48 .bf16 ← Prog.lift (.load comb_v (combR b).toLoadRect (View.loadsAt_vmem h_S1x256x48))
  Prog.lift (.store comb_v (combR b) (combV (logitsV x phi)) Finset.univ (View.stores_vmem h_S1x256x48 ((Memref.isWhole_whole _).storeExact_slice rfl _ (packed_comb b)) (fun _ => rfl)) (.inl rfl))
  forFin 8 fun p => do
    let _ : Vec F S1x48x128 .f32 ← Prog.lift (.load xs_v (xswR p b).toLoadRect (View.loadsAt_vmem h_S1x48x128))
    Prog.lift (.store xs_v (xswR p b) (dispCol (dispV x (logitsV x phi)) p) Finset.univ (View.stores_vmem_bits_univ h_S1x48x128 rfl) (.inl rfl))

/-! ## One expert -/

theorem inb_xsr : ∀ (p : Fin 8) (r : Fin 191), ∀ a, (![(p : ℕ), (r : ℕ), 0] : Fin 3 → ℕ) a + S1x2x128.size a ≤ S8x192x128.size a := by decide +kernel
abbrev xsrR (p : Fin 8) (r : Fin 191) : Rect S8x192x128 := Rect.unit (s := S8x192x128) ![(p : ℕ), (r : ℕ), 0] S1x2x128.size (inb_xsr p r)

def row4 (v : Fin 4 → Vec F S1x2x128 .f32) : FVec F S8x128 .f32 :=
  concatenate S8x128 0 [⟨S2x128, (shapeCast S2x128 (v 0) shapeCasts_S1x2x128_S2x128 : FVec F S2x128 .f32)⟩, ⟨S2x128, (shapeCast S2x128 (v 1) shapeCasts_S1x2x128_S2x128 : FVec F S2x128 .f32)⟩, ⟨S2x128, (shapeCast S2x128 (v 2) shapeCasts_S1x2x128_S2x128 : FVec F S2x128 .f32)⟩, ⟨S2x128, (shapeCast S2x128 (v 3) shapeCasts_S1x2x128_S2x128 : FVec F S2x128 .f32)⟩] concatenates_S2x128_S2x128_S2x128_S2x128_S8x128_d0

def rows8 (v : Fin 8 → Fin 4 → Vec F S1x2x128 .f32) : FVec F S8x1024 .f32 :=
  concatenate S8x1024 1 [⟨S8x128, row4 (v 0)⟩, ⟨S8x128, row4 (v 1)⟩, ⟨S8x128, row4 (v 2)⟩, ⟨S8x128, row4 (v 3)⟩, ⟨S8x128, row4 (v 4)⟩, ⟨S8x128, row4 (v 5)⟩, ⟨S8x128, row4 (v 6)⟩, ⟨S8x128, row4 (v 7)⟩] concatenates_S8x128_S8x128_S8x128_S8x128_S8x128_S8x128_S8x128_S8x128_S8x1024_d1

/-- The expert's eight dispatched rows. -/
def readXs (rows : Fin 4 → Fin 191) : P F (Fin 8 → Fin 4 → Vec F S1x2x128 .f32) :=
  gather 8 fun p => gather 4 fun b => Prog.lift (.load xs_v (xsrR p (rows b)).toLoadRect (View.loadsAt_vmem h_S1x2x128))

theorem inb_sc : ∀ (b : Fin 4) (e : Fin 24), ∀ a, (![(b : ℕ), (e : ℕ), 0, 0] : Fin 4 → ℕ) a + S1x1x2x1024.size a ≤ S4x24x2x1024.size a := by decide +kernel
theorem packed_sc : ∀ (b : Fin 4) (e : Fin 24), (Rect.unit (s := S4x24x2x1024) ![(b : ℕ), (e : ℕ), 0, 0] S1x1x2x1024.size (inb_sc b e)).PackedRows (EltTy.packing .fp8e4m3) := by decide +kernel
theorem inb_hcr : ∀ (b : Fin 4) (e : Fin 24), ∀ a, (![(b : ℕ), (e : ℕ), 0, 0] : Fin 4 → ℕ) a + S1x1x2x4096.size a ≤ S4x24x2x4096.size a := by decide +kernel
theorem packed_hcr : ∀ (b : Fin 4) (e : Fin 24), (Rect.unit (s := S4x24x2x4096) ![(b : ℕ), (e : ℕ), 0, 0] S1x1x2x4096.size (inb_hcr b e)).PackedRows (EltTy.packing .fp8e4m3) := by decide +kernel
theorem inb_row : ∀ (r : Fin 185), ∀ a, (![(r : ℕ), 0] : Fin 2 → ℕ) a + S8x128.size a ≤ S192x128.size a := by decide +kernel
theorem inb_a1024 : ∀ a, (![0, 0] : Fin 2 → ℕ) a + S8x1024.size a ≤ S8x4096.size a := by decide
theorem inb_a4096 : ∀ a, (![0, 0] : Fin 2 → ℕ) a + S8x4096.size a ≤ S8x4096.size a := by decide
theorem inb_a128 : ∀ i : Fin 32, ∀ a, (![0, 128 * (i : ℕ)] : Fin 2 → ℕ) a + S8x128.size a ≤ S8x4096.size a := by decide +kernel
theorem inb_h256 : ∀ n : Fin 16, ∀ a, (![0, 256 * (n : ℕ)] : Fin 2 → ℕ) a + S8x256.size a ≤ S8x4096.size a := by decide +kernel
theorem inb_s1e : ∀ (s : Fin 5) (i : Fin 8) (j : Fin 32), ∀ a, (![(s : ℕ), (i : ℕ), (j : ℕ)] : Fin 3 → ℕ) a + S1x1x1.size a ≤ S5x8x32.size a := by decide +kernel
theorem inb_s2e : ∀ (s : Fin 5) (i : Fin 32) (j : Fin 8), ∀ a, (![(s : ℕ), (i : ℕ), (j : ℕ)] : Fin 3 → ℕ) a + S1x1x1.size a ≤ S5x32x8.size a := by decide +kernel
theorem inb_w1c : ∀ n : Fin 16, ∀ a, (![0, 256 * (n : ℕ)] : Fin 2 → ℕ) a + S1024x256.size a ≤ S1024x4096.size a := by decide +kernel
theorem inb_w2c : ∀ n : Fin 4, ∀ a, (![0, 256 * (n : ℕ)] : Fin 2 → ℕ) a + S4096x256.size a ≤ S4096x1024.size a := by decide +kernel
theorem inb_w2s : ∀ s : Fin 5, ∀ a, (![(s : ℕ), 0, 0] : Fin 3 → ℕ) a + S1x4096x1024.size a ≤ S5x4096x1024.size a := by decide +kernel
theorem inb_ysr : ∀ (b : Fin 4) (e : Fin 24) (n : Fin 4), ∀ a, (![(b : ℕ), 2 * (e : ℕ), 256 * (n : ℕ)] : Fin 3 → ℕ) a + S1x2x256.size a ≤ S4x48x1024.size a := by decide +kernel
theorem packed_ysr : ∀ (b : Fin 4) (e : Fin 24) (n : Fin 4), (Rect.unit (s := S4x48x1024) ![(b : ℕ), 2 * (e : ℕ), 256 * (n : ℕ)] S1x2x256.size (inb_ysr b e n)).PackedRows (EltTy.packing .bf16) := by decide +kernel

abbrev scR (b : Fin 4) (e : Fin 24) : Rect S4x24x2x1024 := Rect.unit (s := S4x24x2x1024) ![(b : ℕ), (e : ℕ), 0, 0] S1x1x2x1024.size (inb_sc b e)
abbrev hcR (b : Fin 4) (e : Fin 24) : Rect S4x24x2x4096 := Rect.unit (s := S4x24x2x4096) ![(b : ℕ), (e : ℕ), 0, 0] S1x1x2x4096.size (inb_hcr b e)
abbrev rowR (r : Fin 185) : Rect S192x128 := Rect.unit (s := S192x128) ![(r : ℕ), 0] S8x128.size (inb_row r)
abbrev a1024R : Rect S8x4096 := Rect.unit (s := S8x4096) ![0, 0] S8x1024.size inb_a1024
abbrev a4096R : Rect S8x4096 := Rect.unit (s := S8x4096) ![0, 0] S8x4096.size inb_a4096
abbrev a128R (i : Fin 32) : Rect S8x4096 := Rect.unit (s := S8x4096) ![0, 128 * (i : ℕ)] S8x128.size (inb_a128 i)
abbrev h256R (n : Fin 16) : Rect S8x4096 := Rect.unit (s := S8x4096) ![0, 256 * (n : ℕ)] S8x256.size (inb_h256 n)
abbrev ysrR (b : Fin 4) (e : Fin 24) (n : Fin 4) : Rect S4x48x1024 := Rect.unit (s := S4x48x1024) ![(b : ℕ), 2 * (e : ℕ), 256 * (n : ℕ)] S1x2x256.size (inb_ysr b e n)

/-- Quantise the expert's input rows: store codes and scales, keep the dequantised rows. -/
def quantX (e : Fin 24) (srow : Fin 185) (v : FVec F S8x1024 .f32) : P F PUnit := do
  forFin 4 fun b => do
    let _ : Vec F S1x1x2x1024 .fp8e4m3 ← Prog.lift (.load sc_v (scR b e).toLoadRect (View.loadsAt_vmem h_S1x1x2x1024))
    Prog.lift (.store sc_v (scR b e) (codeRowX (codesX v) b) Finset.univ (View.stores_vmem h_S1x1x2x1024 ((Memref.isWhole_whole _).storeExact_slice rfl _ (packed_sc b e)) (fun _ => rfl)) (.inl rfl))
  let _ : Vec F S8x128 .f32 ← Prog.lift (.load ssr_v (rowR srow).toLoadRect (View.loadsAt_vmem h_S8x128))
  Prog.lift (.store ssr_v (rowR srow) (scaleRows (scaleV (amaxX v))) Finset.univ (View.stores_vmem_bits_univ h_S8x128 rfl) (.inl rfl))
  let _ : Vec F S8x1024 .f32 ← Prog.lift (.load a_v a1024R.toLoadRect (View.loadsAt_vmem h_S8x1024))
  Prog.lift (.store a_v a1024R (actX v) Finset.univ (View.stores_vmem_bits_univ h_S8x1024 rfl) (.inl rfl))

/-- Quantise the expert's hidden rows. -/
def quantH (e : Fin 24) (srow : Fin 185) (v : FVec F S8x4096 .f32) : P F PUnit := do
  forFin 4 fun b => do
    let _ : Vec F S1x1x2x4096 .fp8e4m3 ← Prog.lift (.load hc_v (hcR b e).toLoadRect (View.loadsAt_vmem h_S1x1x2x4096))
    Prog.lift (.store hc_v (hcR b e) (codeRowH (codesH v) b) Finset.univ (View.stores_vmem h_S1x1x2x4096 ((Memref.isWhole_whole _).storeExact_slice rfl _ (packed_hcr b e)) (fun _ => rfl)) (.inl rfl))
  let _ : Vec F S8x128 .f32 ← Prog.lift (.load hsr_v (rowR srow).toLoadRect (View.loadsAt_vmem h_S8x128))
  Prog.lift (.store hsr_v (rowR srow) (scaleRows (scaleV (amaxH v))) Finset.univ (View.stores_vmem_bits_univ h_S8x128 rfl) (.inl rfl))
  let _ : Vec F S8x4096 .f32 ← Prog.lift (.load a_v a4096R.toLoadRect (View.loadsAt_vmem h_S8x4096))
  Prog.lift (.store a_v a4096R (actH v) Finset.univ (View.stores_vmem_bits_univ h_S8x4096 rfl) (.inl rfl))

/-- One block of the left operand, for block column `2 j` and `2 j + 1` of the first weights. -/
def piece1 (slot : Fin 5) (n : Fin 16) (i : Fin 8) : P F (FVec F S16x128 .bf16) := do
  let a : Vec F S8x128 .f32 ← Prog.lift (.load a_v (a128R (i.castLE (by decide))).toLoadRect (View.loadsAt_vmem h_S8x128))
  let s0 : Elt F .f32 ← smemLoad s1_s (Rect.unit (s := S5x8x32) ![(slot : ℕ), (i : ℕ), 2 * (n : ℕ)] S1x1x1.size (inb_s1e slot i ⟨2 * n, by omega⟩)) numel1_S1x1x1 rfl
  let s1 : Elt F .f32 ← smemLoad s1_s (Rect.unit (s := S5x8x32) ![(slot : ℕ), (i : ℕ), 2 * (n : ℕ) + 1] S1x1x1.size (inb_s1e slot i ⟨2 * n + 1, by omega⟩)) numel1_S1x1x1 rfl
  pure (pieceV a s0 s1)

def piece2 (slot : Fin 5) (n : Fin 4) (i : Fin 32) : P F (FVec F S16x128 .bf16) := do
  let a : Vec F S8x128 .f32 ← Prog.lift (.load a_v (a128R i).toLoadRect (View.loadsAt_vmem h_S8x128))
  let s0 : Elt F .f32 ← smemLoad s2_s (Rect.unit (s := S5x32x8) ![(slot : ℕ), (i : ℕ), 2 * (n : ℕ)] S1x1x1.size (inb_s2e slot i ⟨2 * n, by omega⟩)) numel1_S1x1x1 rfl
  let s1 : Elt F .f32 ← smemLoad s2_s (Rect.unit (s := S5x32x8) ![(slot : ℕ), (i : ℕ), 2 * (n : ℕ) + 1] S1x1x1.size (inb_s2e slot i ⟨2 * n + 1, by omega⟩)) numel1_S1x1x1 rfl
  pure (pieceV a s0 s1)

/-- Columns `256 n …` of the hidden rows. -/
def upTile (slot : Fin 5) (n : Fin 16) : P F PUnit := do
  let p ← (gather 8 (fun i => piece1 slot n i) : P F (Fin 8 → FVec F S16x128 .bf16))
  let w : Vec F S1024x256 .fp8e4m3 ← Prog.lift (.load (w1vW slot) (Rect.unit (s := S1024x4096) ![0, 256 * (n : ℕ)] S1024x256.size (inb_w1c n)).toLoadRect (View.loadsAt_vmem h_S1024x256))
  let _ : Vec F S8x256 .f32 ← Prog.lift (.load h_v (h256R n).toLoadRect (View.loadsAt_vmem h_S8x256))
  Prog.lift (.store h_v (h256R n) (shapeCast S8x256 (geluV (upV p w)) shapeCasts_S8x256_S8x256 : FVec F S8x256 .f32) Finset.univ (View.stores_vmem_bits_univ h_S8x256 rfl) (.inl rfl))

/-- The expert's part up to its quantised hidden rows. -/
def up (slot : Fin 5) (e : Fin 24) (rows : Fin 4 → Fin 191) (srow : Fin 185) : P F PUnit := do
  let v ← readXs rows
  quantX e srow (rows8 v)
  forFin 16 fun n => upTile slot n
  let h : Vec F S8x4096 .f32 ← Prog.lift (.load h_v a4096R.toLoadRect (View.loadsAt_vmem h_S8x4096))
  quantH e srow h

/-- Columns `256 n …` of the expert's output rows, stored by `pack`. -/
def downTile (pack : FVec F S8x256 .bf16 → Fin 4 → Vec F S1x2x256 .bf16) (slot : Fin 5) (e : Fin 24) (n : Fin 4) : P F PUnit := do
  let p ← (gather 32 (fun i => piece2 slot n i) : P F (Fin 32 → FVec F S16x128 .bf16))
  let w : Vec F S4096x256 .fp8e4m3 ← Prog.lift (.load ((w2_v.slice (Rect.unit (s := S5x4096x1024) ![(slot : ℕ), 0, 0] S1x4096x1024.size (inb_w2s slot)) (fun _ => rfl)).squeeze S4096x1024 squeezes_S1x4096x1024_S4096x1024) (Rect.unit (s := S4096x1024) ![0, 256 * (n : ℕ)] S4096x256.size (inb_w2c n)).toLoadRect (View.loadsAt_vmem h_S4096x256))
  forFin 4 fun b => do
    let _ : Vec F S1x2x256 .bf16 ← Prog.lift (.load ys_v (ysrR b e n).toLoadRect (View.loadsAt_vmem h_S1x2x256))
    Prog.lift (.store ys_v (ysrR b e n) (pack (truncf .bf16 (downV p w) bitsLt_bf16_f32) b) Finset.univ (View.stores_vmem h_S1x2x256 ((Memref.isWhole_whole _).storeExact_slice rfl _ (packed_ysr b e n)) (fun _ => rfl)) (.inl rfl))

/-- One turn of the loop over the experts: the copy of the previous expert's hidden codes and the
    copies of a later expert's weights are started where the conditions say so. -/
def turn (pack : FVec F S8x256 .bf16 → Fin 4 → Vec F S1x2x256 .bf16) (c1 c2 : Prop) [Decidable c1] [Decidable c2]
    (prev : c1 → Fin 24) (next : c2 → Fin 24) (nslot : c2 → Fin 5) (slot : Fin 5) (e : Fin 24) (rows : Fin 4 → Fin 191) (srow : Fin 185) : P F PUnit := do
  if h : c1 then startHc (prev h) else pure ⟨⟩
  if h : c2 then startExpert (next h) (nslot h) else pure ⟨⟩
  waitS1 e slot
  waitS2 e slot
  waitW1 e slot
  up slot e rows srow
  forFin 4 fun c => waitW2 e slot c
  forFin 4 fun n => downTile pack slot e n

/-! ## The end -/

theorem inb_ss : ∀ b : Fin 4, ∀ a, (![(b : ℕ), 0, 0] : Fin 3 → ℕ) a + S1x24x2.size a ≤ S4x24x2.size a := by decide
theorem inb_str : ∀ r : Fin 8, ∀ a, S24x128.size a = 0 ∨ (![(r : ℕ), 0] : Fin 2 → ℕ) a + (![8, 1] : Fin 2 → ℕ) a * (S24x128.size a - 1) < S192x128.size a := by decide
abbrev ssR (b : Fin 4) : Rect S4x24x2 := Rect.unit (s := S4x24x2) ![(b : ℕ), 0, 0] S1x24x2.size (inb_ss b)
/-- Every eighth row from row `r` on. -/
abbrev strR (r : Fin 8) : LoadRect S192x128 := ⟨![(r : ℕ), 0], S24x128.size, ![8, 1], inb_str r⟩

def pairV (u v : Vec F S24x128 .f32) : FVec F S1x24x2 .f32 :=
  shapeCast S1x24x2 (select (cmpi .eq (iota .tc S24x2 32 [1] iota_S24x2_d1_w32) (broadcast S24x2 0#32)) (extractStridedSlice S24x2 ![0, 0] u slices_S24x128_o0_0_S24x2 : FVec F S24x2 .f32) (extractStridedSlice S24x2 ![0, 0] v slices_S24x128_o0_0_S24x2)) shapeCasts_S24x2_S1x24x2

/-- Put the scales in their final order. -/
def scales (src : Memref sig .tc .vmem S192x128 .f32) (dst : Memref sig .tc .vmem S4x24x2 .f32) (b : Fin 4) : P F PUnit := do
  let u : Vec F S24x128 .f32 ← Prog.lift (.load src (strR ⟨2 * b, by omega⟩) (View.loadsAt_vmem h_S24x128))
  let v : Vec F S24x128 .f32 ← Prog.lift (.load src (strR ⟨2 * b + 1, by omega⟩) (View.loadsAt_vmem h_S24x128))
  let _ : Vec F S1x24x2 .f32 ← Prog.lift (.load dst (ssR b).toLoadRect (View.loadsAt_vmem h_S1x24x2))
  Prog.lift (.store dst (ssR b) (pairV u v) Finset.univ (View.stores_vmem_bits_univ h_S1x24x2 rfl) (.inl rfl))

theorem inb_ysc : ∀ (b n : Fin 4), ∀ a, (![(b : ℕ), 0, 256 * (n : ℕ)] : Fin 3 → ℕ) a + S1x48x256.size a ≤ S4x48x1024.size a := by decide +kernel
theorem inb_oc : ∀ (b n : Fin 4), ∀ a, (![(b : ℕ), 0, 256 * (n : ℕ)] : Fin 3 → ℕ) a + S1x256x256.size a ≤ S4x256x1024.size a := by decide +kernel
theorem packed_oc : ∀ (b n : Fin 4), (Rect.unit (s := S4x256x1024) ![(b : ℕ), 0, 256 * (n : ℕ)] S1x256x256.size (inb_oc b n)).PackedRows (EltTy.packing .bf16) := by decide +kernel
abbrev yscR (b n : Fin 4) : Rect S4x48x1024 := Rect.unit (s := S4x48x1024) ![(b : ℕ), 0, 256 * (n : ℕ)] S1x48x256.size (inb_ysc b n)
abbrev ocR (b n : Fin 4) : Rect S4x256x1024 := Rect.unit (s := S4x256x1024) ![(b : ℕ), 0, 256 * (n : ℕ)] S1x256x256.size (inb_oc b n)

def combineV (c : Vec F S1x256x48 .bf16) (y : Vec F S1x48x256 .bf16) : FVec F S1x256x256 .bf16 :=
  shapeCast S1x256x256 (truncf .bf16 (matmul dot_S256x48_S48x256_S256x256_1_0_0_1_n_n none (shapeCast S256x48 c shapeCasts_S1x256x48_S256x48 : FVec F S256x48 .bf16) (shapeCast S48x256 y shapeCasts_S1x48x256_S48x256 : FVec F S48x256 .bf16) (constant S256x256 .f32 0x00000000#32)) bitsLt_bf16_f32) shapeCasts_S256x256_S1x256x256

/-- Columns `256 n …` of batch `b`'s result. -/
def combine (n b : Fin 4) : P F PUnit := do
  let c : Vec F S1x256x48 .bf16 ← Prog.lift (.load comb_v (combR b).toLoadRect (View.loadsAt_vmem h_S1x256x48))
  let y : Vec F S1x48x256 .bf16 ← Prog.lift (.load ys_v (yscR b n).toLoadRect (View.loadsAt_vmem h_S1x48x256))
  let _ : Vec F S1x256x256 .bf16 ← Prog.lift (.load out_v (ocR b n).toLoadRect (View.loadsAt_vmem h_S1x256x256))
  Prog.lift (.store out_v (ocR b n) (combineV c y) Finset.univ (View.stores_vmem h_S1x256x256 ((Memref.isWhole_whole _).storeExact_slice rfl _ (packed_oc b n)) (fun _ => rfl)) (.inl rfl))

/-- Finish columns `256 n …`: the last expert's output, the combination, the copies of both. -/
def lastTile (pack : FVec F S8x256 .bf16 → Fin 4 → Vec F S1x2x256 .bf16) (n : Fin 4) : P F PUnit := do
  downTile pack 3 23 n
  forFin 4 fun b => combine n b

def tail (pack : FVec F S8x256 .bf16 → Fin 4 → Vec F S1x2x256 .bf16) : P F PUnit := do
  startHc 22
  waitS1 23 3
  waitS2 23 3
  waitW1 23 3
  up 3 23 ![46, 94, 142, 190] 184
  forFin 4 fun b => scales ssr_v ss_v b
  forFin 4 fun b => scales hsr_v hs_v b
  waitW2 23 3 0
  startHc 23
  startSmall
  lastTile pack 0
  forFin 3 fun n => do
    waitW2 23 3 n.succ
    startTile n.castSucc
    lastTile pack n.succ
  startTile 3

def drain : P F PUnit := do
  waitSmall
  forFin 4 fun n => waitTile n

def prologue : P F PUnit := do
  startPhi
  forFin 4 fun b => startX b
  forFin 5 fun e => startExpert (e.castLE (by decide)) e
  waitPhi
  forFin 4 fun b => do
    waitX b
    route b

/-! ## The whole body -/

/-- The loop's counter at a turn, and the values that the kernel computes from it. -/
abbrev kiv (t : Fin k0_t1_loop.trips) : BitVec 32 := Scf.iv 0#32 1#32 t

theorem e_lt : ∀ t : Fin k0_t1_loop.trips, (kiv t).toNat < 24 := by decide +kernel
theorem slot_lt : ∀ t : Fin k0_t1_loop.trips, (Scalar.remsi (kiv t) 5#32).toNat < 5 := by decide +kernel
theorem prev_lt : ∀ t : Fin k0_t1_loop.trips, k0_cond1 t = 1#1 → (Scalar.subi (kiv t) 1#32).toNat < 24 := by decide +kernel
theorem next_lt : ∀ t : Fin k0_t1_loop.trips, k0_cond2 t = 1#1 → (Scalar.subi (Scalar.addi (kiv t) 5#32) 1#32).toNat < 24 := by decide +kernel
theorem nslot_lt : ∀ t : Fin k0_t1_loop.trips, (Scalar.remsi (Scalar.subi (Scalar.addi (kiv t) 5#32) 1#32) 5#32).toNat < 5 := by decide +kernel
theorem row_lt : ∀ (t : Fin k0_t1_loop.trips) (b : Fin 4), (Scalar.addi (![0#32, 48#32, 96#32, 144#32] b) (Scalar.muli (kiv t) 2#32)).toNat < 191 := by decide +kernel
theorem srow_lt : ∀ t : Fin k0_t1_loop.trips, (Scalar.muli (kiv t) 8#32).toNat < 185 := by decide +kernel

def turns (pack : FVec F S8x256 .bf16 → Fin 4 → Vec F S1x2x256 .bf16) (t : Fin k0_t1_loop.trips) : P F PUnit :=
  turn pack (k0_cond1 t = 1#1) (k0_cond2 t = 1#1) (fun h => ⟨(Scalar.subi (kiv t) 1#32).toNat, prev_lt t h⟩)
    (fun h => ⟨(Scalar.subi (Scalar.addi (kiv t) 5#32) 1#32).toNat, next_lt t h⟩)
    (fun _ => ⟨(Scalar.remsi (Scalar.subi (Scalar.addi (kiv t) 5#32) 1#32) 5#32).toNat, nslot_lt t⟩)
    ⟨(Scalar.remsi (kiv t) 5#32).toNat, slot_lt t⟩ ⟨(kiv t).toNat, e_lt t⟩
    (fun b => ⟨(Scalar.addi (![0#32, 48#32, 96#32, 144#32] b) (Scalar.muli (kiv t) 2#32)).toNat, row_lt t b⟩)
    ⟨(Scalar.muli (kiv t) 8#32).toNat, srow_lt t⟩

theorem t2_lt : ∀ t : Fin k0_t2_loop.trips, (Scf.iv 0#32 1#32 t : BitVec 32).toNat < 24 := by decide +kernel

def bodyOf (pack : FVec F S8x256 .bf16 → Fin 4 → Vec F S1x2x256 .bf16) (l : Fin k0_t1_loop.trips → P F PUnit) : P F PUnit := do
  prologue
  Scf.Loop.for k0_t1_loop k0_t1_ok ⟨⟩ fun t _ => l t
  tail pack
  Scf.Loop.for k0_t2_loop k0_t2_ok ⟨⟩ fun t _ => waitHc ⟨(Scf.iv 0#32 1#32 t : BitVec 32).toNat, t2_lt t⟩
  drain

def body (pack : FVec F S8x256 .bf16 → Fin 4 → Vec F S1x2x256 .bf16) : P F PUnit := bodyOf pack fun t => turns pack t

end Cert.KernelIdeal.Clean
-- ==== Proof.Timetable.lean ====
/-
  The kernel's timetable: which regions each stage reads and writes, which copies it starts and awaits. The check that the
  whole timetable respects the copies in flight is one computation; it makes the kernel safe from every memory.
-/
module

public import proofs.«01_k».proof.Proof.Sched
public import proofs.«01_k».proof.Proof.Clean

@[expose] public section

set_option synthInstance.maxSize 4096

noncomputable section

namespace Cert.KernelIdeal.Clean

open Idealize.ShloMosaic Idealize.SL.Sem
open Cert.KernelIdeal.Gen
open Safe

variable {F : FTy → Type} [FloatOps F]

/-! ## Numbers -/

theorem inSem_val : ∀ i : Fin 5, (inSem i).val = i := by decide +kernel
theorem w1Sem_val : ∀ i : Fin 5, (w1Sem i).val = 5 + i := by decide +kernel
theorem w2Sem_val : ∀ (i : Fin 5) (c : Fin 4), (w2Sem i c).val = 10 + 4 * i + c := by decide +kernel
theorem sSem_val : ∀ (i : Fin 5) (c : Fin 2), (sSem i c).val = 30 + 2 * i + c := by decide +kernel
theorem outSem_val : ∀ i : Fin 12, (outSem i).val = 40 + i := by decide +kernel

/-- How many copies a semaphore serves before it is awaited. -/
def cap (q : ℕ) : ℕ := if q = 40 then 24 else 1

/-- What one copy on a semaphore amounts to. -/
def amtOf (q : ℕ) : ℕ :=
  if q < 4 then (batchW x_v 0).view.dmaCredit
  else if q < 5 then phi_v.view.dmaCredit
  else if q < 10 then (w1vW 0).view.dmaCredit
  else if q < 30 then (w2vW 0 0).view.dmaCredit
  else if q < 40 then if q % 2 = 0 then (s1vW 0).view.dmaCredit else (s2vW 0).view.dmaCredit
  else if q < 41 then (hcW hc_h 0).view.dmaCredit
  else if q < 42 then sc_h.view.dmaCredit
  else if q < 44 then ss_h.view.dmaCredit
  else if q < 48 then (outW out_h 0).view.dmaCredit
  else (ysW ys_h 0).view.dmaCredit

/-- A window of a buffer. -/
def box {n : ℕ} (off size : Fin n → ℕ) : List (ℕ × ℕ) := List.ofFn fun a => (off a, off a + size a)

theorem box_spec {n : ℕ} (off size : Fin n → ℕ) (k : ℕ) (p : ℕ × ℕ) (h : (box off size)[k]? = some p) :
    ∃ h : k < n, p.1 ≤ off ⟨k, h⟩ ∧ off ⟨k, h⟩ + size ⟨k, h⟩ ≤ p.2 := by
  unfold box at h
  rw [List.getElem?_ofFn] at h
  split at h
  · rename_i hk
    cases h
    exact ⟨hk, le_rfl, le_rfl⟩
  · exact absurd h (by simp)

theorem win_has (b : Ref sig .tc) (off size : Fin b.ty.shape.rank → ℕ) (inb h) {s' : Shape} (hq) :
    ∀ i ∈ (((Memref.whole b).slice (Rect.unit (s := b.ty.shape) off size inb) h).squeeze s' hq).view.set,
      (⟨code b, box off size⟩ : Reg).Has b i := by
  intro i hi
  rw [show (((Memref.whole b).slice (Rect.unit (s := b.ty.shape) off size inb) h).squeeze s' hq).view.set = _ from View.set_reshape _ _, set_unit_slice] at hi
  exact Reg.has_unit (box_spec off size) hi

theorem slice_has (b : Ref sig .tc) (off size : Fin b.ty.shape.rank → ℕ) (inb h) :
    ∀ i ∈ ((Memref.whole b).slice (Rect.unit (s := b.ty.shape) off size inb) h).view.set,
      (⟨code b, box off size⟩ : Reg).Has b i := by
  intro i hi
  rw [set_unit_slice] at hi
  exact Reg.has_unit (box_spec off size) hi

/-! ## The copies -/

def flX (b : Fin 4) : Fl := ⟨b, ⟨code main_arg0, box ![(b : ℕ), 0, 0] S1x256x1024.size⟩, ⟨code cc0_scratch0, box ![(b : ℕ), 0, 0] S1x256x1024.size⟩⟩
def flPhi : Fl := ⟨4, .all main_arg1, .all cc0_scratch1⟩
def flS1 (e : Fin 24) (i : Fin 5) : Fl :=
  ⟨30 + 2 * i + (0 : Fin 2), ⟨code main_arg3, box ![(e : ℕ), 0, 0] S1x8x32.size⟩, ⟨code cc0_scratch4, box ![(i : ℕ), 0, 0] S1x8x32.size⟩⟩
def flS2 (e : Fin 24) (i : Fin 5) : Fl :=
  ⟨30 + 2 * i + (1 : Fin 2), ⟨code main_arg5, box ![(e : ℕ), 0, 0] S1x32x8.size⟩, ⟨code cc0_scratch5, box ![(i : ℕ), 0, 0] S1x32x8.size⟩⟩
def flW1 (e : Fin 24) (i : Fin 5) : Fl :=
  ⟨5 + i, ⟨code main_arg2, box ![(e : ℕ), 0, 0] S1x1024x4096.size⟩, ⟨code cc0_scratch2, box ![(i : ℕ), 0, 0] S1x1024x4096.size⟩⟩
def flW2 (e : Fin 24) (i : Fin 5) (c : Fin 4) : Fl :=
  ⟨10 + 4 * i + c, ⟨code main_arg4, box ![(e : ℕ), 0, 256 * (c : ℕ)] S1x4096x256.size⟩, ⟨code cc0_scratch3, box ![(i : ℕ), 0, 256 * (c : ℕ)] S1x4096x256.size⟩⟩
def flHc (e : Fin 24) : Fl :=
  ⟨40, ⟨code cc0_scratch13, box ![0, (e : ℕ), 0, 0] S4x1x2x4096.size⟩, ⟨code main_v0_4, box ![0, (e : ℕ), 0, 0] S4x1x2x4096.size⟩⟩
def flSc : Fl := ⟨41, .all cc0_scratch12, .all main_v0_2⟩
def flSs : Fl := ⟨42, .all cc0_scratch16, .all main_v0_3⟩
def flHs : Fl := ⟨43, .all cc0_scratch17, .all main_v0_5⟩
def flOut (n : Fin 4) : Fl :=
  ⟨44 + n, ⟨code cc0_scratch11, box ![0, 0, 256 * (n : ℕ)] S4x256x256.size⟩, ⟨code main_v0_0, box ![0, 0, 256 * (n : ℕ)] S4x256x256.size⟩⟩
def flYs (n : Fin 4) : Fl :=
  ⟨48 + n, ⟨code cc0_scratch10, box ![0, 0, 256 * (n : ℕ)] S4x48x256.size⟩, ⟨code main_v0_1, box ![0, 0, 256 * (n : ℕ)] S4x48x256.size⟩⟩

theorem fits {sp sp' : Space} {s : Shape} {e : EltTy} {f : Fl} {src : Memref sig .tc sp s e} {dst : Memref sig .tc sp' s e} {q : DmaSem sig}
    (hq : q.val = f.q) (hsb : code src.view.ref = f.src.buf) (hdb : code dst.view.ref = f.dst.buf)
    (hs : ∀ i ∈ src.view.set, f.src.Has src.view.ref i) (hd : ∀ i ∈ dst.view.set, f.dst.Has dst.view.ref i)
    (ha : dst.view.dmaCredit = amtOf f.q) (hn : 0 < s.numel) : f.Fits src dst q amtOf :=
  ⟨hq, hsb, hdb, hs, hd, ha, ha ▸ View.dmaCredit_pos _ hn⟩

theorem amt_x (b : Fin 4) : (batchW x_v b).view.dmaCredit = amtOf b := (if_pos b.isLt).symm
theorem amt_phi : phi_v.view.dmaCredit = amtOf 4 := rfl
theorem amt_w1 (i : Fin 5) : (w1vW i).view.dmaCredit = amtOf (5 + i) := by
  unfold amtOf; rw [if_neg (by omega), if_neg (by omega), if_pos (by omega)]
theorem amt_w2 (i : Fin 5) (c : Fin 4) : (w2vW i c).view.dmaCredit = amtOf (10 + 4 * i + c) := by
  unfold amtOf; rw [if_neg (by omega), if_neg (by omega), if_neg (by omega), if_pos (by omega)]
theorem amt_s1 (i : Fin 5) : (s1vW i).view.dmaCredit = amtOf (30 + 2 * i + (0 : Fin 2)) := by
  have h : 30 + 2 * (i : ℕ) + ((0 : Fin 2) : ℕ) < 40 ∧ (30 + 2 * (i : ℕ) + ((0 : Fin 2) : ℕ)) % 2 = 0 := by
    show 30 + 2 * (i : ℕ) + 0 < 40 ∧ (30 + 2 * (i : ℕ) + 0) % 2 = 0; omega
  unfold amtOf; rw [if_neg (by omega), if_neg (by omega), if_neg (by omega), if_neg (by omega), if_pos h.1, if_pos h.2]
theorem amt_s2 (i : Fin 5) : (s2vW i).view.dmaCredit = amtOf (30 + 2 * i + (1 : Fin 2)) := by
  have h : 30 + 2 * (i : ℕ) + ((1 : Fin 2) : ℕ) < 40 ∧ ¬ (30 + 2 * (i : ℕ) + ((1 : Fin 2) : ℕ)) % 2 = 0 := by
    show 30 + 2 * (i : ℕ) + 1 < 40 ∧ ¬ (30 + 2 * (i : ℕ) + 1) % 2 = 0; omega
  unfold amtOf; rw [if_neg (by omega), if_neg (by omega), if_neg (by omega), if_neg (by omega), if_pos h.1, if_neg h.2]
theorem amt_hc (e : Fin 24) : (hcW hc_h e).view.dmaCredit = amtOf 40 := rfl
theorem amt_out (n : Fin 4) : (outW out_h n).view.dmaCredit = amtOf (44 + n) := by
  unfold amtOf
  rw [if_neg (by omega), if_neg (by omega), if_neg (by omega), if_neg (by omega), if_neg (by omega), if_neg (by omega), if_neg (by omega),
    if_neg (by omega), if_pos (by omega)]
theorem amt_ys (n : Fin 4) : (ysW ys_h n).view.dmaCredit = amtOf (48 + n) := by
  unfold amtOf
  rw [if_neg (by omega), if_neg (by omega), if_neg (by omega), if_neg (by omega), if_neg (by omega), if_neg (by omega), if_neg (by omega),
    if_neg (by omega), if_neg (by omega)]

theorem oSem_val (n : Fin 4) : (oSem n).val = 44 + n := (outSem_val _).trans (by show 40 + (4 + n.val) = _; omega)
theorem ySem_val (n : Fin 4) : (ySem n).val = 48 + n := (outSem_val _).trans (by show 40 + (8 + n.val) = _; omega)

theorem abs_startX (b : Fin 4) : Abs amtOf cap (startX b : P F PUnit) [.start (flX b)] :=
  Abs.start (fits (inSem_val _) rfl rfl (win_has main_arg0 _ _ _ _ _) (win_has cc0_scratch0 _ _ _ _ _) (amt_x b) (by decide))
theorem abs_waitX (b : Fin 4) : Abs amtOf cap (waitX b : P F PUnit) [.wait b] := Abs.wait (inSem_val _) (amt_x b)
theorem abs_startPhi : Abs amtOf cap (startPhi : P F PUnit) [.start flPhi] :=
  Abs.start (fits (inSem_val _) rfl rfl (fun i _ => Reg.has_all main_arg1 i) (fun i _ => Reg.has_all cc0_scratch1 i) amt_phi (by decide))
theorem abs_waitPhi : Abs amtOf cap (waitPhi : P F PUnit) [.wait 4] := Abs.wait (inSem_val _) amt_phi
theorem abs_startS1 (e : Fin 24) (i : Fin 5) : Abs amtOf cap (startS1 e i : P F PUnit) [.start (flS1 e i)] :=
  Abs.start (fits (sSem_val _ _) rfl rfl (win_has main_arg3 _ _ _ _ _) (win_has cc0_scratch4 _ _ _ _ _) (amt_s1 i) (by decide))
theorem abs_startS2 (e : Fin 24) (i : Fin 5) : Abs amtOf cap (startS2 e i : P F PUnit) [.start (flS2 e i)] :=
  Abs.start (fits (sSem_val _ _) rfl rfl (win_has main_arg5 _ _ _ _ _) (win_has cc0_scratch5 _ _ _ _ _) (amt_s2 i) (by decide))
theorem abs_startW1 (e : Fin 24) (i : Fin 5) : Abs amtOf cap (startW1 e i : P F PUnit) [.start (flW1 e i)] :=
  Abs.start (fits (w1Sem_val _) rfl rfl (win_has main_arg2 _ _ _ _ _) (win_has cc0_scratch2 _ _ _ _ _) (amt_w1 i) (by decide))
theorem abs_startW2 (e : Fin 24) (i : Fin 5) (c : Fin 4) : Abs amtOf cap (startW2 e i c : P F PUnit) [.start (flW2 e i c)] :=
  Abs.start (fits (w2Sem_val _ _) rfl rfl (win_has main_arg4 _ _ _ _ _) (win_has cc0_scratch3 _ _ _ _ _) (amt_w2 i c) (by decide))
theorem abs_waitS1 (e : Fin 24) (i : Fin 5) : Abs amtOf cap (waitS1 e i : P F PUnit) [.wait (30 + 2 * i + (0 : Fin 2))] := Abs.wait (sSem_val _ _) (amt_s1 i)
theorem abs_waitS2 (e : Fin 24) (i : Fin 5) : Abs amtOf cap (waitS2 e i : P F PUnit) [.wait (30 + 2 * i + (1 : Fin 2))] := Abs.wait (sSem_val _ _) (amt_s2 i)
theorem abs_waitW1 (e : Fin 24) (i : Fin 5) : Abs amtOf cap (waitW1 e i : P F PUnit) [.wait (5 + i)] := Abs.wait (w1Sem_val _) (amt_w1 i)
theorem abs_waitW2 (e : Fin 24) (i : Fin 5) (c : Fin 4) : Abs amtOf cap (waitW2 e i c : P F PUnit) [.wait (10 + 4 * i + c)] := Abs.wait (w2Sem_val _ _) (amt_w2 i c)
theorem abs_startHc (e : Fin 24) : Abs amtOf cap (startHc e : P F PUnit) [.start (flHc e)] :=
  Abs.start (fits (outSem_val _) rfl rfl (win_has cc0_scratch13 _ _ _ _ _) (win_has main_v0_4 _ _ _ _ _) (amt_hc e) (by decide))
theorem abs_waitHc (e : Fin 24) : Abs amtOf cap (waitHc e : P F PUnit) [.wait 40] := Abs.wait (outSem_val _) (amt_hc e)
theorem abs_startSmall : Abs amtOf cap (startSmall : P F PUnit) ([.start flSc] ++ ([.start flSs] ++ [.start flHs])) :=
  Abs.bind (Abs.start (fits (outSem_val 1) rfl rfl (fun i _ => Reg.has_all cc0_scratch12 i) (fun i _ => Reg.has_all main_v0_2 i) rfl (by decide))) fun _ =>
  Abs.bind (Abs.start (fits (outSem_val 2) rfl rfl (fun i _ => Reg.has_all cc0_scratch16 i) (fun i _ => Reg.has_all main_v0_3 i) rfl (by decide))) fun _ =>
  Abs.start (fits (outSem_val 3) rfl rfl (fun i _ => Reg.has_all cc0_scratch17 i) (fun i _ => Reg.has_all main_v0_5 i) rfl (by decide))
theorem abs_waitSmall : Abs amtOf cap (waitSmall : P F PUnit) ([.wait 41] ++ ([.wait 42] ++ [.wait 43])) :=
  Abs.bind (Abs.wait (outSem_val 1) rfl) fun _ => Abs.bind (Abs.wait (outSem_val 2) rfl) fun _ => Abs.wait (outSem_val 3) rfl
theorem abs_startTile (n : Fin 4) : Abs amtOf cap (startTile n : P F PUnit) ([.start (flOut n)] ++ [.start (flYs n)]) :=
  Abs.bind (Abs.start (fits (oSem_val n) rfl rfl (slice_has cc0_scratch11 _ _ _ _) (slice_has main_v0_0 _ _ _ _) (amt_out n) (by decide))) fun _ =>
  Abs.start (fits (ySem_val n) rfl rfl (slice_has cc0_scratch10 _ _ _ _) (slice_has main_v0_1 _ _ _ _) (amt_ys n) (by decide))
theorem abs_waitTile (n : Fin 4) : Abs amtOf cap (waitTile n : P F PUnit) ([.wait (44 + n)] ++ [.wait (48 + n)]) :=
  Abs.bind (Abs.wait (oSem_val n) (amt_out n)) fun _ => Abs.wait (ySem_val n) (amt_ys n)

/-! ## Repetition -/

def forEnts : (n : ℕ) → (Fin n → List Ent) → List Ent
  | 0, _ => []
  | n + 1, o => o 0 ++ forEnts n fun i => o i.succ

theorem abs_forFin : ∀ (n : ℕ) {f : Fin n → P F PUnit} {o : Fin n → List Ent}, (∀ i, Abs amtOf cap (f i) (o i)) → Abs amtOf cap (forFin n f) (forEnts n o)
  | 0, _, _, _ => Abs.ret _
  | n + 1, _, _, h => Abs.bind (h 0) fun _ => abs_forFin n fun i => h i.succ

theorem local_forFin {rs : List Reg} : ∀ (n : ℕ) {f : Fin n → P F PUnit}, (∀ i, Local rs (f i)) → Local rs (forFin n f)
  | 0, _, _ => trivial
  | n + 1, _, h => Local.bind (h 0) fun _ => local_forFin n fun i => h i.succ

theorem local_gather {rs : List Reg} {α : Type} : ∀ (n : ℕ) {f : Fin n → P F α}, (∀ i, Local rs (f i)) → Local rs (gather n f)
  | 0, _, _ => trivial
  | n + 1, _, h => Local.bind (h 0) fun _ => Local.bind (local_gather n fun i => h i.succ) fun _ => trivial

theorem abs_forFrom {n : ℕ} {f : Fin n → P F PUnit} {o : Fin n → List Ent} (h : ∀ i, Abs amtOf cap (f i) (o i)) : ∀ l : List (Fin n),
    Abs amtOf cap (Scf.forFrom (fun t (_ : PUnit) => f t) l ⟨⟩) (l.flatMap o)
  | [] => Abs.ret _
  | k :: ks => by
    rw [Scf.forFrom_cons, List.flatMap_cons]
    exact Abs.bind (h k) fun _ => abs_forFrom h ks

/-! ## The accesses -/

theorem local_load {rs : List Reg} (b : Ref sig .tc) {cs : CoreSpace} {s : Shape} {e : EltTy} {m : Memref sig .tc cs s e} (hm : m.view.ref = b) {r : LoadRect s}
    {h} (hb : Reg.all b ∈ rs) : Local rs (Prog.lift (.load m r h) : P F _) := by
  subst hm
  exact ⟨fun i _ => ⟨_, hb, rfl, fun k p h => absurd h (by simp [Reg.all])⟩, fun _ => trivial⟩

theorem local_store {rs : List Reg} (b : Ref sig .tc) {cs : CoreSpace} {s : Shape} {e : EltTy} {m : Memref sig .tc cs s e} {r : Rect s} (hm : (m.access r).ref = b)
    {w M h h'} (hb : Reg.all b ∈ rs) : Local rs (Prog.lift (.store m r w M h h') : P F _) := by
  subst hm
  exact ⟨fun i _ => ⟨_, hb, rfl, fun k p h => absurd h (by simp [Reg.all])⟩, fun _ => trivial⟩

theorem local_loadIn {rs : List Reg} {cs : CoreSpace} {s : Shape} {e : EltTy} {m : Memref sig .tc cs s e} {r : LoadRect s}
    {h} {g : Reg} (hg : g ∈ rs) (hb : ∀ i ∈ m.view.setOn r.set, g.Has m.view.ref i) : Local rs (Prog.lift (.load m r h) : P F _) :=
  ⟨fun i hi => ⟨g, hg, hb i hi⟩, fun _ => trivial⟩

theorem local_storeIn {rs : List Reg} {cs : CoreSpace} {s : Shape} {e : EltTy} {m : Memref sig .tc cs s e} {r : Rect s}
    {w M h h'} {g : Reg} (hg : g ∈ rs) (hb : ∀ i ∈ (m.access r).setOn M, g.Has (m.access r).ref i) : Local rs (Prog.lift (.store m r w M h h') : P F _) :=
  ⟨fun i hi => ⟨g, hg, hb i hi⟩, fun _ => trivial⟩

theorem iv1 {n : ℕ} {off size : Fin n → ℕ} {l u : ℕ} (h0 : 0 < n) (hl : l ≤ off ⟨0, h0⟩) (hu : off ⟨0, h0⟩ + size ⟨0, h0⟩ ≤ u) :
    ∀ (k : ℕ) (p : ℕ × ℕ), [(l, u)][k]? = some p → ∃ h : k < n, p.1 ≤ off ⟨k, h⟩ ∧ off ⟨k, h⟩ + size ⟨k, h⟩ ≤ p.2
  | 0, p, h => by cases h; exact ⟨h0, hl, hu⟩
  | k + 1, p, h => by simp at h

theorem iv2 {n : ℕ} {off size : Fin n → ℕ} {l u l' u' : ℕ} (h1 : 1 < n) (hl : l ≤ off ⟨0, by omega⟩) (hu : off ⟨0, by omega⟩ + size ⟨0, by omega⟩ ≤ u)
    (hl' : l' ≤ off ⟨1, h1⟩) (hu' : off ⟨1, h1⟩ + size ⟨1, h1⟩ ≤ u') :
    ∀ (k : ℕ) (p : ℕ × ℕ), [(l, u), (l', u')][k]? = some p → ∃ h : k < n, p.1 ≤ off ⟨k, h⟩ ∧ off ⟨k, h⟩ + size ⟨k, h⟩ ≤ p.2
  | 0, p, h => by cases h; exact ⟨by omega, hl, hu⟩
  | 1, p, h => by cases h; exact ⟨h1, hl', hu'⟩
  | k + 2, p, h => by simp at h

theorem iv3 {n : ℕ} {off size : Fin n → ℕ} {l u l' u' l'' u'' : ℕ} (h2 : 2 < n) (hl : l ≤ off ⟨0, by omega⟩) (hu : off ⟨0, by omega⟩ + size ⟨0, by omega⟩ ≤ u)
    (hl' : l' ≤ off ⟨1, by omega⟩) (hu' : off ⟨1, by omega⟩ + size ⟨1, by omega⟩ ≤ u') (hl'' : l'' ≤ off ⟨2, h2⟩) (hu'' : off ⟨2, h2⟩ + size ⟨2, h2⟩ ≤ u'') :
    ∀ (k : ℕ) (p : ℕ × ℕ), [(l, u), (l', u'), (l'', u'')][k]? = some p → ∃ h : k < n, p.1 ≤ off ⟨k, h⟩ ∧ off ⟨k, h⟩ + size ⟨k, h⟩ ≤ p.2
  | 0, p, h => by cases h; exact ⟨by omega, hl, hu⟩
  | 1, p, h => by cases h; exact ⟨by omega, hl', hu'⟩
  | 2, p, h => by cases h; exact ⟨h2, hl'', hu''⟩
  | k + 3, p, h => by simp at h

theorem load_has (b : Ref sig .tc) {off size : Fin b.ty.shape.rank → ℕ} {inb} {iv : List (ℕ × ℕ)}
    (hiv : ∀ (k : ℕ) (p : ℕ × ℕ), iv[k]? = some p → ∃ h : k < b.ty.shape.rank, p.1 ≤ off ⟨k, h⟩ ∧ off ⟨k, h⟩ + size ⟨k, h⟩ ≤ p.2) :
    ∀ i ∈ (Memref.whole b).view.setOn (Rect.unit (s := b.ty.shape) off size inb).toLoadRect.set, (⟨code b, iv⟩ : Reg).Has b i := by
  intro i hi
  rw [setOn_whole] at hi
  exact Reg.has_unit hiv hi

theorem store_has (b : Ref sig .tc) {off size : Fin b.ty.shape.rank → ℕ} {inb} {iv : List (ℕ × ℕ)}
    (hiv : ∀ (k : ℕ) (p : ℕ × ℕ), iv[k]? = some p → ∃ h : k < b.ty.shape.rank, p.1 ≤ off ⟨k, h⟩ ∧ off ⟨k, h⟩ + size ⟨k, h⟩ ≤ p.2) {M} :
    ∀ i ∈ ((Memref.whole b).access (Rect.unit (s := b.ty.shape) off size inb)).setOn M, (⟨code b, iv⟩ : Reg).Has b i := by
  intro i hi
  have hi' : i ∈ ((View.whole b).slice (Rect.unit (s := b.ty.shape) off size inb)).set := View.setOn_subset_set _ _ hi
  rw [View.set_slice_whole] at hi'
  exact Reg.has_unit hiv hi'

/-! ## The stages -/

def routeRegs (b : Fin 4) : List Reg := [⟨code cc0_scratch0, [(b, b + 1)]⟩, .all cc0_scratch1, .all cc0_scratch6, .all cc0_scratch7]

theorem local_route (b : Fin 4) : Local (routeRegs b) (route b : P F PUnit) := by
  refine Local.bind (local_loadIn (g := ⟨code cc0_scratch0, [((b : ℕ), (b : ℕ) + 1)]⟩) (by simp [routeRegs]) (load_has cc0_scratch0 (iv1 (by decide) le_rfl le_rfl))) fun x => ?_
  refine Local.bind (local_load cc0_scratch1 rfl (by simp [routeRegs])) fun phi => ?_
  refine Local.bind (local_load cc0_scratch6 rfl (by simp [routeRegs])) fun _ => ?_
  refine Local.bind (local_store cc0_scratch6 rfl (by simp [routeRegs])) fun _ => ?_
  refine local_forFin 8 fun p => ?_
  refine Local.bind (local_load cc0_scratch7 rfl (by simp [routeRegs])) fun _ => ?_
  exact local_store cc0_scratch7 rfl (by simp [routeRegs])

def upRegs (slot : Fin 5) (e : Fin 24) : List Reg :=
  [.all cc0_scratch7, .all cc0_scratch8, .all cc0_scratch9, .all cc0_scratch12, .all cc0_scratch14, .all cc0_scratch15,
    ⟨code cc0_scratch4, [(slot, slot + 1)]⟩, ⟨code cc0_scratch2, box ![(slot : ℕ), 0, 0] S1x1024x4096.size⟩, ⟨code cc0_scratch13, [(0, 4), (e, e + 1)]⟩]

theorem local_up (slot : Fin 5) (e : Fin 24) (rows : Fin 4 → Fin 191) (srow : Fin 185) : Local (upRegs slot e) (up slot e rows srow : P F PUnit) := by
  refine Local.bind (local_gather 8 fun p => local_gather 4 fun b => local_load cc0_scratch7 rfl (by simp [upRegs])) fun v => ?_
  refine Local.bind ?_ fun _ => Local.bind (local_forFin 16 fun n => ?_) fun _ => Local.bind (local_load cc0_scratch8 rfl (by simp [upRegs])) fun h => ?_
  · refine Local.bind (local_forFin 4 fun b => Local.bind (local_load cc0_scratch12 rfl (by simp [upRegs])) fun _ => local_store cc0_scratch12 rfl (by simp [upRegs])) fun _ => ?_
    refine Local.bind (local_load cc0_scratch14 rfl (by simp [upRegs])) fun _ => Local.bind (local_store cc0_scratch14 rfl (by simp [upRegs])) fun _ => ?_
    exact Local.bind (local_load cc0_scratch9 rfl (by simp [upRegs])) fun _ => local_store cc0_scratch9 rfl (by simp [upRegs])
  · refine Local.bind (local_gather 8 fun i => ?_) fun p => ?_
    · refine Local.bind (local_load cc0_scratch9 rfl (by simp [upRegs])) fun a => Local.bind ?_ fun s0 => Local.bind ?_ fun s1 => trivial
      · exact ⟨fun i hi => ⟨⟨code cc0_scratch4, [((slot : ℕ), (slot : ℕ) + 1)]⟩, by simp [upRegs], load_has cc0_scratch4 (iv := [((slot : ℕ), (slot : ℕ) + 1)]) (iv1 (by decide) le_rfl le_rfl) i hi⟩, fun _ => trivial⟩
      · exact ⟨fun i hi => ⟨⟨code cc0_scratch4, [((slot : ℕ), (slot : ℕ) + 1)]⟩, by simp [upRegs], load_has cc0_scratch4 (iv := [((slot : ℕ), (slot : ℕ) + 1)]) (iv1 (by decide) le_rfl le_rfl) i hi⟩, fun _ => trivial⟩
    · refine Local.bind (local_loadIn (g := ⟨code cc0_scratch2, box ![(slot : ℕ), 0, 0] S1x1024x4096.size⟩) (by simp [upRegs]) fun i hi =>
        win_has cc0_scratch2 _ _ _ _ _ i (View.setOn_subset_set _ _ hi)) fun w => ?_
      exact Local.bind (local_load cc0_scratch8 rfl (by simp [upRegs])) fun _ => local_store cc0_scratch8 rfl (by simp [upRegs])
  · refine Local.bind (local_forFin 4 fun b => Local.bind ?_ fun _ => ?_) fun _ => ?_
    · exact local_loadIn (g := ⟨code cc0_scratch13, [(0, 4), ((e : ℕ), (e : ℕ) + 1)]⟩) (by simp [upRegs])
        (load_has cc0_scratch13 (iv2 (by decide) (Nat.zero_le _) (by exact (show (b : ℕ) + 1 ≤ 4 by omega)) le_rfl le_rfl))
    · exact local_storeIn (g := ⟨code cc0_scratch13, [(0, 4), ((e : ℕ), (e : ℕ) + 1)]⟩) (by simp [upRegs])
        (store_has cc0_scratch13 (iv2 (by decide) (Nat.zero_le _) (show (b : ℕ) + 1 ≤ 4 by omega) le_rfl le_rfl))
    · refine Local.bind (local_load cc0_scratch15 rfl (by simp [upRegs])) fun _ => Local.bind (local_store cc0_scratch15 rfl (by simp [upRegs])) fun _ => ?_
      exact Local.bind (local_load cc0_scratch9 rfl (by simp [upRegs])) fun _ => local_store cc0_scratch9 rfl (by simp [upRegs])

/-- A rectangle of a squeezed slot of the second weights. -/
theorem w2_has (slot : Fin 5) (n : Fin 4) : ∀ i ∈ ((w2_v.slice (Rect.unit (s := S5x4096x1024) ![(slot : ℕ), 0, 0] S1x4096x1024.size (inb_w2s slot)) (fun _ => rfl)).squeeze S4096x1024 squeezes_S1x4096x1024_S4096x1024).view.setOn
      (Rect.unit (s := S4096x1024) ![0, 256 * (n : ℕ)] S4096x256.size (inb_w2c n)).toLoadRect.set,
    (⟨code cc0_scratch3, [(slot, slot + 1), (0, 4096), (256 * n, 256 * n + 256)]⟩ : Reg).Has cc0_scratch3 i := by
  intro i hi
  obtain ⟨x, hx, rfl⟩ := Finset.mem_map.mp hi
  have hx1 := Rect.mem_set_unit.mp hx 1
  have hx0 := Rect.mem_set_unit.mp hx 0
  refine Reg.has_unit (b := cc0_scratch3) (off := ![(slot : ℕ), 0, 256 * (n : ℕ)]) (size := S1x4096x256.size) (inb := inb_w2v slot n)
    (iv3 (by decide) le_rfl le_rfl le_rfl le_rfl le_rfl le_rfl) (Rect.mem_set_unit.mpr ?_)
  have e : ∀ h : S4096x1024.numel = S1x4096x1024.numel, Shape.reshapeEquiv h x = (Fin.cons ⟨0, Nat.one_pos⟩ x : (a : Fin 3) → Fin (Matrix.vecCons 1 ![4096, 1024] a)) :=
    fun h => Shape.reshapeEquiv_cons_one (d := ![4096, 1024]) h x
  have key : ∀ a : Fin 3, ((((w2_v.slice (Rect.unit (s := S5x4096x1024) ![(slot : ℕ), 0, 0] S1x4096x1024.size (inb_w2s slot)) (fun _ => rfl)).squeeze S4096x1024 squeezes_S1x4096x1024_S4096x1024).view.emb x : S5x4096x1024.Idx) a : ℕ)
      = ![(slot : ℕ), 0, 0] a + 1 * ((Fin.cons ⟨0, Nat.one_pos⟩ x : (a : Fin 3) → Fin (Matrix.vecCons 1 ![4096, 1024] a)) a : ℕ) := fun a => by
    rw [← e (by decide +kernel)]; rfl
  have x0 := (x 0).isLt
  intro a
  have ka := key a
  match a with
  | 0 => exact ⟨ka ▸ Nat.le_add_right _ _, lt_of_eq_of_lt ka (Nat.lt_succ_self _)⟩
  | 1 => exact ⟨Nat.zero_le _, lt_of_eq_of_lt ka (by show 0 + 1 * (x 0 : ℕ) < 0 + 4096; have : (x 0 : ℕ) < 4096 := x0; omega)⟩
  | 2 =>
    have h1 : 256 * (n : ℕ) ≤ (x 1 : ℕ) ∧ (x 1 : ℕ) < 256 * (n : ℕ) + 256 := hx1
    exact ⟨le_of_le_of_eq (by show 256 * (n : ℕ) ≤ 0 + 1 * (x 1 : ℕ); omega) ka.symm, lt_of_eq_of_lt ka (by show 0 + 1 * (x 1 : ℕ) < 256 * (n : ℕ) + 256; omega)⟩

def downRegs (slot : Fin 5) (n : Fin 4) : List Reg :=
  [.all cc0_scratch9, ⟨code cc0_scratch5, [(slot, slot + 1)]⟩, ⟨code cc0_scratch3, [(slot, slot + 1), (0, 4096), (256 * n, 256 * n + 256)]⟩,
    ⟨code cc0_scratch10, [(0, 4), (0, 48), (256 * n, 256 * n + 256)]⟩]

theorem local_down (pack : FVec F S8x256 .bf16 → Fin 4 → Vec F S1x2x256 .bf16) (slot : Fin 5) (e : Fin 24) (n : Fin 4) :
    Local (downRegs slot n) (downTile pack slot e n : P F PUnit) := by
  refine Local.bind (local_gather 32 fun i => ?_) fun p => Local.bind ?_ fun w => local_forFin 4 fun b => Local.bind ?_ fun _ => ?_
  · refine Local.bind (local_load cc0_scratch9 rfl (by simp [downRegs])) fun a => Local.bind ?_ fun s0 => Local.bind ?_ fun s1 => trivial
    · exact ⟨fun i hi => ⟨⟨code cc0_scratch5, [((slot : ℕ), (slot : ℕ) + 1)]⟩, by simp [downRegs], load_has cc0_scratch5 (iv := [((slot : ℕ), (slot : ℕ) + 1)]) (iv1 (by decide) le_rfl le_rfl) i hi⟩, fun _ => trivial⟩
    · exact ⟨fun i hi => ⟨⟨code cc0_scratch5, [((slot : ℕ), (slot : ℕ) + 1)]⟩, by simp [downRegs], load_has cc0_scratch5 (iv := [((slot : ℕ), (slot : ℕ) + 1)]) (iv1 (by decide) le_rfl le_rfl) i hi⟩, fun _ => trivial⟩
  · exact local_loadIn (g := ⟨code cc0_scratch3, [((slot : ℕ), (slot : ℕ) + 1), (0, 4096), (256 * (n : ℕ), 256 * (n : ℕ) + 256)]⟩) (by simp [downRegs]) (w2_has slot n)
  · exact local_loadIn (g := ⟨code cc0_scratch10, [(0, 4), (0, 48), (256 * (n : ℕ), 256 * (n : ℕ) + 256)]⟩) (by simp [downRegs])
      (load_has cc0_scratch10 (iv3 (by decide) (Nat.zero_le _) (by exact (show (b : ℕ) + 1 ≤ 4 by omega)) (Nat.zero_le _) (by exact (show 2 * (e : ℕ) + 2 ≤ 48 by omega)) le_rfl le_rfl))
  · exact local_storeIn (g := ⟨code cc0_scratch10, [(0, 4), (0, 48), (256 * (n : ℕ), 256 * (n : ℕ) + 256)]⟩) (by simp [downRegs])
      (store_has cc0_scratch10 (iv3 (by decide) (Nat.zero_le _) (show (b : ℕ) + 1 ≤ 4 by omega) (Nat.zero_le _) (show 2 * (e : ℕ) + 2 ≤ 48 by omega) le_rfl le_rfl))

def combRegs (n : Fin 4) : List Reg :=
  [.all cc0_scratch6, ⟨code cc0_scratch10, [(0, 4), (0, 48), (256 * n, 256 * n + 256)]⟩, ⟨code cc0_scratch11, [(0, 4), (0, 256), (256 * n, 256 * n + 256)]⟩]

theorem local_combine (n b : Fin 4) : Local (combRegs n) (combine n b : P F PUnit) := by
  refine Local.bind (local_load cc0_scratch6 rfl (by simp [combRegs])) fun c => Local.bind ?_ fun y => Local.bind ?_ fun _ => ?_
  · exact local_loadIn (g := ⟨code cc0_scratch10, [(0, 4), (0, 48), (256 * (n : ℕ), 256 * (n : ℕ) + 256)]⟩) (by simp [combRegs])
      (load_has cc0_scratch10 (iv3 (by decide) (Nat.zero_le _) (by exact (show (b : ℕ) + 1 ≤ 4 by omega)) (Nat.zero_le _) (by exact (show 0 + 48 ≤ 48 by omega)) le_rfl le_rfl))
  · exact local_loadIn (g := ⟨code cc0_scratch11, [(0, 4), (0, 256), (256 * (n : ℕ), 256 * (n : ℕ) + 256)]⟩) (by simp [combRegs])
      (load_has cc0_scratch11 (iv3 (by decide) (Nat.zero_le _) (by exact (show (b : ℕ) + 1 ≤ 4 by omega)) (Nat.zero_le _) (by exact (show 0 + 256 ≤ 256 by omega)) le_rfl le_rfl))
  · exact local_storeIn (g := ⟨code cc0_scratch11, [(0, 4), (0, 256), (256 * (n : ℕ), 256 * (n : ℕ) + 256)]⟩) (by simp [combRegs])
      (store_has cc0_scratch11 (iv3 (by decide) (Nat.zero_le _) (show (b : ℕ) + 1 ≤ 4 by omega) (Nat.zero_le _) (show 0 + 256 ≤ 256 by omega) le_rfl le_rfl))

def scaleRegs : List Reg := [.all cc0_scratch14, .all cc0_scratch15, .all cc0_scratch16, .all cc0_scratch17]

theorem local_scalesS (b : Fin 4) : Local scaleRegs (scales ssr_v ss_v b : P F PUnit) := by
  refine Local.bind (local_load cc0_scratch14 rfl (by simp [scaleRegs])) fun _ => Local.bind (local_load cc0_scratch14 rfl (by simp [scaleRegs])) fun _ => ?_
  exact Local.bind (local_load cc0_scratch16 rfl (by simp [scaleRegs])) fun _ => local_store cc0_scratch16 rfl (by simp [scaleRegs])

theorem local_scalesH (b : Fin 4) : Local scaleRegs (scales hsr_v hs_v b : P F PUnit) := by
  refine Local.bind (local_load cc0_scratch15 rfl (by simp [scaleRegs])) fun _ => Local.bind (local_load cc0_scratch15 rfl (by simp [scaleRegs])) fun _ => ?_
  exact Local.bind (local_load cc0_scratch17 rfl (by simp [scaleRegs])) fun _ => local_store cc0_scratch17 rfl (by simp [scaleRegs])

/-! ## The timetable -/

def expertEnts (e : Fin 24) (i : Fin 5) : List Ent :=
  [.start (flS1 e i)] ++ ([.start (flS2 e i)] ++ ([.start (flW1 e i)] ++ forEnts 4 fun c => [.start (flW2 e i c)]))

theorem abs_startExpert (e : Fin 24) (i : Fin 5) : Abs amtOf cap (startExpert e i : P F PUnit) (expertEnts e i) :=
  Abs.bind (abs_startS1 e i) fun _ => Abs.bind (abs_startS2 e i) fun _ => Abs.bind (abs_startW1 e i) fun _ => abs_forFin 4 fun c => abs_startW2 e i c

def restEnts (slot : Fin 5) (e : Fin 24) : List Ent :=
  [.wait (30 + 2 * slot + (0 : Fin 2))] ++ ([.wait (30 + 2 * slot + (1 : Fin 2))] ++ ([.wait (5 + slot)] ++ ([.touch (upRegs slot e)]
    ++ ((forEnts 4 fun c => [.wait (10 + 4 * slot + c)]) ++ forEnts 4 fun n => [.touch (downRegs slot n)]))))

def turnEnts (c1 c2 : Prop) [Decidable c1] [Decidable c2] (prev : c1 → Fin 24) (next : c2 → Fin 24) (nslot : c2 → Fin 5) (slot : Fin 5) (e : Fin 24) : List Ent :=
  (if h : c1 then [.start (flHc (prev h))] else []) ++ ((if h : c2 then expertEnts (next h) (nslot h) else []) ++ restEnts slot e)

theorem abs_turn (pack : FVec F S8x256 .bf16 → Fin 4 → Vec F S1x2x256 .bf16) (c1 c2 : Prop) [Decidable c1] [Decidable c2]
    (prev : c1 → Fin 24) (next : c2 → Fin 24) (nslot : c2 → Fin 5) (slot : Fin 5) (e : Fin 24) (rows : Fin 4 → Fin 191) (srow : Fin 185) :
    Abs amtOf cap (turn pack c1 c2 prev next nslot slot e rows srow : P F PUnit) (turnEnts c1 c2 prev next nslot slot e) := by
  have hr : Abs amtOf cap (do waitS1 e slot; waitS2 e slot; waitW1 e slot; up slot e rows srow; (forFin 4 fun c => waitW2 e slot c); (forFin 4 fun n => downTile pack slot e n) : P F PUnit) (restEnts slot e) :=
    Abs.bind (abs_waitS1 e slot) fun _ => Abs.bind (abs_waitS2 e slot) fun _ => Abs.bind (abs_waitW1 e slot) fun _ =>
      Abs.bind (Abs.local (local_up slot e rows srow)) fun _ => Abs.bind (abs_forFin 4 fun c => abs_waitW2 e slot c) fun _ =>
      abs_forFin 4 fun n => Abs.local (local_down pack slot e n)
  unfold turn turnEnts
  by_cases h1 : c1 <;> by_cases h2 : c2
  · rw [dif_pos h1, dif_pos h1, dif_pos h2, dif_pos h2]
    exact Abs.bind (abs_startHc _) fun _ => Abs.bind (abs_startExpert _ _) fun _ => hr
  · rw [dif_pos h1, dif_pos h1, dif_neg h2, dif_neg h2]
    exact Abs.bind (abs_startHc _) fun _ => hr
  · rw [dif_neg h1, dif_neg h1, dif_pos h2, dif_pos h2]
    exact (Abs.bind (abs_startExpert _ _) fun _ => hr : Abs amtOf cap _ (expertEnts _ _ ++ restEnts slot e))
  · rw [dif_neg h1, dif_neg h1, dif_neg h2, dif_neg h2]
    exact hr

def turnsEnts (t : Fin k0_t1_loop.trips) : List Ent :=
  turnEnts (k0_cond1 t = 1#1) (k0_cond2 t = 1#1) (fun h => ⟨(Scalar.subi (kiv t) 1#32).toNat, prev_lt t h⟩)
    (fun h => ⟨(Scalar.subi (Scalar.addi (kiv t) 5#32) 1#32).toNat, next_lt t h⟩)
    (fun _ => ⟨(Scalar.remsi (Scalar.subi (Scalar.addi (kiv t) 5#32) 1#32) 5#32).toNat, nslot_lt t⟩)
    ⟨(Scalar.remsi (kiv t) 5#32).toNat, slot_lt t⟩ ⟨(kiv t).toNat, e_lt t⟩

def lastEnts (n : Fin 4) : List Ent := [.touch (downRegs 3 n)] ++ forEnts 4 fun _ => [.touch (combRegs n)]

theorem abs_lastTile (pack : FVec F S8x256 .bf16 → Fin 4 → Vec F S1x2x256 .bf16) (n : Fin 4) : Abs amtOf cap (lastTile pack n : P F PUnit) (lastEnts n) :=
  Abs.bind (Abs.local (local_down pack 3 23 n)) fun _ => abs_forFin 4 fun b => Abs.local (local_combine n b)

def tailEnts : List Ent :=
  [.start (flHc 22)] ++ ([.wait (30 + 2 * (3 : Fin 5) + (0 : Fin 2))] ++ ([.wait (30 + 2 * (3 : Fin 5) + (1 : Fin 2))] ++ ([.wait (5 + (3 : Fin 5))] ++ ([.touch (upRegs 3 23)]
    ++ ((forEnts 4 fun _ => [.touch scaleRegs]) ++ ((forEnts 4 fun _ => [.touch scaleRegs]) ++ ([.wait (10 + 4 * (3 : Fin 5) + (0 : Fin 4))] ++ ([.start (flHc 23)]
    ++ (([.start flSc] ++ ([.start flSs] ++ [.start flHs])) ++ (lastEnts 0
    ++ ((forEnts 3 fun n => [.wait (10 + 4 * (3 : Fin 5) + (n.succ : Fin 4))] ++ (([.start (flOut n.castSucc)] ++ [.start (flYs n.castSucc)]) ++ lastEnts n.succ))
    ++ ([.start (flOut 3)] ++ [.start (flYs 3)]))))))))))))

theorem abs_tail (pack : FVec F S8x256 .bf16 → Fin 4 → Vec F S1x2x256 .bf16) : Abs amtOf cap (tail pack : P F PUnit) tailEnts :=
  Abs.bind (abs_startHc 22) fun _ => Abs.bind (abs_waitS1 23 3) fun _ => Abs.bind (abs_waitS2 23 3) fun _ => Abs.bind (abs_waitW1 23 3) fun _ =>
  Abs.bind (Abs.local (local_up 3 23 _ _)) fun _ => Abs.bind (abs_forFin 4 fun b => Abs.local (local_scalesS b)) fun _ =>
  Abs.bind (abs_forFin 4 fun b => Abs.local (local_scalesH b)) fun _ => Abs.bind (abs_waitW2 23 3 0) fun _ => Abs.bind (abs_startHc 23) fun _ =>
  Abs.bind abs_startSmall fun _ => Abs.bind (abs_lastTile pack 0) fun _ =>
  Abs.bind (abs_forFin 3 fun n => Abs.bind (abs_waitW2 23 3 n.succ) fun _ => Abs.bind (abs_startTile n.castSucc) fun _ => abs_lastTile pack n.succ) fun _ =>
  abs_startTile 3

def prologueEnts : List Ent :=
  [.start flPhi] ++ ((forEnts 4 fun b => [.start (flX b)]) ++ ((forEnts 5 fun e => expertEnts (e.castLE (by decide)) e) ++ ([.wait 4]
    ++ forEnts 4 fun b => [.wait b] ++ [.touch (routeRegs b)])))

theorem abs_prologue : Abs amtOf cap (prologue : P F PUnit) prologueEnts :=
  Abs.bind abs_startPhi fun _ => Abs.bind (abs_forFin 4 fun b => abs_startX b) fun _ => Abs.bind (abs_forFin 5 fun e => abs_startExpert _ e) fun _ =>
  Abs.bind abs_waitPhi fun _ => abs_forFin 4 fun b => Abs.bind (abs_waitX b) fun _ => Abs.local (local_route b)

def drainEnts : List Ent := ([.wait 41] ++ ([.wait 42] ++ [.wait 43])) ++ forEnts 4 fun n => [.wait (44 + n)] ++ [.wait (48 + n)]

def bodyEnts : List Ent :=
  prologueEnts ++ ((List.finRange k0_t1_loop.trips).flatMap turnsEnts ++ (tailEnts ++ (((List.finRange k0_t2_loop.trips).flatMap fun _ => [.wait 40]) ++ drainEnts)))

theorem abs_body (pack : FVec F S8x256 .bf16 → Fin 4 → Vec F S1x2x256 .bf16) : Abs amtOf cap (body pack : P F PUnit) bodyEnts := by
  refine Abs.bind abs_prologue fun _ => Abs.bind ?_ fun _ => Abs.bind (abs_tail pack) fun _ => Abs.bind ?_ fun _ => ?_
  · show Abs amtOf cap (Scf.for _ _ _ _ _ _) _
    rw [Scf.for_eq]
    exact abs_forFrom (fun t => abs_turn pack _ _ _ _ _ _ _ _ _) _
  · show Abs amtOf cap (Scf.for _ _ _ _ _ _) _
    rw [Scf.for_eq]
    exact abs_forFrom (fun t => abs_waitHc _) _
  · exact Abs.bind abs_waitSmall fun _ => abs_forFin 4 fun n => abs_waitTile n

/-- The timetable ends with nothing in flight. -/
def clean : Option Abst → Bool
  | some ⟨[], []⟩ => true
  | _ => false

theorem clean_spec : ∀ {x : Option Abst}, clean x = true → x = some ⟨[], []⟩
  | some ⟨[], []⟩, _ => rfl
  | none, h => absurd h (by simp [clean])
  | some ⟨_ :: _, _⟩, h => absurd h (by simp [clean])
  | some ⟨[], _ :: _⟩, h => absurd h (by simp [clean])

theorem runs_body : runs cap bodyEnts ⟨[], []⟩ = some ⟨[], []⟩ := clean_spec (by decide +kernel)

end Cert.KernelIdeal.Clean
-- ==== Proof.Enter.lean ====
/-
  From the launch's resources to the kernel's and back: the core starts with every buffer whole and every semaphore at zero,
  runs the kernel under its timetable, and ends with every buffer whole and every semaphore at zero.
-/
module

public import proofs.«01_k».proof.Proof.Timetable
public import Idealize.ShloMosaic.Lib.Pipeline.FrameValue
public import Idealize.ShloMosaic.Lib.Transfers

@[expose] public section

noncomputable section

namespace Cert.KernelIdeal.Clean

open Idealize.ShloMosaic Idealize.SL
open Idealize.SL.BI (sProp bigSep)
open scoped Idealize.SL.BI
open Idealize.SL.BI.BIBase Idealize.SL.BI.Laws Idealize.SL.Sem Idealize.SL.ProofMode
open Idealize.SL.RA
open Cert.KernelIdeal.Gen
open Safe

variable {F : FTy → Type} [FloatOps F]

local notation "𝕄" => MT nD τ sig Unit (Elt F) ℕ (Pipeline.UD sig nD τ) ℕ

/-- A family held at some contents each is held at one choice of contents. -/
theorem bigSep_choose {M : Type} [URA M] {I : Type} [DecidableEq I] {A : I → Type} (P : (i : I) → A i → sProp M) (d : (i : I) → A i) (s : Finset I) :
    bigSep s (fun i => iprop(∃ a, P i a)) ⊢ iprop(∃ g : (i : I) → A i, bigSep s fun i => P i (g i)) := by
  induction s using Finset.induction_on with
  | empty => rw [BI.bigSep_empty]; iintro H; iexists d; rw [BI.bigSep_empty]; iexact H
  | insert i s hi ih =>
    rw [BI.bigSep_insert hi]
    show iprop((∃ a, P i a) ∗ bigSep s fun i => iprop(∃ a, P i a)) ⊢ _
    iintro ⟨⟨%a, Ha⟩, Hs⟩
    ihave Hs' := ih $$ Hs
    icases Hs' with ⟨%g, Hg⟩
    iexists Function.update g i a
    iapply (Entails.of_eq (show iprop(P i a ∗ bigSep s fun j => P j (g j)) = bigSep (insert i s) fun j => P j (Function.update g i a j) by
      rw [BI.bigSep_insert hi, Function.update_self]
      congr 1
      refine BI.bigSep_congr fun j hj => ?_
      rw [Function.update_of_ne fun e : j = i => hi (e ▸ hj)]))
    isplitl [Ha] <;> iassumption

/-- Buffers held at equal contents. -/
theorem held_congr (c : Dev nD) {s : Finset (Ref sig .tc)} {f g : Mem sig (Elt F)} (h : ∀ b ∈ s, f b = g b) :
    (bigSep s fun b => ((c.tc : Thread nD τ).loc b) ↦{fullShare} f b : sProp 𝕄) ⊢ bigSep s fun b => ((c.tc : Thread nD τ).loc b) ↦{fullShare} g b :=
  Entails.of_eq (BI.bigSep_congr fun b hb => by rw [h b hb])

theorem held_some (c : Dev nD) (f : Mem sig (Elt F)) (s : Finset (Ref sig .tc)) :
    (bigSep s fun b => ((c.tc : Thread nD τ).loc b) ↦{fullShare} f b : sProp 𝕄)
      ⊢ bigSep s fun b => iprop(∃ f : Buf (Elt F) ((c.tc : Thread nD τ).loc b), ((c.tc : Thread nD τ).loc b) ↦{fullShare} f) :=
  BI.bigSep_mono fun b _ => (exists_intro (f b) : (_ : sProp 𝕄) ⊢ iprop(∃ f : Buf (Elt F) ((c.tc : Thread nD τ).loc b), ((c.tc : Thread nD τ).loc b) ↦{fullShare} f))

/-- The arguments, the results, the kernel's own semaphores. -/
def H0 : Finset (Ref sig .tc) := {main_arg0, main_arg1, main_arg2, main_arg3, main_arg4, main_arg5}
def R0 : Finset (Ref sig .tc) := {main_v0_0, main_v0_1, main_v0_2, main_v0_3, main_v0_4, main_v0_5}
abbrev osem0 : DmaSem sig → SemLoc sig := SemLoc.dma

def scr : Finset (Ref sig .tc) := Finset.univ.filter fun b : Ref sig .tc => b.isScoped

theorem univ_split : (Finset.univ : Finset (Ref sig .tc)) = scr ∪ (H0 ∪ R0) := by decide +kernel
theorem disj_scoped : Disjoint scr (H0 ∪ R0) := by decide +kernel
theorem disj_HR : Disjoint H0 R0 := by decide +kernel

section
variable {gr : ℕ} (win : Fin 0 → Pipeline.WinSpec sig gr)

theorem scopedRest_eq (c : Dev nD) : (Pipeline.scopedRest win c : sProp 𝕄)
    = bigSep scr fun b => iprop(∃ f : Buf (Elt F) ((c.tc : Thread nD τ).loc b), ((c.tc : Thread nD τ).loc b) ↦{fullShare} f) := by
  unfold Pipeline.scopedRest
  have h : Finset.univ.image (Pipeline.stageRef win) = ∅ := by rw [Finset.univ_eq_empty (α := (w : Fin 0) × Fin (win w).nbuf), Finset.image_empty]
  rw [h, Finset.sdiff_empty]; rfl

/-- Every buffer whole, every semaphore at zero. -/
def Whole (c : Dev nD) (m : Mem sig (Elt F)) : sProp 𝕄 :=
  iprop(pts c (fun _ => Finset.univ) m ∗ bigSep Finset.univ fun q : DmaSem sig => semVal ((c.tc : Thread nD τ), SemLoc.dma q) 0)

theorem pts_split (c : Dev nD) (m : Mem sig (Elt F)) : (pts c (fun _ => Finset.univ) m : sProp 𝕄)
    = iprop((bigSep scr fun b => ((c.tc : Thread nD τ).loc b) ↦{fullShare} m b)
      ∗ (bigSep H0 fun b => ((c.tc : Thread nD τ).loc b) ↦{fullShare} m b) ∗ Pipeline.routed R0 c m) := by
  unfold pts
  rw [univ_split, BI.bigSep_union disj_scoped, BI.bigSep_union disj_HR]; rfl

theorem enter (c : Dev nD) (V : (c : Dev nD) → (b : Ref sig .tc) → Buf (Elt F) ((c.tc : Thread nD τ).loc b)) :
    (Pipeline.ΦDRG osem0 win H0 R0 V V c : sProp 𝕄)
      ⊢ iprop(∃ m : Mem sig (Elt F), ⌜∀ b ∈ H0 ∪ R0, m b = V c b⌝ ∗ Whole c m ∗ ∃ r, prngReg c r) := by
  unfold Pipeline.ΦDRG Pipeline.ΦD Pipeline.ownSems0 Pipeline.routed
  rw [scopedRest_eq]
  iintro ⟨⟨Hs, Hr, Hq, HH⟩, HR⟩
  ihave Hs' := (bigSep_choose (fun (b : Ref sig .tc) (f : Buf (Elt F) ((c.tc : Thread nD τ).loc b)) => (((c.tc : Thread nD τ).loc b) ↦{fullShare} f : sProp 𝕄)) (V c) scr) $$ Hs
  icases Hs' with ⟨%g, Hs⟩
  have h1 : ∀ b ∈ scr, (fun b => if b ∈ scr then g b else V c b : Mem sig (Elt F)) b = g b := fun b hb => if_pos hb
  have h2 : ∀ b ∈ H0 ∪ R0, (fun b => if b ∈ scr then g b else V c b : Mem sig (Elt F)) b = V c b :=
    fun b hb => if_neg fun h => Finset.disjoint_left.mp disj_scoped h hb
  generalize (fun b => if b ∈ scr then g b else V c b : Mem sig (Elt F)) = m at h1 h2
  iexists m
  isplitr
  · ipureintro; exact h2
  isplitr [Hr]
  · unfold Whole
    rw [pts_split]
    unfold Pipeline.routed
    isplitr [Hq]
    · isplitl [Hs]
      · iapply (held_congr c fun b hb => (h1 b hb).symm) $$ Hs
      isplitl [HH]
      · iapply (held_congr c fun b hb => (h2 b (Finset.mem_union_left _ hb)).symm) $$ HH
      · iapply (held_congr c fun b hb => (h2 b (Finset.mem_union_right _ hb)).symm) $$ HR
    · iexact Hq
  · iexact Hr

theorem leave (c : Dev nD) (V : (c : Dev nD) → (b : Ref sig .tc) → Buf (Elt F) ((c.tc : Thread nD τ).loc b)) (m : Mem sig (Elt F))
    (hm : ∀ b ∈ H0, m b = V c b) (PG : ((b : Ref sig .tc) → Buf (Elt F) ((c.tc : Thread nD τ).loc b)) → Prop) (hPG : PG m) :
    iprop(Whole c m ∗ ∃ r, prngReg c r) ⊢ (iprop(Pipeline.ΦD osem0 win H0 V c ∗ Pipeline.routedSat R0 c PG) : sProp 𝕄) := by
  unfold Pipeline.ΦD Whole Pipeline.routedSat Pipeline.ownSems0
  rw [scopedRest_eq, pts_split]
  iintro ⟨⟨⟨Hs, HH, HR⟩, Hq⟩, Hr⟩
  isplitr [HR]
  · isplitl [Hs]
    · iapply (held_some c m scr) $$ Hs
    isplitl [Hr]; · iexact Hr
    isplitl [Hq]; · iexact Hq
    iapply (held_congr c hm) $$ HH
  · iexists m
    isplitr
    · ipureintro; exact hPG
    iexact HR
end

/-- The state before the kernel's first step. -/
def st0 (m : Mem sig (Elt F)) : St sig (Elt F) := ⟨m, fun _ _ => none, fun _ => 0, fun _ => 0, fun _ => 0⟩

theorem rel_st0 (m : Mem sig (Elt F)) : Rel amtOf ⟨[], []⟩ (st0 m) where
  lock _ _ _ h := nomatch h
  sent _ := rfl
  got _ := rfl
  amt _ h := absurd rfl h

abbrev EC0 : UEmb Counters 𝕄 := countersEmb (U := Pipeline.UD sig nD τ)

theorem world_of_whole (c : Dev nD) (m : Mem sig (Elt F)) (W : Waits sig Unit) :
    iprop(Whole c m ∗ owes (c.tc : Thread nD τ) 0 W) ⊢ (World EC0 () (fun q => cap q.val) c Finset.univ (st0 m) : sProp 𝕄) := by
  unfold World Whole
  iintro ⟨⟨Hp, Hq⟩, HW⟩
  iexists (fun _ => []), W
  isplitr
  · ipureintro
    exact ⟨fun _ => rfl, fun _ _ => rfl, fun _ h => absurd rfl h, fun _ _ h => (nomatch h), fun _ _ _ h => (nomatch h), fun _ _ h => (nomatch h)⟩
  isplitl [Hp]
  · iapply (pts_sets c (f := m) (S := fun _ => Finset.univ) (T := (st0 m).own) (by
      funext b; exact (Finset.filter_true_of_mem fun _ _ => rfl).symm)) $$ Hp
  isplitl [Hq]
  · iapply (Entails.of_eq (BI.bigSep_congr (Ψ := fun q => cell EC0 () (fun q => cap q.val) c (st0 m) q []) (Φ := fun q : DmaSem sig => semVal ((c.tc : Thread nD τ), SemLoc.dma q) 0) fun q _ => (if_pos rfl).symm)) $$ Hq
  iexact HW

theorem whole_of_world (c : Dev nD) (s : St sig (Elt F)) (hs : Rel amtOf ⟨[], []⟩ s) :
    (World EC0 () (fun q => cap q.val) c Finset.univ s : sProp 𝕄) ⊢ iprop(∃ W, Whole c s.mem ∗ owes (c.tc : Thread nD τ) 0 W) := by
  unfold World Whole
  iintro ⟨%trs, %W, %hf, Hp, Hq, HW⟩
  iexists W
  isplitr [HW]
  · isplitl [Hp]
    · iapply (pts_sets c (f := s.mem) (S := s.own) (T := fun _ => Finset.univ) (by
        funext b
        refine Finset.filter_true_of_mem fun i _ => ?_
        cases h : s.lock b i with
        | none => rfl
        | some q => obtain ⟨f, hf, -⟩ := hs.lock b i q h; nomatch hf)) $$ Hp
    · iapply (Entails.of_eq (BI.bigSep_congr (Φ := fun q => cell EC0 () (fun q => cap q.val) c s q (trs q)) (Ψ := fun q : DmaSem sig => semVal ((c.tc : Thread nD τ), SemLoc.dma q) 0) fun q _ => if_pos (hs.sent q))) $$ Hq
  iexact HW

/-- What the kernel leaves in the memory it was given. -/
def Left (pack : FVec F S8x256 .bf16 → Fin 4 → Vec F S1x2x256 .bf16) (V W : Mem sig (Elt F)) : Prop :=
  ∃ m m' : Mem sig (Elt F), (∀ b ∈ H0 ∪ R0, m b = V b) ∧ eval (body pack : P F PUnit) m = some (⟨⟩, m') ∧ W = m'

theorem quiet_args : ∀ b ∈ H0, (bodyEnts.all (Ent.quiet (code b))) = true := by decide +kernel

/-- The kernel's run from whole buffers. -/
theorem run_body (pack : FVec F S8x256 .bf16 → Fin 4 → Vec F S1x2x256 .bf16) (c : Dev nD) (m : Mem sig (Elt F)) (W : Waits sig Unit)
    (defs : Defs nD τ sig (Elt F) Λ₀) (𝒱 : Variants) (bd : Option 𝒱.V) :
    iprop(Whole c m ∗ owes (c.tc : Thread nD τ) 0 W) ⊢ (wp frame (wpE defs 𝒱 (c.tc : Thread nD τ) bd) Set.univ (body pack : P F PUnit)
      (fun _ => iprop(∃ m', ⌜eval (body pack : P F PUnit) m = some (⟨⟩, m') ∧ ∀ b ∈ H0, m' b = m b⌝ ∗ Whole c m' ∗ ∃ W', owes (c.tc : Thread nD τ) 0 W')) : sProp 𝕄) := by
  refine (world_of_whole c m W).trans ((sound EC0 () (fun q => cap q.val) 𝒱 bd c Finset.univ (fun _ _ => Finset.mem_univ _) (body pack) (st0 m) _
    (abs_body pack ⟨[], []⟩ ⟨[], []⟩ runs_body (st0 m) (rel_st0 m))).trans (wp_mono _ _ _ fun a => ?_))
  iintro ⟨%s', %hs, Hw⟩
  ihave Hw' := (whole_of_world c s' hs.1) $$ Hw
  icases Hw' with ⟨%W', Hw, HW⟩
  iexists s'.mem
  isplitr
  · ipureintro
    exact ⟨hs.2.1, fun b hb => hs.2.2 b (quiet_args b hb)⟩
  isplitl [Hw]; · iexact Hw
  iexists W'; iexact HW

/-- The whole call: from the launch's resources to the launch's resources, the results holding what the run left. -/
theorem run_call {gr : ℕ} (win : Fin 0 → Pipeline.WinSpec sig gr) (pack : FVec F S8x256 .bf16 → Fin 4 → Vec F S1x2x256 .bf16) (c : Dev nD)
    (V : (c : Dev nD) → (b : Ref sig .tc) → Buf (Elt F) ((c.tc : Thread nD τ).loc b)) (B B' : Set (SemLoc sig × Unit)) (hB : Set.univ ⊆ B')
    (defs : Defs nD τ sig (Elt F) Λ₀) (𝒱 : Variants) (bd : Option 𝒱.V) (X Y : sProp 𝕄) (hXY : X ⊢ Y) :
    iprop(Pipeline.ΦDRG osem0 win H0 R0 V V c ∗ Pipeline.owesWithin c 0 B ∗ X)
      ⊢ (wp frame (wpE defs 𝒱 (c.tc : Thread nD τ) bd) Set.univ (body pack : P F PUnit)
        (fun _ => iprop(iprop(Pipeline.ΦD osem0 win H0 V c ∗ Pipeline.routedSat R0 c (Left pack (V c))) ∗ Pipeline.owesWithin c 0 B' ∗ Y)) : sProp 𝕄) := by
  iintro ⟨HΦ, ⟨%W, -, HW⟩, HX⟩
  ihave HΦ' := (enter win c V) $$ HΦ
  icases HΦ' with ⟨%m, %hm, Hw, Hr⟩
  iapply (wp_wand_r _ _ _)
  isplitl [Hw HW]
  · iapply (run_body pack c m W defs 𝒱 bd)
    isplitl [Hw] <;> iassumption
  iintro %a ⟨%m', %hm', Hw, ⟨%W', HW⟩⟩
  isplitl [Hw Hr]
  · iapply (leave win c V m' (fun b hb => (hm'.2 b hb).trans (hm b (Finset.mem_union_left _ hb))) (Left pack (V c)) ⟨m, m', hm, hm'.1, rfl⟩)
    isplitl [Hw] <;> iassumption
  isplitl [HW]
  · iexists W'
    isplitr
    · ipureintro; exact fun x _ => hB (Set.mem_univ x)
    iexact HW
  iapply hXY $$ HX

end Cert.KernelIdeal.Clean
-- ==== Proof.SameIdeal.lean ====
/- The printed ideal program's body is the compact program. -/
module

public import proofs.«01_k».proof.Proof.Clean
public import Idealize.ShloMosaic.Lib.Tactic
public import proofs.«01_k».proof.Proof.Gen.KernelIdeal.Skeleton

@[expose] public section

set_option synthInstance.maxSize 4096

noncomputable section

namespace Cert.KernelIdeal

open Idealize.ShloMosaic Idealize.SL.Sem
open Cert.KernelIdeal Cert.KernelIdeal.Gen

variable {F : FTy → Type} [FloatOps F]

set_option maxRecDepth 100000
set_option maxHeartbeats 0

/-- The printed loop body, on the kernel's buffers. -/
abbrev printedTurn (x : FVec F S48x1024 .f32) (y : FVec F S48x128 .f32) (t : Fin k0_t1_loop.trips) : Prog (TpuEff nD τ sig (Elt F) Λ₀ .tc) PUnit :=
  k0_t1_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 x y t ⟨⟩

/-- One turn of the printed loop is one turn of the compact one. -/
theorem turn_eq (t : Fin k0_t1_loop.trips) (x : FVec F S48x1024 .f32) (y : FVec F S48x128 .f32) :
    printedTurn x y t = Clean.turns Clean.packI t := by
  unfold printedTurn k0_t1_body k0_part128 k0_part2 Clean.turns Clean.turn
  by_cases h1 : k0_cond1 t = 1#1 <;> by_cases h2 : k0_cond2 t = 1#1
  · simp -zeta -zetaHave only [dif_pos h1, dif_pos h2]
    sl_kernel_rfl
  · simp -zeta -zetaHave only [dif_pos h1, dif_neg h2]
    sl_kernel_rfl
  · simp -zeta -zetaHave only [dif_neg h1, dif_pos h2]
    sl_kernel_rfl
  · simp -zeta -zetaHave only [dif_neg h1, dif_neg h2]
    sl_kernel_rfl

/-- The printed body, its loop's turns left as they are printed. -/
theorem body_eq_printed (x : FVec F S48x1024 .f32) (y : FVec F S48x128 .f32) :
    cc0_soft_moe_stream (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 = (Cert.KernelIdeal.Clean.bodyOf Clean.packI fun t => printedTurn x y t : Prog (TpuEff nD τ sig (Elt F) Λ₀ .tc) PUnit) := by
  unfold cc0_soft_moe_stream k0_part284 k0_part147 k0_part282
  simp only [bind_assoc, pure_bind]
  sl_kernel_rfl

/-- The printed body is the compact one. -/
theorem body_eq : cc0_soft_moe_stream (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 = (Cert.KernelIdeal.Clean.body Clean.packI : Prog (TpuEff nD τ sig (Elt F) Λ₀ .tc) PUnit) :=
  (body_eq_printed (fun _ => FloatOps.ofBits .f32 0#32) (fun _ => FloatOps.ofBits .f32 0#32)).trans
    (congrArg _ (funext fun t => turn_eq t _ _))

end Cert.KernelIdeal
-- ==== Proof.RunIdeal.lean ====
/-
  The whole program around the kernel: it runs, leaves its arguments as they were and every semaphore at zero, and its results hold
  what the kernel's run left in them.
-/
module

public import proofs.«01_k».proof.Proof.Enter
public import proofs.«01_k».proof.Proof.SameIdeal
public import proofs.«01_k».proof.Proof.Gen.KernelIdeal.Launch
public import Idealize.ShloMosaic.Lib.Tactic

@[expose] public section

set_option maxRecDepth 16384
set_option maxHeartbeats 1000000

noncomputable section

namespace Cert.KernelIdeal.Run

open Idealize.ShloMosaic Idealize.ShloMosaic.TcCoe Idealize.SL
open Idealize.SL.BI (sProp bigSep)
open scoped Idealize.SL.BI
open Idealize.SL.BI.BIBase Idealize.SL.BI.Laws Idealize.SL.Sem Idealize.SL.ProofMode
open Idealize.SL.RA
open Cert.KernelIdeal.Clean (H0 R0 osem0 Left)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the buffers hold at launch. -/
abbrev V (c : Dev nD) (b : Ref sig .tc) : Buf (Elt F) ((c : Thread nD τ).loc b) := m ((c : Thread nD τ).loc b)

/-- The call's one point: the launch's resources before, the launch's resources with the results written after. -/
def rdat (c : Dev nD) : Pipeline.RDat τ (Elt F) Unit ℕ (Pipeline.UD sig nD τ) ℕ cfg0 c where
  A w := w.elim0
  after w := w.elim0
  Φ t := if t.val = 0 then Pipeline.ΦDRG osem0 cfg0.spec H0 R0 (V m) (V m) c
    else iprop(Pipeline.ΦD osem0 cfg0.spec H0 (V m) c ∗ Pipeline.routedSat R0 c (Left (Cert.KernelIdeal.Clean.packI (F := F)) (V m c)))
  q w := w.elim0
  owed _ := 0

theorem obligation (𝒱₀ : Variants) (c : Dev nD) : (rdat m c).BodyObligation defs₀ 𝒱₀ () Set.univ := by
  intro t Y _
  obtain rfl := fin_N0 t
  have h := Cert.KernelIdeal.Clean.run_call cfg0.spec (Cert.KernelIdeal.Clean.packI (F := F)) c (V m)
    ((rdat m c).bound () (t0_0).castSucc) ((rdat m c).bound () (t0_0).succ) (fun _ _ => Or.inl trivial) defs₀ 𝒱₀ none BI.emp BI.emp .rfl
  rw [← Cert.KernelIdeal.body_eq] at h
  refine Eq.mp ?_ h
  sl_kernel_rfl

theorem runs (𝒱₀ : Variants) : θ_run defs (onTc (τ := τ) (main (F := F))) ⟨m, fun _ => 0, ρ⟩ (fun r => (∀ c : Dev nD,
      (∀ b ∈ H0, r.2.mem ((c : Thread nD τ).loc b) = m ((c : Thread nD τ).loc b))
      ∧ ∃ W, Left (Cert.KernelIdeal.Clean.packI (F := F)) (V m c) W ∧ ∀ b ∈ R0, r.2.mem ((c : Thread nD τ).loc b) = W b)
      ∧ r.2.sem = fun _ => 0) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) 0 (launch0.to₀).toP osem0 defs₀ 𝒱₀
    (rdat m) (show Pipeline.OwnSemFacts cfg0.spec osem0 by decide) H0 R0 ((show H0 ⊆ Pipeline.restRefs sig cfg0.spec by decide).trans hrest)
    ((show R0 ⊆ Pipeline.restRefs sig cfg0.spec \ H0 by decide).trans (Finset.sdiff_subset_sdiff hrest subset_rfl))
    m ρ main (obligation m 𝒱₀) (fun _ w => w.elim0) (fun _ _ => rfl) (V m)
    (Pipeline.hmain_region cfgs 0 defs₀ 𝒱₀ m main fun c => (main_chain c).trans rfl) (fun _ w => w.elim0) (fun _ k => k.elim0)
    (fun c => Left (Cert.KernelIdeal.Clean.packI (F := F)) (V m c))
    (fun c => (show _ ⊢ Pipeline.ΦDRG osem0 cfg0.spec H0 R0 (V m) (V m) c from by iintro ⟨H, -⟩; iexact H).trans .rfl)
    (fun c => .rfl) _
    (fun r h => ⟨fun c => ⟨fun b hb => (h.1.1 c).2 b (Finset.mem_sdiff.mpr ⟨(show H0 ⊆ Pipeline.restRefs sig cfg0.spec by decide) hb,
      fun h' => Finset.disjoint_left.mp Cert.KernelIdeal.Clean.disj_HR hb h'⟩), h.1.2 c⟩, h.2⟩)

end Cert.KernelIdeal.Run
-- ==== Proof.Same.lean ====
/- The printed program's body is the compact program. -/
module

public import proofs.«01_k».proof.Proof.Clean
public import Idealize.ShloMosaic.Lib.Tactic
public import proofs.«01_k».proof.Proof.Gen.Kernel.Skeleton

@[expose] public section

set_option synthInstance.maxSize 4096

noncomputable section

namespace Cert.Kernel

open Idealize.ShloMosaic Idealize.SL.Sem
open Cert.Kernel Cert.Kernel.Gen
open Cert.KernelIdeal.Clean (turns turn)

variable {F : FTy → Type} [BitOps F]

/-- The words that the rows of batch `b` of a tile are stored by, by way of 32-bit words. -/
def packP (v : FVec F S8x256 .bf16) (b : Fin 4) : Vec F S1x2x256 .bf16 :=
  bitcastToFloat .bf16 (bitcast S1x2x256 16 (shapeCast S1x1x256 (extractStridedSlice S1x256 ![(b : ℕ), 0] (bitcast S4x256 32 (bitcastToInt v) bitcasts_S8x256_w16_S4x256_w32) (Cert.KernelIdeal.Clean.slicesP b)) shapeCasts_S1x256_S1x1x256) bitcasts_S1x1x256_w32_S1x2x256_w16)

set_option maxRecDepth 100000
set_option maxHeartbeats 0

/-- The printed loop body, on the kernel's buffers. -/
abbrev printedTurn (x : FVec F S48x1024 .f32) (y : FVec F S48x128 .f32) (t : Fin k0_t1_loop.trips) : Prog (TpuEff nD τ sig (Elt F) Λ₀ .tc) PUnit :=
  k0_t1_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 x y t ⟨⟩

/-- One turn of the printed loop is one turn of the compact one. -/
theorem turn_eq (t : Fin k0_t1_loop.trips) (x : FVec F S48x1024 .f32) (y : FVec F S48x128 .f32) :
    printedTurn x y t = turns packP t := by
  unfold printedTurn k0_t1_body k0_part128 k0_part2 turns turn
  by_cases h1 : k0_cond1 t = 1#1 <;> by_cases h2 : k0_cond2 t = 1#1
  · have g1 : Cert.KernelIdeal.k0_cond1 t = 1#1 := h1
    have g2 : Cert.KernelIdeal.k0_cond2 t = 1#1 := h2
    simp -zeta -zetaHave only [dif_pos h1, dif_pos h2, dif_pos g1, dif_pos g2]
    sl_kernel_rfl
  · have g1 : Cert.KernelIdeal.k0_cond1 t = 1#1 := h1
    have g2 : Cert.KernelIdeal.k0_cond2 t ≠ 1#1 := h2
    simp -zeta -zetaHave only [dif_pos h1, dif_neg h2, dif_pos g1, dif_neg g2]
    sl_kernel_rfl
  · have g1 : Cert.KernelIdeal.k0_cond1 t ≠ 1#1 := h1
    have g2 : Cert.KernelIdeal.k0_cond2 t = 1#1 := h2
    simp -zeta -zetaHave only [dif_neg h1, dif_pos h2, dif_neg g1, dif_pos g2]
    sl_kernel_rfl
  · have g1 : Cert.KernelIdeal.k0_cond1 t ≠ 1#1 := h1
    have g2 : Cert.KernelIdeal.k0_cond2 t ≠ 1#1 := h2
    simp -zeta -zetaHave only [dif_neg h1, dif_neg h2, dif_neg g1, dif_neg g2]
    sl_kernel_rfl

/-- The printed body, its loop's turns left as they are printed. -/
theorem body_eq_printed (x : FVec F S48x1024 .f32) (y : FVec F S48x128 .f32) :
    cc0_soft_moe_stream (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 = (Cert.KernelIdeal.Clean.bodyOf packP fun t => printedTurn x y t : Prog (TpuEff nD τ sig (Elt F) Λ₀ .tc) PUnit) := by
  unfold cc0_soft_moe_stream k0_part284 k0_part147 k0_part282
  simp only [bind_assoc, pure_bind]
  sl_kernel_rfl

/-- The printed body is the compact one. -/
theorem body_eq : cc0_soft_moe_stream (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 = (Cert.KernelIdeal.Clean.body packP : Prog (TpuEff nD τ sig (Elt F) Λ₀ .tc) PUnit) :=
  (body_eq_printed (fun _ => FloatOps.ofBits .f32 0#32) (fun _ => FloatOps.ofBits .f32 0#32)).trans
    (congrArg _ (funext fun t => turn_eq t _ _))

end Cert.Kernel
-- ==== Proof.RunBits.lean ====
/-
  The whole program around the kernel: it runs, leaves its arguments as they were and every semaphore at zero, and its results hold
  what the kernel's run left in them.
-/
module

public import proofs.«01_k».proof.Proof.Enter
public import proofs.«01_k».proof.Proof.Same
public import proofs.«01_k».proof.Proof.Gen.Kernel.Launch
public import Idealize.ShloMosaic.Lib.Tactic

@[expose] public section

set_option maxRecDepth 16384
set_option maxHeartbeats 1000000

noncomputable section

namespace Cert.Kernel.Run

open Idealize.ShloMosaic Idealize.ShloMosaic.TcCoe Idealize.SL
open Idealize.SL.BI (sProp bigSep)
open scoped Idealize.SL.BI
open Idealize.SL.BI.BIBase Idealize.SL.BI.Laws Idealize.SL.Sem Idealize.SL.ProofMode
open Idealize.SL.RA
open Cert.KernelIdeal.Clean (H0 R0 osem0 Left)
open Cert.Kernel.Gen

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- What the buffers hold at launch. -/
abbrev V (c : Dev nD) (b : Ref sig .tc) : Buf (Elt F) ((c : Thread nD τ).loc b) := m ((c : Thread nD τ).loc b)

/-- The call's one point: the launch's resources before, the launch's resources with the results written after. -/
def rdat (c : Dev nD) : Pipeline.RDat τ (Elt F) Unit ℕ (Pipeline.UD sig nD τ) ℕ cfg0 c where
  A w := w.elim0
  after w := w.elim0
  Φ t := if t.val = 0 then Pipeline.ΦDRG osem0 cfg0.spec H0 R0 (V m) (V m) c
    else iprop(Pipeline.ΦD osem0 cfg0.spec H0 (V m) c ∗ Pipeline.routedSat R0 c (Left (Cert.Kernel.packP (F := F)) (V m c)))
  q w := w.elim0
  owed _ := 0

theorem obligation (𝒱₀ : Variants) (c : Dev nD) : (rdat m c).BodyObligation defs₀ 𝒱₀ () Set.univ := by
  intro t Y _
  obtain rfl := fin_N0 t
  have h := Cert.KernelIdeal.Clean.run_call cfg0.spec (Cert.Kernel.packP (F := F)) c (V m)
    ((rdat m c).bound () (t0_0).castSucc) ((rdat m c).bound () (t0_0).succ) (fun _ _ => Or.inl trivial) defs₀ 𝒱₀ none BI.emp BI.emp .rfl
  rw [← Cert.Kernel.body_eq] at h
  refine Eq.mp ?_ h
  sl_kernel_rfl

theorem runs (𝒱₀ : Variants) : θ_run defs (onTc (τ := τ) (main (F := F))) ⟨m, fun _ => 0, ρ⟩ (fun r => (∀ c : Dev nD,
      (∀ b ∈ H0, r.2.mem ((c : Thread nD τ).loc b) = m ((c : Thread nD τ).loc b))
      ∧ ∃ W, Left (Cert.Kernel.packP (F := F)) (V m c) W ∧ ∀ b ∈ R0, r.2.mem ((c : Thread nD τ).loc b) = W b)
      ∧ r.2.sem = fun _ => 0) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  Pipeline.RDat.θ_run_frameP_dmaRSat_shared (fun q => (cfgs q).toPCfg (Val := Elt F)) (fun q => (cfgs q).toPCfg_adm) 0 (launch0.to₀).toP osem0 defs₀ 𝒱₀
    (rdat m) (show Pipeline.OwnSemFacts cfg0.spec osem0 by decide) H0 R0 ((show H0 ⊆ Pipeline.restRefs sig cfg0.spec by decide).trans hrest)
    ((show R0 ⊆ Pipeline.restRefs sig cfg0.spec \ H0 by decide).trans (Finset.sdiff_subset_sdiff hrest subset_rfl))
    m ρ main (obligation m 𝒱₀) (fun _ w => w.elim0) (fun _ _ => rfl) (V m)
    (Pipeline.hmain_region cfgs 0 defs₀ 𝒱₀ m main fun c => (main_chain c).trans rfl) (fun _ w => w.elim0) (fun _ k => k.elim0)
    (fun c => Left (Cert.Kernel.packP (F := F)) (V m c))
    (fun c => (show _ ⊢ Pipeline.ΦDRG osem0 cfg0.spec H0 R0 (V m) (V m) c from by iintro ⟨H, -⟩; iexact H).trans .rfl)
    (fun c => .rfl) _
    (fun r h => ⟨fun c => ⟨fun b hb => (h.1.1 c).2 b (Finset.mem_sdiff.mpr ⟨(show H0 ⊆ Pipeline.restRefs sig cfg0.spec by decide) hb,
      fun h' => Finset.disjoint_left.mp Cert.KernelIdeal.Clean.disj_HR hb h'⟩), h.1.2 c⟩, h.2⟩)

end Cert.Kernel.Run
-- ==== Proof.Frames.lean ====
/-
  The claims about runs: each program terminates, leaves its arguments as they were and every semaphore at zero. And the two
  rewrites between the kernel and its idealized form.
-/
module

public import proofs.«01_k».proof.Defs
public import proofs.«01_k».proof.Proof.RunIdeal
public import proofs.«01_k».proof.Proof.RunBits
public import proofs.«01_k».proof.Proof.Gen.ReferenceIdeal.Frame
public import Idealize.ShloMosaic.Lib.Bf16Pair

@[expose] public section

noncomputable section

namespace Cert.Proof

open Idealize.ShloMosaic Idealize.SL.Sem
open Cert.KernelIdeal.Clean (H0)

theorem quiescentKernel : quiescent_Kernel (hKernel := Cert.Kernel.Gen.facts) := fun m g _ =>
  (θ_run Cert.Kernel.defs _ _).mono (fun r h => ⟨fun c => ⟨(h.1 c).1 Cert.Kernel.main_arg0 (by decide), (h.1 c).1 Cert.Kernel.main_arg1 (by decide),
    (h.1 c).1 Cert.Kernel.main_arg2 (by decide), (h.1 c).1 Cert.Kernel.main_arg3 (by decide), (h.1 c).1 Cert.Kernel.main_arg4 (by decide),
    (h.1 c).1 Cert.Kernel.main_arg5 (by decide)⟩, h.2⟩) (Cert.Kernel.Run.runs m g Variants.none)

theorem quiescentKernelIdeal : quiescent_KernelIdeal (hKernelIdeal := Cert.KernelIdeal.Gen.facts) := fun m g _ =>
  (θ_run Cert.KernelIdeal.defs _ _).mono (fun r h => ⟨fun c => ⟨(h.1 c).1 Cert.KernelIdeal.main_arg0 (by decide), (h.1 c).1 Cert.KernelIdeal.main_arg1 (by decide),
    (h.1 c).1 Cert.KernelIdeal.main_arg2 (by decide), (h.1 c).1 Cert.KernelIdeal.main_arg3 (by decide), (h.1 c).1 Cert.KernelIdeal.main_arg4 (by decide),
    (h.1 c).1 Cert.KernelIdeal.main_arg5 (by decide)⟩, h.2⟩) (Cert.KernelIdeal.Run.runs m g Variants.none)

theorem quiescentReferenceIdeal : quiescent_ReferenceIdeal (hReferenceIdeal := Cert.ReferenceIdeal.Gen.facts) := fun m g _ =>
  Cert.ReferenceIdeal.Gen.frame m g

theorem preservesKernel : preserves_Kernel_KernelIdeal :=
  ⟨IdealRules.bf16_pair.statement _ _, IdealRules.bf16_pair.statement _ _⟩

end Cert.Proof
-- ==== Proof.Hoare.lean ====
/-
  Reasoning about what a program leaves when its copies are carried out at once: a condition on the memory it ends in
  (`Post`), the buffers it does not touch (`Keeps`), and what one load, store or copy does to one element.
-/
module

public import proofs.«01_k».proof.Proof.Enter
public import Idealize.ShloMosaic.Lib.Pointwise

@[expose] public section

noncomputable section

namespace Cert.KernelIdeal.Clean

open Idealize.ShloMosaic Idealize.SL.Sem
open Cert.KernelIdeal.Gen
open Safe

variable {F : FTy → Type} [FloatOps F] {α β : Type}

/-- What every buffer of the kernel holds. -/
abbrev St (F : FTy → Type) := Mem sig (Elt F)

/-- Whatever `p` ends in from `m` satisfies `Q`. -/
def Post (p : P F α) (m : St F) (Q : α → St F → Prop) : Prop := ∀ a m', eval p m = some (a, m') → Q a m'

/-- `p` leaves buffer `b` as it was. -/
def Keeps (p : P F α) (b : Ref sig .tc) : Prop := ∀ m a m', eval p m = some (a, m') → m' b = m b

/-- `p` reads the value `v` off `m` and changes nothing. -/
def Reads (p : P F α) (m : St F) (v : α) : Prop := eval p m = some (v, m)

theorem eval_bind_some {p : P F α} {k : α → P F β} {m : St F} {b : β} {m' : St F} (h : eval (p >>= k) m = some (b, m')) :
    ∃ a m1, eval p m = some (a, m1) ∧ eval (k a) m1 = some (b, m') := by
  rw [eval_bind] at h
  obtain ⟨⟨a, m1⟩, h1, h2⟩ := Option.bind_eq_some_iff.1 h
  exact ⟨a, m1, h1, h2⟩

theorem Post.bind {p : P F α} {k : α → P F β} {m : St F} {Q : β → St F → Prop} (R : α → St F → Prop) (hp : Post p m R)
    (hk : ∀ a m1, R a m1 → Post (k a) m1 Q) : Post (p >>= k) m Q := fun _ _ h => by
  obtain ⟨a, m1, h1, h2⟩ := eval_bind_some h
  exact hk a m1 (hp a m1 h1) _ _ h2

theorem Post.pure {m : St F} {Q : α → St F → Prop} {a : α} (h : Q a m) : Post (Pure.pure a : P F α) m Q := fun _ _ e => by
  cases (show some (a, m) = _ from e); exact h

theorem Post.mono {p : P F α} {m : St F} {Q R : α → St F → Prop} (h : Post p m R) (hi : ∀ a m', R a m' → Q a m') : Post p m Q :=
  fun a m' e => hi a m' (h a m' e)

theorem Post.and {p : P F α} {m : St F} {Q R : α → St F → Prop} (h : Post p m Q) (h' : Post p m R) : Post p m fun a m' => Q a m' ∧ R a m' :=
  fun a m' e => ⟨h a m' e, h' a m' e⟩

theorem Keeps.post {p : P F α} {b : Ref sig .tc} (h : Keeps p b) (m : St F) : Post p m fun _ m' => m' b = m b := fun a m' e => h m a m' e

theorem Reads.post {p : P F α} {m : St F} {v : α} (h : Reads p m v) {Q : α → St F → Prop} (hQ : Q v m) : Post p m Q := fun a m' e => by
  rw [show eval p m = some (v, m) from h] at e
  cases e; exact hQ

/-- After a read, go on with what was read. -/
theorem Post.read {p : P F α} {k : α → P F β} {m : St F} {Q : β → St F → Prop} {v : α} (hp : Reads p m v) (hk : Post (k v) m Q) :
    Post (p >>= k) m Q := Post.bind (fun a m1 => a = v ∧ m1 = m) (hp.post ⟨rfl, rfl⟩) fun a m1 h => by rw [h.1, h.2]; exact hk

theorem Reads.bind {p : P F α} {k : α → P F β} {m : St F} {v : α} {w : β} (hp : Reads p m v) (hk : Reads (k v) m w) : Reads (p >>= k) m w := by
  unfold Reads
  rw [eval_bind, show eval p m = some (v, m) from hp]
  exact hk

theorem Reads.gather : ∀ {n : ℕ} {f : Fin n → P F α} {m : St F} {g : Fin n → α}, (∀ i, Reads (f i) m (g i)) → Reads (Clean.gather n f) m g
  | 0, f, m, g, _ => by
    show some ((fun i : Fin 0 => i.elim0), m) = _
    rw [show (fun i : Fin 0 => (i.elim0 : α)) = g from funext fun i => i.elim0]
  | n + 1, f, m, g, h => by
    have hr := Reads.bind (k := fun a => Clean.gather n (fun i => f i.succ) >>= fun r => (Pure.pure (Fin.cons a r : Fin (n + 1) → α) : P F _)) (w := g) (h 0)
      (Reads.bind (Reads.gather fun i => h i.succ) (show Reads _ m g from by
        show some ((Fin.cons (g 0) fun i => g i.succ : Fin (n + 1) → α), m) = _
        rw [show (Fin.cons (g 0) fun i => g i.succ : Fin (n + 1) → α) = g from Fin.cons_self_tail g]))
    exact hr

/-- A run of `n` stages keeps what each step carries on. -/
theorem Post.forFin (I : ℕ → St F → Prop) : ∀ {n : ℕ} {f : Fin n → P F PUnit} {m : St F} (j : ℕ), I j m →
    (∀ (i : Fin n) m, I (j + i) m → Post (f i) m fun _ m' => I (j + i + 1) m') → Post (Clean.forFin n f) m fun _ m' => I (j + n) m'
  | 0, f, m, j, h0, _ => Post.pure h0
  | n + 1, f, m, j, h0, h => by
    refine Post.bind (k := fun _ => Clean.forFin n fun i => f i.succ) (fun _ m1 => I (j + 1) m1) (h 0 m (by simpa using h0)) fun _ m1 h1 => ?_
    have := Post.forFin I (f := fun i => f i.succ) (j + 1) h1 fun i m hi => by
      have h2 := h i.succ m (by rw [Fin.val_succ, ← Nat.add_assoc, Nat.add_right_comm]; exact hi)
      rwa [Fin.val_succ, ← Nat.add_assoc, Nat.add_right_comm j i 1] at h2
    rwa [Nat.add_right_comm j 1 n] at this

theorem Post.forFrom {n : ℕ} (I : ℕ → St F → Prop) (f : Fin n → P F PUnit) (h : ∀ (i : Fin n) m, I i m → Post (f i) m fun _ m' => I (i + 1) m') :
    ∀ (k : ℕ) (hk : k ≤ n) (m : St F), I (n - k) m →
      Post (Scf.forFrom (fun t (_ : PUnit) => f t) ((List.finRange n).drop (n - k)) ⟨⟩) m fun _ m' => I n m'
  | 0, hk, m, h0 => by
    rw [Nat.sub_zero, List.drop_of_length_le (by rw [List.length_finRange])]
    exact Post.pure h0
  | k + 1, hk, m, h0 => by
    rw [List.drop_eq_getElem_cons (by rw [List.length_finRange]; omega), Scf.forFrom_cons]
    refine Post.bind (fun _ m1 => I (n - k) m1) ?_ fun _ m1 h1 => ?_
    · have := h ⟨n - (k + 1), by omega⟩ m h0
      rw [show (⟨n - (k + 1), by omega⟩ : Fin n).val + 1 = n - k from by show n - (k + 1) + 1 = _; omega] at this
      simpa using this
    · have := Post.forFrom I f h k (by omega) m1 h1
      rwa [show n - (k + 1) + 1 = n - k from by omega]

theorem Post.loop {l : Scf.Loop 32} {ok} (I : ℕ → St F → Prop) (f : Fin l.trips → P F PUnit) {m : St F} (h0 : I 0 m)
    (h : ∀ (i : Fin l.trips) m, I i m → Post (f i) m fun _ m' => I (i + 1) m') :
    Post (Scf.Loop.for l ok (⟨⟩ : PUnit) fun t _ => f t) m fun _ m' => I l.trips m' := by
  show Post (Scf.for l.lb l.ub l.st ok ⟨⟩ fun t _ => f t) m _
  rw [Scf.for_eq]
  have := Post.forFrom I f h l.trips le_rfl m (by rwa [Nat.sub_self])
  rwa [Nat.sub_self] at this

/-! ## What a stage leaves alone -/

theorem Keeps.bind {p : P F α} {k : α → P F β} {b : Ref sig .tc} (hp : Keeps p b) (hk : ∀ a, Keeps (k a) b) : Keeps (p >>= k) b :=
  fun m c m' h => by
    obtain ⟨a, m1, h1, h2⟩ := eval_bind_some h
    exact (hk a m1 c m' h2).trans (hp m a m1 h1)

theorem Keeps.pure {a : α} {b : Ref sig .tc} : Keeps (Pure.pure a : P F α) b := fun m _ m' h => by
  cases (show some (a, m) = _ from h); rfl

theorem Keeps.forFin {b : Ref sig .tc} : ∀ {n : ℕ} {f : Fin n → P F PUnit}, (∀ i, Keeps (f i) b) → Keeps (Clean.forFin n f) b
  | 0, _, _ => Keeps.pure
  | _ + 1, _, h => Keeps.bind (h 0) fun _ => Keeps.forFin fun i => h i.succ

theorem Keeps.gather {b : Ref sig .tc} : ∀ {n : ℕ} {f : Fin n → P F α}, (∀ i, Keeps (f i) b) → Keeps (Clean.gather n f) b
  | 0, _, _ => Keeps.pure
  | _ + 1, _, h => Keeps.bind (h 0) fun _ => Keeps.bind (Keeps.gather fun i => h i.succ) fun _ => Keeps.pure

theorem Keeps.loop {l : Scf.Loop 32} {ok} {f : Fin l.trips → P F PUnit} {b : Ref sig .tc} (h : ∀ i, Keeps (f i) b) :
    Keeps (Scf.Loop.for l ok (⟨⟩ : PUnit) fun t _ => f t) b := fun m a m' e =>
  Post.loop (fun _ m1 => m1 b = m b) f rfl (fun i m1 h1 _ m2 e2 => (h i m1 _ m2 e2).trans h1) a m' e

section ops
variable {sp sp' : Space} {cs : CoreSpace} {s : Shape} {e : EltTy}

theorem Keeps.load (mr : Memref sig .tc cs s e) (r : LoadRect s) (h : mr.view.LoadsAt r) (b : Ref sig .tc) : Keeps (Prog.lift (.load mr r h) : P F _) b := fun m _ m' h => by
  cases (show some (_, m) = _ from h); rfl

theorem Keeps.store (mr : Memref sig .tc cs s e) (r : Rect s) (w : r.shape.Idx → Elt F e) (M : Finset r.shape.Idx) (h : (mr.access r).Stores M) (h') {b : Ref sig .tc} (hb : b ≠ (mr.access r).ref) :
    Keeps (Prog.lift (.store mr r w M h h') : P F PUnit) b := fun m _ m' h => by
  cases (show some (_, Function.update m (mr.access r).ref _) = _ from h); exact Function.update_of_ne hb _ _

theorem Reads.load (mr : Memref sig .tc cs s e) (r : LoadRect s) (h : mr.view.LoadsAt r) (m : St F) :
    Reads (Prog.lift (.load mr r h) : P F _) m (mr.view.readAt (Elt F) r (m mr.view.ref)) := rfl

theorem Post.store {mr : Memref sig .tc cs s e} {r : Rect s} {w : r.shape.Idx → Elt F e} {M : Finset r.shape.Idx} {h : (mr.access r).Stores M} {h'} {m : St F} {Q : PUnit → St F → Prop}
    (hQ : Q ⟨⟩ (Function.update m (mr.access r).ref ((mr.access r).write (Elt F) (m (mr.access r).ref) w M))) :
    Post (Prog.lift (.store mr r w M h h') : P F PUnit) m Q := fun _ _ h => by
  cases (show some (_, Function.update m (mr.access r).ref _) = _ from h); exact hQ

theorem Keeps.copy (src : Memref sig .tc sp s e) (dst : Memref sig .tc sp' s e) (q : DmaSem sig) (h1 h2 h3) {b : Ref sig .tc} (hb : b ≠ dst.view.ref) :
    Keeps (Prog.lift (.enqueueDma src (.here dst) (.dma q) h1 h2 h3) : P F PUnit) b := fun m _ m' h => by
  cases (show some (_, Function.update m dst.view.ref _) = _ from h); exact Function.update_of_ne hb _ _

theorem Post.copy {src : Memref sig .tc sp s e} {dst : Memref sig .tc sp' s e} {q : DmaSem sig} {h1 h2 h3} {m : St F} {Q : PUnit → St F → Prop}
    (hQ : Q ⟨⟩ (Function.update m dst.view.ref (dst.view.write (Elt F) (m dst.view.ref) (src.view.read (Elt F) (m src.view.ref)) Finset.univ))) :
    Post (Prog.lift (.enqueueDma src (.here dst) (.dma q) h1 h2 h3) : P F PUnit) m Q := fun _ _ h => by
  cases (show some (_, Function.update m dst.view.ref _) = _ from h); exact hQ

theorem Reads.wait (src : Memref sig .tc sp s e) (dst : Memref sig .tc sp' s e) (q : DmaSem sig) (h1 h2) (m : St F) :
    Reads (Prog.lift (.waitDma2 q src dst h1 h2) : P F PUnit) m ⟨⟩ := rfl

theorem Keeps.wait (src : Memref sig .tc sp s e) (dst : Memref sig .tc sp' s e) (q : DmaSem sig) (h1 h2) (b : Ref sig .tc) :
    Keeps (Prog.lift (.waitDma2 q src dst h1 h2) : P F PUnit) b := fun m _ m' h => by
  cases (show some (_, m) = _ from h); rfl

end ops

/-! ## One element after a store or a copy -/

section elements
variable {Val : EltTy → Type}

/-- A store to a box of a whole buffer, read at an element. -/
theorem write_unit (b : Ref sig .tc) (off size : Fin b.ty.shape.rank → ℕ) (inb) (f : b.ty.Contents Val)
    (w : (Rect.unit (s := b.ty.shape) off size inb).shape.Idx → Val b.ty.elt) (i : b.ty.shape.Idx) :
    ((Memref.whole b).access (Rect.unit (s := b.ty.shape) off size inb)).write Val f w Finset.univ i
      = if h : ∀ a, off a ≤ (i a : ℕ) ∧ (i a : ℕ) < off a + size a then w (fun a => ⟨(i a : ℕ) - off a, by
          show _ < size a; have := h a; omega⟩) else f i := by
  split
  · rename_i h
    have hi : ((Memref.whole b).access (Rect.unit (s := b.ty.shape) off size inb)).emb (fun a => ⟨(i a : ℕ) - off a, by
          show _ < size a; have := h a; omega⟩) = i := by
      funext a; apply Fin.ext
      show off a + 1 * ((i a : ℕ) - off a) = i a
      have := h a; omega
    conv_lhs => rw [← hi]
    exact View.write_emb_of_mem _ _ (Finset.mem_univ _)
  · rename_i h
    refine View.write_of_not_mem (v := (Memref.whole b).access (Rect.unit (s := b.ty.shape) off size inb)) f w Finset.univ fun hm => h ?_
    have hm' : i ∈ ((View.whole b).slice (Rect.unit (s := b.ty.shape) off size inb)).set := View.setOn_subset_set _ _ hm
    rw [View.set_slice_whole] at hm'
    exact (Rect.mem_set_unit).1 hm'

end elements

end Cert.KernelIdeal.Clean
-- ==== Proof.Elem.lean ====
/-
  One element of a buffer after a load, a store or a copy, named by where it lies.
-/
module

public import proofs.«01_k».proof.Proof.Hoare

@[expose] public section

noncomputable section

namespace Cert.KernelIdeal.Clean

open Idealize.ShloMosaic Idealize.SL.Sem
open Cert.KernelIdeal.Gen
open Safe

section elements
variable {Val : EltTy → Type} (b : Ref sig .tc) (off size : Fin b.ty.shape.rank → ℕ)

/-- A load of a box of a whole buffer. -/
theorem ld_unit (inb) (f : b.ty.Contents Val) (i : (Rect.unit (s := b.ty.shape) off size inb).shape.Idx) (j : b.ty.shape.Idx)
    (h : ∀ a, (j a : ℕ) = off a + (i a : ℕ)) :
    (Memref.whole b).view.readAt Val (Rect.unit (s := b.ty.shape) off size inb).toLoadRect f i = f j := by
  refine congrArg f (funext fun a => Fin.ext ?_)
  show off a + 1 * (i a : ℕ) = j a
  rw [h, Nat.one_mul]

/-- A box of a whole buffer read through the view of the box. -/
theorem rd_unit (inb) (f : b.ty.Contents Val) (i : (Rect.unit (s := b.ty.shape) off size inb).shape.Idx) (j : b.ty.shape.Idx)
    (h : ∀ a, (j a : ℕ) = off a + (i a : ℕ)) :
    ((View.whole b).slice (Rect.unit (s := b.ty.shape) off size inb)).read Val f i = f j := ld_unit b off size inb f i j h

/-- A store to a box, at an element of the box. -/
theorem st_hit (inb) (f : b.ty.Contents Val) (w : (Rect.unit (s := b.ty.shape) off size inb).shape.Idx → Val b.ty.elt) (j : b.ty.shape.Idx)
    (i : (Rect.unit (s := b.ty.shape) off size inb).shape.Idx) (h : ∀ a, (j a : ℕ) = off a + (i a : ℕ)) :
    ((View.whole b).slice (Rect.unit (s := b.ty.shape) off size inb)).write Val f w Finset.univ j = w i := by
  have hi : ((View.whole b).slice (Rect.unit (s := b.ty.shape) off size inb)).emb i = j := by
    funext a; apply Fin.ext
    show off a + 1 * (i a : ℕ) = j a
    rw [h, Nat.one_mul]
  conv_lhs => rw [← hi]
  exact View.write_emb_of_mem _ _ (Finset.mem_univ _)

/-- A store to a box, at an element off the box. -/
theorem st_miss (inb) (f : b.ty.Contents Val) (w : (Rect.unit (s := b.ty.shape) off size inb).shape.Idx → Val b.ty.elt) (j : b.ty.shape.Idx)
    (a : Fin b.ty.shape.rank) (h : (j a : ℕ) < off a ∨ off a + size a ≤ (j a : ℕ)) :
    ((View.whole b).slice (Rect.unit (s := b.ty.shape) off size inb)).write Val f w Finset.univ j = f j := by
  refine View.write_of_not_mem (v := (View.whole b).slice (Rect.unit (s := b.ty.shape) off size inb)) f w Finset.univ fun hm => ?_
  have hm' : j ∈ ((View.whole b).slice (Rect.unit (s := b.ty.shape) off size inb)).set := View.setOn_subset_set _ _ hm
  rw [View.set_slice_whole] at hm'
  have := Rect.mem_set_unit.1 hm' a
  omega

end elements

/-- A copy between two windows that are counted anew alike is the copy between the windows. -/
theorem write_squeeze {Val : EltTy → Type} {sp sp' : Space} {s s' : Shape} {e : EltTy} (v : View sig .tc sp s e) (v' : View sig .tc sp' s e)
    (h : s'.numel = s.numel) (f : v.ty.Contents Val) (g : v'.ty.Contents Val) :
    (v.reshape s' h).write Val f ((v'.reshape s' h).read Val g) Finset.univ = v.write Val f (v'.read Val g) Finset.univ := by
  rw [View.write_reshape_univ]
  congr 1
  funext x
  show _root_.cast _ (g (v'.emb (Shape.reshapeEquiv h ((Shape.reshapeEquiv h).symm x)))) = _root_.cast _ (g (v'.emb x))
  rw [Equiv.apply_symm_apply]

/-- A copy of a whole buffer. -/
theorem write_whole {Val : EltTy → Type} (b : Ref sig .tc) (f w : b.ty.Contents Val) :
    (View.whole b).write Val f w Finset.univ = w := by
  funext i
  exact View.write_emb_of_mem (v := View.whole b) f w (Finset.mem_univ i)

/-! ## The buffers' contents -/

section views
variable (m : St Ideal)

abbrev cX : FVec Ideal S4x256x1024 .bf16 := m cc0_scratch0
abbrev cPhi : FVec Ideal S1024x48 .bf16 := m cc0_scratch1
abbrev cW1 : FVec Ideal S5x1024x4096 .fp8e4m3 := m cc0_scratch2
abbrev cW2 : FVec Ideal S5x4096x1024 .fp8e4m3 := m cc0_scratch3
abbrev cS1 : FVec Ideal S5x8x32 .f32 := m cc0_scratch4
abbrev cS2 : FVec Ideal S5x32x8 .f32 := m cc0_scratch5
abbrev cComb : FVec Ideal S4x256x48 .bf16 := m cc0_scratch6
abbrev cXs : FVec Ideal S8x192x128 .f32 := m cc0_scratch7
abbrev cH : FVec Ideal S8x4096 .f32 := m cc0_scratch8
abbrev cA : FVec Ideal S8x4096 .f32 := m cc0_scratch9
abbrev cYs : FVec Ideal S4x48x1024 .bf16 := m cc0_scratch10
abbrev cOut : FVec Ideal S4x256x1024 .bf16 := m cc0_scratch11
abbrev cSc : FVec Ideal S4x24x2x1024 .fp8e4m3 := m cc0_scratch12
abbrev cHc : FVec Ideal S4x24x2x4096 .fp8e4m3 := m cc0_scratch13
abbrev cSsr : FVec Ideal S192x128 .f32 := m cc0_scratch14
abbrev cHsr : FVec Ideal S192x128 .f32 := m cc0_scratch15
abbrev cSs : FVec Ideal S4x24x2 .f32 := m cc0_scratch16
abbrev cHs : FVec Ideal S4x24x2 .f32 := m cc0_scratch17
abbrev gX : FVec Ideal S4x256x1024 .bf16 := m main_arg0
abbrev gPhi : FVec Ideal S1024x48 .bf16 := m main_arg1
abbrev gW1 : FVec Ideal S24x1024x4096 .fp8e4m3 := m main_arg2
abbrev gS1 : FVec Ideal S24x8x32 .f32 := m main_arg3
abbrev gW2 : FVec Ideal S24x4096x1024 .fp8e4m3 := m main_arg4
abbrev gS2 : FVec Ideal S24x32x8 .f32 := m main_arg5
abbrev rSc : FVec Ideal S4x24x2x1024 .fp8e4m3 := m main_v0_2
abbrev rSs : FVec Ideal S4x24x2 .f32 := m main_v0_3
abbrev rHc : FVec Ideal S4x24x2x4096 .fp8e4m3 := m main_v0_4
abbrev rHs : FVec Ideal S4x24x2 .f32 := m main_v0_5
abbrev rYs : FVec Ideal S4x48x1024 .bf16 := m main_v0_1
abbrev rOut : FVec Ideal S4x256x1024 .bf16 := m main_v0_0
end views

end Cert.KernelIdeal.Clean
-- ==== Proof.Spec.lean ====
/-
  The layer's values as functions of the arguments, one array per stage: the dispatched tokens, an expert's rows, their
  codes and scales, the hidden rows, the output rows and the combined result.
-/
module

public import proofs.«01_k».proof.Proof.Elem

@[expose] public section

set_option maxRecDepth 16384

noncomputable section

namespace Cert.KernelIdeal.Clean

open Idealize.ShloMosaic Idealize.SL.Sem
open Cert.KernelIdeal.Gen
open Safe

/-- The arguments' contents. -/
structure Args where
  X : FVec Ideal S4x256x1024 .bf16
  Phi : FVec Ideal S1024x48 .bf16
  W1 : FVec Ideal S24x1024x4096 .fp8e4m3
  S1 : FVec Ideal S24x8x32 .f32
  W2 : FVec Ideal S24x4096x1024 .fp8e4m3
  S2 : FVec Ideal S24x32x8 .f32

/-- The arguments that a memory holds. -/
def args (m : St Ideal) : Args := ⟨gX m, gPhi m, gW1 m, gS1 m, gW2 m, gS2 m⟩

/-- Row `j` of batch `b` among an expert's eight rows. -/
abbrev row (b : Fin 4) (j : Fin 2) : Fin 8 := ⟨2 * b + j, by omega⟩

/-- `gelu` of one number. -/
def gelu1 (x : EReal) : EReal := geluV (F := Ideal) (s := S1x1x1) (fun _ => x) (ix3 0 0 0)

theorem geluV_apply {s : Shape} (v : FVec Ideal s .f32) (i : s.Idx) : geluV v i = gelu1 (v i) := rfl

namespace Args
variable (A : Args)

/-- Batch `b`'s tokens. -/
def xrow (b : Fin 4) : FVec Ideal S1x256x1024 .bf16 := fun i => A.X (ix3 b (i 1) (i 2))
/-- Batch `b`'s dispatched tokens. -/
def xs (b : Fin 4) : FVec Ideal S48x1024 .f32 := dispV (A.xrow b) (logitsV (A.xrow b) A.Phi)
/-- Batch `b`'s combination weights. -/
def comb (b : Fin 4) : FVec Ideal S1x256x48 .bf16 := combV (logitsV (A.xrow b) A.Phi)
/-- Element `d` of row `r` of expert `e`'s input. -/
def rowsAt (e : Fin 24) (r : Fin 8) (d : Fin 1024) : EReal := A.xs ⟨r / 2, by omega⟩ (ix2 ⟨2 * e + r % 2, by omega⟩ d)
/-- Expert `e`'s eight input rows. -/
def rows (e : Fin 24) : FVec Ideal S8x1024 .f32 := fun i => A.rowsAt e (i 0) (i 1)
/-- Element `f` of hidden row `r` of expert `e`. -/
def hidAt (e : Fin 24) (r : Fin 8) (f : Fin 4096) : EReal :=
  gelu1 (∑ k : Fin 1024, actX (A.rows e) (ix2 r k) * A.S1 (ix3 e ⟨k / 128, by omega⟩ ⟨f / 128, by omega⟩) * A.W1 (ix3 e k f))
/-- Expert `e`'s eight hidden rows. -/
def hid (e : Fin 24) : FVec Ideal S8x4096 .f32 := fun i => A.hidAt e (i 0) (i 1)
/-- Element `d` of output row `r` of expert `e`. -/
def outsAt (e : Fin 24) (r : Fin 8) (d : Fin 1024) : EReal :=
  ∑ k : Fin 4096, actH (A.hid e) (ix2 r k) * A.S2 (ix3 e ⟨k / 128, by omega⟩ ⟨d / 128, by omega⟩) * A.W2 (ix3 e k d)
/-- The experts' output for slot `n` of batch `b`. -/
def ys (b : Fin 4) (n : Fin 48) (d : Fin 1024) : EReal := A.outsAt ⟨n / 2, by omega⟩ (row b ⟨n % 2, by omega⟩) d
/-- The combined result. -/
def out (b : Fin 4) (t : Fin 256) (d : Fin 1024) : EReal := ∑ n : Fin 48, A.comb b (ix3 0 t n) * A.ys b n d

end Args

/-! ## The stages' arrays at an index -/

theorem dispCol_apply (d : FVec Ideal S48x1024 .f32) (p : Fin 8) (n : Fin 48) (l : Fin 128) :
    dispCol d p (ix3 0 n l) = d (ix2 n ⟨128 * p + l, by omega⟩) := by
  pointwise [dispCol]

theorem codeRowX_apply (w : FVec Ideal S8x1024 .f32) (b : Fin 4) (j : Fin 2) (d : Fin 1024) :
    codeRowX w b (ix4 0 0 j d) = w (ix2 (row b j) d) := by
  pointwise [codeRowX]

theorem codeRowH_apply (w : FVec Ideal S8x4096 .f32) (b : Fin 4) (j : Fin 2) (d : Fin 4096) :
    codeRowH w b (ix4 0 0 j d) = w (ix2 (row b j) d) := by
  pointwise [codeRowH]

theorem scaleRows_apply (w : FVec Ideal S8x1 .f32) (r : Fin 8) (l : Fin 128) : scaleRows w (ix2 r l) = w (ix2 r 0) := by
  pointwise [scaleRows]

theorem pairV_apply (u v : FVec Ideal S24x128 .f32) (e : Fin 24) (j : Fin 2) :
    pairV u v (ix3 0 e j) = if j = 0 then u (ix2 e 0) else v (ix2 e 1) := by
  pointwise [pairV]
  fin_cases j <;> rfl

theorem row4_apply (v : Fin 4 → FVec Ideal S1x2x128 .f32) (r : Fin 8) (l : Fin 128) :
    row4 (F := Ideal) v (ix2 r l) = v ⟨r / 2, by omega⟩ (ix3 0 ⟨r % 2, by omega⟩ l) := by
  refine (concatenate_ofFn_apply (0 : Fin S8x128.rank) (fun n : Fin 4 => (shapeCast S2x128 (v n) shapeCasts_S1x2x128_S2x128 : FVec Ideal S2x128 .f32))
    concatenates_S2x128_S2x128_S2x128_S2x128_S8x128_d0 rfl 2 rfl (ix2 r l) ⟨r / 2, by omega⟩ rfl (ix2 ⟨r % 2, by omega⟩ l) rfl ?_).trans ?_
  · intro b hb; fin_cases b
    · exact absurd rfl hb
    · rfl
  · pointwise

theorem rows8_apply (v : Fin 8 → Fin 4 → FVec Ideal S1x2x128 .f32) (r : Fin 8) (d : Fin 1024) :
    rows8 v (ix2 r d) = v ⟨d / 128, by omega⟩ ⟨r / 2, by omega⟩ (ix3 0 ⟨r % 2, by omega⟩ ⟨d % 128, by omega⟩) := by
  refine (concatenate_ofFn_apply (1 : Fin S8x1024.rank) (fun n : Fin 8 => (row4 (F := Ideal) (v n) : FVec Ideal S8x128 .f32))
    concatenates_S8x128_S8x128_S8x128_S8x128_S8x128_S8x128_S8x128_S8x128_S8x1024_d1 rfl 128 rfl (ix2 r d) ⟨d / 128, by omega⟩ rfl (ix2 r ⟨d % 128, by omega⟩) rfl ?_).trans (row4_apply _ _ _)
  intro b hb; fin_cases b
  · rfl
  · exact absurd rfl hb

/-- A block of the left operand: above, the rows times one scale; below, the rows times the other. -/
theorem pieceV_top (a : FVec Ideal S8x128 .f32) (s0 s1 : EReal) (r : Fin 8) (l : Fin 128) :
    pieceV (F := Ideal) a s0 s1 (ix2 ⟨r, by omega⟩ l) = a (ix2 r l) * s0 := by
  pointwise [pieceV]

theorem pieceV_bot (a : FVec Ideal S8x128 .f32) (s0 s1 : EReal) (r : Fin 8) (l : Fin 128) :
    pieceV (F := Ideal) a s0 s1 (ix2 ⟨8 + r, by omega⟩ l) = a (ix2 r l) * s1 := by
  pointwise [pieceV]

theorem left1_apply (p : Fin 8 → FVec Ideal S16x128 .bf16) (r : Fin 16) (k : Fin 1024) :
    (concatenate S16x1024 1 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩] concatenates_S16x128_S16x128_S16x128_S16x128_S16x128_S16x128_S16x128_S16x128_S16x1024_d1 : FVec Ideal S16x1024 .bf16)
      (ix2 r k) = p ⟨k / 128, by omega⟩ (ix2 r ⟨k % 128, by omega⟩) := by
  refine concatenate_ofFn_apply (1 : Fin S16x1024.rank) p
    concatenates_S16x128_S16x128_S16x128_S16x128_S16x128_S16x128_S16x128_S16x128_S16x1024_d1 rfl 128 rfl (ix2 r k) ⟨k / 128, by omega⟩ rfl (ix2 r ⟨k % 128, by omega⟩) rfl ?_
  intro b hb; fin_cases b
  · rfl
  · exact absurd rfl hb

theorem diagV_apply (r : FVec Ideal S16x256 .f32) (i : Fin 8) (c : Fin 256) :
    diagV r (ix2 i c) = if (c : ℕ) < 128 then r (ix2 ⟨i, by omega⟩ c) else r (ix2 ⟨8 + i, by omega⟩ c) := by
  pointwise [diagV]
  split
  · rfl
  · rename_i h
    congr 2
    exact Fin.ext (by show 128 + ((c : ℕ) - 128) = c; omega)

theorem left2_apply (p : Fin 32 → FVec Ideal S16x128 .bf16) (r : Fin 16) (k : Fin 4096) :
    (concatenate S16x4096 1 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩, ⟨S16x128, p 8⟩, ⟨S16x128, p 9⟩, ⟨S16x128, p 10⟩, ⟨S16x128, p 11⟩, ⟨S16x128, p 12⟩, ⟨S16x128, p 13⟩, ⟨S16x128, p 14⟩, ⟨S16x128, p 15⟩, ⟨S16x128, p 16⟩, ⟨S16x128, p 17⟩, ⟨S16x128, p 18⟩, ⟨S16x128, p 19⟩, ⟨S16x128, p 20⟩, ⟨S16x128, p 21⟩, ⟨S16x128, p 22⟩, ⟨S16x128, p 23⟩, ⟨S16x128, p 24⟩, ⟨S16x128, p 25⟩, ⟨S16x128, p 26⟩, ⟨S16x128, p 27⟩, ⟨S16x128, p 28⟩, ⟨S16x128, p 29⟩, ⟨S16x128, p 30⟩, ⟨S16x128, p 31⟩] concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x4096_d1 : FVec Ideal S16x4096 .bf16)
      (ix2 r k) = p ⟨k / 128, by omega⟩ (ix2 r ⟨k % 128, by omega⟩) := by
  refine concatenate_ofFn_apply (1 : Fin S16x4096.rank) p
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x4096_d1 rfl 128 rfl (ix2 r k) ⟨k / 128, by omega⟩ rfl (ix2 r ⟨k % 128, by omega⟩) rfl ?_
  intro b hb; fin_cases b
  · rfl
  · exact absurd rfl hb

theorem product1_apply (l : FVec Ideal S16x1024 .bf16) (w : FVec Ideal S1024x256 .fp8e4m3) (r : Fin 16) (c : Fin 256) :
    matmul dot_S16x1024_S1024x256_S16x256_1_0_0_1_n_n none l w (constant S16x256 .f32 0x00000000#32) (ix2 r c) = ∑ k : Fin 1024, l (ix2 r k) * w (ix2 k c) := by
  pointwise

theorem product2_apply (l : FVec Ideal S16x4096 .bf16) (w : FVec Ideal S4096x256 .fp8e4m3) (r : Fin 16) (c : Fin 256) :
    matmul dot_S16x4096_S4096x256_S16x256_1_0_0_1_n_n none l w (constant S16x256 .f32 0x00000000#32) (ix2 r c) = ∑ k : Fin 4096, l (ix2 r k) * w (ix2 k c) := by
  pointwise

/-- Columns of the first product: each block of the rows is scaled for its block of columns. -/
theorem upV_apply (a : Fin 8 → FVec Ideal S8x128 .f32) (s : Fin 8 → Fin 2 → EReal) (w : FVec Ideal S1024x256 .fp8e4m3) (r : Fin 8) (c : Fin 256) :
    upV (F := Ideal) (fun i => pieceV (F := Ideal) (a i) (s i 0) (s i 1)) w (ix2 r c)
      = ∑ k : Fin 1024, a ⟨k / 128, by omega⟩ (ix2 r ⟨k % 128, by omega⟩) * s ⟨k / 128, by omega⟩ ⟨c / 128, by omega⟩ * w (ix2 k c) := by
  refine (diagV_apply _ r c).trans ?_
  split
  · rename_i h
    refine (product1_apply _ w _ c).trans (Finset.sum_congr rfl fun k _ => congrArg (· * w (ix2 k c)) ((left1_apply (fun i => pieceV (F := Ideal) (a i) (s i 0) (s i 1)) _ k).trans ((pieceV_top _ _ _ r _).trans ?_)))
    rw [show (⟨c / 128, by omega⟩ : Fin 2) = 0 from Fin.ext (by show (c : ℕ) / 128 = 0; omega)]
  · rename_i h
    refine (product1_apply _ w _ c).trans (Finset.sum_congr rfl fun k _ => congrArg (· * w (ix2 k c)) ((left1_apply (fun i => pieceV (F := Ideal) (a i) (s i 0) (s i 1)) _ k).trans ((pieceV_bot _ _ _ r _).trans ?_)))
    rw [show (⟨c / 128, by omega⟩ : Fin 2) = 1 from Fin.ext (by show (c : ℕ) / 128 = 1; omega)]

/-- Columns of the second product, likewise. -/
theorem downV_apply (a : Fin 32 → FVec Ideal S8x128 .f32) (s : Fin 32 → Fin 2 → EReal) (w : FVec Ideal S4096x256 .fp8e4m3) (r : Fin 8) (c : Fin 256) :
    downV (F := Ideal) (fun i => pieceV (F := Ideal) (a i) (s i 0) (s i 1)) w (ix2 r c)
      = ∑ k : Fin 4096, a ⟨k / 128, by omega⟩ (ix2 r ⟨k % 128, by omega⟩) * s ⟨k / 128, by omega⟩ ⟨c / 128, by omega⟩ * w (ix2 k c) := by
  refine (diagV_apply _ r c).trans ?_
  split
  · rename_i h
    refine (product2_apply _ w _ c).trans (Finset.sum_congr rfl fun k _ => congrArg (· * w (ix2 k c)) ((left2_apply (fun i => pieceV (F := Ideal) (a i) (s i 0) (s i 1)) _ k).trans ((pieceV_top _ _ _ r _).trans ?_)))
    rw [show (⟨c / 128, by omega⟩ : Fin 2) = 0 from Fin.ext (by show (c : ℕ) / 128 = 0; omega)]
  · rename_i h
    refine (product2_apply _ w _ c).trans (Finset.sum_congr rfl fun k _ => congrArg (· * w (ix2 k c)) ((left2_apply (fun i => pieceV (F := Ideal) (a i) (s i 0) (s i 1)) _ k).trans ((pieceV_bot _ _ _ r _).trans ?_)))
    rw [show (⟨c / 128, by omega⟩ : Fin 2) = 1 from Fin.ext (by show (c : ℕ) / 128 = 1; omega)]

/-- The words an expert's output rows are stored by hold the rows. -/
theorem packI_apply (v : FVec Ideal S8x256 .bf16) (b : Fin 4) (j : Fin 2) (c : Fin 256) : packI v b (ix3 0 j c) = v (ix2 (row b j) c) := by
  pointwise [packI]
  fin_cases j <;> simp <;> rfl

theorem combineV_apply (x : FVec Ideal S1x256x48 .bf16) (y : FVec Ideal S1x48x256 .bf16) (t : Fin 256) (c : Fin 256) :
    combineV (F := Ideal) x y (ix3 0 t c) = ∑ n : Fin 48, x (ix3 0 t n) * y (ix3 0 n c) := by
  pointwise [combineV]

end Cert.KernelIdeal.Clean
-- ==== Proof.Copies.lean ====
/-
  What the copies leave, element by element: the tokens, the weights and scales of an expert in their slot, and the
  results in their arrays.
-/
module

public import proofs.«01_k».proof.Proof.Spec

@[expose] public section

noncomputable section

namespace Cert.KernelIdeal.Clean

open Idealize.ShloMosaic Idealize.SL.Sem
open Cert.KernelIdeal.Gen
open Safe

theorem startX_x (b : Fin 4) (m : St Ideal) : Post (startX (F := Ideal) b) m fun _ m' =>
    ∀ c t d, cX m' (ix3 c t d) = if c = b then gX m (ix3 c t d) else cX m (ix3 c t d) := by
  refine Post.copy ?_
  intro c t d
  refine (congrFun ((Function.update_self _ _ _).trans (write_squeeze ((View.whole cc0_scratch0).slice (Rect.unit (s := S4x256x1024) ![b, 0, 0] S1x256x1024.size (inb_x b)))
    ((View.whole main_arg0).slice (Rect.unit (s := S4x256x1024) ![b, 0, 0] S1x256x1024.size (inb_x b))) _ (m cc0_scratch0) (m main_arg0))) (ix3 c t d)).trans ?_
  split
  · rename_i h; subst h
    refine (st_hit cc0_scratch0 _ _ _ _ _ (ix3 c t d) (ix3 (0 : Fin 1) t d) ?_).trans (rd_unit main_arg0 _ _ _ _ (ix3 (0 : Fin 1) t d) (ix3 c t d) ?_)
    all_goals intro a; fin_cases a <;> simp [ix3]
  · rename_i h
    refine st_miss cc0_scratch0 _ _ _ _ _ _ 0 ?_
    show (c : ℕ) < b ∨ (b : ℕ) + 1 ≤ c
    have : (c : ℕ) ≠ b := fun e => h (Fin.ext e)
    omega

theorem startPhi_phi (m : St Ideal) : Post (startPhi (F := Ideal)) m fun _ m' => cPhi m' = gPhi m := by
  refine Post.copy ?_
  exact (Function.update_self _ _ _).trans (write_whole cc0_scratch1 _ _)

theorem startS1_s (e : Fin 24) (i : Fin 5) (m : St Ideal) : Post (startS1 (F := Ideal) e i) m fun _ m' =>
    ∀ s k d, cS1 m' (ix3 s k d) = if s = i then gS1 m (ix3 e k d) else cS1 m (ix3 s k d) := by
  refine Post.copy ?_
  intro s k d
  refine (congrFun ((Function.update_self _ _ _).trans (write_squeeze ((View.whole cc0_scratch4).slice (Rect.unit (s := S5x8x32) ![i, 0, 0] S1x8x32.size (inb_s1v i)))
    ((View.whole main_arg3).slice (Rect.unit (s := S24x8x32) ![e, 0, 0] S1x8x32.size (inb_s1h e))) _ (m cc0_scratch4) (m main_arg3))) (ix3 s k d)).trans ?_
  split
  · rename_i h; subst h
    refine (st_hit cc0_scratch4 _ _ _ _ _ (ix3 s k d) (ix3 (0 : Fin 1) k d) ?_).trans (rd_unit main_arg3 _ _ _ _ (ix3 (0 : Fin 1) k d) (ix3 e k d) ?_)
    all_goals intro a; fin_cases a <;> simp [ix3]
  · rename_i h
    refine st_miss cc0_scratch4 _ _ _ _ _ _ 0 ?_
    show (s : ℕ) < i ∨ (i : ℕ) + 1 ≤ s
    have : (s : ℕ) ≠ i := fun e => h (Fin.ext e)
    omega

theorem startS2_s (e : Fin 24) (i : Fin 5) (m : St Ideal) : Post (startS2 (F := Ideal) e i) m fun _ m' =>
    ∀ s k d, cS2 m' (ix3 s k d) = if s = i then gS2 m (ix3 e k d) else cS2 m (ix3 s k d) := by
  refine Post.copy ?_
  intro s k d
  refine (congrFun ((Function.update_self _ _ _).trans (write_squeeze ((View.whole cc0_scratch5).slice (Rect.unit (s := S5x32x8) ![i, 0, 0] S1x32x8.size (inb_s2v i)))
    ((View.whole main_arg5).slice (Rect.unit (s := S24x32x8) ![e, 0, 0] S1x32x8.size (inb_s2h e))) _ (m cc0_scratch5) (m main_arg5))) (ix3 s k d)).trans ?_
  split
  · rename_i h; subst h
    refine (st_hit cc0_scratch5 _ _ _ _ _ (ix3 s k d) (ix3 (0 : Fin 1) k d) ?_).trans (rd_unit main_arg5 _ _ _ _ (ix3 (0 : Fin 1) k d) (ix3 e k d) ?_)
    all_goals intro a; fin_cases a <;> simp [ix3]
  · rename_i h
    refine st_miss cc0_scratch5 _ _ _ _ _ _ 0 ?_
    show (s : ℕ) < i ∨ (i : ℕ) + 1 ≤ s
    have : (s : ℕ) ≠ i := fun e => h (Fin.ext e)
    omega

theorem startW1_w (e : Fin 24) (i : Fin 5) (m : St Ideal) : Post (startW1 (F := Ideal) e i) m fun _ m' =>
    ∀ s k d, cW1 m' (ix3 s k d) = if s = i then gW1 m (ix3 e k d) else cW1 m (ix3 s k d) := by
  refine Post.copy ?_
  intro s k d
  refine (congrFun ((Function.update_self _ _ _).trans (write_squeeze ((View.whole cc0_scratch2).slice (Rect.unit (s := S5x1024x4096) ![i, 0, 0] S1x1024x4096.size (inb_w1v i)))
    ((View.whole main_arg2).slice (Rect.unit (s := S24x1024x4096) ![e, 0, 0] S1x1024x4096.size (inb_w1h e))) _ (m cc0_scratch2) (m main_arg2))) (ix3 s k d)).trans ?_
  split
  · rename_i h; subst h
    refine (st_hit cc0_scratch2 _ _ _ _ _ (ix3 s k d) (ix3 (0 : Fin 1) k d) ?_).trans (rd_unit main_arg2 _ _ _ _ (ix3 (0 : Fin 1) k d) (ix3 e k d) ?_)
    all_goals intro a; fin_cases a <;> simp [ix3]
  · rename_i h
    refine st_miss cc0_scratch2 _ _ _ _ _ _ 0 ?_
    show (s : ℕ) < i ∨ (i : ℕ) + 1 ≤ s
    have : (s : ℕ) ≠ i := fun e => h (Fin.ext e)
    omega

theorem startW2_w (e : Fin 24) (i : Fin 5) (q : Fin 4) (m : St Ideal) : Post (startW2 (F := Ideal) e i q) m fun _ m' =>
    ∀ s k d, cW2 m' (ix3 s k d) = if s = i ∧ (d : ℕ) / 256 = q then gW2 m (ix3 e k d) else cW2 m (ix3 s k d) := by
  refine Post.copy ?_
  intro s k d
  refine (congrFun ((Function.update_self _ _ _).trans (write_squeeze ((View.whole cc0_scratch3).slice (Rect.unit (s := S5x4096x1024) ![i, 0, 256 * (q : ℕ)] S1x4096x256.size (inb_w2v i q)))
    ((View.whole main_arg4).slice (Rect.unit (s := S24x4096x1024) ![e, 0, 256 * (q : ℕ)] S1x4096x256.size (inb_w2h e q))) _ (m cc0_scratch3) (m main_arg4))) (ix3 s k d)).trans ?_
  split
  · rename_i h; obtain ⟨h, h'⟩ := h; subst h
    have hd := d.isLt
    refine (st_hit cc0_scratch3 _ _ _ _ _ (ix3 s k d) (ix3 (0 : Fin 1) k (⟨d - 256 * (q : ℕ), by omega⟩ : Fin 256)) ?_).trans (rd_unit main_arg4 _ _ _ _ (ix3 (0 : Fin 1) k (⟨d - 256 * (q : ℕ), by omega⟩ : Fin 256)) (ix3 e k d) ?_)
    all_goals intro a; fin_cases a <;> simp [ix3] <;> omega
  · rename_i h
    by_cases hs : s = i
    · refine st_miss cc0_scratch3 _ _ _ _ _ _ 2 ?_
      show (d : ℕ) < 256 * (q : ℕ) ∨ 256 * (q : ℕ) + 256 ≤ d
      have : (d : ℕ) / 256 ≠ q := fun e => h ⟨hs, e⟩
      omega
    · refine st_miss cc0_scratch3 _ _ _ _ _ _ 0 ?_
      show (s : ℕ) < i ∨ (i : ℕ) + 1 ≤ s
      have : (s : ℕ) ≠ i := fun e => hs (Fin.ext e)
      omega

theorem startHc_h (e : Fin 24) (m : St Ideal) : Post (startHc (F := Ideal) e) m fun _ m' =>
    ∀ b e' j d, rHc m' (ix4 b e' j d) = if e' = e then cHc m (ix4 b e' j d) else rHc m (ix4 b e' j d) := by
  refine Post.copy ?_
  intro b e' j d
  refine (congrFun ((Function.update_self _ _ _).trans (write_squeeze ((View.whole main_v0_4).slice (Rect.unit (s := S4x24x2x4096) ![0, e, 0, 0] S4x1x2x4096.size (inb_hc e)))
    ((View.whole cc0_scratch13).slice (Rect.unit (s := S4x24x2x4096) ![0, e, 0, 0] S4x1x2x4096.size (inb_hc e))) _ (m main_v0_4) (m cc0_scratch13))) (ix4 b e' j d)).trans ?_
  split
  · rename_i h; subst h
    refine (st_hit main_v0_4 _ _ _ _ _ (ix4 b e' j d) (ix4 b (0 : Fin 1) j d) ?_).trans (rd_unit cc0_scratch13 _ _ _ _ (ix4 b (0 : Fin 1) j d) (ix4 b e' j d) ?_)
    all_goals intro a; fin_cases a <;> simp [ix4]
  · rename_i h
    refine st_miss main_v0_4 _ _ _ _ _ _ 1 ?_
    show (e' : ℕ) < e ∨ (e : ℕ) + 1 ≤ e'
    have : (e' : ℕ) ≠ e := fun h' => h (Fin.ext h')
    omega

/-! ## An expert's weights and scales -/

/-- Slot `i` holds expert `e`'s weights and scales. -/
structure Holds (A : Args) (m : St Ideal) (i : Fin 5) (e : Fin 24) : Prop where
  s1 : ∀ k d, cS1 m (ix3 i k d) = A.S1 (ix3 e k d)
  s2 : ∀ k d, cS2 m (ix3 i k d) = A.S2 (ix3 e k d)
  w1 : ∀ k d, cW1 m (ix3 i k d) = A.W1 (ix3 e k d)
  w2 : ∀ k d, cW2 m (ix3 i k d) = A.W2 (ix3 e k d)

theorem Holds.of_eq {A : Args} {m m' : St Ideal} {i : Fin 5} {e : Fin 24} (h : Holds A m i e) (h1 : m' cc0_scratch4 = m cc0_scratch4)
    (h2 : m' cc0_scratch5 = m cc0_scratch5) (h3 : m' cc0_scratch2 = m cc0_scratch2) (h4 : m' cc0_scratch3 = m cc0_scratch3) : Holds A m' i e :=
  ⟨fun k d => (congrFun h1 _).trans (h.s1 k d), fun k d => (congrFun h2 _).trans (h.s2 k d),
    fun k d => (congrFun h3 _).trans (h.w1 k d), fun k d => (congrFun h4 _).trans (h.w2 k d)⟩

theorem Keeps.startS1 (e : Fin 24) (i : Fin 5) {b : Ref sig .tc} (h : b ≠ cc0_scratch4) : Keeps (startS1 (F := Ideal) e i) b := Keeps.copy _ _ _ _ _ _ h
theorem Keeps.startS2 (e : Fin 24) (i : Fin 5) {b : Ref sig .tc} (h : b ≠ cc0_scratch5) : Keeps (startS2 (F := Ideal) e i) b := Keeps.copy _ _ _ _ _ _ h
theorem Keeps.startW1 (e : Fin 24) (i : Fin 5) {b : Ref sig .tc} (h : b ≠ cc0_scratch2) : Keeps (startW1 (F := Ideal) e i) b := Keeps.copy _ _ _ _ _ _ h
theorem Keeps.startW2 (e : Fin 24) (i : Fin 5) (q : Fin 4) {b : Ref sig .tc} (h : b ≠ cc0_scratch3) : Keeps (startW2 (F := Ideal) e i q) b := Keeps.copy _ _ _ _ _ _ h
theorem Keeps.startX (i : Fin 4) {b : Ref sig .tc} (h : b ≠ cc0_scratch0) : Keeps (startX (F := Ideal) i) b := Keeps.copy _ _ _ _ _ _ h
theorem Keeps.startPhi {b : Ref sig .tc} (h : b ≠ cc0_scratch1) : Keeps (startPhi (F := Ideal)) b := Keeps.copy _ _ _ _ _ _ h
theorem Keeps.startHc (e : Fin 24) {b : Ref sig .tc} (h : b ≠ main_v0_4) : Keeps (startHc (F := Ideal) e) b := Keeps.copy _ _ _ _ _ _ h

theorem Keeps.startExpert (e : Fin 24) (i : Fin 5) {b : Ref sig .tc} (h1 : b ≠ cc0_scratch4) (h2 : b ≠ cc0_scratch5) (h3 : b ≠ cc0_scratch2)
    (h4 : b ≠ cc0_scratch3) : Keeps (startExpert (F := Ideal) e i) b :=
  Keeps.bind (Keeps.startS1 e i h1) fun _ => Keeps.bind (Keeps.startS2 e i h2) fun _ => Keeps.bind (Keeps.startW1 e i h3) fun _ =>
    Keeps.forFin fun q => Keeps.startW2 e i q h4

theorem startExpert_holds (A : Args) (e : Fin 24) (i : Fin 5) (m : St Ideal) (hA : args m = A) : Post (startExpert (F := Ideal) e i) m fun _ m' =>
    Holds A m' i e ∧ ∀ i' e', i' ≠ i → Holds A m i' e' → Holds A m' i' e' := by
  subst hA
  refine Post.bind _ ((startS1_s e i m).and (((Keeps.startS1 e i (b := cc0_scratch5) (by decide)).post m).and (((Keeps.startS1 e i (b := cc0_scratch2) (by decide)).post m).and
    (((Keeps.startS1 e i (b := cc0_scratch3) (by decide)).post m).and (((Keeps.startS1 e i (b := main_arg2) (by decide)).post m).and
    (((Keeps.startS1 e i (b := main_arg4) (by decide)).post m).and ((Keeps.startS1 e i (b := main_arg5) (by decide)).post m))))))) fun _ m1 h1 => ?_
  obtain ⟨a1, a2, a3, a4, a5, a6, a7⟩ := h1
  refine Post.bind _ ((startS2_s e i m1).and (((Keeps.startS2 e i (b := cc0_scratch4) (by decide)).post m1).and (((Keeps.startS2 e i (b := cc0_scratch2) (by decide)).post m1).and
    (((Keeps.startS2 e i (b := cc0_scratch3) (by decide)).post m1).and (((Keeps.startS2 e i (b := main_arg2) (by decide)).post m1).and
    ((Keeps.startS2 e i (b := main_arg4) (by decide)).post m1)))))) fun _ m2 h2 => ?_
  obtain ⟨b1, b2, b3, b4, b5, b6⟩ := h2
  refine Post.bind _ ((startW1_w e i m2).and (((Keeps.startW1 e i (b := cc0_scratch4) (by decide)).post m2).and (((Keeps.startW1 e i (b := cc0_scratch5) (by decide)).post m2).and
    (((Keeps.startW1 e i (b := cc0_scratch3) (by decide)).post m2).and ((Keeps.startW1 e i (b := main_arg4) (by decide)).post m2))))) fun _ m3 h3 => ?_
  obtain ⟨c1, c2, c3, c4, c5⟩ := h3
  have hg : ∀ x, gW2 m3 x = gW2 m x := fun x => congrFun (c5.trans (b6.trans a6)) x
  refine Post.mono ((Post.forFin (fun q m4 => (∀ s k d, cW2 m4 (ix3 s k d) = if s = i ∧ (d : ℕ) / 256 < q then gW2 m (ix3 e k d) else cW2 m (ix3 s k d))
    ∧ m4 main_arg4 = m3 main_arg4) 0 ⟨fun s k d => ?_, rfl⟩ ?_).and
    (((Keeps.forFin fun q => Keeps.startW2 e i q (b := cc0_scratch4) (by decide)).post m3).and
    (((Keeps.forFin fun q => Keeps.startW2 e i q (b := cc0_scratch5) (by decide)).post m3).and
    ((Keeps.forFin fun q => Keeps.startW2 e i q (b := cc0_scratch2) (by decide)).post m3)))) ?_
  · rw [if_neg (by omega)]
    exact congrFun (c4.trans (b4.trans a4)) _
  · intro q m4 h4
    refine Post.mono ((startW2_w e i q m4).and ((Keeps.startW2 e i q (b := main_arg4) (by decide)).post m4)) fun _ m5 h5 => ⟨fun s k d => ?_, h5.2.trans h4.2⟩
    rw [h5.1 s k d, h4.1 s k d]
    by_cases hs : s = i
    · rcases lt_trichotomy ((d : ℕ) / 256) (q : ℕ) with hl | hl | hl
      · rw [if_neg (by omega), if_pos ⟨hs, by omega⟩, if_pos ⟨hs, by omega⟩]
      · rw [if_pos ⟨hs, hl⟩, if_pos ⟨hs, by omega⟩]; exact (congrFun h4.2 _).trans (hg _)
      · rw [if_neg (by omega), if_neg (by omega), if_neg (by omega)]
    · rw [if_neg (fun h => hs h.1), if_neg (fun h => hs h.1), if_neg (fun h => hs h.1)]
  · rintro _ m' ⟨⟨d1, -⟩, d2, d3, d4⟩
    refine ⟨⟨fun k d => ?_, fun k d => ?_, fun k d => ?_, fun k d => ?_⟩, fun i' e' hi hh => ⟨fun k d => ?_, fun k d => ?_, fun k d => ?_, fun k d => ?_⟩⟩
    · exact (congrFun (d2.trans (c2.trans b2)) _).trans ((a1 i k d).trans (if_pos rfl))
    · exact (congrFun (d3.trans c3) _).trans ((b1 i k d).trans ((if_pos rfl).trans (congrFun a7 _)))
    · exact (congrFun d4 _).trans ((c1 i k d).trans ((if_pos rfl).trans (congrFun (b5.trans a5) _)))
    · exact (d1 i k d).trans (if_pos ⟨rfl, by omega⟩)
    · exact (congrFun (d2.trans (c2.trans b2)) _).trans ((a1 i' k d).trans ((if_neg hi).trans (hh.s1 k d)))
    · exact (congrFun (d3.trans c3) _).trans ((b1 i' k d).trans ((if_neg hi).trans ((congrFun a2 _).trans (hh.s2 k d))))
    · exact (congrFun d4 _).trans ((c1 i' k d).trans ((if_neg hi).trans ((congrFun (b3.trans a3) _).trans (hh.w1 k d))))
    · exact (d1 i' k d).trans ((if_neg fun h => hi h.1).trans (hh.w2 k d))

end Cert.KernelIdeal.Clean
-- ==== Proof.Stores.lean ====
/-
  What the stages of one expert leave, element by element, and what they leave alone.
-/
module

public import proofs.«01_k».proof.Proof.Copies

@[expose] public section

set_option maxRecDepth 16384

noncomputable section

namespace Cert.KernelIdeal.Clean

open Idealize.ShloMosaic Idealize.SL.Sem
open Cert.KernelIdeal.Gen
open Safe

/-! ## Routing -/

theorem route_keeps (b : Fin 4) {r : Ref sig .tc} (h1 : r ≠ cc0_scratch6) (h2 : r ≠ cc0_scratch7) : Keeps (route (F := Ideal) b) r :=
  Keeps.bind (Keeps.load _ _ _ r) fun _ => Keeps.bind (Keeps.load _ _ _ r) fun _ => Keeps.bind (Keeps.load _ _ _ r) fun _ =>
    Keeps.bind (Keeps.store _ _ _ _ _ _ h1) fun _ => Keeps.forFin fun _ => Keeps.bind (Keeps.load _ _ _ r) fun _ => Keeps.store _ _ _ _ _ _ h2

theorem route_post (A : Args) (b : Fin 4) (m : St Ideal) (hx : ∀ t d, cX m (ix3 b t d) = A.X (ix3 b t d)) (hp : cPhi m = A.Phi) :
    Post (route (F := Ideal) b) m fun _ m' =>
      (∀ c t n, cComb m' (ix3 c t n) = if c = b then A.comb b (ix3 0 t n) else cComb m (ix3 c t n)) ∧
      (∀ p r l, cXs m' (ix3 p r l) = if h : (r : ℕ) / 48 = b then A.xs b (ix2 ⟨r % 48, by omega⟩ ⟨128 * p + l, by omega⟩) else cXs m (ix3 p r l)) := by
  have h1 : (Memref.whole cc0_scratch0).view.readAt (Elt Ideal) (Rect.unit (s := S4x256x1024) ![(b : ℕ), 0, 0] S1x256x1024.size (inb_x b)).toLoadRect (m cc0_scratch0) = A.xrow b := by
    funext i
    refine (ld_unit cc0_scratch0 _ _ _ _ i (ix3 b (i 1) (i 2)) ?_).trans (hx _ _)
    have h0 : (i 0 : ℕ) < 1 := (i 0).isLt
    intro a; fin_cases a
    · show (b : ℕ) = b + (i 0 : ℕ); omega
    · exact (Nat.zero_add _).symm
    · exact (Nat.zero_add _).symm
  have h2 : (Memref.whole cc0_scratch1).view.readAt (Elt Ideal) (Rect.unit (s := S1024x48) ![0, 0] S1024x48.size inb_phi).toLoadRect (m cc0_scratch1) = A.Phi := by
    funext i
    refine (ld_unit cc0_scratch1 _ _ _ _ i i ?_).trans (congrFun hp i)
    intro a; fin_cases a <;> simp
  refine Post.read (Reads.load _ _ _ _) (Post.read (Reads.load _ _ _ _) (Post.read (Reads.load _ _ _ _) ?_))
  refine Post.bind (fun _ m1 => (∀ c t n, cComb m1 (ix3 c t n) = if c = b then A.comb b (ix3 0 t n) else cComb m (ix3 c t n)) ∧ cXs m1 = cXs m) (Post.store ⟨?_, ?_⟩) fun _ m1 hm1 => ?_
  · intro c t n
    refine (congrFun (Function.update_self _ _ _) (ix3 c t n)).trans ?_
    split
    · rename_i h; subst h
      refine (st_hit cc0_scratch6 _ _ _ _ _ (ix3 c t n) (ix3 (0 : Fin 1) t n) ?_).trans ?_
      · intro a; fin_cases a <;> simp [ix3]
      · show combV (logitsV _ _) _ = combV (logitsV _ _) _
        refine congrFun (congrArg combV (congrArg₂ logitsV h1 h2)) _
    · rename_i h
      refine st_miss cc0_scratch6 _ _ _ _ _ _ 0 ?_
      show (c : ℕ) < b ∨ (b : ℕ) + 1 ≤ c
      have : (c : ℕ) ≠ b := fun e => h (Fin.ext e)
      omega
  · exact Function.update_of_ne (show (cc0_scratch7 : Ref sig .tc) ≠ cc0_scratch6 by decide) _ _
  · refine Post.mono (Post.forFin (fun k m2 => (∀ p r l, cXs m2 (ix3 p r l) = if h : (r : ℕ) / 48 = b ∧ (p : ℕ) < k then A.xs b (ix2 ⟨r % 48, by omega⟩ ⟨128 * p + l, by omega⟩) else cXs m (ix3 p r l)) ∧ cComb m2 = cComb m1) 0 ⟨?_, rfl⟩ ?_) ?_
    · intro p r l
      rw [dif_neg (by omega)]; exact congrFun hm1.2 _
    · intro p m2 h3
      refine Post.read (Reads.load _ _ _ _) (Post.store ⟨?_, (Function.update_of_ne (show (cc0_scratch6 : Ref sig .tc) ≠ cc0_scratch7 by decide) _ _).trans h3.2⟩)
      intro p' r l
      refine (congrFun (Function.update_self _ _ _) (ix3 p' r l)).trans ?_
      by_cases hp' : p' = p ∧ (r : ℕ) / 48 = b
      · obtain ⟨hp', hr⟩ := hp'; subst hp'
        have hr' := r.isLt
        refine (st_hit cc0_scratch7 _ _ _ _ _ (ix3 p' r l) (ix3 (0 : Fin 1) (⟨r % 48, by omega⟩ : Fin 48) l) ?_).trans ?_
        · intro a; fin_cases a <;> simp [ix3] <;> omega
        · rw [dif_pos ⟨hr, by omega⟩]
          refine (dispCol_apply _ p' _ l).trans ?_
          exact congrFun (congrArg₂ dispV h1 (congrArg₂ logitsV h1 h2)) _
      · have hm : cXs m2 (ix3 p' r l) = (if h : (r : ℕ) / 48 = b ∧ (p' : ℕ) < 0 + p + 1 then A.xs b (ix2 ⟨r % 48, by omega⟩ ⟨128 * p' + l, by omega⟩) else cXs m (ix3 p' r l)) := by
          refine (h3.1 p' r l).trans ?_
          have hne : (r : ℕ) / 48 = b → (p' : ℕ) ≠ p := fun h e => hp' ⟨Fin.ext e, h⟩
          by_cases hh : (r : ℕ) / 48 = b ∧ (p' : ℕ) < 0 + p
          · rw [dif_pos hh, dif_pos ⟨hh.1, by omega⟩]
          · rw [dif_neg hh, dif_neg (fun h => hh ⟨h.1, by have := hne h.1; omega⟩)]
        refine Eq.trans ?_ hm
        by_cases hpp : (p' : ℕ) = p
        · refine st_miss cc0_scratch7 _ _ _ _ _ _ 1 ?_
          show (r : ℕ) < 48 * (b : ℕ) ∨ 48 * (b : ℕ) + 48 ≤ r
          have : ¬ (r : ℕ) / 48 = b := fun h => hp' ⟨Fin.ext hpp, h⟩
          omega
        · refine st_miss cc0_scratch7 _ _ _ _ _ _ 0 ?_
          show (p' : ℕ) < p ∨ (p : ℕ) + 1 ≤ p'
          omega
    · rintro _ m' ⟨h4, h5⟩
      refine ⟨fun c t n => (congrFun h5 _).trans (hm1.1 c t n), fun p r l => (h4 p r l).trans ?_⟩
      by_cases hh : (r : ℕ) / 48 = b
      · rw [dif_pos ⟨hh, by omega⟩, dif_pos hh]
      · rw [dif_neg (fun h => hh h.1), dif_neg hh]

/-! ## The rows of one expert -/

/-- The dispatched tokens of every batch. -/
def XsAt (A : Args) (m : St Ideal) : Prop := ∀ (p : Fin 8) (b : Fin 4) (n : Fin 48) (l : Fin 128),
  cXs m (ix3 p ⟨48 * b + n, by omega⟩ l) = A.xs b (ix2 n ⟨128 * p + l, by omega⟩)

theorem readXs_post (A : Args) (m : St Ideal) (hxs : XsAt A m) (e : Fin 24) (rows : Fin 4 → Fin 191) (hr : ∀ b, (rows b : ℕ) = 48 * b + 2 * e) :
    Post (readXs (F := Ideal) rows) m fun v m' => rows8 v = A.rows e ∧ m' = m := by
  refine (Reads.gather (g := fun p b => (Memref.whole cc0_scratch7).view.readAt (Elt Ideal) (xsrR p (rows b)).toLoadRect (m cc0_scratch7)) fun p => Reads.gather fun b => Reads.load _ _ _ _).post ⟨?_, rfl⟩
  funext i
  obtain ⟨r, d, rfl⟩ : ∃ r d, i = ix2 r d := ⟨i 0, i 1, by funext a; fin_cases a <;> rfl⟩
  refine (rows8_apply _ r d).trans ?_
  refine (ld_unit cc0_scratch7 _ _ _ _ _ (ix3 (⟨d / 128, by omega⟩ : Fin 8) (⟨48 * ((⟨r / 2, by omega⟩ : Fin 4) : ℕ) + ((⟨2 * e + r % 2, by omega⟩ : Fin 48) : ℕ), by show 48 * ((r : ℕ) / 2) + (2 * (e : ℕ) + r % 2) < 192; omega⟩ : Fin 192) (⟨d % 128, by omega⟩ : Fin 128)) ?_).trans ?_
  · intro a; fin_cases a <;> simp [ix3, hr]; omega
  · refine (hxs _ _ _ _).trans ?_
    show A.xs _ _ = A.xs _ _
    congr 2
    exact Fin.ext (by show 128 * ((d : ℕ) / 128) + d % 128 = d; omega)

theorem quantX_keeps (e : Fin 24) (srow : Fin 185) (v : FVec Ideal S8x1024 .f32) {r : Ref sig .tc} (h1 : r ≠ cc0_scratch12) (h2 : r ≠ cc0_scratch14) (h3 : r ≠ cc0_scratch9) :
    Keeps (quantX e srow v) r :=
  Keeps.bind (Keeps.forFin fun _ => Keeps.bind (Keeps.load _ _ _ r) fun _ => Keeps.store _ _ _ _ _ _ h1) fun _ =>
    Keeps.bind (Keeps.load _ _ _ r) fun _ => Keeps.bind (Keeps.store _ _ _ _ _ _ h2) fun _ =>
    Keeps.bind (Keeps.load _ _ _ r) fun _ => Keeps.store _ _ _ _ _ _ h3

theorem quantX_post (e : Fin 24) (srow : Fin 185) (v : FVec Ideal S8x1024 .f32) (m : St Ideal) :
    Post (quantX e srow v) m fun _ m' =>
      (∀ b e' j d, cSc m' (ix4 b e' j d) = if e' = e then codesX v (ix2 (row b j) d) else cSc m (ix4 b e' j d)) ∧
      (∀ r l, cSsr m' (ix2 r l) = if h : (srow : ℕ) ≤ r ∧ (r : ℕ) < srow + 8 then scaleV (amaxX v) (ix2 ⟨r - srow, by omega⟩ 0) else cSsr m (ix2 r l)) ∧
      (∀ r (d : Fin 1024), cA m' (ix2 r ⟨d, by omega⟩) = actX v (ix2 r d)) := by
  refine Post.bind _ ((Post.forFin (fun k m1 => (∀ b e' j d, cSc m1 (ix4 b e' j d) = if e' = e ∧ (b : ℕ) < k then codesX v (ix2 (row b j) d) else cSc m (ix4 b e' j d)) ∧ m1 cc0_scratch14 = m cc0_scratch14) 0 ⟨?_, rfl⟩ ?_)) fun _ m1 h1 => ?_
  · intro b e' j d
    rw [if_neg (by omega)]
  · intro b m1 h1
    refine Post.read (Reads.load _ _ _ _) (Post.store ⟨?_, (Function.update_of_ne (show (cc0_scratch14 : Ref sig .tc) ≠ cc0_scratch12 by decide) _ _).trans h1.2⟩)
    intro b' e' j d
    refine (congrFun (Function.update_self _ _ _) (ix4 b' e' j d)).trans ?_
    by_cases hh : b' = b ∧ e' = e
    · obtain ⟨rfl, rfl⟩ := hh
      refine (st_hit cc0_scratch12 _ _ _ _ _ (ix4 b' e' j d) (ix4 (0 : Fin 1) (0 : Fin 1) j d) ?_).trans ?_
      · intro a; fin_cases a <;> simp [ix4]
      · rw [if_pos ⟨rfl, by omega⟩]
        exact codeRowX_apply _ b' j d
    · have h2 := h1.1 b' e' j d
      by_cases hb : b' = b
      · have he : e' ≠ e := fun h => hh ⟨hb, h⟩
        rw [if_neg (fun h => he h.1)] at h2 ⊢
        refine (st_miss cc0_scratch12 _ _ _ _ _ _ 1 ?_).trans h2
        show (e' : ℕ) < e ∨ (e : ℕ) + 1 ≤ e'
        have : (e' : ℕ) ≠ e := fun h => he (Fin.ext h)
        omega
      · have hb' : (b' : ℕ) ≠ b := fun h => hb (Fin.ext h)
        refine (st_miss cc0_scratch12 _ _ _ _ _ _ 0 (by show (b' : ℕ) < b ∨ (b : ℕ) + 1 ≤ b'; omega)).trans (h2.trans ?_)
        by_cases h3 : e' = e ∧ (b' : ℕ) < 0 + b
        · rw [if_pos h3, if_pos ⟨h3.1, by omega⟩]
        · rw [if_neg h3, if_neg (fun h => h3 ⟨h.1, by omega⟩)]
  · refine Post.read (Reads.load _ _ _ _) (Post.bind (fun _ m2 => (∀ r l, cSsr m2 (ix2 r l) = if h : (srow : ℕ) ≤ r ∧ (r : ℕ) < srow + 8 then scaleV (amaxX v) (ix2 ⟨r - srow, by omega⟩ 0) else cSsr m (ix2 r l)) ∧ cSc m2 = cSc m1) (Post.store ⟨?_, Function.update_of_ne (show (cc0_scratch12 : Ref sig .tc) ≠ cc0_scratch14 by decide) _ _⟩) fun _ m2 h2 =>
      Post.read (Reads.load _ _ _ _) (Post.store ⟨?_, ?_, ?_⟩))
    · intro r l
      refine (congrFun (Function.update_self _ _ _) (ix2 r l)).trans ?_
      split
      · rename_i h
        refine (st_hit cc0_scratch14 _ _ _ _ _ (ix2 r l) (ix2 (⟨r - srow, by omega⟩ : Fin 8) l) ?_).trans (scaleRows_apply _ _ l)
        intro a; fin_cases a <;> simp [ix2]; omega
      · refine (st_miss cc0_scratch14 _ _ _ _ _ _ 0 ?_).trans (congrFun h1.2 _)
        show (r : ℕ) < srow ∨ (srow : ℕ) + 8 ≤ r
        omega
    · intro b e' j d
      refine (congrFun ((Function.update_of_ne (show (cc0_scratch12 : Ref sig .tc) ≠ cc0_scratch9 by decide) _ _).trans h2.2) (ix4 b e' j d)).trans ((h1.1 b e' j d).trans ?_)
      by_cases he : e' = e
      · rw [if_pos ⟨he, by omega⟩, if_pos he]
      · rw [if_neg (fun h => he h.1), if_neg he]
    · intro r l
      exact (congrFun (Function.update_of_ne (show (cc0_scratch14 : Ref sig .tc) ≠ cc0_scratch9 by decide) _ _) (ix2 r l)).trans (h2.1 r l)
    · intro r d
      refine (congrFun (Function.update_self _ _ _) _).trans ?_
      refine st_hit cc0_scratch9 _ _ _ _ _ (ix2 r (⟨d, by omega⟩ : Fin 4096)) (ix2 r d) ?_
      intro a; fin_cases a <;> simp [ix2]

theorem quantH_keeps (e : Fin 24) (srow : Fin 185) (v : FVec Ideal S8x4096 .f32) {r : Ref sig .tc} (h1 : r ≠ cc0_scratch13) (h2 : r ≠ cc0_scratch15) (h3 : r ≠ cc0_scratch9) :
    Keeps (quantH e srow v) r :=
  Keeps.bind (Keeps.forFin fun _ => Keeps.bind (Keeps.load _ _ _ r) fun _ => Keeps.store _ _ _ _ _ _ h1) fun _ =>
    Keeps.bind (Keeps.load _ _ _ r) fun _ => Keeps.bind (Keeps.store _ _ _ _ _ _ h2) fun _ =>
    Keeps.bind (Keeps.load _ _ _ r) fun _ => Keeps.store _ _ _ _ _ _ h3

theorem quantH_post (e : Fin 24) (srow : Fin 185) (v : FVec Ideal S8x4096 .f32) (m : St Ideal) :
    Post (quantH e srow v) m fun _ m' =>
      (∀ b e' j d, cHc m' (ix4 b e' j d) = if e' = e then codesH v (ix2 (row b j) d) else cHc m (ix4 b e' j d)) ∧
      (∀ r l, cHsr m' (ix2 r l) = if h : (srow : ℕ) ≤ r ∧ (r : ℕ) < srow + 8 then scaleV (amaxH v) (ix2 ⟨r - srow, by omega⟩ 0) else cHsr m (ix2 r l)) ∧
      (∀ r d, cA m' (ix2 r d) = actH v (ix2 r d)) := by
  refine Post.bind _ ((Post.forFin (fun k m1 => (∀ b e' j d, cHc m1 (ix4 b e' j d) = if e' = e ∧ (b : ℕ) < k then codesH v (ix2 (row b j) d) else cHc m (ix4 b e' j d)) ∧ m1 cc0_scratch15 = m cc0_scratch15) 0 ⟨?_, rfl⟩ ?_)) fun _ m1 h1 => ?_
  · intro b e' j d
    rw [if_neg (by omega)]
  · intro b m1 h1
    refine Post.read (Reads.load _ _ _ _) (Post.store ⟨?_, (Function.update_of_ne (show (cc0_scratch15 : Ref sig .tc) ≠ cc0_scratch13 by decide) _ _).trans h1.2⟩)
    intro b' e' j d
    refine (congrFun (Function.update_self _ _ _) (ix4 b' e' j d)).trans ?_
    by_cases hh : b' = b ∧ e' = e
    · obtain ⟨rfl, rfl⟩ := hh
      refine (st_hit cc0_scratch13 _ _ _ _ _ (ix4 b' e' j d) (ix4 (0 : Fin 1) (0 : Fin 1) j d) ?_).trans ?_
      · intro a; fin_cases a <;> simp [ix4]
      · rw [if_pos ⟨rfl, by omega⟩]
        exact codeRowH_apply _ b' j d
    · have h2 := h1.1 b' e' j d
      by_cases hb : b' = b
      · have he : e' ≠ e := fun h => hh ⟨hb, h⟩
        rw [if_neg (fun h => he h.1)] at h2 ⊢
        refine (st_miss cc0_scratch13 _ _ _ _ _ _ 1 ?_).trans h2
        show (e' : ℕ) < e ∨ (e : ℕ) + 1 ≤ e'
        have : (e' : ℕ) ≠ e := fun h => he (Fin.ext h)
        omega
      · have hb' : (b' : ℕ) ≠ b := fun h => hb (Fin.ext h)
        refine (st_miss cc0_scratch13 _ _ _ _ _ _ 0 (by show (b' : ℕ) < b ∨ (b : ℕ) + 1 ≤ b'; omega)).trans (h2.trans ?_)
        by_cases h3 : e' = e ∧ (b' : ℕ) < 0 + b
        · rw [if_pos h3, if_pos ⟨h3.1, by omega⟩]
        · rw [if_neg h3, if_neg (fun h => h3 ⟨h.1, by omega⟩)]
  · refine Post.read (Reads.load _ _ _ _) (Post.bind (fun _ m2 => (∀ r l, cHsr m2 (ix2 r l) = if h : (srow : ℕ) ≤ r ∧ (r : ℕ) < srow + 8 then scaleV (amaxH v) (ix2 ⟨r - srow, by omega⟩ 0) else cHsr m (ix2 r l)) ∧ cHc m2 = cHc m1) (Post.store ⟨?_, Function.update_of_ne (show (cc0_scratch13 : Ref sig .tc) ≠ cc0_scratch15 by decide) _ _⟩) fun _ m2 h2 =>
      Post.read (Reads.load _ _ _ _) (Post.store ⟨?_, ?_, ?_⟩))
    · intro r l
      refine (congrFun (Function.update_self _ _ _) (ix2 r l)).trans ?_
      split
      · rename_i h
        refine (st_hit cc0_scratch15 _ _ _ _ _ (ix2 r l) (ix2 (⟨r - srow, by omega⟩ : Fin 8) l) ?_).trans (scaleRows_apply _ _ l)
        intro a; fin_cases a <;> simp [ix2]; omega
      · refine (st_miss cc0_scratch15 _ _ _ _ _ _ 0 ?_).trans (congrFun h1.2 _)
        show (r : ℕ) < srow ∨ (srow : ℕ) + 8 ≤ r
        omega
    · intro b e' j d
      refine (congrFun ((Function.update_of_ne (show (cc0_scratch13 : Ref sig .tc) ≠ cc0_scratch9 by decide) _ _).trans h2.2) (ix4 b e' j d)).trans ((h1.1 b e' j d).trans ?_)
      by_cases he : e' = e
      · rw [if_pos ⟨he, by omega⟩, if_pos he]
      · rw [if_neg (fun h => he h.1), if_neg he]
    · intro r l
      exact (congrFun (Function.update_of_ne (show (cc0_scratch15 : Ref sig .tc) ≠ cc0_scratch9 by decide) _ _) (ix2 r l)).trans (h2.1 r l)
    · intro r d
      refine (congrFun (Function.update_self _ _ _) _).trans ?_
      refine st_hit cc0_scratch9 _ _ _ _ _ (ix2 r d) (ix2 r d) ?_
      intro a; fin_cases a <;> simp [ix2]

end Cert.KernelIdeal.Clean
-- ==== Proof.Tiles.lean ====
/-
  The two matrix products of an expert and the combination, tile by tile: what a tile leaves, element by element.
-/
module

public import proofs.«01_k».proof.Proof.Copies
public import Idealize.ShloMosaic.Lib.ValueLayout

@[expose] public section

set_option maxRecDepth 16384

noncomputable section

namespace Cert.KernelIdeal.Clean

open Idealize.ShloMosaic Idealize.SL.Sem
open Cert.KernelIdeal.Gen
open Safe

theorem Reads.smem {s : Shape} {e : EltTy} (mr : Memref sig .tc .smem s e) (r : Rect s) (h1 hp) (m : St Ideal) :
    Reads (smemLoad mr r h1 hp : P Ideal _) m (mr.view.readAt (Elt Ideal) r.toLoadRect (m mr.view.ref) (Shape.Idx.first (h1.symm ▸ Nat.one_pos))) := rfl

theorem Keeps.smem {s : Shape} {e : EltTy} (mr : Memref sig .tc .smem s e) (r : Rect s) (h1 hp) (b : Ref sig .tc) :
    Keeps (smemLoad mr r h1 hp : P Ideal _) b := fun m _ m' h => by
  cases (show some (_, m) = _ from h); rfl

/-- An element of a slot of the first weights. -/
theorem slot1_apply {Val : EltTy → Type} (slot : Fin 5) (n : Fin 16) (f : (cc0_scratch2 : Ref sig .tc).ty.Contents Val) (k : Fin 1024) (c : Fin 256) :
    (w1vW slot).view.readAt Val (Rect.unit (s := S1024x4096) ![0, 256 * (n : ℕ)] S1024x256.size (inb_w1c n)).toLoadRect f (ix2 k c)
      = f (ix3 slot k (⟨256 * n + c, by omega⟩ : Fin 4096)) := by
  have hi : (Rect.unit (s := S1024x4096) ![0, 256 * (n : ℕ)] S1024x256.size (inb_w1c n)).toLoadRect.idx (ix2 k c) = ix2 k (⟨256 * n + c, by omega⟩ : Fin 4096) := by
    funext a; apply Fin.ext; fin_cases a
    · show 0 + 1 * (k : ℕ) = k; omega
    · show 256 * (n : ℕ) + 1 * (c : ℕ) = 256 * n + c; omega
  have hs := Idealize.ShloMosaic.ValueIdx.reshapeEquiv_ix2_1ab (a := 1024) (b := 4096) squeezes_S1x1024x4096_S1024x4096.numel_eq k (⟨256 * n + c, by omega⟩ : Fin 4096)
  exact (congrArg (fun i => ((View.whole cc0_scratch2).slice (Rect.unit (s := S5x1024x4096) ![(slot : ℕ), 0, 0] S1x1024x4096.size (inb_w1v slot))).read Val f (Shape.reshapeEquiv squeezes_S1x1024x4096_S1024x4096.numel_eq i)) hi).trans
    ((congrArg (fun i => ((View.whole cc0_scratch2).slice (Rect.unit (s := S5x1024x4096) ![(slot : ℕ), 0, 0] S1x1024x4096.size (inb_w1v slot))).read Val f i) hs).trans
    (rd_unit cc0_scratch2 _ _ _ f _ _ (by intro a; fin_cases a <;> simp [ix3])))

/-- A slot of the second weights. -/
abbrev w2vS (slot : Fin 5) : Memref sig .tc .vmem S4096x1024 .fp8e4m3 :=
  (w2_v.slice (Rect.unit (s := S5x4096x1024) ![(slot : ℕ), 0, 0] S1x4096x1024.size (inb_w2s slot)) (fun _ => rfl)).squeeze S4096x1024 squeezes_S1x4096x1024_S4096x1024

/-- An element of a slot of the second weights. -/
theorem slot2_apply {Val : EltTy → Type} (slot : Fin 5) (n : Fin 4) (f : (cc0_scratch3 : Ref sig .tc).ty.Contents Val) (k : Fin 4096) (c : Fin 256) :
    (w2vS slot).view.readAt Val (Rect.unit (s := S4096x1024) ![0, 256 * (n : ℕ)] S4096x256.size (inb_w2c n)).toLoadRect f (ix2 k c)
      = f (ix3 slot k (⟨256 * n + c, by omega⟩ : Fin 1024)) := by
  have hi : (Rect.unit (s := S4096x1024) ![0, 256 * (n : ℕ)] S4096x256.size (inb_w2c n)).toLoadRect.idx (ix2 k c) = ix2 k (⟨256 * n + c, by omega⟩ : Fin 1024) := by
    funext a; apply Fin.ext; fin_cases a
    · show 0 + 1 * (k : ℕ) = k; omega
    · show 256 * (n : ℕ) + 1 * (c : ℕ) = 256 * n + c; omega
  have hs := Idealize.ShloMosaic.ValueIdx.reshapeEquiv_ix2_1ab (a := 4096) (b := 1024) squeezes_S1x4096x1024_S4096x1024.numel_eq k (⟨256 * n + c, by omega⟩ : Fin 1024)
  exact (congrArg (fun i => ((View.whole cc0_scratch3).slice (Rect.unit (s := S5x4096x1024) ![(slot : ℕ), 0, 0] S1x4096x1024.size (inb_w2s slot))).read Val f (Shape.reshapeEquiv squeezes_S1x4096x1024_S4096x1024.numel_eq i)) hi).trans
    ((congrArg (fun i => ((View.whole cc0_scratch3).slice (Rect.unit (s := S5x4096x1024) ![(slot : ℕ), 0, 0] S1x4096x1024.size (inb_w2s slot))).read Val f i) hs).trans
    (rd_unit cc0_scratch3 _ _ _ f _ _ (by intro a; fin_cases a <;> simp [ix3])))

/-! ## The first product -/

/-- Block `i` of the dequantised rows. -/
def blockA (m : St Ideal) (i : Fin 32) : FVec Ideal S8x128 .f32 := fun x => cA m (ix2 (x 0) ⟨128 * i + x 1, by have : (x 1 : ℕ) < 128 := (x 1).isLt; omega⟩)

theorem blockA_load (m : St Ideal) (i : Fin 32) : (Memref.whole cc0_scratch9).view.readAt (Elt Ideal) (a128R i).toLoadRect (m cc0_scratch9) = blockA m i := by
  funext x
  refine ld_unit cc0_scratch9 _ _ _ _ x _ ?_
  intro a; fin_cases a
  · exact (Nat.zero_add _).symm
  · rfl

theorem first_val {n : ℕ} {size : Fin n → ℕ} (h : ∀ a, size a = 1) (x : (⟨n, size⟩ : Shape).Idx) (a : Fin n) : (x a : ℕ) = 0 := by
  have := (x a).isLt
  have := h a
  show (x a : ℕ) = 0
  have h2 : (x a : ℕ) < size a := (x a).isLt
  omega

theorem piece1_reads (m : St Ideal) (slot : Fin 5) (n : Fin 16) (i : Fin 8) :
    Reads (piece1 (F := Ideal) slot n i) m (pieceV (F := Ideal) (blockA m (i.castLE (by decide))) (cS1 m (ix3 slot i ⟨2 * n + ((0 : Fin 2) : ℕ), by omega⟩)) (cS1 m (ix3 slot i ⟨2 * n + ((1 : Fin 2) : ℕ), by omega⟩))) := by
  rw [← blockA_load]
  refine Reads.bind (Reads.load _ _ _ _) (Reads.bind (Reads.smem _ _ _ _ _) (Reads.bind (Reads.smem _ _ _ _ _) ?_))
  have h : ∀ x y y', y = y' → ∀ z z', z = z' → Reads (Pure.pure (pieceV (F := Ideal) x y z) : P Ideal _) m (pieceV (F := Ideal) x y' z') := by
    rintro x y _ rfl z _ rfl; rfl
  refine h _ _ _ (ld_unit cc0_scratch4 _ _ _ _ _ _ fun a => ?_) _ _ (ld_unit cc0_scratch4 _ _ _ _ _ _ fun a => ?_)
  all_goals
    refine Eq.trans ?_ (congrArg _ (first_val (show ∀ a : Fin 3, S1x1x1.size a = 1 by decide) _ a).symm)
    fin_cases a <;> simp [ix3]

theorem piece2_reads (m : St Ideal) (slot : Fin 5) (n : Fin 4) (i : Fin 32) :
    Reads (piece2 (F := Ideal) slot n i) m (pieceV (F := Ideal) (blockA m i) (cS2 m (ix3 slot i ⟨2 * n + ((0 : Fin 2) : ℕ), by omega⟩)) (cS2 m (ix3 slot i ⟨2 * n + ((1 : Fin 2) : ℕ), by omega⟩))) := by
  rw [← blockA_load]
  refine Reads.bind (Reads.load _ _ _ _) (Reads.bind (Reads.smem _ _ _ _ _) (Reads.bind (Reads.smem _ _ _ _ _) ?_))
  have h : ∀ x y y', y = y' → ∀ z z', z = z' → Reads (Pure.pure (pieceV (F := Ideal) x y z) : P Ideal _) m (pieceV (F := Ideal) x y' z') := by
    rintro x y _ rfl z _ rfl; rfl
  refine h _ _ _ (ld_unit cc0_scratch5 _ _ _ _ _ _ fun a => ?_) _ _ (ld_unit cc0_scratch5 _ _ _ _ _ _ fun a => ?_)
  all_goals
    refine Eq.trans ?_ (congrArg _ (first_val (show ∀ a : Fin 3, S1x1x1.size a = 1 by decide) _ a).symm)
    fin_cases a <;> simp [ix3]

theorem upTile_keeps (slot : Fin 5) (n : Fin 16) {r : Ref sig .tc} (h : r ≠ cc0_scratch8) : Keeps (upTile (F := Ideal) slot n) r :=
  Keeps.bind (Keeps.gather fun _ => Keeps.bind (Keeps.load _ _ _ r) fun _ => Keeps.bind (Keeps.smem _ _ _ _ r) fun _ => Keeps.bind (Keeps.smem _ _ _ _ r) fun _ => Keeps.pure) fun _ =>
    Keeps.bind (Keeps.load _ _ _ r) fun _ => Keeps.bind (Keeps.load _ _ _ r) fun _ => Keeps.store _ _ _ _ _ _ h

theorem upTile_post (slot : Fin 5) (n : Fin 16) (m : St Ideal) : Post (upTile (F := Ideal) slot n) m fun _ m' =>
    ∀ r (c : Fin 4096), cH m' (ix2 r c) = if (c : ℕ) / 256 = n
      then gelu1 (∑ k : Fin 1024, cA m (ix2 r ⟨k, by omega⟩) * cS1 m (ix3 slot ⟨k / 128, by omega⟩ ⟨c / 128, by omega⟩) * cW1 m (ix3 slot k c)) else cH m (ix2 r c) := by
  refine Post.read (Reads.gather fun i => piece1_reads m slot n i) (Post.read (Reads.load _ _ _ _) (Post.read (Reads.load _ _ _ _) (Post.store ?_)))
  intro r c
  refine (congrFun (Function.update_self _ _ _) (ix2 r c)).trans ?_
  split
  · rename_i h
    have hc := c.isLt
    refine (st_hit cc0_scratch8 _ _ _ _ _ (ix2 r c) (ix2 r (⟨c - 256 * n, by omega⟩ : Fin 256)) ?_).trans ?_
    · intro a; fin_cases a <;> simp [ix2]; omega
    · refine (congrFun (shapeCast_self _ _) _).trans ((geluV_apply _ _).trans (congrArg gelu1 ?_))
      refine (upV_apply (fun i => blockA m (i.castLE (by decide))) (fun i j => cS1 m (ix3 slot i ⟨2 * n + (j : ℕ), by omega⟩)) _ r _).trans (Finset.sum_congr rfl fun k _ => ?_)
      refine congrArg₂ (· * ·) (congrArg₂ (· * ·) (congrArg (cA m) ?_) (congrArg (cS1 m) ?_)) ((slot1_apply slot n _ k _).trans (congrArg (cW1 m) ?_))
      · show ix2 r _ = ix2 r _
        congr 1; exact Fin.ext (by show 128 * ((k : ℕ) / 128) + k % 128 = k; omega)
      · congr 1; exact Fin.ext (by show 2 * (n : ℕ) + ((c : ℕ) - 256 * n) / 128 = c / 128; omega)
      · congr 1; exact Fin.ext (by show 256 * (n : ℕ) + (c - 256 * n) = c; omega)
  · rename_i h
    refine st_miss cc0_scratch8 _ _ _ _ _ _ 1 ?_
    show (c : ℕ) < 256 * (n : ℕ) ∨ 256 * (n : ℕ) + 256 ≤ c
    omega

/-! ## The second product -/

theorem downTile_keeps (pack) (slot : Fin 5) (e : Fin 24) (n : Fin 4) {r : Ref sig .tc} (h : r ≠ cc0_scratch10) : Keeps (downTile (F := Ideal) pack slot e n) r :=
  Keeps.bind (Keeps.gather fun _ => Keeps.bind (Keeps.load _ _ _ r) fun _ => Keeps.bind (Keeps.smem _ _ _ _ r) fun _ => Keeps.bind (Keeps.smem _ _ _ _ r) fun _ => Keeps.pure) fun _ =>
    Keeps.bind (Keeps.load _ _ _ r) fun _ => Keeps.forFin fun _ => Keeps.bind (Keeps.load _ _ _ r) fun _ => Keeps.store _ _ _ _ _ _ h

theorem downTile_post (slot : Fin 5) (e : Fin 24) (n : Fin 4) (m : St Ideal) : Post (downTile (F := Ideal) packI slot e n) m fun _ m' =>
    ∀ b s (c : Fin 1024), cYs m' (ix3 b s c) = if (s : ℕ) / 2 = e ∧ (c : ℕ) / 256 = n
      then ∑ k : Fin 4096, cA m (ix2 (row b ⟨s % 2, by omega⟩) k) * cS2 m (ix3 slot ⟨k / 128, by omega⟩ ⟨c / 128, by omega⟩) * cW2 m (ix3 slot k c) else cYs m (ix3 b s c) := by
  refine Post.read (Reads.gather fun i => piece2_reads m slot n i) (Post.read (Reads.load _ _ _ _) ?_)
  refine Post.mono (Post.forFin (fun q m1 => ∀ b s (c : Fin 1024), cYs m1 (ix3 b s c) = if ((s : ℕ) / 2 = e ∧ (c : ℕ) / 256 = n) ∧ (b : ℕ) < q
      then ∑ k : Fin 4096, cA m (ix2 (row b ⟨s % 2, by omega⟩) k) * cS2 m (ix3 slot ⟨k / 128, by omega⟩ ⟨c / 128, by omega⟩) * cW2 m (ix3 slot k c) else cYs m (ix3 b s c)) 0 ?_ ?_) ?_
  · intro b s c; rw [if_neg (by omega)]
  · intro b m1 h1
    refine Post.read (Reads.load _ _ _ _) (Post.store ?_)
    intro b' s c
    refine (congrFun (Function.update_self _ _ _) (ix3 b' s c)).trans ?_
    have hc := c.isLt
    have hs := s.isLt
    by_cases hh : b' = b ∧ (s : ℕ) / 2 = e ∧ (c : ℕ) / 256 = n
    · obtain ⟨rfl, h2, h3⟩ := hh
      rw [if_pos ⟨⟨h2, h3⟩, by omega⟩]
      refine (st_hit cc0_scratch10 _ _ _ _ _ (ix3 b' s c) (ix3 (0 : Fin 1) (⟨s % 2, by omega⟩ : Fin 2) (⟨c - 256 * n, by omega⟩ : Fin 256)) ?_).trans ?_
      · intro a; fin_cases a <;> simp [ix3] <;> omega
      · refine (packI_apply _ b' _ _).trans ?_
        refine (downV_apply (fun i => blockA m i) (fun i j => cS2 m (ix3 slot i ⟨2 * n + (j : ℕ), by omega⟩)) _ _ _).trans (Finset.sum_congr rfl fun k _ => ?_)
        refine congrArg₂ (· * ·) (congrArg₂ (· * ·) (congrArg (cA m) ?_) (congrArg (cS2 m) ?_)) ((slot2_apply slot n _ k _).trans (congrArg (cW2 m) ?_))
        · show ix2 (row b' _) _ = ix2 (row b' _) _
          congr 1; exact Fin.ext (by show 128 * ((k : ℕ) / 128) + k % 128 = k; omega)
        · congr 1; exact Fin.ext (by show 2 * (n : ℕ) + ((c : ℕ) - 256 * n) / 128 = c / 128; omega)
        · congr 1; exact Fin.ext (by show 256 * (n : ℕ) + (c - 256 * n) = c; omega)
    · refine Eq.trans ?_ ((h1 b' s c).trans ?_)
      · by_cases hb : (b' : ℕ) = b
        · by_cases h2 : (s : ℕ) / 2 = e
          · refine st_miss cc0_scratch10 _ _ _ _ _ _ 2 ?_
            show (c : ℕ) < 256 * (n : ℕ) ∨ 256 * (n : ℕ) + 256 ≤ c
            have : ¬ (c : ℕ) / 256 = n := fun h => hh ⟨Fin.ext hb, h2, h⟩
            omega
          · refine st_miss cc0_scratch10 _ _ _ _ _ _ 1 ?_
            show (s : ℕ) < 2 * (e : ℕ) ∨ 2 * (e : ℕ) + 2 ≤ s
            omega
        · refine st_miss cc0_scratch10 _ _ _ _ _ _ 0 ?_
          show (b' : ℕ) < b ∨ (b : ℕ) + 1 ≤ b'
          omega
      · by_cases h3 : ((s : ℕ) / 2 = e ∧ (c : ℕ) / 256 = n) ∧ (b' : ℕ) < 0 + b
        · rw [if_pos h3, if_pos ⟨h3.1, by omega⟩]
        · rw [if_neg h3, if_neg (fun h => h3 ⟨h.1, by have : (b' : ℕ) ≠ b := fun e' => hh ⟨Fin.ext e', h.1.1, h.1.2⟩; omega⟩)]
  · intro _ m' h b s c
    refine (h b s c).trans ?_
    by_cases h3 : (s : ℕ) / 2 = e ∧ (c : ℕ) / 256 = n
    · rw [if_pos ⟨h3, by omega⟩, if_pos h3]
    · rw [if_neg (fun h => h3 h.1), if_neg h3]

end Cert.KernelIdeal.Clean
-- ==== Proof.Expert.lean ====
/-
  One expert from its weights in their slot to its codes, its scales and its output rows.
-/
module

public import proofs.«01_k».proof.Proof.Stores
public import proofs.«01_k».proof.Proof.Tiles

@[expose] public section

set_option maxRecDepth 16384

noncomputable section

namespace Cert.KernelIdeal.Clean

open Idealize.ShloMosaic Idealize.SL.Sem
open Cert.KernelIdeal.Gen
open Safe

/-- The codes and the scales of the first `t` experts. -/
structure Done (A : Args) (t : ℕ) (m : St Ideal) : Prop where
  sc : ∀ b (e : Fin 24) j d, (e : ℕ) < t → cSc m (ix4 b e j d) = codesX (A.rows e) (ix2 (row b j) d)
  ssr : ∀ (e : Fin 24) (r : Fin 8) l, (e : ℕ) < t → cSsr m (ix2 (⟨8 * e + r, by omega⟩ : Fin 192) l) = scaleV (amaxX (A.rows e)) (ix2 r 0)
  hc : ∀ b (e : Fin 24) j d, (e : ℕ) < t → cHc m (ix4 b e j d) = codesH (A.hid e) (ix2 (row b j) d)
  hsr : ∀ (e : Fin 24) (r : Fin 8) l, (e : ℕ) < t → cHsr m (ix2 (⟨8 * e + r, by omega⟩ : Fin 192) l) = scaleV (amaxH (A.hid e)) (ix2 r 0)

theorem Done.of_eq {A : Args} {t : ℕ} {m m' : St Ideal} (h : Done A t m) (h1 : m' cc0_scratch12 = m cc0_scratch12) (h2 : m' cc0_scratch14 = m cc0_scratch14)
    (h3 : m' cc0_scratch13 = m cc0_scratch13) (h4 : m' cc0_scratch15 = m cc0_scratch15) : Done A t m' :=
  ⟨fun b e j d he => (congrFun h1 _).trans (h.sc b e j d he), fun e r l he => (congrFun h2 _).trans (h.ssr e r l he),
    fun b e j d he => (congrFun h3 _).trans (h.hc b e j d he), fun e r l he => (congrFun h4 _).trans (h.hsr e r l he)⟩

theorem readXs_keeps (rows : Fin 4 → Fin 191) (r : Ref sig .tc) : Keeps (readXs (F := Ideal) rows) r :=
  Keeps.gather fun _ => Keeps.gather fun _ => Keeps.load _ _ _ r

theorem up_keeps (slot : Fin 5) (e : Fin 24) (rows : Fin 4 → Fin 191) (srow : Fin 185) {r : Ref sig .tc}
    (h : r ∉ ([cc0_scratch8, cc0_scratch9, cc0_scratch12, cc0_scratch13, cc0_scratch14, cc0_scratch15] : List (Ref sig .tc))) : Keeps (up (F := Ideal) slot e rows srow) r := by
  simp only [List.mem_cons, List.not_mem_nil, or_false, not_or] at h
  obtain ⟨h8, h9, h12, h13, h14, h15⟩ := h
  exact Keeps.bind (readXs_keeps rows r) fun _ => Keeps.bind (quantX_keeps _ _ _ h12 h14 h9) fun _ => Keeps.bind (Keeps.forFin fun n => upTile_keeps _ n h8) fun _ =>
    Keeps.bind (Keeps.load _ _ _ r) fun _ => quantH_keeps _ _ _ h13 h15 h9

theorem up_post (A : Args) (slot : Fin 5) (e : Fin 24) (rows : Fin 4 → Fin 191) (srow : Fin 185) (m : St Ideal) (hxs : XsAt A m) (hh : Holds A m slot e) (hd : Done A e m)
    (hr : ∀ b, (rows b : ℕ) = 48 * b + 2 * e) (hs : (srow : ℕ) = 8 * e) :
    Post (up (F := Ideal) slot e rows srow) m fun _ m' => Done A (e + 1) m' ∧ ∀ r d, cA m' (ix2 r d) = actH (A.hid e) (ix2 r d) := by
  refine Post.bind _ (readXs_post A m hxs e rows hr) ?_
  rintro v m0 ⟨hv, hm⟩
  rw [hv, hm]
  have kq : ∀ r : Ref sig .tc, r ≠ cc0_scratch12 → r ≠ cc0_scratch14 → r ≠ cc0_scratch9 → Post (quantX e srow (A.rows e)) m fun _ m' => m' r = m r :=
    fun r h1 h2 h3 => (quantX_keeps e srow _ h1 h2 h3).post m
  refine Post.bind _ ((quantX_post e srow (A.rows e) m).and ((kq cc0_scratch4 (by decide) (by decide) (by decide)).and ((kq cc0_scratch2 (by decide) (by decide) (by decide)).and
    ((kq cc0_scratch13 (by decide) (by decide) (by decide)).and (kq cc0_scratch15 (by decide) (by decide) (by decide)))))) fun _ m1 h1 => ?_
  obtain ⟨⟨qsc, qss, qa⟩, k4, k2, k13, k15⟩ := h1
  have ku : ∀ r : Ref sig .tc, r ≠ cc0_scratch8 → Post (forFin 16 fun n => upTile (F := Ideal) slot n) m1 fun _ m' => m' r = m1 r :=
    fun r h => (Keeps.forFin fun n => upTile_keeps slot n h).post m1
  refine Post.bind _ ((Post.forFin (fun n m2 => (∀ r (c : Fin 4096), (c : ℕ) / 256 < n → cH m2 (ix2 r c) = A.hid e (ix2 r c)) ∧ m2 cc0_scratch9 = m1 cc0_scratch9 ∧ m2 cc0_scratch4 = m1 cc0_scratch4 ∧ m2 cc0_scratch2 = m1 cc0_scratch2) 0
    ⟨fun r c h => absurd h (Nat.not_lt_zero _), rfl, rfl, rfl⟩ ?_).and ((ku cc0_scratch12 (by decide)).and ((ku cc0_scratch14 (by decide)).and ((ku cc0_scratch13 (by decide)).and (ku cc0_scratch15 (by decide)))))) fun _ m2 h2 => ?_
  · rintro n m2 ⟨a1, a2, a3, a4⟩
    refine Post.mono ((upTile_post slot n m2).and (((upTile_keeps slot n (r := cc0_scratch9) (by decide)).post m2).and (((upTile_keeps slot n (r := cc0_scratch4) (by decide)).post m2).and
      ((upTile_keeps slot n (r := cc0_scratch2) (by decide)).post m2)))) ?_
    rintro _ m3 ⟨b1, b2, b3, b4⟩
    refine ⟨fun r c hc => ?_, b2.trans a2, b3.trans a3, b4.trans a4⟩
    rw [b1 r c]
    split
    · refine congrArg gelu1 (Finset.sum_congr rfl fun k _ => ?_)
      refine congrArg₂ (· * ·) (congrArg₂ (· * ·) ?_ ?_) ?_
      · exact (congrFun a2 _).trans (qa r k)
      · exact (congrFun (a3.trans k4) _).trans (hh.s1 _ _)
      · exact (congrFun (a4.trans k2) _).trans (hh.w1 _ _)
    · exact a1 r c (by omega)
  · obtain ⟨⟨c1, c2, c3, c4⟩, d12, d14, d13, d15⟩ := h2
    refine Post.read (Reads.load _ _ _ _) ?_
    have hH : (Memref.whole cc0_scratch8).view.readAt (Elt Ideal) a4096R.toLoadRect (m2 cc0_scratch8) = A.hid e := by
      funext i
      obtain ⟨r, d, rfl⟩ : ∃ r d, i = ix2 r d := ⟨i 0, i 1, by funext a; fin_cases a <;> rfl⟩
      refine (ld_unit cc0_scratch8 _ _ _ _ (ix2 r d) (ix2 r d) ?_).trans (c1 r d (by have := d.isLt; omega))
      intro a; fin_cases a <;> simp [ix2]
    have hgo : ∀ h, h = A.hid e → Post (quantH e srow h) m2 fun _ m' => Done A (e + 1) m' ∧ ∀ r d, cA m' (ix2 r d) = actH (A.hid e) (ix2 r d) := by
      rintro _ rfl
      refine Post.mono ((quantH_post e srow (A.hid e) m2).and (((quantH_keeps e srow (A.hid e) (r := cc0_scratch12) (by decide) (by decide) (by decide)).post m2).and
        ((quantH_keeps e srow (A.hid e) (r := cc0_scratch14) (by decide) (by decide) (by decide)).post m2))) ?_
      rintro _ m3 ⟨⟨e1, e2, e3⟩, e12, e14⟩
      refine ⟨⟨fun b e' j d he => ?_, fun e' r l he => ?_, fun b e' j d he => ?_, fun e' r l he => ?_⟩, e3⟩
      · refine (congrFun (e12.trans d12) _).trans ((qsc b e' j d).trans ?_)
        split
        · rename_i h; subst h; rfl
        · rename_i h
          exact hd.sc b e' j d (by have : (e' : ℕ) ≠ e := fun h' => h (Fin.ext h'); omega)
      · refine (congrFun (e14.trans d14) _).trans ((qss _ l).trans ?_)
        by_cases h : e' = e
        · subst h
          rw [dif_pos ⟨by show (srow : ℕ) ≤ 8 * (e' : ℕ) + r; omega, by show 8 * (e' : ℕ) + r < srow + 8; omega⟩]
          congr 2; exact Fin.ext (by show 8 * (e' : ℕ) + r - srow = r; omega)
        · have h' : (e' : ℕ) ≠ e := fun h' => h (Fin.ext h')
          rw [dif_neg (by rintro ⟨ha, hb⟩; have ha : (srow : ℕ) ≤ 8 * (e' : ℕ) + r := ha; have hb : 8 * (e' : ℕ) + r < srow + 8 := hb; omega)]
          exact hd.ssr e' r l (by omega)
      · refine (e1 b e' j d).trans ?_
        split
        · rename_i h; subst h; rfl
        · rename_i h
          exact (congrFun (d13.trans k13) _).trans (hd.hc b e' j d (by have : (e' : ℕ) ≠ e := fun h' => h (Fin.ext h'); omega))
      · refine (e2 _ l).trans ?_
        by_cases h : e' = e
        · subst h
          rw [dif_pos ⟨by show (srow : ℕ) ≤ 8 * (e' : ℕ) + r; omega, by show 8 * (e' : ℕ) + r < srow + 8; omega⟩]
          congr 2; exact Fin.ext (by show 8 * (e' : ℕ) + r - srow = r; omega)
        · have h' : (e' : ℕ) ≠ e := fun h' => h (Fin.ext h')
          rw [dif_neg (by rintro ⟨ha, hb⟩; have ha : (srow : ℕ) ≤ 8 * (e' : ℕ) + r := ha; have hb : 8 * (e' : ℕ) + r < srow + 8 := hb; omega)]
          exact (congrFun (d15.trans k15) _).trans (hd.hsr e' r l (by omega))
    exact hgo _ hH

/-- The output rows of the first `e` experts and the first `n` tiles of expert `e`'s. -/
def YsAt (A : Args) (e n : ℕ) (m : St Ideal) : Prop := ∀ b (s : Fin 48) (c : Fin 1024), ((s : ℕ) / 2 < e ∨ ((s : ℕ) / 2 = e ∧ (c : ℕ) / 256 < n)) → cYs m (ix3 b s c) = A.ys b s c

theorem down_post (A : Args) (slot : Fin 5) (e : Fin 24) (n : Fin 4) (m : St Ideal) (hh : Holds A m slot e) (ha : ∀ r d, cA m (ix2 r d) = actH (A.hid e) (ix2 r d))
    (hy : YsAt A e n m) : Post (downTile (F := Ideal) packI slot e n) m fun _ m' => YsAt A e (n + 1) m' := by
  refine Post.mono (downTile_post slot e n m) fun _ m' h b s c hs => ?_
  rw [h b s c]
  split
  · rename_i hc
    have he : (⟨(s : ℕ) / 2, by omega⟩ : Fin 24) = e := Fin.ext hc.1
    show _ = A.outsAt ⟨(s : ℕ) / 2, _⟩ _ c
    rw [he]
    refine Finset.sum_congr rfl fun k _ => congrArg₂ (· * ·) (congrArg₂ (· * ·) (ha _ _) (hh.s2 _ _)) (hh.w2 _ _)
  · exact hy b s c (by omega)

theorem downs_post (A : Args) (slot : Fin 5) (e : Fin 24) (m : St Ideal) (hh : Holds A m slot e) (ha : ∀ r d, cA m (ix2 r d) = actH (A.hid e) (ix2 r d))
    (hy : YsAt A e 0 m) : Post (forFin 4 fun n => downTile (F := Ideal) packI slot e n) m fun _ m' => YsAt A (e + 1) 0 m' := by
  refine Post.mono (Post.forFin (fun n m1 => YsAt A e n m1 ∧ m1 cc0_scratch9 = m cc0_scratch9 ∧ Holds A m1 slot e) 0 ⟨hy, rfl, hh⟩ ?_) fun _ m' h b s c hs => h.1 b s c ?_
  · rintro n m1 ⟨h1, h2, h3⟩
    have k : ∀ r : Ref sig .tc, r ≠ cc0_scratch10 → Post (downTile (F := Ideal) packI slot e n) m1 fun _ m' => m' r = m1 r := fun r h => (downTile_keeps _ _ _ _ h).post m1
    refine Post.mono ((down_post A slot e n m1 h3 (fun r d => (congrFun h2 _).trans (ha r d)) (by rwa [Nat.zero_add] at h1)).and ((k cc0_scratch9 (by decide)).and ((k cc0_scratch4 (by decide)).and
      ((k cc0_scratch5 (by decide)).and ((k cc0_scratch2 (by decide)).and (k cc0_scratch3 (by decide))))))) ?_
    rintro _ m2 ⟨g1, g2, g3, g4, g5, g6⟩
    exact ⟨by rwa [Nat.zero_add], g2.trans h2, h3.of_eq g3 g4 g5 g6⟩
  · have := c.isLt; omega

end Cert.KernelIdeal.Clean
-- ==== Proof.Ends.lean ====
/-
  The end of the kernel, element by element: the scales in their final order, the combination, and the copies of the results.
-/
module

public import proofs.«01_k».proof.Proof.Copies

@[expose] public section

set_option maxRecDepth 16384

noncomputable section

namespace Cert.KernelIdeal.Clean

open Idealize.ShloMosaic Idealize.SL.Sem
open Cert.KernelIdeal.Gen
open Safe

/-- Every eighth row of a buffer of scales. -/
theorem str_apply (buf : Memref sig .tc .vmem S192x128 .f32) (f : buf.view.ty.Contents (Elt Ideal)) (r : Fin 8) (e : Fin 24) (l : Fin 128) :
    buf.view.readAt (Elt Ideal) (strR r) f (ix2 e l) = buf.view.read (Elt Ideal) f (ix2 (⟨8 * e + r, by omega⟩ : Fin 192) l) := by
  refine congrArg (buf.view.read (Elt Ideal) f) (funext fun a => Fin.ext ?_)
  fin_cases a
  · show (r : ℕ) + 8 * (e : ℕ) = 8 * e + r; omega
  · show 0 + 1 * (l : ℕ) = l; omega

theorem scalesS_post (b : Fin 4) (m : St Ideal) : Post (scales (F := Ideal) ssr_v ss_v b) m fun _ m' =>
    ∀ b' (e : Fin 24) (j : Fin 2), cSs m' (ix3 b' e j) = if b' = b then cSsr m (ix2 (⟨8 * e + (2 * b + j), by omega⟩ : Fin 192) ⟨j, by omega⟩) else cSs m (ix3 b' e j) := by
  refine Post.read (Reads.load _ _ _ _) (Post.read (Reads.load _ _ _ _) (Post.read (Reads.load _ _ _ _) (Post.store ?_)))
  intro b' e j
  refine (congrFun (Function.update_self _ _ _) (ix3 b' e j)).trans ?_
  split
  · rename_i h; subst h
    refine (st_hit cc0_scratch16 _ _ _ _ _ (ix3 b' e j) (ix3 (0 : Fin 1) e j) ?_).trans ((pairV_apply _ _ e j).trans ?_)
    · intro a; fin_cases a <;> simp [ix3]
    · fin_cases j
      · exact (str_apply ssr_v _ _ _ _)
      · exact (str_apply ssr_v _ _ _ _)
  · rename_i h
    refine st_miss cc0_scratch16 _ _ _ _ _ _ 0 ?_
    show (b' : ℕ) < b ∨ (b : ℕ) + 1 ≤ b'
    have : (b' : ℕ) ≠ b := fun e => h (Fin.ext e)
    omega

theorem scalesH_post (b : Fin 4) (m : St Ideal) : Post (scales (F := Ideal) hsr_v hs_v b) m fun _ m' =>
    ∀ b' (e : Fin 24) (j : Fin 2), cHs m' (ix3 b' e j) = if b' = b then cHsr m (ix2 (⟨8 * e + (2 * b + j), by omega⟩ : Fin 192) ⟨j, by omega⟩) else cHs m (ix3 b' e j) := by
  refine Post.read (Reads.load _ _ _ _) (Post.read (Reads.load _ _ _ _) (Post.read (Reads.load _ _ _ _) (Post.store ?_)))
  intro b' e j
  refine (congrFun (Function.update_self _ _ _) (ix3 b' e j)).trans ?_
  split
  · rename_i h; subst h
    refine (st_hit cc0_scratch17 _ _ _ _ _ (ix3 b' e j) (ix3 (0 : Fin 1) e j) ?_).trans ((pairV_apply _ _ e j).trans ?_)
    · intro a; fin_cases a <;> simp [ix3]
    · fin_cases j
      · exact (str_apply hsr_v _ _ _ _)
      · exact (str_apply hsr_v _ _ _ _)
  · rename_i h
    refine st_miss cc0_scratch17 _ _ _ _ _ _ 0 ?_
    show (b' : ℕ) < b ∨ (b : ℕ) + 1 ≤ b'
    have : (b' : ℕ) ≠ b := fun e => h (Fin.ext e)
    omega

theorem scalesS_keeps (b : Fin 4) {r : Ref sig .tc} (h : r ≠ cc0_scratch16) : Keeps (scales (F := Ideal) ssr_v ss_v b) r :=
  Keeps.bind (Keeps.load _ _ _ r) fun _ => Keeps.bind (Keeps.load _ _ _ r) fun _ => Keeps.bind (Keeps.load _ _ _ r) fun _ => Keeps.store _ _ _ _ _ _ h
theorem scalesH_keeps (b : Fin 4) {r : Ref sig .tc} (h : r ≠ cc0_scratch17) : Keeps (scales (F := Ideal) hsr_v hs_v b) r :=
  Keeps.bind (Keeps.load _ _ _ r) fun _ => Keeps.bind (Keeps.load _ _ _ r) fun _ => Keeps.bind (Keeps.load _ _ _ r) fun _ => Keeps.store _ _ _ _ _ _ h

/-- All the scales of one kind. -/
theorem scalesS_all (m : St Ideal) : Post (forFin 4 fun b => scales (F := Ideal) ssr_v ss_v b) m fun _ m' =>
    ∀ (b : Fin 4) (e : Fin 24) (j : Fin 2), cSs m' (ix3 b e j) = cSsr m (ix2 (⟨8 * e + (2 * b + j), by omega⟩ : Fin 192) ⟨j, by omega⟩) := by
  refine Post.mono (Post.forFin (fun k m1 => (∀ (b : Fin 4) (e : Fin 24) (j : Fin 2), (b : ℕ) < k → cSs m1 (ix3 b e j) = cSsr m (ix2 (⟨8 * e + (2 * b + j), by omega⟩ : Fin 192) ⟨j, by omega⟩)) ∧ m1 cc0_scratch14 = m cc0_scratch14) 0
    ⟨fun b e j h => absurd h (Nat.not_lt_zero _), rfl⟩ ?_) fun _ m' h b e j => h.1 b e j (by omega)
  rintro b m1 ⟨h1, h2⟩
  refine Post.mono ((scalesS_post b m1).and ((scalesS_keeps b (r := cc0_scratch14) (by decide)).post m1)) ?_
  rintro _ m2 ⟨h3, h4⟩
  refine ⟨fun b' e j hb => (h3 b' e j).trans ?_, h4.trans h2⟩
  split
  · rename_i h; subst h; exact congrFun h2 _
  · rename_i h
    exact h1 b' e j (by have : (b' : ℕ) ≠ b := fun e => h (Fin.ext e); omega)

theorem scalesH_all (m : St Ideal) : Post (forFin 4 fun b => scales (F := Ideal) hsr_v hs_v b) m fun _ m' =>
    ∀ (b : Fin 4) (e : Fin 24) (j : Fin 2), cHs m' (ix3 b e j) = cHsr m (ix2 (⟨8 * e + (2 * b + j), by omega⟩ : Fin 192) ⟨j, by omega⟩) := by
  refine Post.mono (Post.forFin (fun k m1 => (∀ (b : Fin 4) (e : Fin 24) (j : Fin 2), (b : ℕ) < k → cHs m1 (ix3 b e j) = cHsr m (ix2 (⟨8 * e + (2 * b + j), by omega⟩ : Fin 192) ⟨j, by omega⟩)) ∧ m1 cc0_scratch15 = m cc0_scratch15) 0
    ⟨fun b e j h => absurd h (Nat.not_lt_zero _), rfl⟩ ?_) fun _ m' h b e j => h.1 b e j (by omega)
  rintro b m1 ⟨h1, h2⟩
  refine Post.mono ((scalesH_post b m1).and ((scalesH_keeps b (r := cc0_scratch15) (by decide)).post m1)) ?_
  rintro _ m2 ⟨h3, h4⟩
  refine ⟨fun b' e j hb => (h3 b' e j).trans ?_, h4.trans h2⟩
  split
  · rename_i h; subst h; exact congrFun h2 _
  · rename_i h
    exact h1 b' e j (by have : (b' : ℕ) ≠ b := fun e => h (Fin.ext e); omega)

/-! ## The combination -/

theorem combine_keeps (n b : Fin 4) {r : Ref sig .tc} (h : r ≠ cc0_scratch11) : Keeps (combine (F := Ideal) n b) r :=
  Keeps.bind (Keeps.load _ _ _ r) fun _ => Keeps.bind (Keeps.load _ _ _ r) fun _ => Keeps.bind (Keeps.load _ _ _ r) fun _ => Keeps.store _ _ _ _ _ _ h

theorem combine_post (n b : Fin 4) (m : St Ideal) : Post (combine (F := Ideal) n b) m fun _ m' =>
    ∀ b' t (c : Fin 1024), cOut m' (ix3 b' t c) = if b' = b ∧ (c : ℕ) / 256 = n then ∑ k : Fin 48, cComb m (ix3 b' t k) * cYs m (ix3 b' k c) else cOut m (ix3 b' t c) := by
  refine Post.read (Reads.load _ _ _ _) (Post.read (Reads.load _ _ _ _) (Post.read (Reads.load _ _ _ _) (Post.store ?_)))
  intro b' t c
  have hc := c.isLt
  refine (congrFun (Function.update_self _ _ _) (ix3 b' t c)).trans ?_
  split
  · rename_i h; obtain ⟨rfl, h⟩ := h
    refine (st_hit cc0_scratch11 _ _ _ _ _ (ix3 b' t c) (ix3 (0 : Fin 1) t (⟨c - 256 * n, by omega⟩ : Fin 256)) ?_).trans ((combineV_apply _ _ t _).trans (Finset.sum_congr rfl fun k _ => ?_))
    · intro a; fin_cases a <;> simp [ix3]; omega
    · refine congrArg₂ (· * ·) (ld_unit cc0_scratch6 _ _ _ _ _ (ix3 b' t k) ?_) (ld_unit cc0_scratch10 _ _ _ _ _ (ix3 b' k c) ?_)
      · intro a; fin_cases a <;> simp [ix3]
      · intro a; fin_cases a <;> simp [ix3]; omega
  · rename_i h
    by_cases hb : (b' : ℕ) = b
    · refine st_miss cc0_scratch11 _ _ _ _ _ _ 2 ?_
      show (c : ℕ) < 256 * (n : ℕ) ∨ 256 * (n : ℕ) + 256 ≤ c
      have : ¬ (c : ℕ) / 256 = n := fun h' => h ⟨Fin.ext hb, h'⟩
      omega
    · refine st_miss cc0_scratch11 _ _ _ _ _ _ 0 ?_
      show (b' : ℕ) < b ∨ (b : ℕ) + 1 ≤ b'
      omega

/-! ## The copies of the results -/

theorem startSmall_post (m : St Ideal) : Post (startSmall (F := Ideal)) m fun _ m' => rSc m' = cSc m ∧ rSs m' = cSs m ∧ rHs m' = cHs m := by
  refine Post.bind (fun _ m1 => rSc m1 = cSc m ∧ m1 cc0_scratch16 = m cc0_scratch16 ∧ m1 cc0_scratch17 = m cc0_scratch17) (Post.copy ⟨?_, ?_, ?_⟩) fun _ m1 h1 =>
    Post.bind (fun _ m2 => rSc m2 = cSc m ∧ rSs m2 = cSs m ∧ m2 cc0_scratch17 = m cc0_scratch17) (Post.copy ⟨?_, ?_, ?_⟩) fun _ m2 h2 => Post.copy ⟨?_, ?_, ?_⟩
  · exact (Function.update_self _ _ _).trans (write_whole main_v0_2 _ _)
  · exact Function.update_of_ne (show (cc0_scratch16 : Ref sig .tc) ≠ main_v0_2 by decide) _ _
  · exact Function.update_of_ne (show (cc0_scratch17 : Ref sig .tc) ≠ main_v0_2 by decide) _ _
  · exact (Function.update_of_ne (show (main_v0_2 : Ref sig .tc) ≠ main_v0_3 by decide) _ _).trans h1.1
  · exact (Function.update_self (main_v0_3 : Ref sig .tc) _ m1).trans ((write_whole main_v0_3 _ _).trans h1.2.1)
  · exact (Function.update_of_ne (show (cc0_scratch17 : Ref sig .tc) ≠ main_v0_3 by decide) _ _).trans h1.2.2
  · exact (Function.update_of_ne (show (main_v0_2 : Ref sig .tc) ≠ main_v0_5 by decide) _ _).trans h2.1
  · exact (Function.update_of_ne (show (main_v0_3 : Ref sig .tc) ≠ main_v0_5 by decide) _ _).trans h2.2.1
  · exact (Function.update_self (main_v0_5 : Ref sig .tc) _ m2).trans ((write_whole main_v0_5 _ _).trans h2.2.2)

theorem startSmall_keeps {r : Ref sig .tc} (h1 : r ≠ main_v0_2) (h2 : r ≠ main_v0_3) (h3 : r ≠ main_v0_5) : Keeps (startSmall (F := Ideal)) r :=
  Keeps.bind (Keeps.copy _ _ _ _ _ _ h1) fun _ => Keeps.bind (Keeps.copy _ _ _ _ _ _ h2) fun _ => Keeps.copy _ _ _ _ _ _ h3

theorem startTile_keeps (n : Fin 4) {r : Ref sig .tc} (h1 : r ≠ main_v0_0) (h2 : r ≠ main_v0_1) : Keeps (startTile (F := Ideal) n) r :=
  Keeps.bind (Keeps.copy _ _ _ _ _ _ h1) fun _ => Keeps.copy _ _ _ _ _ _ h2

theorem startTile_post (n : Fin 4) (m : St Ideal) : Post (startTile (F := Ideal) n) m fun _ m' =>
    (∀ b t (c : Fin 1024), rOut m' (ix3 b t c) = if (c : ℕ) / 256 = n then cOut m (ix3 b t c) else rOut m (ix3 b t c)) ∧
    (∀ b s (c : Fin 1024), rYs m' (ix3 b s c) = if (c : ℕ) / 256 = n then cYs m (ix3 b s c) else rYs m (ix3 b s c)) := by
  refine Post.bind (fun _ m1 => (∀ b t (c : Fin 1024), rOut m1 (ix3 b t c) = if (c : ℕ) / 256 = n then cOut m (ix3 b t c) else rOut m (ix3 b t c)) ∧ m1 cc0_scratch10 = m cc0_scratch10 ∧ m1 main_v0_1 = m main_v0_1)
    (Post.copy ⟨?_, ?_, ?_⟩) fun _ m1 h1 => Post.copy ⟨?_, ?_⟩
  · intro b t c
    have hc := c.isLt
    refine (congrFun (Function.update_self _ _ _) (ix3 b t c)).trans ?_
    split
    · rename_i h
      refine (st_hit main_v0_0 _ _ _ _ _ (ix3 b t c) (ix3 b t (⟨c - 256 * n, by omega⟩ : Fin 256)) ?_).trans (rd_unit cc0_scratch11 _ _ _ _ (ix3 b t (⟨c - 256 * n, by omega⟩ : Fin 256)) (ix3 b t c) ?_)
      all_goals intro a; fin_cases a <;> simp [ix3]; omega
    · refine st_miss main_v0_0 _ _ _ _ _ _ 2 ?_
      show (c : ℕ) < 256 * (n : ℕ) ∨ 256 * (n : ℕ) + 256 ≤ c
      omega
  · exact Function.update_of_ne (show (cc0_scratch10 : Ref sig .tc) ≠ main_v0_0 by decide) _ _
  · exact Function.update_of_ne (show (main_v0_1 : Ref sig .tc) ≠ main_v0_0 by decide) _ _
  · intro b t c
    exact (congrFun (Function.update_of_ne (show (main_v0_0 : Ref sig .tc) ≠ main_v0_1 by decide) _ _) _).trans (h1.1 b t c)
  · intro b s c
    have hc := c.isLt
    refine (congrFun (Function.update_self _ _ _) (ix3 b s c)).trans ?_
    split
    · rename_i h
      refine ((st_hit main_v0_1 _ _ _ _ _ (ix3 b s c) (ix3 b s (⟨c - 256 * n, by omega⟩ : Fin 256)) ?_).trans (rd_unit cc0_scratch10 _ _ _ _ (ix3 b s (⟨c - 256 * n, by omega⟩ : Fin 256)) (ix3 b s c) ?_)).trans (congrFun h1.2.1 _)
      all_goals intro a; fin_cases a <;> simp [ix3]; omega
    · refine (st_miss main_v0_1 _ _ _ _ _ _ 2 ?_).trans (congrFun h1.2.2 _)
      show (c : ℕ) < 256 * (n : ℕ) ∨ 256 * (n : ℕ) + 256 ≤ c
      omega

end Cert.KernelIdeal.Clean
-- ==== Proof.Whole.lean ====
/-
  The whole kernel: what each of the six results holds when it ends.
-/
module

public import proofs.«01_k».proof.Proof.Expert
public import proofs.«01_k».proof.Proof.Ends

@[expose] public section

set_option maxRecDepth 16384

noncomputable section

namespace Cert.KernelIdeal.Clean

open Idealize.ShloMosaic Idealize.SL.Sem
open Cert.KernelIdeal.Gen
open Safe

/-! ## What a stage leaves alone, all at once -/

/-- `p` touches only the buffers of `L`. -/
def Only (L : List (Ref sig .tc)) {α : Type} (p : P Ideal α) : Prop := ∀ r, r ∉ L → Keeps p r

theorem Only.post {L : List (Ref sig .tc)} {α : Type} {p : P Ideal α} (h : Only L p) (m : St Ideal) : Post p m fun _ m' => ∀ r, r ∉ L → m' r = m r :=
  fun _ _ e r hr => h r hr _ _ _ e

theorem Only.one {a : Ref sig .tc} {α : Type} {p : P Ideal α} (h : ∀ r, r ≠ a → Keeps p r) : Only [a] p := fun r hr => h r (List.ne_of_not_mem_cons hr)

theorem args_of_eq {m m' : St Ideal} (h : ∀ r ∈ ([main_arg0, main_arg1, main_arg2, main_arg3, main_arg4, main_arg5] : List (Ref sig .tc)), m' r = m r) : args m' = args m := by
  show (⟨gX m', gPhi m', gW1 m', gS1 m', gW2 m', gS2 m'⟩ : Args) = ⟨gX m, gPhi m, gW1 m, gS1 m, gW2 m, gS2 m⟩
  rw [show gX m' = gX m from h main_arg0 (by decide), show gPhi m' = gPhi m from h main_arg1 (by decide), show gW1 m' = gW1 m from h main_arg2 (by decide),
    show gS1 m' = gS1 m from h main_arg3 (by decide), show gW2 m' = gW2 m from h main_arg4 (by decide), show gS2 m' = gS2 m from h main_arg5 (by decide)]

/-! ## The loop over the experts -/

/-- The hidden codes that were copied to their result. -/
def HcOut (A : Args) (t : ℕ) (m : St Ideal) : Prop := ∀ b (e : Fin 24) j d, (e : ℕ) + 1 < t → rHc m (ix4 b e j d) = codesH (A.hid e) (ix2 (row b j) d)

/-- The combination weights of every batch. -/
def CombAt (A : Args) (m : St Ideal) : Prop := ∀ b t n, cComb m (ix3 b t n) = A.comb b (ix3 0 t n)

/-- What holds before turn `t`. -/
structure Inv (A : Args) (t : ℕ) (m : St Ideal) : Prop where
  args : args m = A
  xs : XsAt A m
  comb : CombAt A m
  done : Done A t m
  ys : YsAt A t 0 m
  ring : ∀ e : Fin 24, t ≤ e → ((e : ℕ) < t + 4 ∨ (e : ℕ) < 5) → Holds A m ⟨e % 5, by omega⟩ e
  hc : HcOut A t m

/-- One more expert's hidden codes copied. -/
theorem startHc_out (A : Args) (t : ℕ) (e : Fin 24) (he : (e : ℕ) + 1 = t) (m : St Ideal) (h : HcOut A t m) (hd : Done A t m) :
    Post (startHc (F := Ideal) e) m fun _ m' => HcOut A (t + 1) m' := by
  refine Post.mono (startHc_h e m) fun _ m' h1 b e' j d hlt => (h1 b e' j d).trans ?_
  split
  · rename_i h2; subst h2
    exact hd.hc b e' j d (by omega)
  · rename_i h2
    have : (e' : ℕ) ≠ e := fun h3 => h2 (Fin.ext h3)
    exact h b e' j d (by omega)

/-- A turn, its two conditional stages first. -/
theorem turn_eq (pack) (c1 c2 : Prop) [Decidable c1] [Decidable c2] (prev : c1 → Fin 24) (next : c2 → Fin 24) (nslot : c2 → Fin 5) (slot : Fin 5) (e : Fin 24)
    (rows : Fin 4 → Fin 191) (srow : Fin 185) : turn (F := Ideal) pack c1 c2 prev next nslot slot e rows srow = ((if h : c1 then startHc (prev h) else pure ⟨⟩) >>= fun _ =>
      (if h : c2 then startExpert (next h) (nslot h) else pure ⟨⟩) >>= fun _ => waitS1 e slot >>= fun _ => waitS2 e slot >>= fun _ => waitW1 e slot >>= fun _ =>
      up slot e rows srow >>= fun _ => forFin 4 (fun c => waitW2 e slot c) >>= fun _ => forFin 4 fun n => downTile pack slot e n) := by
  unfold turn
  by_cases h1 : c1 <;> by_cases h2 : c2 <;> simp only [dif_pos, dif_neg, h1, h2, not_false_eq_true] <;> rfl

theorem turn_post (A : Args) (c1 c2 : Prop) [Decidable c1] [Decidable c2] (prev : c1 → Fin 24) (next : c2 → Fin 24) (nslot : c2 → Fin 5) (slot : Fin 5) (e : Fin 24)
    (rows : Fin 4 → Fin 191) (srow : Fin 185) (hc1 : 1 ≤ (e : ℕ) → c1) (hp : ∀ h, (prev h : ℕ) + 1 = e) (hc2 : 1 ≤ (e : ℕ) → (e : ℕ) + 4 < 24 → c2) (hn : ∀ h, (next h : ℕ) = e + 4)
    (hns : ∀ h, (nslot h : ℕ) = (e + 4) % 5) (hpos : c2 → 1 ≤ (e : ℕ)) (hslot : (slot : ℕ) = e % 5)
    (hr : ∀ b, (rows b : ℕ) = 48 * b + 2 * e) (hs : (srow : ℕ) = 8 * e) (m : St Ideal) (h : Inv A e m) :
    Post (turn (F := Ideal) packI c1 c2 prev next nslot slot e rows srow) m fun _ m' => Inv A (e + 1) m' := by
  have s1 : Post (if h : c1 then startHc (F := Ideal) (prev h) else pure ⟨⟩) m fun _ m' => HcOut A (e + 1) m' ∧ ∀ r, r ∉ [main_v0_4] → m' r = m r := by
    split
    · rename_i hc
      exact (startHc_out A e (prev hc) (hp hc) m h.hc h.done).and ((Only.one fun r hr => Keeps.startHc _ hr).post m)
    · rename_i hc
      refine Post.pure ⟨fun b e' j d hlt => absurd ?_ hc, fun _ _ => rfl⟩
      exact hc1 (by omega)
  rw [turn_eq]
  refine Post.bind _ s1 ?_
  rintro _ m1 ⟨g1, k1⟩
  have ring1 : ∀ e' : Fin 24, (e : ℕ) ≤ e' → ((e' : ℕ) < e + 4 ∨ (e' : ℕ) < 5) → Holds A m1 ⟨e' % 5, by omega⟩ e' := fun e' h1 h2 =>
    (h.ring e' h1 h2).of_eq (k1 _ (by decide)) (k1 _ (by decide)) (k1 _ (by decide)) (k1 _ (by decide))
  have s2 : Post (if h : c2 then startExpert (F := Ideal) (next h) (nslot h) else pure ⟨⟩) m1 fun _ m' =>
      (∀ e' : Fin 24, (e : ℕ) ≤ e' → (e' : ℕ) < e + 5 → Holds A m' ⟨e' % 5, by omega⟩ e') ∧ ∀ r, r ∉ ([cc0_scratch4, cc0_scratch5, cc0_scratch2, cc0_scratch3] : List (Ref sig .tc)) → m' r = m1 r := by
    split
    · rename_i hc
      refine Post.mono ((startExpert_holds A (next hc) (nslot hc) m1 ((args_of_eq fun r hr => k1 r (by revert r; decide)).trans h.args)).and
        (Only.post (L := [cc0_scratch4, cc0_scratch5, cc0_scratch2, cc0_scratch3]) (fun r hr => by
          simp only [List.mem_cons, List.not_mem_nil, or_false, not_or] at hr
          exact Keeps.startExpert _ _ hr.1 hr.2.1 hr.2.2.1 hr.2.2.2) m1)) ?_
      rintro _ m2 ⟨⟨a1, a2⟩, a3⟩
      refine ⟨fun e' h1 h2 => ?_, a3⟩
      by_cases h3 : (e' : ℕ) = e + 4
      · have e1 : next hc = e' := Fin.ext ((hn hc).trans h3.symm)
        have e2 : nslot hc = ⟨e' % 5, by omega⟩ := Fin.ext ((hns hc).trans (by show ((e : ℕ) + 4) % 5 = e' % 5; rw [h3]))
        rwa [e1, e2] at a1
      · refine a2 _ _ (fun h4 => ?_) (ring1 e' h1 (by omega))
        have := congrArg Fin.val h4
        have h5 := hns hc
        have h6 : (e' : ℕ) % 5 = (nslot hc : ℕ) := this
        omega
    · rename_i hc
      refine Post.pure ⟨fun e' h1 h2 => ring1 e' h1 ?_, fun _ _ => rfl⟩
      by_cases h0 : 1 ≤ (e : ℕ)
      · have : ¬ (e : ℕ) + 4 < 24 := fun h4 => hc (hc2 h0 h4)
        omega
      · omega
  refine Post.bind _ s2 ?_
  rintro _ m2 ⟨ring2, k2⟩
  have k12 : ∀ r, r ∉ ([main_v0_4, cc0_scratch4, cc0_scratch5, cc0_scratch2, cc0_scratch3] : List (Ref sig .tc)) → m2 r = m r := fun r hr =>
    (k2 r (List.not_mem_of_not_mem_cons hr)).trans (k1 r (fun h => hr (List.mem_cons.2 (.inl (List.mem_singleton.1 h)))))
  have hold2 : Holds A m2 slot e := by
    have := ring2 e le_rfl (by omega)
    rwa [show (⟨(e : ℕ) % 5, by omega⟩ : Fin 5) = slot from Fin.ext hslot.symm] at this
  refine Post.read (Reads.wait _ _ _ _ _ _) (Post.read (Reads.wait _ _ _ _ _ _) (Post.read (Reads.wait _ _ _ _ _ _) ?_))
  refine Post.bind _ ((up_post A slot e rows srow m2 (fun p b n l => (congrFun (k12 _ (by decide)) _).trans (h.xs p b n l)) hold2
    (h.done.of_eq (k12 _ (by decide)) (k12 _ (by decide)) (k12 _ (by decide)) (k12 _ (by decide))) hr hs).and (Only.post (fun r hr => up_keeps slot e rows srow hr) m2)) ?_
  rintro _ m3 ⟨⟨d3, a3⟩, k3⟩
  refine Post.bind _ (Only.post (L := []) (fun r _ => Keeps.forFin fun c => Keeps.wait _ _ _ _ _ r) m3) ?_
  intro _ m4 k4
  obtain rfl : m4 = m3 := funext fun r => k4 r List.not_mem_nil
  have hold3 : Holds A m4 slot e := hold2.of_eq (k3 _ (by decide)) (k3 _ (by decide)) (k3 _ (by decide)) (k3 _ (by decide))
  have ys3 : YsAt A e 0 m4 := fun b s c hh => (congrFun ((k3 _ (by decide)).trans (k12 _ (by decide))) _).trans (h.ys b s c hh)
  refine Post.mono ((downs_post A slot e m4 hold3 a3 ys3).and ((Only.one (a := cc0_scratch10) fun r hr => Keeps.forFin fun n => downTile_keeps _ _ _ _ hr).post m4)) ?_
  rintro _ m5 ⟨y5, k5⟩
  have kk : ∀ r, r ∉ ([cc0_scratch10, cc0_scratch8, cc0_scratch9, cc0_scratch12, cc0_scratch13, cc0_scratch14, cc0_scratch15, main_v0_4, cc0_scratch4, cc0_scratch5, cc0_scratch2, cc0_scratch3] : List (Ref sig .tc)) → m5 r = m r := by
    intro r hr
    simp only [List.mem_cons, List.not_mem_nil, or_false, not_or] at hr
    refine (k5 r ?_).trans ((k3 r ?_).trans (k12 r ?_)) <;> simp only [List.mem_cons, List.not_mem_nil, or_false, not_or] <;> tauto
  refine ⟨(args_of_eq fun r hr => kk r (by revert r; decide)).trans h.args, fun p b n l => (congrFun (kk _ (by decide)) _).trans (h.xs p b n l),
    fun b t n => (congrFun (kk _ (by decide)) _).trans (h.comb b t n), d3.of_eq (k5 _ (by decide)) (k5 _ (by decide)) (k5 _ (by decide)) (k5 _ (by decide)), y5, fun e' h1 h2 => ?_, fun b e' j d hh => ?_⟩
  · exact (ring2 e' (by omega) (by omega)).of_eq ((k5 _ (by decide)).trans (k3 _ (by decide))) ((k5 _ (by decide)).trans (k3 _ (by decide))) ((k5 _ (by decide)).trans (k3 _ (by decide))) ((k5 _ (by decide)).trans (k3 _ (by decide)))
  · exact (congrFun ((k5 main_v0_4 (by decide)).trans ((k3 _ (by decide)).trans (k2 _ (by decide)))) _).trans (g1 b e' j d hh)

theorem kiv_val : ∀ t : Fin k0_t1_loop.trips, (kiv t).toNat = t := by decide +kernel
theorem slot_val : ∀ t : Fin k0_t1_loop.trips, (Scalar.remsi (kiv t) 5#32).toNat = (t : ℕ) % 5 := by decide +kernel
theorem cond1_of : ∀ t : Fin k0_t1_loop.trips, 1 ≤ (t : ℕ) → k0_cond1 t = 1#1 := by decide +kernel
theorem prev_val : ∀ t : Fin k0_t1_loop.trips, k0_cond1 t = 1#1 → (Scalar.subi (kiv t) 1#32).toNat + 1 = t := by decide +kernel
theorem cond2_of : ∀ t : Fin k0_t1_loop.trips, 1 ≤ (t : ℕ) → (t : ℕ) + 4 < 24 → k0_cond2 t = 1#1 := by decide +kernel
theorem next_val : ∀ t : Fin k0_t1_loop.trips, k0_cond2 t = 1#1 → (Scalar.subi (Scalar.addi (kiv t) 5#32) 1#32).toNat = (t : ℕ) + 4 := by decide +kernel
theorem nslot_val : ∀ t : Fin k0_t1_loop.trips, (Scalar.remsi (Scalar.subi (Scalar.addi (kiv t) 5#32) 1#32) 5#32).toNat = ((t : ℕ) + 4) % 5 := by decide +kernel
theorem cond2_pos : ∀ t : Fin k0_t1_loop.trips, k0_cond2 t = 1#1 → 1 ≤ (t : ℕ) := by decide +kernel
theorem rows_val : ∀ (t : Fin k0_t1_loop.trips) (b : Fin 4), (Scalar.addi (![0#32, 48#32, 96#32, 144#32] b) (Scalar.muli (kiv t) 2#32)).toNat = 48 * (b : ℕ) + 2 * (t : ℕ) := by decide +kernel
theorem srow_val : ∀ t : Fin k0_t1_loop.trips, (Scalar.muli (kiv t) 8#32).toNat = 8 * (t : ℕ) := by decide +kernel
theorem trips_val : k0_t1_loop.trips = 23 := by decide +kernel

theorem turns_post (A : Args) (t : Fin k0_t1_loop.trips) (m : St Ideal) (h : Inv A t m) : Post (turns (F := Ideal) packI t) m fun _ m' => Inv A (t + 1) m' := by
  have hv : ((⟨(kiv t).toNat, e_lt t⟩ : Fin 24) : ℕ) = t := kiv_val t
  have := turn_post A (k0_cond1 t = 1#1) (k0_cond2 t = 1#1) (fun h => ⟨(Scalar.subi (kiv t) 1#32).toNat, prev_lt t h⟩)
    (fun h => ⟨(Scalar.subi (Scalar.addi (kiv t) 5#32) 1#32).toNat, next_lt t h⟩)
    (fun _ => ⟨(Scalar.remsi (Scalar.subi (Scalar.addi (kiv t) 5#32) 1#32) 5#32).toNat, nslot_lt t⟩)
    ⟨(Scalar.remsi (kiv t) 5#32).toNat, slot_lt t⟩ ⟨(kiv t).toNat, e_lt t⟩
    (fun b => ⟨(Scalar.addi (![0#32, 48#32, 96#32, 144#32] b) (Scalar.muli (kiv t) 2#32)).toNat, row_lt t b⟩)
    ⟨(Scalar.muli (kiv t) 8#32).toNat, srow_lt t⟩ (by rw [hv]; exact cond1_of t) (by rw [hv]; exact prev_val t) (by rw [hv]; exact cond2_of t) (by rw [hv]; exact next_val t)
    (by rw [hv]; exact fun _ => nslot_val t) (by rw [hv]; exact cond2_pos t) (by rw [hv]; exact slot_val t) (by rw [hv]; exact rows_val t) (by rw [hv]; exact srow_val t) m (by rw [hv]; exact h)
  rw [hv] at this
  exact this

/-! ## Before the loop -/

theorem prologue_post (A : Args) (m : St Ideal) (hA : args m = A) : Post (prologue (F := Ideal)) m fun _ m' => Inv A 0 m' := by
  have arg : ∀ {m m' : St Ideal} (L : List (Ref sig .tc)), (∀ r, r ∉ L → m' r = m r) → (∀ r ∈ ([main_arg0, main_arg1, main_arg2, main_arg3, main_arg4, main_arg5] : List (Ref sig .tc)), r ∉ L) → args m = A → args m' = A :=
    fun L hk hL ha => (args_of_eq fun r hr => hk r (hL r hr)).trans ha
  refine Post.bind _ ((startPhi_phi m).and ((Only.one (a := cc0_scratch1) fun r hr => Keeps.startPhi hr).post m)) ?_
  rintro _ m1 ⟨p1, k1⟩
  have A1 := arg _ k1 (by decide) hA
  have P1 : cPhi m1 = A.Phi := p1.trans (congrArg Args.Phi hA)
  refine Post.bind _ ((Post.forFin (fun q m2 => (∀ (b : Fin 4) t d, (b : ℕ) < q → cX m2 (ix3 b t d) = A.X (ix3 b t d)) ∧ args m2 = A) 0 ⟨fun b t d h => absurd h (Nat.not_lt_zero _), A1⟩ ?_).and
    ((Only.one (a := cc0_scratch0) fun r hr => Keeps.forFin fun b => Keeps.startX b hr).post m1)) ?_
  · rintro b m2 ⟨h1, h2⟩
    refine Post.mono ((startX_x b m2).and ((Only.one (a := cc0_scratch0) fun r hr => Keeps.startX b hr).post m2)) ?_
    rintro _ m3 ⟨h3, k3⟩
    refine ⟨fun c t d hc => (h3 c t d).trans ?_, arg _ k3 (by decide) h2⟩
    split
    · exact congrFun (congrArg Args.X h2) _
    · rename_i hne
      have : (c : ℕ) ≠ b := fun h4 => hne (Fin.ext h4)
      exact h1 c t d (by omega)
  rintro _ m2 ⟨⟨x2, A2⟩, k2⟩
  have kE : ∀ (e : Fin 24) (i : Fin 5), Only [cc0_scratch4, cc0_scratch5, cc0_scratch2, cc0_scratch3] (startExpert (F := Ideal) e i) := fun e i r hr => by
    simp only [List.mem_cons, List.not_mem_nil, or_false, not_or] at hr
    exact Keeps.startExpert _ _ hr.1 hr.2.1 hr.2.2.1 hr.2.2.2
  refine Post.bind _ ((Post.forFin (fun q m3 => (∀ i : Fin 5, (i : ℕ) < q → Holds A m3 i (i.castLE (by decide))) ∧ args m3 = A) 0 ⟨fun i h => absurd h (Nat.not_lt_zero _), A2⟩ ?_).and
    (Only.post (L := [cc0_scratch4, cc0_scratch5, cc0_scratch2, cc0_scratch3]) (fun r hr => Keeps.forFin fun e => kE _ e r hr) m2)) ?_
  · rintro i m3 ⟨h1, h2⟩
    refine Post.mono ((startExpert_holds A (i.castLE (by decide)) i m3 h2).and ((kE (i.castLE (by decide)) i).post m3)) ?_
    rintro _ m4 ⟨⟨h3, h4⟩, k4⟩
    refine ⟨fun i' hi => ?_, arg _ k4 (by decide) h2⟩
    by_cases hh : i' = i
    · subst hh; exact h3
    · have : (i' : ℕ) ≠ i := fun h => hh (Fin.ext h)
      exact h4 i' _ hh (h1 i' (by omega))
  rintro _ m3 ⟨⟨e3, A3⟩, k3⟩
  refine Post.read (Reads.wait _ _ _ _ _ _) ?_
  have X3 : ∀ b t d, cX m3 (ix3 b t d) = A.X (ix3 b t d) := fun b t d => (congrFun (k3 _ (by decide)) _).trans (x2 b t d (by omega))
  have P3 : cPhi m3 = A.Phi := ((k3 _ (by decide)).trans (k2 _ (by decide))).trans P1
  have kR : ∀ b : Fin 4, Only [cc0_scratch6, cc0_scratch7] (route (F := Ideal) b) := fun b r hr => by
    simp only [List.mem_cons, List.not_mem_nil, or_false, not_or] at hr
    exact route_keeps b hr.1 hr.2
  refine Post.mono ((Post.forFin (fun q m4 => (∀ (b : Fin 4) t n, (b : ℕ) < q → cComb m4 (ix3 b t n) = A.comb b (ix3 0 t n)) ∧
      (∀ (p : Fin 8) (b : Fin 4) (n : Fin 48) (l : Fin 128), (b : ℕ) < q → cXs m4 (ix3 p ⟨48 * b + n, by omega⟩ l) = A.xs b (ix2 n ⟨128 * p + l, by omega⟩)) ∧
      m4 cc0_scratch0 = m3 cc0_scratch0 ∧ m4 cc0_scratch1 = m3 cc0_scratch1) 0 ⟨fun b t n h => absurd h (Nat.not_lt_zero _), fun p b n l h => absurd h (Nat.not_lt_zero _), rfl, rfl⟩ ?_).and
    (Only.post (L := [cc0_scratch6, cc0_scratch7]) (fun r hr => Keeps.forFin fun b => Keeps.bind (Keeps.wait _ _ _ _ _ r) fun _ => kR b r hr) m3)) ?_
  · rintro b m4 ⟨h1, h2, h3, h4⟩
    refine Post.read (Reads.wait _ _ _ _ _ _) (Post.mono ((route_post A b m4 (fun t d => (congrFun h3 _).trans (X3 b t d)) (Eq.trans h4 P3)).and ((kR b).post m4)) ?_)
    rintro _ m5 ⟨⟨h5, h6⟩, k5⟩
    refine ⟨fun c t n hc => (h5 c t n).trans ?_, fun p c n l hc => (h6 p _ l).trans ?_, (k5 _ (by decide)).trans h3, (k5 _ (by decide)).trans h4⟩
    · split
      · rename_i hh; subst hh; rfl
      · rename_i hne
        have : (c : ℕ) ≠ b := fun h => hne (Fin.ext h)
        exact h1 c t n (by omega)
    · by_cases hh : c = b
      · subst hh
        rw [dif_pos (by show (48 * (c : ℕ) + n) / 48 = c; omega)]
        congr 2; exact Fin.ext (by show (48 * (c : ℕ) + n) % 48 = n; omega)
      · have : (c : ℕ) ≠ b := fun h => hh (Fin.ext h)
        rw [dif_neg (by show ¬ (48 * (c : ℕ) + n) / 48 = b; omega)]
        exact h2 p c n l (by omega)
  · rintro _ m4 ⟨⟨c4, x4, -, -⟩, k4⟩
    refine ⟨arg _ k4 (by decide) A3, fun p b n l => x4 p b n l (by omega), fun b t n => c4 b t n (by omega),
      ⟨fun b e j d h => absurd h (Nat.not_lt_zero _), fun e r l h => absurd h (Nat.not_lt_zero _), fun b e j d h => absurd h (Nat.not_lt_zero _), fun e r l h => absurd h (Nat.not_lt_zero _)⟩,
      fun b s c h => by omega, fun e h1 h2 => ?_, fun b e j d h => absurd h (Nat.not_lt_zero _)⟩
    have h5 : (e : ℕ) < 5 := by omega
    have := (e3 ⟨e, h5⟩ (by show (e : ℕ) < 0 + 5; omega)).of_eq (k4 _ (by decide)) (k4 _ (by decide)) (k4 _ (by decide)) (k4 _ (by decide))
    have e1 : (⟨(e : ℕ) % 5, by omega⟩ : Fin 5) = ⟨e, h5⟩ := Fin.ext (by show (e : ℕ) % 5 = e; omega)
    rw [e1]
    exact this

end Cert.KernelIdeal.Clean
-- ==== Proof.Finish.lean ====
/-
  The end of the kernel, and with it what each of the six results holds.
-/
module

public import proofs.«01_k».proof.Proof.Whole

@[expose] public section

set_option maxRecDepth 16384

noncomputable section

namespace Cert.KernelIdeal.Clean

open Idealize.ShloMosaic Idealize.SL.Sem
open Cert.KernelIdeal.Gen
open Safe

/-- The first `n` tiles of the combined result, before they are copied. -/
def OutAt (A : Args) (n : ℕ) (m : St Ideal) : Prop := ∀ b t (c : Fin 1024), (c : ℕ) / 256 < n → cOut m (ix3 b t c) = A.out b t c

/-- The first `n` tiles of the combined result and of the experts' output, copied. -/
def TilesAt (A : Args) (n : ℕ) (m : St Ideal) : Prop := (∀ b t (c : Fin 1024), (c : ℕ) / 256 < n → rOut m (ix3 b t c) = A.out b t c) ∧
  (∀ b s (c : Fin 1024), (c : ℕ) / 256 < n → rYs m (ix3 b s c) = A.ys b s c)

/-- What holds between the tiles of the end: `n` tiles are finished, `k` are copied. -/
structure Tl (A : Args) (n k : ℕ) (m : St Ideal) : Prop where
  comb : CombAt A m
  hold : Holds A m 3 23
  act : ∀ r d, cA m (ix2 r d) = actH (A.hid 23) (ix2 r d)
  ys : YsAt A 23 n m
  out : OutAt A n m
  tiles : TilesAt A k m

theorem lastTile_only (n : Fin 4) : Only [cc0_scratch10, cc0_scratch11] (lastTile (F := Ideal) packI n) := fun r hr => by
  simp only [List.mem_cons, List.not_mem_nil, or_false, not_or] at hr
  exact Keeps.bind (downTile_keeps _ _ _ _ hr.1) fun _ => Keeps.forFin fun b => combine_keeps _ _ hr.2

theorem lastTile_post (A : Args) (n : Fin 4) (k : ℕ) (m : St Ideal) (h : Tl A n k m) : Post (lastTile (F := Ideal) packI n) m fun _ m' => Tl A (n + 1) k m' := by
  refine Post.mono (Q := fun _ m' => Tl A (n + 1) k m') (R := fun _ m' => (YsAt A 23 (n + 1) m' ∧ OutAt A (n + 1) m') ∧ ∀ r, r ∉ ([cc0_scratch10, cc0_scratch11] : List (Ref sig .tc)) → m' r = m r) (Post.and ?_ ((lastTile_only n).post m)) ?_
  · refine Post.bind _ ((down_post A 3 23 n m h.hold h.act h.ys).and ((Only.one (a := cc0_scratch10) fun r hr => downTile_keeps _ _ _ _ hr).post m)) ?_
    rintro _ m1 ⟨y1, k1⟩
    refine Post.mono (Post.forFin (fun q m2 => (∀ (b : Fin 4) t (c : Fin 1024), ((c : ℕ) / 256 < n ∨ ((c : ℕ) / 256 = n ∧ (b : ℕ) < q)) → cOut m2 (ix3 b t c) = A.out b t c) ∧
      m2 cc0_scratch6 = m1 cc0_scratch6 ∧ m2 cc0_scratch10 = m1 cc0_scratch10) 0 ⟨fun b t c hc => ?_, rfl, rfl⟩ ?_) ?_
    · exact (congrFun (k1 _ (by decide)) _).trans (h.out b t c (by omega))
    · rintro b m2 ⟨h1, h2, h3⟩
      refine Post.mono ((combine_post n b m2).and ((Only.one (a := cc0_scratch11) fun r hr => combine_keeps n b hr).post m2)) ?_
      rintro _ m3 ⟨h4, k3⟩
      refine ⟨fun b' t c hc => (h4 b' t c).trans ?_, (k3 _ (by decide)).trans h2, (k3 _ (by decide)).trans h3⟩
      split
      · rename_i hh
        refine Finset.sum_congr rfl fun s _ => congrArg₂ (· * ·) ((congrFun (h2.trans (k1 _ (by decide))) _).trans (h.comb b' t s)) ((congrFun h3 _).trans (y1 b' s c ?_))
        have := s.isLt; omega
      · rename_i hh
        refine h1 b' t c ?_
        have : (b' : ℕ) = b → ¬ (c : ℕ) / 256 = n := fun e1 e2 => hh ⟨Fin.ext e1, e2⟩
        omega
    · rintro _ m2 ⟨h1, h2, h3⟩
      exact ⟨fun b s c hc => (congrFun h3 _).trans (y1 b s c hc), fun b t c hc => h1 b t c (by omega)⟩
  · rintro _ m' ⟨⟨h1, h2⟩, k⟩
    exact ⟨fun b t s => (congrFun (k _ (by decide)) _).trans (h.comb b t s), h.hold.of_eq (k _ (by decide)) (k _ (by decide)) (k _ (by decide)) (k _ (by decide)),
      fun r d => (congrFun (k _ (by decide)) _).trans (h.act r d), h1, h2,
      fun b t c hc => (congrFun (k main_v0_0 (by decide)) _).trans (h.tiles.1 b t c hc), fun b s c hc => (congrFun (k main_v0_1 (by decide)) _).trans (h.tiles.2 b s c hc)⟩

theorem startTile_only (n : Fin 4) : Only [main_v0_0, main_v0_1] (startTile (F := Ideal) n) := fun r hr => by
  simp only [List.mem_cons, List.not_mem_nil, or_false, not_or] at hr
  exact startTile_keeps n hr.1 hr.2

theorem startTile_tl (A : Args) (n : Fin 4) (m : St Ideal) (h : Tl A (n + 1) n m) : Post (startTile (F := Ideal) n) m fun _ m' => Tl A (n + 1) (n + 1) m' := by
  refine Post.mono ((startTile_post n m).and ((startTile_only n).post m)) ?_
  rintro _ m' ⟨⟨h1, h2⟩, k⟩
  refine ⟨fun b t s => (congrFun (k _ (by decide)) _).trans (h.comb b t s), h.hold.of_eq (k _ (by decide)) (k _ (by decide)) (k _ (by decide)) (k _ (by decide)),
    fun r d => (congrFun (k _ (by decide)) _).trans (h.act r d), fun b s c hc => (congrFun (k cc0_scratch10 (by decide)) _).trans (h.ys b s c hc), fun b t c hc => (congrFun (k cc0_scratch11 (by decide)) _).trans (h.out b t c hc),
    fun b t c hc => (h1 b t c).trans ?_, fun b s c hc => (h2 b s c).trans ?_⟩
  · split
    · exact h.out b t c hc
    · exact h.tiles.1 b t c (by omega)
  · split
    · exact h.ys b s c (by have := s.isLt; omega)
    · exact h.tiles.2 b s c (by omega)

/-- The four results that are copied apart from the tiles. -/
structure Small (A : Args) (m : St Ideal) : Prop where
  sc : ∀ b e j d, rSc m (ix4 b e j d) = codesX (A.rows e) (ix2 (row b j) d)
  ss : ∀ b e j, rSs m (ix3 b e j) = scaleV (amaxX (A.rows e)) (ix2 (row b j) 0)
  hc : ∀ b e j d, rHc m (ix4 b e j d) = codesH (A.hid e) (ix2 (row b j) d)
  hs : ∀ b e j, rHs m (ix3 b e j) = scaleV (amaxH (A.hid e)) (ix2 (row b j) 0)

theorem Small.of_eq {A : Args} {m m' : St Ideal} (h : Small A m) (k : ∀ r ∈ ([main_v0_2, main_v0_3, main_v0_4, main_v0_5] : List (Ref sig .tc)), m' r = m r) : Small A m' :=
  ⟨fun b e j d => (congrFun (k main_v0_2 (by decide)) _).trans (h.sc b e j d), fun b e j => (congrFun (k main_v0_3 (by decide)) _).trans (h.ss b e j),
    fun b e j d => (congrFun (k main_v0_4 (by decide)) _).trans (h.hc b e j d), fun b e j => (congrFun (k main_v0_5 (by decide)) _).trans (h.hs b e j)⟩

theorem tail_post (A : Args) (m : St Ideal) (h : Inv A 23 m) : Post (tail (F := Ideal) packI) m fun _ m' => Small A m' ∧ TilesAt A 4 m' := by
  refine Post.bind _ ((startHc_out A 23 22 rfl m h.hc h.done).and ((Only.one (a := main_v0_4) fun r hr => Keeps.startHc _ hr).post m)) ?_
  rintro _ m1 ⟨g1, k1⟩
  refine Post.read (Reads.wait _ _ _ _ _ _) (Post.read (Reads.wait _ _ _ _ _ _) (Post.read (Reads.wait _ _ _ _ _ _) ?_))
  have hold1 : Holds A m1 3 23 := (h.ring 23 le_rfl (.inl (by decide))).of_eq (k1 _ (by decide)) (k1 _ (by decide)) (k1 _ (by decide)) (k1 _ (by decide))
  refine Post.bind _ ((up_post A 3 23 ![46, 94, 142, 190] 184 m1 (fun p b n l => (congrFun (k1 _ (by decide)) _).trans (h.xs p b n l)) hold1
    (h.done.of_eq (k1 _ (by decide)) (k1 _ (by decide)) (k1 _ (by decide)) (k1 _ (by decide))) (by decide) rfl).and (Only.post (fun r hr => up_keeps 3 23 ![46, 94, 142, 190] 184 hr) m1)) ?_
  rintro _ m2 ⟨⟨d2, a2⟩, k2⟩
  refine Post.bind _ ((scalesS_all m2).and ((Only.one (a := cc0_scratch16) fun r hr => Keeps.forFin fun b => scalesS_keeps b hr).post m2)) ?_
  rintro _ m3 ⟨ss3, k3⟩
  refine Post.bind _ ((scalesH_all m3).and ((Only.one (a := cc0_scratch17) fun r hr => Keeps.forFin fun b => scalesH_keeps b hr).post m3)) ?_
  rintro _ m4 ⟨hs4, k4⟩
  refine Post.read (Reads.wait _ _ _ _ _ _) ?_
  have kk : ∀ r, r ∉ ([main_v0_4, cc0_scratch8, cc0_scratch9, cc0_scratch12, cc0_scratch13, cc0_scratch14, cc0_scratch15, cc0_scratch16, cc0_scratch17] : List (Ref sig .tc)) → m4 r = m r := by
    intro r hr
    simp only [List.mem_cons, List.not_mem_nil, or_false, not_or] at hr
    refine (k4 r ?_).trans ((k3 r ?_).trans ((k2 r ?_).trans (k1 r ?_))) <;> simp only [List.mem_cons, List.not_mem_nil, or_false, not_or] <;> tauto
  have k42 : ∀ r, r ∉ ([cc0_scratch16, cc0_scratch17] : List (Ref sig .tc)) → m4 r = m2 r := by
    intro r hr
    simp only [List.mem_cons, List.not_mem_nil, or_false, not_or] at hr
    refine (k4 r ?_).trans (k3 r ?_) <;> simp only [List.mem_cons, List.not_mem_nil, or_false, not_or] <;> tauto
  have d4 : Done A 24 m4 := d2.of_eq (k42 _ (by decide)) (k42 _ (by decide)) (k42 _ (by decide)) (k42 _ (by decide))
  have out4 : HcOut A 24 m4 := fun b e j d he => (congrFun ((k42 main_v0_4 (by decide)).trans (k2 _ (by decide))) _).trans (g1 b e j d he)
  refine Post.bind _ ((startHc_out A 24 23 rfl m4 out4 d4).and ((Only.one (a := main_v0_4) fun r hr => Keeps.startHc _ hr).post m4)) ?_
  rintro _ m5 ⟨g5, k5⟩
  refine Post.bind _ ((startSmall_post m5).and (Only.post (L := [main_v0_2, main_v0_3, main_v0_5]) (fun r hr => by
    simp only [List.mem_cons, List.not_mem_nil, or_false, not_or] at hr
    exact startSmall_keeps hr.1 hr.2.1 hr.2.2) m5)) ?_
  rintro _ m6 ⟨⟨r1, r2, r3⟩, k6⟩
  have small : Small A m6 := by
    refine ⟨fun b e j d => ?_, fun b e j => ?_, fun b e j d => ?_, fun b e j => ?_⟩
    · exact (congrFun (r1.trans (k5 _ (by decide))) _).trans (d4.sc b e j d e.isLt)
    · refine (congrFun (r2.trans ((k5 _ (by decide)).trans (k4 _ (by decide)))) _).trans ((ss3 b e j).trans ?_)
      exact d2.ssr e (row b j) _ e.isLt
    · exact (congrFun (k6 main_v0_4 (by decide)) _).trans (g5 b e j d (by have := e.isLt; omega))
    · refine (congrFun (r3.trans (k5 _ (by decide))) _).trans ((hs4 b e j).trans ((congrFun (k3 _ (by decide)) _).trans ?_))
      exact d2.hsr e (row b j) _ e.isLt
  have kk6 : ∀ r, r ∉ ([main_v0_2, main_v0_3, main_v0_5, main_v0_4] : List (Ref sig .tc)) → m6 r = m4 r := by
    intro r hr
    simp only [List.mem_cons, List.not_mem_nil, or_false, not_or] at hr
    refine (k6 r ?_).trans (k5 r ?_) <;> simp only [List.mem_cons, List.not_mem_nil, or_false, not_or] <;> tauto
  have tl6 : Tl A 0 0 m6 := ⟨fun b t s => (congrFun ((kk6 _ (by decide)).trans (kk _ (by decide))) _).trans (h.comb b t s),
    hold1.of_eq ((kk6 _ (by decide)).trans ((k42 _ (by decide)).trans (k2 _ (by decide)))) ((kk6 _ (by decide)).trans ((k42 _ (by decide)).trans (k2 _ (by decide))))
      ((kk6 _ (by decide)).trans ((k42 _ (by decide)).trans (k2 _ (by decide)))) ((kk6 _ (by decide)).trans ((k42 _ (by decide)).trans (k2 _ (by decide)))),
    fun r d => (congrFun ((kk6 _ (by decide)).trans (k42 _ (by decide))) _).trans (a2 r d),
    fun b s c hc => (congrFun ((kk6 _ (by decide)).trans (kk _ (by decide))) _).trans (h.ys b s c hc),
    fun b t c hc => absurd hc (Nat.not_lt_zero _), fun b t c hc => absurd hc (Nat.not_lt_zero _), fun b t c hc => absurd hc (Nat.not_lt_zero _)⟩
  have keep : ∀ {α : Type} (p : P Ideal α) (L : List (Ref sig .tc)) (m : St Ideal), Only L p → (∀ r ∈ ([main_v0_2, main_v0_3, main_v0_4, main_v0_5] : List (Ref sig .tc)), r ∉ L) → Small A m → Post p m fun _ m' => Small A m' :=
    fun p L m hp hL hs => Post.mono (hp.post m) fun _ m' k => hs.of_eq fun r hr => k r (hL r hr)
  refine Post.bind _ ((lastTile_post A 0 0 m6 tl6).and (keep _ _ m6 (lastTile_only 0) (by decide) small)) ?_
  rintro _ m7 ⟨t7, s7⟩
  refine Post.bind _ (Post.forFin (fun n m8 => Tl A (n + 1) n m8 ∧ Small A m8) 0 ⟨t7, s7⟩ ?_) ?_
  · rintro n m8 ⟨t8, s8⟩
    rw [Nat.zero_add] at t8 ⊢
    refine Post.read (Reads.wait _ _ _ _ _ _) (Post.bind _ ((startTile_tl A n.castSucc m8 t8).and (keep _ _ m8 (startTile_only _) (by decide) s8)) ?_)
    rintro _ m9 ⟨t9, s9⟩
    exact (lastTile_post A n.succ (n + 1) m9 (by rw [Fin.val_succ]; exact t9)).and (keep _ _ m9 (lastTile_only _) (by decide) s9) |>.mono fun _ m' h' => by
      rw [Fin.val_succ] at h'; exact h'
  · rintro _ m8 ⟨t8, s8⟩
    refine Post.mono ((startTile_tl A 3 m8 t8).and (keep _ _ m8 (startTile_only _) (by decide) s8)) ?_
    rintro _ m9 ⟨t9, s9⟩
    exact ⟨s9, t9.tiles⟩

/-- What the six results hold when the kernel ends. -/
theorem body_post (A : Args) (m : St Ideal) (hA : args m = A) : Post (body (F := Ideal) packI) m fun _ m' => Small A m' ∧ TilesAt A 4 m' := by
  refine Post.bind _ (prologue_post A m hA) fun _ m1 h1 => ?_
  refine Post.bind _ (Post.loop (fun t m => Inv A t m) _ h1 fun t m h => turns_post A t m h) fun _ m2 h2 => ?_
  rw [trips_val] at h2
  refine Post.bind _ (tail_post A m2 h2) fun _ m3 h3 => ?_
  refine Post.bind _ (Only.post (L := []) (fun r _ => Keeps.loop fun t => Keeps.wait _ _ _ _ _ r) m3) fun _ m4 k4 => ?_
  refine Post.mono (Only.post (L := []) (p := drain (F := Ideal)) (fun r _ => Keeps.bind (Keeps.bind (Keeps.wait _ _ _ _ _ r) fun _ => Keeps.bind (Keeps.wait _ _ _ _ _ r) fun _ => Keeps.wait _ _ _ _ _ r) fun _ =>
    Keeps.forFin fun n => Keeps.bind (Keeps.wait _ _ _ _ _ r) fun _ => Keeps.wait _ _ _ _ _ r) m4) fun _ m5 k5 => ?_
  obtain rfl : m5 = m3 := funext fun r => (k5 r List.not_mem_nil).trans (k4 r List.not_mem_nil)
  exact h3

end Cert.KernelIdeal.Clean
-- ==== Proof.RefValue.lean ====
/- What the reference leaves in its result arrays: each of them is one function of the argument arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x256x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x48x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x24x2x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S4x24x2.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S4x24x2x4096.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4x24x2.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_v0_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x256x1024.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 256 + 1 * (j 1).val = (j 1).val; omega
  | ⟨2, _⟩ => show win0_0.index t (2 : Fin 3) * 1024 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x48.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 48 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S24x1024x4096.Idx) : ((cfg0.win 2).blk t).view.emb j = j := by
  obtain ⟨e0, e1, e2⟩ := idx_zero2 t
  funext a; apply Fin.ext
  match a with
  | ⟨0, _⟩ => show win0_2.index t (0 : Fin 3) * 24 + 1 * (j 0).val = (j 0).val; omega
  | ⟨1, _⟩ => show win0_2.index t (1 : Fin 3) * 1024 + 1 * (j 1).val = (j 1).val; omega
  | ⟨2, _⟩ => show win0_2.index t (2 : Fin 3) * 4096 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S24x8x32.Idx) : ((cfg0.win 3).blk t).view.emb j = j := by
  obtain ⟨e0, e1, e2⟩ := idx_zero3 t
  funext a; apply Fin.ext
  match a with
  | ⟨0, _⟩ => show win0_3.index t (0 : Fin 3) * 24 + 1 * (j 0).val = (j 0).val; omega
  | ⟨1, _⟩ => show win0_3.index t (1 : Fin 3) * 8 + 1 * (j 1).val = (j 1).val; omega
  | ⟨2, _⟩ => show win0_3.index t (2 : Fin 3) * 32 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S24x4096x1024.Idx) : ((cfg0.win 4).blk t).view.emb j = j := by
  obtain ⟨e0, e1, e2⟩ := idx_zero4 t
  funext a; apply Fin.ext
  match a with
  | ⟨0, _⟩ => show win0_4.index t (0 : Fin 3) * 24 + 1 * (j 0).val = (j 0).val; omega
  | ⟨1, _⟩ => show win0_4.index t (1 : Fin 3) * 4096 + 1 * (j 1).val = (j 1).val; omega
  | ⟨2, _⟩ => show win0_4.index t (2 : Fin 3) * 1024 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S24x32x8.Idx) : ((cfg0.win 5).blk t).view.emb j = j := by
  obtain ⟨e0, e1, e2⟩ := idx_zero5 t
  funext a; apply Fin.ext
  match a with
  | ⟨0, _⟩ => show win0_5.index t (0 : Fin 3) * 24 + 1 * (j 0).val = (j 0).val; omega
  | ⟨1, _⟩ => show win0_5.index t (1 : Fin 3) * 32 + 1 * (j 1).val = (j 1).val; omega
  | ⟨2, _⟩ => show win0_5.index t (2 : Fin 3) * 8 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x256x1024.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 256 + 1 * (j 1).val = (j 1).val; omega
  | ⟨2, _⟩ => show win0_6.index t (2 : Fin 3) * 1024 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S4x48x1024.Idx) : ((cfg0.win 7).blk t).view.emb j = j := by
  obtain ⟨e0, e1, e2⟩ := idx_zero7 t
  funext a; apply Fin.ext
  match a with
  | ⟨0, _⟩ => show win0_7.index t (0 : Fin 3) * 4 + 1 * (j 0).val = (j 0).val; omega
  | ⟨1, _⟩ => show win0_7.index t (1 : Fin 3) * 48 + 1 * (j 1).val = (j 1).val; omega
  | ⟨2, _⟩ => show win0_7.index t (2 : Fin 3) * 1024 + 1 * (j 2).val = (j 2).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S4x24x2x1024.Idx) : ((cfg0.win 8).blk t).view.emb j = j := by
  obtain ⟨e0, e1, e2, e3⟩ := idx_zero8 t
  funext a; apply Fin.ext
  match a with
  | ⟨0, _⟩ => show win0_8.index t (0 : Fin 4) * 4 + 1 * (j 0).val = (j 0).val; omega
  | ⟨1, _⟩ => show win0_8.index t (1 : Fin 4) * 24 + 1 * (j 1).val = (j 1).val; omega
  | ⟨2, _⟩ => show win0_8.index t (2 : Fin 4) * 2 + 1 * (j 2).val = (j 2).val; omega
  | ⟨3, _⟩ => show win0_8.index t (3 : Fin 4) * 1024 + 1 * (j 3).val = (j 3).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S4x24x2.Idx) : ((cfg0.win 9).blk t).view.emb j = j := by
  obtain ⟨e0, e1, e2⟩ := idx_zero9 t
  funext a; apply Fin.ext
  match a with
  | ⟨0, _⟩ => show win0_9.index t (0 : Fin 3) * 4 + 1 * (j 0).val = (j 0).val; omega
  | ⟨1, _⟩ => show win0_9.index t (1 : Fin 3) * 24 + 1 * (j 1).val = (j 1).val; omega
  | ⟨2, _⟩ => show win0_9.index t (2 : Fin 3) * 2 + 1 * (j 2).val = (j 2).val; omega

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S4x24x2x4096.Idx) : ((cfg0.win 10).blk t).view.emb j = j := by
  obtain ⟨e0, e1, e2, e3⟩ := idx_zero10 t
  funext a; apply Fin.ext
  match a with
  | ⟨0, _⟩ => show win0_10.index t (0 : Fin 4) * 4 + 1 * (j 0).val = (j 0).val; omega
  | ⟨1, _⟩ => show win0_10.index t (1 : Fin 4) * 24 + 1 * (j 1).val = (j 1).val; omega
  | ⟨2, _⟩ => show win0_10.index t (2 : Fin 4) * 2 + 1 * (j 2).val = (j 2).val; omega
  | ⟨3, _⟩ => show win0_10.index t (3 : Fin 4) * 4096 + 1 * (j 3).val = (j 3).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S4x24x2.Idx) : ((cfg0.win 11).blk t).view.emb j = j := by
  obtain ⟨e0, e1, e2⟩ := idx_zero11 t
  funext a; apply Fin.ext
  match a with
  | ⟨0, _⟩ => show win0_11.index t (0 : Fin 3) * 4 + 1 * (j 0).val = (j 0).val; omega
  | ⟨1, _⟩ => show win0_11.index t (1 : Fin 3) * 24 + 1 * (j 1).val = (j 1).val; omega
  | ⟨2, _⟩ => show win0_11.index t (2 : Fin 3) * 2 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : Vec F S4x256x1024 .bf16 :=
  k0_pay1 (k0_pay5 a0 a1) (k0_pay39 a0 a1 a2 a3 a4 a5)

/-- A load of the whole of a block reads the block, and the one store through the whole rectangle leaves its payload. -/
theorem out6_eq (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : out0_6 (F := F) a0 a1 a2 a3 a4 a5 = G6 a0 a1 a2 a3 a4 a5 := by
  unfold out0_6
  rw [View.canon_unit_zero hz6, View.ld_unit_zero (S := S4x256x1024) hz0 _ a0, View.ld_unit_zero (S := S1024x48) hz1 _ a1]

/-- Cutting the point's block out of `X` and reading `X` through the block's view give the same. -/
theorem cut6_eq (t : Fin cfg0.N) (X : Vec F S4x256x1024 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S4x256x1024.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : Vec F S4x48x1024 .bf16 :=
  k0_pay39 a0 a1 a2 a3 a4 a5

/-- The one store through the whole rectangle leaves its payload. -/
theorem out7_eq (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S4x48x1024 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S4x48x1024.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : Vec F S4x24x2x1024 .fp8e4m3 :=
  k0_pay8 (k0_pay27 a0 a1 a2 a3 a4 a5) (k0_pay28 a0 a1 a2 a3 a4 a5)

/-- The one store through the whole rectangle leaves its payload. -/
theorem out8_eq (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S4x24x2x1024 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S4x24x2x1024.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : Vec F S4x24x2 .f32 :=
  k0_pay2 (k0_pay9 (k0_pay28 a0 a1 a2 a3 a4 a5))

/-- The one store through the whole rectangle leaves its payload. -/
theorem out9_eq (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S4x24x2 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S4x24x2.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : Vec F S4x24x2x4096 .fp8e4m3 :=
  k0_pay24 (k0_pay37 a0 a1 a2 a3 a4 a5) (k0_pay38 a0 a1 a2 a3 a4 a5)

/-- The one store through the whole rectangle leaves its payload. -/
theorem out10_eq (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : out0_10 (F := F) a0 a1 a2 a3 a4 a5 = G10 a0 a1 a2 a3 a4 a5 := by
  unfold out0_10
  rw [View.canon_unit_zero hz10]

/-- Cutting the point's block out of `X` and reading `X` through the block's view give the same. -/
theorem cut10_eq (t : Fin cfg0.N) (X : Vec F S4x24x2x4096 .fp8e4m3) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S4x24x2x4096.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ### Output window 11: the array after the run -/

/-- What the window's array ends holding: `out0_11` applied to the argument arrays in place of the input blocks (a value that the
    frame states apart, `kK_payN a…`, keeps its loads inside its own definition). -/
abbrev G11 (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : Vec F S4x24x2 .f32 :=
  k0_pay3 (k0_pay25 (k0_pay38 a0 a1 a2 a3 a4 a5))

/-- The one store through the whole rectangle leaves its payload. -/
theorem out11_eq (a0 : Vec F S4x256x1024 .bf16) (a1 : Vec F S1024x48 .bf16) (a2 : Vec F S24x1024x4096 .fp8e4m3) (a3 : Vec F S24x8x32 .f32) (a4 : Vec F S24x4096x1024 .fp8e4m3) (a5 : Vec F S24x32x8 .f32) : out0_11 (F := F) a0 a1 a2 a3 a4 a5 = G11 a0 a1 a2 a3 a4 a5 := by
  unfold out0_11
  rw [View.canon_unit_zero hz11]

/-- Cutting the point's block out of `X` and reading `X` through the block's view give the same. -/
theorem cut11_eq (t : Fin cfg0.N) (X : Vec F S4x24x2 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq]
  exact cut11_eq t _

/-- Every index of the array is in the point's block. -/
theorem covered11 (i : S4x24x2.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg0) (V m c main_arg1) (V m c main_arg2) (V m c main_arg3) (V m c main_arg4) (V m c main_arg5)) (fun t _ => flushed11_eq m c t) covered11).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Value

end
-- ==== Proof.Values.lean ====
/-
  The reference's six results, element by element, are the layer's values.
-/
module

public import proofs.«01_k».proof.Proof.Spec
public import proofs.«01_k».proof.Proof.RefValue

@[expose] public section

set_option maxRecDepth 16384

noncomputable section

namespace Cert.KernelIdeal.Clean

open Idealize.ShloMosaic
open Cert.ReferenceIdeal.Gen (k0_pay1 k0_pay2 k0_pay3 k0_pay4 k0_pay5 k0_pay6 k0_pay7 k0_pay8 k0_pay9 k0_pay10 k0_pay21 k0_pay22 k0_pay23 k0_pay24 k0_pay25 k0_pay26)

/-! ## Routing -/

/-- The dispatched tokens, in the reference's arrangement by expert, are the experts' rows. -/
theorem rows_ref (A : Args) (b : Fin 4) (e : Fin 24) (j : Fin 2) (d : Fin 1024) :
    k0_pay6 (F := Ideal) A.X A.Phi (ix4 b e j d) = A.rows e (ix2 (row b j) d) := by
  have h : (⟨e * 2 + j, by omega⟩ : Fin 48) = ⟨2 * e + j, by omega⟩ := Fin.ext (by show (e : ℕ) * 2 + j = 2 * e + j; omega)
  have hr : A.rows e (ix2 (row b j) d) = A.xs b (ix2 ⟨2 * e + j, by omega⟩ d) := by
    have hb : (⟨(2 * (b : ℕ) + j) / 2, by omega⟩ : Fin 4) = b := Fin.ext (by show (2 * (b : ℕ) + j) / 2 = b; omega)
    have hj : (⟨2 * (e : ℕ) + (2 * (b : ℕ) + j) % 2, by omega⟩ : Fin 48) = ⟨2 * e + j, by omega⟩ := Fin.ext (by show 2 * (e : ℕ) + (2 * (b : ℕ) + j) % 2 = 2 * e + j; omega)
    show A.xs ⟨(2 * (b : ℕ) + j) / 2, by omega⟩ (ix2 ⟨2 * (e : ℕ) + (2 * (b : ℕ) + j) % 2, by omega⟩ d) = _
    rw [hb, hj]
  rw [hr]
  unfold Args.xs
  pointwise [k0_pay6, k0_pay4, dispV, logitsV, Args.xrow]
  simp only [h]

theorem comb_ref (A : Args) (b : Fin 4) (t : Fin 256) (n : Fin 48) :
    k0_pay5 (F := Ideal) A.X A.Phi (ix3 b t n) = A.comb b (ix3 0 t n) := by
  unfold Args.comb
  pointwise [k0_pay5, k0_pay4, combV, logitsV, Args.xrow]

/-! ## The inputs' codes and scales -/

theorem codesX_ref (A : Args) (b : Fin 4) (e : Fin 24) (j : Fin 2) (d : Fin 1024) :
    k0_pay8 (F := Ideal) (k0_pay6 A.X A.Phi) (k0_pay7 A.X A.Phi) (ix4 b e j d) = codesX (A.rows e) (ix2 (row b j) d) := by
  pointwise [k0_pay8, k0_pay7, codesX, amaxX, clipV, invV, expoV]
  simp only [rows_ref]

theorem scalesX_ref (A : Args) (b : Fin 4) (e : Fin 24) (j : Fin 2) :
    k0_pay9 (F := Ideal) (k0_pay7 A.X A.Phi) (ix4 b e j 0) = scaleV (amaxX (A.rows e)) (ix2 (row b j) 0) := by
  pointwise [k0_pay9, k0_pay7, amaxX, scaleV, expoV]
  simp only [rows_ref]

end Cert.KernelIdeal.Clean

end
-- ==== Proof.Products.lean ====
/-
  The reference's hidden rows, their codes and scales, and its second product, element by element.
-/
module

public import proofs.«01_k».proof.Proof.Values

@[expose] public section

set_option maxRecDepth 16384

noncomputable section

namespace Cert.KernelIdeal.Clean

open Idealize.ShloMosaic
open Cert.ReferenceIdeal.Gen (k0_pay1 k0_pay2 k0_pay3 k0_pay4 k0_pay5 k0_pay6 k0_pay7 k0_pay8 k0_pay9 k0_pay10 k0_pay21 k0_pay22 k0_pay23 k0_pay24 k0_pay25 k0_pay26)

theorem actX_apply (w : FVec Ideal S8x1024 .f32) (r : Fin 8) (k : Fin 1024) :
    actX w (ix2 r k) = codesX w (ix2 r k) * scaleV (amaxX w) (ix2 r 0) := by
  pointwise [actX]

theorem actH_apply (w : FVec Ideal S8x4096 .f32) (r : Fin 8) (k : Fin 4096) :
    actH w (ix2 r k) = codesH w (ix2 r k) * scaleV (amaxH w) (ix2 r 0) := by
  pointwise [actH]

theorem row_split (r : Fin 8) : row ⟨r / 2, by omega⟩ ⟨r % 2, by omega⟩ = r := Fin.ext (by show 2 * ((r : ℕ) / 2) + (r : ℕ) % 2 = r; omega)

/-! ## The first product -/

theorem product1_ref (A : Args) (e : Fin 24) (r : Fin 8) (f : Fin 4096) :
    k0_pay10 (F := Ideal) (k0_pay6 A.X A.Phi) (k0_pay7 A.X A.Phi) A.W1 A.S1 (ix3 e r f)
      = ∑ k : Fin 1024, actX (A.rows e) (ix2 r k) * A.S1 (ix3 e ⟨k / 128, by omega⟩ ⟨f / 128, by omega⟩) * A.W1 (ix3 e k f) := by
  pointwise [k0_pay10]
  simp only [codesX_ref, scalesX_ref, row_split, actX_apply]
  refine Finset.sum_congr rfl fun k _ => ?_
  rw [mul_comm (A.W1 _), ← mul_assoc]

/-! ## The hidden rows -/

/-- The hidden rows in the order of the results. -/
def hidden (H : FVec Ideal Cert.ReferenceIdeal.S24x8x4096 .f32) : FVec Ideal S4x24x2x4096 .f32 :=
  transpose S4x24x2x4096 [1, 0, 2, 3] (shapeCast Cert.ReferenceIdeal.S24x4x2x4096 (geluV H) Cert.ReferenceIdeal.Gen.shapeCasts_S24x8x4096_S24x4x2x4096) Cert.ReferenceIdeal.Gen.transposes_S24x4x2x4096_p1_0_2_3_S4x24x2x4096

theorem hidden_apply (H : FVec Ideal Cert.ReferenceIdeal.S24x8x4096 .f32) (b : Fin 4) (e : Fin 24) (j : Fin 2) (f : Fin 4096) :
    hidden H (ix4 b e j f) = gelu1 (H (ix3 e (row b j) f)) := by
  have h : (⟨b * 2 + j, by omega⟩ : Fin 8) = row b j := Fin.ext (by show (b : ℕ) * 2 + j = 2 * b + j; omega)
  rw [← geluV_apply, ← h]
  unfold hidden
  generalize geluV H = G
  pointwise

/-- The largest magnitude of each row. -/
def peak (P : FVec Ideal S4x24x2x4096 .f32) : FVec Ideal S4x24x2 .f32 :=
  multiReduction .maximumf [3] S4x24x2 (absf P) 0xFF800000#32 Cert.ReferenceIdeal.Gen.reduces_S4x24x2x4096_S4x24x2 (.inl rfl) rfl

theorem codesH_ref (w : FVec Ideal S8x4096 .f32) (P : FVec Ideal S4x24x2x4096 .f32) (e : Fin 24) (hP : ∀ b j d, P (ix4 b e j d) = w (ix2 (row b j) d))
    (b : Fin 4) (j : Fin 2) (d : Fin 4096) : k0_pay24 (F := Ideal) P (peak P) (ix4 b e j d) = codesH w (ix2 (row b j) d) := by
  pointwise [k0_pay24, k0_pay23, peak, codesH, amaxH, clipV, invV, expoV]
  simp only [hP]

theorem scalesH_ref (w : FVec Ideal S8x4096 .f32) (P : FVec Ideal S4x24x2x4096 .f32) (e : Fin 24) (hP : ∀ b j d, P (ix4 b e j d) = w (ix2 (row b j) d))
    (b : Fin 4) (j : Fin 2) : k0_pay25 (F := Ideal) (peak P) (ix4 b e j 0) = scaleV (amaxH w) (ix2 (row b j) 0) := by
  pointwise [k0_pay25, k0_pay23, peak, amaxH, scaleV, expoV]
  simp only [hP]

/-! ## The second product -/

theorem product2_ref (A : Args) (P : FVec Ideal S4x24x2x4096 .f32) (hP : ∀ b e j d, P (ix4 b e j d) = A.hid e (ix2 (row b j) d))
    (b : Fin 4) (n : Fin 48) (d : Fin 1024) : k0_pay26 (F := Ideal) P (peak P) A.W2 A.S2 (ix3 b n d) = A.ys b n d := by
  unfold Args.ys Args.outsAt
  have h : ∀ e b j f, k0_pay24 (F := Ideal) P (peak P) (ix4 b e j f) = codesH (A.hid e) (ix2 (row b j) f) := fun e b j f => codesH_ref (A.hid e) P e (fun b j d => hP b e j d) b j f
  have h' : ∀ e b j, k0_pay25 (F := Ideal) (peak P) (ix4 b e j 0) = scaleV (amaxH (A.hid e)) (ix2 (row b j) 0) := fun e b j => scalesH_ref (A.hid e) P e (fun b j d => hP b e j d) b j
  pointwise [k0_pay26]
  have hj : ∀ q : ((b : ℕ) * 2 + (n : ℕ) % 2) % 2 < 2, (⟨((b : ℕ) * 2 + (n : ℕ) % 2) % 2, q⟩ : Fin 2) = ⟨n % 2, by omega⟩ := fun q => Fin.ext (by show ((b : ℕ) * 2 + n % 2) % 2 = n % 2; omega)
  simp only [h, h', hj, actH_apply]
  refine Finset.sum_congr rfl fun k _ => ?_
  rw [mul_comm (A.W2 _), ← mul_assoc]

/-! ## The combination -/

theorem combine_ref (A : Args) (Y : FVec Ideal Cert.ReferenceIdeal.S4x48x1024 .bf16) (hY : ∀ b n d, Y (ix3 b n d) = A.ys b n d)
    (b : Fin 4) (t : Fin 256) (d : Fin 1024) : k0_pay1 (F := Ideal) (k0_pay5 A.X A.Phi) Y (ix3 b t d) = A.out b t d := by
  unfold Args.out
  pointwise [k0_pay1]
  simp only [comb_ref, hY]

end Cert.KernelIdeal.Clean

end
-- ==== Proof.Results.lean ====
/-
  The reference's six result arrays are the layer's values.
-/
module

public import proofs.«01_k».proof.Proof.Products

@[expose] public section

set_option maxRecDepth 16384

noncomputable section

namespace Cert.KernelIdeal.Clean

open Idealize.ShloMosaic
open Cert.ReferenceIdeal.Gen

/-- The reference's first product at the arguments' contents. -/
abbrev pre (A : Args) : FVec Ideal Cert.ReferenceIdeal.S24x8x4096 .f32 := k0_pay10 (k0_pay6 A.X A.Phi) (k0_pay7 A.X A.Phi) A.W1 A.S1

section loads
open Cert.ReferenceIdeal.Value
variable (a0 : Vec Ideal Cert.ReferenceIdeal.S4x256x1024 .bf16) (a1 : Vec Ideal Cert.ReferenceIdeal.S1024x48 .bf16) (a2 : Vec Ideal Cert.ReferenceIdeal.S24x1024x4096 .fp8e4m3) (a3 : Vec Ideal Cert.ReferenceIdeal.S24x8x32 .f32)
    (a4 : Vec Ideal Cert.ReferenceIdeal.S24x4096x1024 .fp8e4m3) (a5 : Vec Ideal Cert.ReferenceIdeal.S24x32x8 .f32)

theorem pay27 : k0_pay27 (F := Ideal) a0 a1 a2 a3 a4 a5 = k0_pay6 a0 a1 := by
  unfold k0_pay27
  rw [View.ld_unit_zero (S := Cert.ReferenceIdeal.S4x256x1024) hz0 _ a0, View.ld_unit_zero (S := Cert.ReferenceIdeal.S1024x48) hz1 _ a1]

theorem pay28 : k0_pay28 (F := Ideal) a0 a1 a2 a3 a4 a5 = k0_pay7 a0 a1 := by
  unfold k0_pay28
  rw [View.ld_unit_zero (S := Cert.ReferenceIdeal.S4x256x1024) hz0 _ a0, View.ld_unit_zero (S := Cert.ReferenceIdeal.S1024x48) hz1 _ a1]

/-- The steps from the first product to the hidden rows, at any loads. -/
theorem pay21_eq (v26 : FVec Ideal Cert.ReferenceIdeal.S4x24x2x1024 .f32) (v42 : FVec Ideal Cert.ReferenceIdeal.S4x24x2x1 .f32)
    (w : Vec Ideal Cert.ReferenceIdeal.S24x1024x4096 .fp8e4m3) (s : Vec Ideal Cert.ReferenceIdeal.S24x8x32 .f32) :
    k0_pay21 (F := Ideal) (k0_pay11 v26 v42 w s) (k0_pay12 v26 v42 w s) (k0_pay13 v26 v42 w s)
      (k0_pay16 (k0_pay12 v26 v42 w s) (k0_pay14 v26 v42 w s) (k0_pay15 v26 v42 w s) (Scalar.ofBits .f32 0xBCDBFC87#32))
      (k0_pay17 (k0_pay13 v26 v42 w s)) (k0_pay18 (k0_pay12 v26 v42 w s) (k0_pay13 v26 v42 w s)) (k0_pay19 (k0_pay13 v26 v42 w s)) (k0_pay20 (k0_pay13 v26 v42 w s))
      = hidden (k0_pay10 v26 v42 w s) := by
  dsimp only [k0_pay11, k0_pay14, k0_pay15, k0_pay13, k0_pay12, k0_pay16, k0_pay17, k0_pay18, k0_pay19, k0_pay20, k0_pay21, hidden, geluV, erfcV, step]

theorem pay37 : k0_pay37 (F := Ideal) a0 a1 a2 a3 a4 a5 = hidden (k0_pay10 (k0_pay6 a0 a1) (k0_pay7 a0 a1) a2 a3) := by
  unfold k0_pay37 k0_pay32 k0_pay33 k0_pay34 k0_pay35 k0_pay36 k0_pay29 k0_pay30 k0_pay31
  rw [pay27, pay28, View.ld_unit_zero (S := Cert.ReferenceIdeal.S24x1024x4096) hz2 _ a2, View.ld_unit_zero (S := Cert.ReferenceIdeal.S24x8x32) hz3 _ a3]
  exact pay21_eq _ _ _ _

theorem pay38 : k0_pay38 (F := Ideal) a0 a1 a2 a3 a4 a5 = peak (hidden (k0_pay10 (k0_pay6 a0 a1) (k0_pay7 a0 a1) a2 a3)) := by
  rw [← pay37 a0 a1 a2 a3 a4 a5]
  unfold k0_pay38 k0_pay22 k0_pay37 peak
  rfl

theorem pay39 : k0_pay39 (F := Ideal) a0 a1 a2 a3 a4 a5 = k0_pay26 (hidden (k0_pay10 (k0_pay6 a0 a1) (k0_pay7 a0 a1) a2 a3)) (peak (hidden (k0_pay10 (k0_pay6 a0 a1) (k0_pay7 a0 a1) a2 a3))) a4 a5 := by
  unfold k0_pay39
  rw [pay37, pay38, View.ld_unit_zero (S := Cert.ReferenceIdeal.S24x4096x1024) hz4 _ a4, View.ld_unit_zero (S := Cert.ReferenceIdeal.S24x32x8) hz5 _ a5]

end loads

theorem hidden_ref (A : Args) (b : Fin 4) (e : Fin 24) (j : Fin 2) (f : Fin 4096) : hidden (pre A) (ix4 b e j f) = A.hid e (ix2 (row b j) f) := by
  rw [hidden_apply]
  exact congrArg gelu1 (product1_ref A e (row b j) f)

/-! ## The results -/

open Cert.ReferenceIdeal.Value

theorem g7 (A : Args) (b : Fin 4) (n : Fin 48) (d : Fin 1024) : G7 (F := Ideal) A.X A.Phi A.W1 A.S1 A.W2 A.S2 (ix3 b n d) = A.ys b n d := by
  show k0_pay39 (F := Ideal) A.X A.Phi A.W1 A.S1 A.W2 A.S2 (ix3 b n d) = _
  rw [pay39]
  exact product2_ref A _ (hidden_ref A) b n d

theorem g6 (A : Args) (b : Fin 4) (t : Fin 256) (d : Fin 1024) : G6 (F := Ideal) A.X A.Phi A.W1 A.S1 A.W2 A.S2 (ix3 b t d) = A.out b t d :=
  combine_ref A _ (g7 A) b t d

theorem g8 (A : Args) (b : Fin 4) (e : Fin 24) (j : Fin 2) (d : Fin 1024) : G8 (F := Ideal) A.X A.Phi A.W1 A.S1 A.W2 A.S2 (ix4 b e j d) = codesX (A.rows e) (ix2 (row b j) d) := by
  show k0_pay8 (F := Ideal) (k0_pay27 A.X A.Phi A.W1 A.S1 A.W2 A.S2) (k0_pay28 A.X A.Phi A.W1 A.S1 A.W2 A.S2) (ix4 b e j d) = _
  rw [pay27, pay28]
  exact codesX_ref A b e j d

theorem drop_last (v : FVec Ideal Cert.ReferenceIdeal.S4x24x2x1 .f32) (b : Fin 4) (e : Fin 24) (j : Fin 2) : k0_pay2 (F := Ideal) v (ix3 b e j) = v (ix4 b e j 0) := by
  pointwise [k0_pay2]

theorem g9 (A : Args) (b : Fin 4) (e : Fin 24) (j : Fin 2) : G9 (F := Ideal) A.X A.Phi A.W1 A.S1 A.W2 A.S2 (ix3 b e j) = scaleV (amaxX (A.rows e)) (ix2 (row b j) 0) := by
  show k0_pay2 (F := Ideal) (k0_pay9 (k0_pay28 A.X A.Phi A.W1 A.S1 A.W2 A.S2)) (ix3 b e j) = _
  rw [pay28, drop_last]
  exact scalesX_ref A b e j

theorem g10 (A : Args) (b : Fin 4) (e : Fin 24) (j : Fin 2) (d : Fin 4096) : G10 (F := Ideal) A.X A.Phi A.W1 A.S1 A.W2 A.S2 (ix4 b e j d) = codesH (A.hid e) (ix2 (row b j) d) := by
  show k0_pay24 (F := Ideal) (k0_pay37 A.X A.Phi A.W1 A.S1 A.W2 A.S2) (k0_pay38 A.X A.Phi A.W1 A.S1 A.W2 A.S2) (ix4 b e j d) = _
  rw [pay37, pay38]
  exact codesH_ref (A.hid e) _ e (fun b j d => hidden_ref A b e j d) b j d

theorem g11 (A : Args) (b : Fin 4) (e : Fin 24) (j : Fin 2) : G11 (F := Ideal) A.X A.Phi A.W1 A.S1 A.W2 A.S2 (ix3 b e j) = scaleV (amaxH (A.hid e)) (ix2 (row b j) 0) := by
  show k0_pay2 (F := Ideal) (k0_pay25 (k0_pay38 A.X A.Phi A.W1 A.S1 A.W2 A.S2)) (ix3 b e j) = _
  rw [pay38, drop_last]
  exact scalesH_ref (A.hid e) _ e (fun b j d => hidden_ref A b e j d) b j

end Cert.KernelIdeal.Clean

end
-- ==== Proof.Algebraic.lean ====
/-
  The idealized kernel and the idealized reference leave the same six results.
-/
module

public import proofs.«01_k».proof.Defs
public import proofs.«01_k».proof.Proof.RunIdeal
public import proofs.«01_k».proof.Proof.Finish
public import proofs.«01_k».proof.Proof.Results

@[expose] public section

set_option maxRecDepth 16384

noncomputable section

namespace Cert.KernelIdeal.Clean

open Idealize.ShloMosaic Idealize.SL.Sem
open Cert.ReferenceIdeal.Value (G6 G7 G8 G9 G10 G11)

theorem ext3 {α : Type} {a b c : ℕ} {f g : (⟨3, ![a, b, c]⟩ : Shape).Idx → α} (h : ∀ i j k, f (ix3 i j k) = g (ix3 i j k)) : f = g := by
  funext x
  obtain ⟨i, j, k, rfl⟩ : ∃ i j k, x = ix3 i j k := ⟨x 0, x 1, x 2, by funext y; fin_cases y <;> rfl⟩
  exact h i j k

theorem ext4 {α : Type} {a b c d : ℕ} {f g : (⟨4, ![a, b, c, d]⟩ : Shape).Idx → α} (h : ∀ i j k l, f (ix4 i j k l) = g (ix4 i j k l)) : f = g := by
  funext x
  obtain ⟨i, j, k, l, rfl⟩ : ∃ i j k l, x = ix4 i j k l := ⟨x 0, x 1, x 2, x 3, by funext y; fin_cases y <;> rfl⟩
  exact h i j k l

/-- Every result of the kernel's run is the reference's. -/
structure Agree (A : Args) (m : St Ideal) : Prop where
  r0 : rOut m = G6 (F := Ideal) A.X A.Phi A.W1 A.S1 A.W2 A.S2
  r1 : rYs m = G7 (F := Ideal) A.X A.Phi A.W1 A.S1 A.W2 A.S2
  r2 : rSc m = G8 (F := Ideal) A.X A.Phi A.W1 A.S1 A.W2 A.S2
  r3 : rSs m = G9 (F := Ideal) A.X A.Phi A.W1 A.S1 A.W2 A.S2
  r4 : rHc m = G10 (F := Ideal) A.X A.Phi A.W1 A.S1 A.W2 A.S2
  r5 : rHs m = G11 (F := Ideal) A.X A.Phi A.W1 A.S1 A.W2 A.S2

theorem agree_of_left (V W : St Ideal) (h : Left (packI (F := Ideal)) V W) : Agree (args V) W := by
  obtain ⟨m, m', hV, he, rfl⟩ := h
  have hA : args m = args V := args_of_eq fun r hr => hV r (by revert r; decide)
  obtain ⟨hs, ht⟩ := body_post (args V) m hA _ _ he
  exact ⟨ext3 fun b t d => (ht.1 b t d (by omega)).trans (g6 _ b t d).symm, ext3 fun b n d => (ht.2 b n d (by omega)).trans (g7 _ b n d).symm,
    ext4 fun b e j d => (hs.sc b e j d).trans (g8 _ b e j d).symm, ext3 fun b e j => (hs.ss b e j).trans (g9 _ b e j).symm,
    ext4 fun b e j d => (hs.hc b e j d).trans (g10 _ b e j d).symm, ext3 fun b e j => (hs.hs b e j).trans (g11 _ b e j).symm⟩

end Cert.KernelIdeal.Clean

namespace Cert.Proof

open Idealize.ShloMosaic Idealize.SL.Sem
open Cert.KernelIdeal.Clean

/-- What the arguments hold on device `c`. -/
abbrev argsAt (m : (ℓ : Loc Cert.KernelIdeal.nD Cert.KernelIdeal.τ Cert.KernelIdeal.sig) → Buf (Elt Ideal) ℓ) (c : Dev Cert.KernelIdeal.nD) : Args :=
  args (Cert.KernelIdeal.Run.V m c)

open Cert.ReferenceIdeal.Value (G6 G7 G8 G9 G10 G11)

theorem algebraicKernelIdeal : algebraic_KernelIdeal_ReferenceIdeal (hKernelIdeal := Cert.KernelIdeal.Gen.facts) (hReferenceIdeal := Cert.ReferenceIdeal.Gen.facts) := fun m g m' g' _ hm => by
  refine ⟨fun c => G6 (F := Ideal) (argsAt m c).X (argsAt m c).Phi (argsAt m c).W1 (argsAt m c).S1 (argsAt m c).W2 (argsAt m c).S2,
    fun c => G7 (F := Ideal) (argsAt m c).X (argsAt m c).Phi (argsAt m c).W1 (argsAt m c).S1 (argsAt m c).W2 (argsAt m c).S2,
    fun c => G8 (F := Ideal) (argsAt m c).X (argsAt m c).Phi (argsAt m c).W1 (argsAt m c).S1 (argsAt m c).W2 (argsAt m c).S2,
    fun c => G9 (F := Ideal) (argsAt m c).X (argsAt m c).Phi (argsAt m c).W1 (argsAt m c).S1 (argsAt m c).W2 (argsAt m c).S2,
    fun c => G10 (F := Ideal) (argsAt m c).X (argsAt m c).Phi (argsAt m c).W1 (argsAt m c).S1 (argsAt m c).W2 (argsAt m c).S2,
    fun c => G11 (F := Ideal) (argsAt m c).X (argsAt m c).Phi (argsAt m c).W1 (argsAt m c).S1 (argsAt m c).W2 (argsAt m c).S2, ?_, ?_⟩
  · refine (θ_run Cert.KernelIdeal.defs _ _).mono (fun r h c => ?_) (Cert.KernelIdeal.Run.runs m g Variants.none)
    obtain ⟨hk, W, hL, hW⟩ := h.1 c
    have ha := agree_of_left _ W hL
    exact ⟨(hW _ (by decide)).trans ha.r0, (hW _ (by decide)).trans ha.r1, (hW _ (by decide)).trans ha.r2, (hW _ (by decide)).trans ha.r3, (hW _ (by decide)).trans ha.r4, (hW _ (by decide)).trans ha.r5,
      hk _ (by decide), hk _ (by decide), hk _ (by decide), hk _ (by decide), hk _ (by decide), hk _ (by decide)⟩
  · refine (θ_run Cert.ReferenceIdeal.defs _ _).mono (fun r h c => ?_) (Cert.ReferenceIdeal.Value.run m' g')
    have hc := h c
    obtain ⟨e0, e1, e2, e3, e4, e5⟩ := hm c
    rw [e0, e1, e2, e3, e4, e5] at hc
    rw [e0, e1, e2, e3, e4, e5]
    exact hc

end Cert.Proof

end
-- ==== Proof.lean ====
module

public import proofs.«01_k».proof.Defs
public import proofs.«01_k».proof.Proof.Frames
public import proofs.«01_k».proof.Proof.Algebraic

@[expose] public section

namespace Cert.Proof

theorem claim : Cert.Claim := ⟨Cert.Kernel.Gen.facts, Cert.KernelIdeal.Gen.facts, Cert.ReferenceIdeal.Gen.facts,
  quiescentKernel, quiescentKernelIdeal, quiescentReferenceIdeal, preservesKernel, algebraicKernelIdeal⟩

end Cert.Proof

end
